-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v35) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v193) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S8x4x4096x128 : Shape := ⟨4, ![8, 4, 4096, 128]⟩
abbrev S8x8x4096 : Shape := ⟨3, ![8, 8, 4096]⟩
abbrev S_ : Shape := ⟨0, ![]⟩

class Facts : Prop where
  bcast_S_S8x8x4096 : S_.BroadcastsInDim S8x8x4096 (![] : Fin 0 → Fin S8x8x4096.rank)
  reducesTo_S8x8x4096_S_d0_1_2 : S8x8x4096.ReducesTo [0, 1, 2] S_
  h_S_ : 0 < S_.numel

variable [Facts]

def fn {F : FTy → Type} [FloatOps F] (main_arg0 : FVec F S8x4x4096x128 .bf16) (main_arg1 : FVec F S8x8x4096 .f32) : IVec S_ 1 :=
  let main_v0 : FVec F S8x8x4096 .f32 := Host.absf main_arg1
  let main_cst : FVec F S_ .f32 := constant S_ .f32 0x7F800000#32
  let main_v1 : FVec F S8x8x4096 .f32 := broadcastInDim S8x8x4096 ![] bcast_S_S8x8x4096 main_cst
  let main_v2 : IVec S8x8x4096 1 := cmpf .olt main_v0 main_v1
  let main_c : IVec S_ 1 := constantI S_ 1 1#1
  let main_v3 : IVec S_ 1 := (fun x v => Host.reduce IntOp.andi x v reducesTo_S8x8x4096_S_d0_1_2 h_S_) main_v2 main_c
  main_v3
-- ==== Pre_finite4.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x4096x1024 .f32) (main_arg1 : FVec F S8x512x4096 .bf16) (main_arg2 : FVec F S8x4096x512 .f32) (main_arg3 : FVec F S4x128x128 .f32) (main_arg4 : FVec F S512 .f32) (main_arg5 : FVec F S1024x1024 .f32) (main_arg6 : FVec F S1024 .f32) (main_arg7 : FVec F S1024 .f32) (main_arg8 : FVec F S1024x1024 .f32) (main_arg9 : FVec F S8x256x1024 .bf16) (main_arg10 : FVec F S8x256x1024 .bf16) (main_arg11 : FVec F S1024x1024 .f32) (main_arg12 : FVec F S1024 .f32) : IVec S_ 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg8
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x256x1024 .bf16 := Host.absf main_arg9
  let main_cst_2 : FVec F S_ .bf16 := constant S_ .bf16 0x7F80#16
  let main_v10 : FVec F S8x256x1024 .bf16 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  main_v13
-- ==== Kernel.lean ====
abbrev S8x4x4096x128 : Shape := ⟨4, ![8, 4, 4096, 128]⟩
abbrev S8x8x4096 : Shape := ⟨3, ![8, 8, 4096]⟩
abbrev S32x1024 : Shape := ⟨2, ![32, 1024]⟩
abbrev S8x4096x8 : Shape := ⟨3, ![8, 4096, 8]⟩
abbrev S_ : Shape := ⟨0, ![]⟩
abbrev S8x4096x32 : Shape := ⟨3, ![8, 4096, 32]⟩
abbrev S8x8x4096x128 : Shape := ⟨4, ![8, 8, 4096, 128]⟩
abbrev S3x1x4x2048x128 : Shape := ⟨5, ![3, 1, 4, 2048, 128]⟩
abbrev S3 : Shape := ⟨1, ![3]⟩
abbrev S3x1x2048x32 : Shape := ⟨4, ![3, 1, 2048, 32]⟩
abbrev S2x1x8x2048x128 : Shape := ⟨5, ![2, 1, 8, 2048, 128]⟩
abbrev S2 : Shape := ⟨1, ![2]⟩
abbrev S1 : Shape := ⟨1, ![1]⟩
abbrev S1x1x4x2048x128 : Shape := ⟨5, ![1, 1, 4, 2048, 128]⟩
abbrev S1x4x2048x128 : Shape := ⟨4, ![1, 4, 2048, 128]⟩
abbrev S1x1x2048x32 : Shape := ⟨4, ![1, 1, 2048, 32]⟩
abbrev S1x2048x32 : Shape := ⟨3, ![1, 2048, 32]⟩
abbrev S2048x32 : Shape := ⟨2, ![2048, 32]⟩
abbrev S2048x1024 : Shape := ⟨2, ![2048, 1024]⟩
abbrev S2048x128 : Shape := ⟨2, ![2048, 128]⟩
abbrev S1x1x2048x128 : Shape := ⟨4, ![1, 1, 2048, 128]⟩
abbrev S1x1x8x2048x128 : Shape := ⟨5, ![1, 1, 8, 2048, 128]⟩
abbrev S1x8x2048x128 : Shape := ⟨4, ![1, 8, 2048, 128]⟩
abbrev S1x1x1x2048x128 : Shape := ⟨5, ![1, 1, 1, 2048, 128]⟩

abbrev nBuf : Space → Nat
  | .hbm => 8
  | .vmem => 4
  | .smem => 0
  | _ => 0

abbrev bufTy : (tb : Table) → Fin (tcTables nBuf tb) → BufTy
  | .hbm, ⟨0, _⟩ => ⟨S8x4x4096x128, .bf16⟩
  | .hbm, ⟨1, _⟩ => ⟨S8x8x4096, .f32⟩
  | .hbm, ⟨2, _⟩ => ⟨S32x1024, .bf16⟩
  | .hbm, ⟨3, _⟩ => ⟨S8x4096x8, .f32⟩
  | .hbm, ⟨4, _⟩ => ⟨S_, .f32⟩
  | .hbm, ⟨5, _⟩ => ⟨S8x4096x8, .f32⟩
  | .hbm, ⟨6, _⟩ => ⟨S8x4096x32, .f32⟩
  | .hbm, ⟨7, _⟩ => ⟨S8x8x4096x128, .bf16⟩
  | .local _ .vmem, ⟨0, _⟩ => ⟨S32x1024, .bf16⟩
  | .local _ .vmem, ⟨1, _⟩ => ⟨S3x1x4x2048x128, .bf16⟩
  | .local _ .vmem, ⟨2, _⟩ => ⟨S3x1x2048x32, .f32⟩
  | .local _ .vmem, ⟨3, _⟩ => ⟨S2x1x8x2048x128, .bf16⟩
  | _, _ => ⟨S8x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_35_r0 : BitVec 32 := 0#32
  let c3_i32_r0 : BitVec 32 := 3#32
  let v39_r0 : BitVec 32 := Scalar.remui c0_i32_35_r0 c3_i32_r0
  ![v39_r0.toNat]
def k0_off2 : Fin 5 → Nat :=
  let c0_i32_35_r0 : BitVec 32 := 0#32
  let c3_i32_r0 : BitVec 32 := 3#32
  let v39_r0 : BitVec 32 := Scalar.remui c0_i32_35_r0 c3_i32_r0
  let c0_i32_36_r0 : BitVec 32 := 0#32
  let c0_i32_37_r0 : BitVec 32 := 0#32
  let c0_i32_38_r0 : BitVec 32 := 0#32
  let c0_i32_39_r0 : BitVec 32 := 0#32
  ![v39_r0.toNat, 0, 0, 0, 0]
def k0_off3 : Fin 4 → Nat :=
  let c0_i32_46_r0 : BitVec 32 := 0#32
  let c3_i32_47_r0 : BitVec 32 := 3#32
  let v46_r0 : BitVec 32 := Scalar.remui c0_i32_46_r0 c3_i32_47_r0
  let c0_i32_48_r0 : BitVec 32 := 0#32
  let c0_i32_49_r0 : BitVec 32 := 0#32
  let c0_i32_50_r0 : BitVec 32 := 0#32
  ![v46_r0.toNat, 0, 0, 0]
def k0_cond1 : BitVec 1 :=
  let true_58_r0 : BitVec 1 := 1#1
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let c0_i32_56_r0 : BitVec 32 := 0#32
  let v53_r0 : BitVec 1 := Scalar.cmpi .ne v17_r0 c0_i32_56_r0
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let c0_i32_57_r0 : BitVec 32 := 0#32
  let v54_r0 : BitVec 1 := Scalar.cmpi .ne v18_r0 c0_i32_57_r0
  let v55_r0 : BitVec 1 := Scalar.ori v53_r0 v54_r0
  let v56_r0 : BitVec 1 := Scalar.andi true_58_r0 v55_r0
  let true_59_r0 : BitVec 1 := 1#1
  let v57_r0 : BitVec 1 := Scalar.andi v56_r0 true_59_r0
  let v58_r0 : BitVec 32 := Scalar.extui v57_r0
  let c0_i32_60_r0 : BitVec 32 := 0#32
  let v59_r0 : BitVec 1 := Scalar.cmpi .ne v58_r0 c0_i32_60_r0
  v59_r0

def k0_off4 : Fin 1 → Nat :=
  let c0_i32_44_r0 : BitVec 32 := 0#32
  let c1_i32_45_r0 : BitVec 32 := 1#32
  let v45_r0 : BitVec 32 := Scalar.addi c0_i32_44_r0 c1_i32_45_r0
  let c3_i32_130_r0 : BitVec 32 := 3#32
  let v131_r0 : BitVec 32 := Scalar.remui v45_r0 c3_i32_130_r0
  ![v131_r0.toNat]
def k0_off5 : Fin 5 → Nat :=
  let c0_i32_44_r0 : BitVec 32 := 0#32
  let c1_i32_45_r0 : BitVec 32 := 1#32
  let v45_r0 : BitVec 32 := Scalar.addi c0_i32_44_r0 c1_i32_45_r0
  let c3_i32_130_r0 : BitVec 32 := 3#32
  let v131_r0 : BitVec 32 := Scalar.remui v45_r0 c3_i32_130_r0
  let c0_i32_133_r0 : BitVec 32 := 0#32
  let c0_i32_134_r0 : BitVec 32 := 0#32
  let c0_i32_135_r0 : BitVec 32 := 0#32
  let c0_i32_136_r0 : BitVec 32 := 0#32
  ![v131_r0.toNat, 0, 0, 0, 0]
def k0_off6 : Fin 4 → Nat :=
  let c1_i32_131_r0 : BitVec 32 := 1#32
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let v132_r0 : BitVec 32 := Scalar.muli c1_i32_131_r0 v17_r0
  let c0_i32_137_r0 : BitVec 32 := 0#32
  let c2048_i32_132_r0 : BitVec 32 := 2048#32
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let v133_r0 : BitVec 32 := Scalar.muli c2048_i32_132_r0 v18_r0
  let c0_i32_138_r0 : BitVec 32 := 0#32
  ![v132_r0.toNat, 0, v133_r0.toNat, 0]
def k0_cond2 : BitVec 1 :=
  let true_64_r0 : BitVec 1 := 1#1
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let c0_i32_62_r0 : BitVec 32 := 0#32
  let v62_r0 : BitVec 1 := Scalar.cmpi .ne v17_r0 c0_i32_62_r0
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let c0_i32_63_r0 : BitVec 32 := 0#32
  let v63_r0 : BitVec 1 := Scalar.cmpi .ne v18_r0 c0_i32_63_r0
  let v64_r0 : BitVec 1 := Scalar.ori v62_r0 v63_r0
  let v65_r0 : BitVec 1 := Scalar.andi true_64_r0 v64_r0
  let true_65_r0 : BitVec 1 := 1#1
  let v66_r0 : BitVec 1 := Scalar.andi v65_r0 true_65_r0
  let v67_r0 : BitVec 32 := Scalar.extui v66_r0
  let c0_i32_66_r0 : BitVec 32 := 0#32
  let v68_r0 : BitVec 1 := Scalar.cmpi .ne v67_r0 c0_i32_66_r0
  v68_r0

def k0_off7 : Fin 1 → Nat :=
  let c0_i32_54_r0 : BitVec 32 := 0#32
  let c1_i32_55_r0 : BitVec 32 := 1#32
  let v52_r0 : BitVec 32 := Scalar.addi c0_i32_54_r0 c1_i32_55_r0
  let c3_i32_130_r0 : BitVec 32 := 3#32
  let v131_r0 : BitVec 32 := Scalar.remui v52_r0 c3_i32_130_r0
  ![v131_r0.toNat]
def k0_off8 : Fin 4 → Nat :=
  let c0_i32_54_r0 : BitVec 32 := 0#32
  let c1_i32_55_r0 : BitVec 32 := 1#32
  let v52_r0 : BitVec 32 := Scalar.addi c0_i32_54_r0 c1_i32_55_r0
  let c3_i32_130_r0 : BitVec 32 := 3#32
  let v131_r0 : BitVec 32 := Scalar.remui v52_r0 c3_i32_130_r0
  let c0_i32_133_r0 : BitVec 32 := 0#32
  let c0_i32_134_r0 : BitVec 32 := 0#32
  let c0_i32_135_r0 : BitVec 32 := 0#32
  ![v131_r0.toNat, 0, 0, 0]
def k0_off9 : Fin 3 → Nat :=
  let c1_i32_131_r0 : BitVec 32 := 1#32
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let v132_r0 : BitVec 32 := Scalar.muli c1_i32_131_r0 v17_r0
  let c2048_i32_132_r0 : BitVec 32 := 2048#32
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let v133_r0 : BitVec 32 := Scalar.muli c2048_i32_132_r0 v18_r0
  let c0_i32_136_r0 : BitVec 32 := 0#32
  ![v132_r0.toNat, v133_r0.toNat, 0]
@[reducible] def k0_t1_loop : Scf.Loop 32 :=
  let c0_i32_74_r0 : BitVec 32 := 0#32
  let c16_i32_r0 : BitVec 32 := 16#32
  let v71_r0 : BitVec 32 := Scalar.addi c0_i32_74_r0 c16_i32_r0
  let c1_i32_75_r0 : BitVec 32 := 1#32
  ⟨c0_i32_74_r0, v71_r0, c1_i32_75_r0⟩
def k0_off10 (arg5_r0 : BitVec 32) : Fin 1 → Nat :=
  let c3_i32_377_r0 : BitVec 32 := 3#32
  let v495_r0 : BitVec 32 := Scalar.remui arg5_r0 c3_i32_377_r0
  ![v495_r0.toNat]
def k0_cond3 (k0_t1 : Fin k0_t1_loop.trips) (arg11_r0 : BitVec 32) (arg12_r0 : BitVec 32) : BitVec 1 :=
  let true_143_r0 : BitVec 1 := 1#1
  let c1_i32_142_r0 : BitVec 32 := 1#32
  let v145_r0 : BitVec 32 := Scalar.addi arg12_r0 c1_i32_142_r0
  let v146_r0 : BitVec 32 := Scalar.select true_143_r0 v145_r0 arg12_r0
  let c2_i32_144_r0 : BitVec 32 := 2#32
  let v147_r0 : BitVec 1 := Scalar.cmpi .eq v146_r0 c2_i32_144_r0
  let c1_i32_146_r0 : BitVec 32 := 1#32
  let v149_r0 : BitVec 32 := Scalar.addi arg11_r0 c1_i32_146_r0
  let v150_r0 : BitVec 32 := Scalar.select v147_r0 v149_r0 arg11_r0
  let c8_i32_147_r0 : BitVec 32 := 8#32
  let v151_r0 : BitVec 1 := Scalar.cmpi .eq v150_r0 c8_i32_147_r0
  let c0_i32_148_r0 : BitVec 32 := 0#32
  let v152_r0 : BitVec 32 := Scalar.select v151_r0 c0_i32_148_r0 v150_r0
  let c0_i32_149_r0 : BitVec 32 := 0#32
  let v153_r0 : BitVec 32 := Scalar.addi v152_r0 c0_i32_149_r0
  let true_152_r0 : BitVec 1 := 1#1
  let c0_i32_145_r0 : BitVec 32 := 0#32
  let v148_r0 : BitVec 32 := Scalar.select v147_r0 c0_i32_145_r0 v146_r0
  let c1_i32_151_r0 : BitVec 32 := 1#32
  let v155_r0 : BitVec 32 := Scalar.addi v148_r0 c1_i32_151_r0
  let v156_r0 : BitVec 32 := Scalar.select true_152_r0 v155_r0 v148_r0
  let c2_i32_153_r0 : BitVec 32 := 2#32
  let v157_r0 : BitVec 1 := Scalar.cmpi .eq v156_r0 c2_i32_153_r0
  let c1_i32_155_r0 : BitVec 32 := 1#32
  let v159_r0 : BitVec 32 := Scalar.addi v152_r0 c1_i32_155_r0
  let v160_r0 : BitVec 32 := Scalar.select v157_r0 v159_r0 v152_r0
  let c8_i32_156_r0 : BitVec 32 := 8#32
  let v161_r0 : BitVec 1 := Scalar.cmpi .eq v160_r0 c8_i32_156_r0
  let c0_i32_157_r0 : BitVec 32 := 0#32
  let v162_r0 : BitVec 32 := Scalar.select v161_r0 c0_i32_157_r0 v160_r0
  let c0_i32_158_r0 : BitVec 32 := 0#32
  let v163_r0 : BitVec 32 := Scalar.addi v162_r0 c0_i32_158_r0
  let v175_r0 : BitVec 1 := Scalar.cmpi .ne v153_r0 v163_r0
  let c0_i32_150_r0 : BitVec 32 := 0#32
  let v154_r0 : BitVec 32 := Scalar.addi v148_r0 c0_i32_150_r0
  let c0_i32_154_r0 : BitVec 32 := 0#32
  let v158_r0 : BitVec 32 := Scalar.select v157_r0 c0_i32_154_r0 v156_r0
  let c0_i32_159_r0 : BitVec 32 := 0#32
  let v164_r0 : BitVec 32 := Scalar.addi v158_r0 c0_i32_159_r0
  let v176_r0 : BitVec 1 := Scalar.cmpi .ne v154_r0 v164_r0
  let v177_r0 : BitVec 1 := Scalar.ori v175_r0 v176_r0
  let c0_i32_74_r0 : BitVec 32 := 0#32
  let c1_i32_75_r0 : BitVec 32 := 1#32
  let arg4_r0 : BitVec 32 := Scf.iv c0_i32_74_r0 c1_i32_75_r0 k0_t1
  let c14_i32_r0 : BitVec 32 := 14#32
  let v178_r0 : BitVec 1 := Scalar.cmpi .sge arg4_r0 c14_i32_r0
  let true_169_r0 : BitVec 1 := 1#1
  let v179_r0 : BitVec 1 := Scalar.xori v178_r0 true_169_r0
  let v180_r0 : BitVec 1 := Scalar.andi v177_r0 v179_r0
  let true_170_r0 : BitVec 1 := 1#1
  let v181_r0 : BitVec 1 := Scalar.andi v180_r0 true_170_r0
  let v182_r0 : BitVec 32 := Scalar.extui v181_r0
  let c0_i32_171_r0 : BitVec 32 := 0#32
  let v183_r0 : BitVec 1 := Scalar.cmpi .ne v182_r0 c0_i32_171_r0
  v183_r0

def k0_off11 (arg5_r0 : BitVec 32) : Fin 5 → Nat :=
  let c3_i32_377_r0 : BitVec 32 := 3#32
  let v495_r0 : BitVec 32 := Scalar.remui arg5_r0 c3_i32_377_r0
  let c0_i32_380_r0 : BitVec 32 := 0#32
  let c0_i32_381_r0 : BitVec 32 := 0#32
  let c0_i32_382_r0 : BitVec 32 := 0#32
  let c0_i32_383_r0 : BitVec 32 := 0#32
  ![v495_r0.toNat, 0, 0, 0, 0]
def k0_off12 (arg11_r0 : BitVec 32) (arg12_r0 : BitVec 32) : Fin 4 → Nat :=
  let c1_i32_378_r0 : BitVec 32 := 1#32
  let true_152_r0 : BitVec 1 := 1#1
  let true_143_r0 : BitVec 1 := 1#1
  let c1_i32_142_r0 : BitVec 32 := 1#32
  let v145_r0 : BitVec 32 := Scalar.addi arg12_r0 c1_i32_142_r0
  let v146_r0 : BitVec 32 := Scalar.select true_143_r0 v145_r0 arg12_r0
  let c2_i32_144_r0 : BitVec 32 := 2#32
  let v147_r0 : BitVec 1 := Scalar.cmpi .eq v146_r0 c2_i32_144_r0
  let c0_i32_145_r0 : BitVec 32 := 0#32
  let v148_r0 : BitVec 32 := Scalar.select v147_r0 c0_i32_145_r0 v146_r0
  let c1_i32_151_r0 : BitVec 32 := 1#32
  let v155_r0 : BitVec 32 := Scalar.addi v148_r0 c1_i32_151_r0
  let v156_r0 : BitVec 32 := Scalar.select true_152_r0 v155_r0 v148_r0
  let c2_i32_153_r0 : BitVec 32 := 2#32
  let v157_r0 : BitVec 1 := Scalar.cmpi .eq v156_r0 c2_i32_153_r0
  let c1_i32_146_r0 : BitVec 32 := 1#32
  let v149_r0 : BitVec 32 := Scalar.addi arg11_r0 c1_i32_146_r0
  let v150_r0 : BitVec 32 := Scalar.select v147_r0 v149_r0 arg11_r0
  let c8_i32_147_r0 : BitVec 32 := 8#32
  let v151_r0 : BitVec 1 := Scalar.cmpi .eq v150_r0 c8_i32_147_r0
  let c0_i32_148_r0 : BitVec 32 := 0#32
  let v152_r0 : BitVec 32 := Scalar.select v151_r0 c0_i32_148_r0 v150_r0
  let c1_i32_155_r0 : BitVec 32 := 1#32
  let v159_r0 : BitVec 32 := Scalar.addi v152_r0 c1_i32_155_r0
  let v160_r0 : BitVec 32 := Scalar.select v157_r0 v159_r0 v152_r0
  let c8_i32_156_r0 : BitVec 32 := 8#32
  let v161_r0 : BitVec 1 := Scalar.cmpi .eq v160_r0 c8_i32_156_r0
  let c0_i32_157_r0 : BitVec 32 := 0#32
  let v162_r0 : BitVec 32 := Scalar.select v161_r0 c0_i32_157_r0 v160_r0
  let c0_i32_158_r0 : BitVec 32 := 0#32
  let v163_r0 : BitVec 32 := Scalar.addi v162_r0 c0_i32_158_r0
  let v496_r0 : BitVec 32 := Scalar.muli c1_i32_378_r0 v163_r0
  let c0_i32_384_r0 : BitVec 32 := 0#32
  let c2048_i32_379_r0 : BitVec 32 := 2048#32
  let c0_i32_154_r0 : BitVec 32 := 0#32
  let v158_r0 : BitVec 32 := Scalar.select v157_r0 c0_i32_154_r0 v156_r0
  let c0_i32_159_r0 : BitVec 32 := 0#32
  let v164_r0 : BitVec 32 := Scalar.addi v158_r0 c0_i32_159_r0
  let v497_r0 : BitVec 32 := Scalar.muli c2048_i32_379_r0 v164_r0
  let c0_i32_385_r0 : BitVec 32 := 0#32
  ![v496_r0.toNat, 0, v497_r0.toNat, 0]
def k0_off13 (arg7_r0 : BitVec 32) : Fin 1 → Nat :=
  let c3_i32_377_r0 : BitVec 32 := 3#32
  let v495_r0 : BitVec 32 := Scalar.remui arg7_r0 c3_i32_377_r0
  ![v495_r0.toNat]
def k0_cond4 (k0_t1 : Fin k0_t1_loop.trips) (arg11_r0 : BitVec 32) (arg12_r0 : BitVec 32) : BitVec 1 :=
  let true_143_r0 : BitVec 1 := 1#1
  let c1_i32_142_r0 : BitVec 32 := 1#32
  let v145_r0 : BitVec 32 := Scalar.addi arg12_r0 c1_i32_142_r0
  let v146_r0 : BitVec 32 := Scalar.select true_143_r0 v145_r0 arg12_r0
  let c2_i32_144_r0 : BitVec 32 := 2#32
  let v147_r0 : BitVec 1 := Scalar.cmpi .eq v146_r0 c2_i32_144_r0
  let c1_i32_146_r0 : BitVec 32 := 1#32
  let v149_r0 : BitVec 32 := Scalar.addi arg11_r0 c1_i32_146_r0
  let v150_r0 : BitVec 32 := Scalar.select v147_r0 v149_r0 arg11_r0
  let c8_i32_147_r0 : BitVec 32 := 8#32
  let v151_r0 : BitVec 1 := Scalar.cmpi .eq v150_r0 c8_i32_147_r0
  let c0_i32_148_r0 : BitVec 32 := 0#32
  let v152_r0 : BitVec 32 := Scalar.select v151_r0 c0_i32_148_r0 v150_r0
  let c0_i32_149_r0 : BitVec 32 := 0#32
  let v153_r0 : BitVec 32 := Scalar.addi v152_r0 c0_i32_149_r0
  let true_152_r0 : BitVec 1 := 1#1
  let c0_i32_145_r0 : BitVec 32 := 0#32
  let v148_r0 : BitVec 32 := Scalar.select v147_r0 c0_i32_145_r0 v146_r0
  let c1_i32_151_r0 : BitVec 32 := 1#32
  let v155_r0 : BitVec 32 := Scalar.addi v148_r0 c1_i32_151_r0
  let v156_r0 : BitVec 32 := Scalar.select true_152_r0 v155_r0 v148_r0
  let c2_i32_153_r0 : BitVec 32 := 2#32
  let v157_r0 : BitVec 1 := Scalar.cmpi .eq v156_r0 c2_i32_153_r0
  let c1_i32_155_r0 : BitVec 32 := 1#32
  let v159_r0 : BitVec 32 := Scalar.addi v152_r0 c1_i32_155_r0
  let v160_r0 : BitVec 32 := Scalar.select v157_r0 v159_r0 v152_r0
  let c8_i32_156_r0 : BitVec 32 := 8#32
  let v161_r0 : BitVec 1 := Scalar.cmpi .eq v160_r0 c8_i32_156_r0
  let c0_i32_157_r0 : BitVec 32 := 0#32
  let v162_r0 : BitVec 32 := Scalar.select v161_r0 c0_i32_157_r0 v160_r0
  let c0_i32_158_r0 : BitVec 32 := 0#32
  let v163_r0 : BitVec 32 := Scalar.addi v162_r0 c0_i32_158_r0
  let v187_r0 : BitVec 1 := Scalar.cmpi .ne v153_r0 v163_r0
  let c0_i32_150_r0 : BitVec 32 := 0#32
  let v154_r0 : BitVec 32 := Scalar.addi v148_r0 c0_i32_150_r0
  let c0_i32_154_r0 : BitVec 32 := 0#32
  let v158_r0 : BitVec 32 := Scalar.select v157_r0 c0_i32_154_r0 v156_r0
  let c0_i32_159_r0 : BitVec 32 := 0#32
  let v164_r0 : BitVec 32 := Scalar.addi v158_r0 c0_i32_159_r0
  let v188_r0 : BitVec 1 := Scalar.cmpi .ne v154_r0 v164_r0
  let v189_r0 : BitVec 1 := Scalar.ori v187_r0 v188_r0
  let c0_i32_74_r0 : BitVec 32 := 0#32
  let c1_i32_75_r0 : BitVec 32 := 1#32
  let arg4_r0 : BitVec 32 := Scf.iv c0_i32_74_r0 c1_i32_75_r0 k0_t1
  let c14_i32_174_r0 : BitVec 32 := 14#32
  let v190_r0 : BitVec 1 := Scalar.cmpi .sge arg4_r0 c14_i32_174_r0
  let true_175_r0 : BitVec 1 := 1#1
  let v191_r0 : BitVec 1 := Scalar.xori v190_r0 true_175_r0
  let v192_r0 : BitVec 1 := Scalar.andi v189_r0 v191_r0
  let true_176_r0 : BitVec 1 := 1#1
  let v193_r0 : BitVec 1 := Scalar.andi v192_r0 true_176_r0
  let v194_r0 : BitVec 32 := Scalar.extui v193_r0
  let c0_i32_177_r0 : BitVec 32 := 0#32
  let v195_r0 : BitVec 1 := Scalar.cmpi .ne v194_r0 c0_i32_177_r0
  v195_r0

def k0_off14 (arg7_r0 : BitVec 32) : Fin 4 → Nat :=
  let c3_i32_377_r0 : BitVec 32 := 3#32
  let v495_r0 : BitVec 32 := Scalar.remui arg7_r0 c3_i32_377_r0
  let c0_i32_380_r0 : BitVec 32 := 0#32
  let c0_i32_381_r0 : BitVec 32 := 0#32
  let c0_i32_382_r0 : BitVec 32 := 0#32
  ![v495_r0.toNat, 0, 0, 0]
def k0_off15 (arg11_r0 : BitVec 32) (arg12_r0 : BitVec 32) : Fin 3 → Nat :=
  let c1_i32_378_r0 : BitVec 32 := 1#32
  let true_152_r0 : BitVec 1 := 1#1
  let true_143_r0 : BitVec 1 := 1#1
  let c1_i32_142_r0 : BitVec 32 := 1#32
  let v145_r0 : BitVec 32 := Scalar.addi arg12_r0 c1_i32_142_r0
  let v146_r0 : BitVec 32 := Scalar.select true_143_r0 v145_r0 arg12_r0
  let c2_i32_144_r0 : BitVec 32 := 2#32
  let v147_r0 : BitVec 1 := Scalar.cmpi .eq v146_r0 c2_i32_144_r0
  let c0_i32_145_r0 : BitVec 32 := 0#32
  let v148_r0 : BitVec 32 := Scalar.select v147_r0 c0_i32_145_r0 v146_r0
  let c1_i32_151_r0 : BitVec 32 := 1#32
  let v155_r0 : BitVec 32 := Scalar.addi v148_r0 c1_i32_151_r0
  let v156_r0 : BitVec 32 := Scalar.select true_152_r0 v155_r0 v148_r0
  let c2_i32_153_r0 : BitVec 32 := 2#32
  let v157_r0 : BitVec 1 := Scalar.cmpi .eq v156_r0 c2_i32_153_r0
  let c1_i32_146_r0 : BitVec 32 := 1#32
  let v149_r0 : BitVec 32 := Scalar.addi arg11_r0 c1_i32_146_r0
  let v150_r0 : BitVec 32 := Scalar.select v147_r0 v149_r0 arg11_r0
  let c8_i32_147_r0 : BitVec 32 := 8#32
  let v151_r0 : BitVec 1 := Scalar.cmpi .eq v150_r0 c8_i32_147_r0
  let c0_i32_148_r0 : BitVec 32 := 0#32
  let v152_r0 : BitVec 32 := Scalar.select v151_r0 c0_i32_148_r0 v150_r0
  let c1_i32_155_r0 : BitVec 32 := 1#32
  let v159_r0 : BitVec 32 := Scalar.addi v152_r0 c1_i32_155_r0
  let v160_r0 : BitVec 32 := Scalar.select v157_r0 v159_r0 v152_r0
  let c8_i32_156_r0 : BitVec 32 := 8#32
  let v161_r0 : BitVec 1 := Scalar.cmpi .eq v160_r0 c8_i32_156_r0
  let c0_i32_157_r0 : BitVec 32 := 0#32
  let v162_r0 : BitVec 32 := Scalar.select v161_r0 c0_i32_157_r0 v160_r0
  let c0_i32_158_r0 : BitVec 32 := 0#32
  let v163_r0 : BitVec 32 := Scalar.addi v162_r0 c0_i32_158_r0
  let v496_r0 : BitVec 32 := Scalar.muli c1_i32_378_r0 v163_r0
  let c2048_i32_379_r0 : BitVec 32 := 2048#32
  let c0_i32_154_r0 : BitVec 32 := 0#32
  let v158_r0 : BitVec 32 := Scalar.select v157_r0 c0_i32_154_r0 v156_r0
  let c0_i32_159_r0 : BitVec 32 := 0#32
  let v164_r0 : BitVec 32 := Scalar.addi v158_r0 c0_i32_159_r0
  let v497_r0 : BitVec 32 := Scalar.muli c2048_i32_379_r0 v164_r0
  let c0_i32_383_r0 : BitVec 32 := 0#32
  ![v496_r0.toNat, v497_r0.toNat, 0]
def k0_off16 (arg6_r0 : BitVec 32) : Fin 1 → Nat :=
  let c3_i32_379_r0 : BitVec 32 := 3#32
  let v497_r0 : BitVec 32 := Scalar.remui arg6_r0 c3_i32_379_r0
  ![v497_r0.toNat]
def k0_cond5 (k0_t1 : Fin k0_t1_loop.trips) (arg11_r0 : BitVec 32) (arg12_r0 : BitVec 32) : BitVec 1 :=
  let c0_i32_131_r0 : BitVec 32 := 0#32
  let v133_r0 : BitVec 32 := Scalar.addi arg11_r0 c0_i32_131_r0
  let true_134_r0 : BitVec 1 := 1#1
  let c1_i32_133_r0 : BitVec 32 := 1#32
  let v135_r0 : BitVec 32 := Scalar.subi arg12_r0 c1_i32_133_r0
  let v136_r0 : BitVec 32 := Scalar.select true_134_r0 v135_r0 arg12_r0
  let c_m1_i32_135_r0 : BitVec 32 := 4294967295#32
  let v137_r0 : BitVec 1 := Scalar.cmpi .eq v136_r0 c_m1_i32_135_r0
  let c1_i32_137_r0 : BitVec 32 := 1#32
  let v139_r0 : BitVec 32 := Scalar.subi arg11_r0 c1_i32_137_r0
  let v140_r0 : BitVec 32 := Scalar.select v137_r0 v139_r0 arg11_r0
  let c_m1_i32_138_r0 : BitVec 32 := 4294967295#32
  let v141_r0 : BitVec 1 := Scalar.cmpi .eq v140_r0 c_m1_i32_138_r0
  let c7_i32_139_r0 : BitVec 32 := 7#32
  let v142_r0 : BitVec 32 := Scalar.select v141_r0 c7_i32_139_r0 v140_r0
  let c0_i32_140_r0 : BitVec 32 := 0#32
  let v143_r0 : BitVec 32 := Scalar.addi v142_r0 c0_i32_140_r0
  let v205_r0 : BitVec 1 := Scalar.cmpi .ne v133_r0 v143_r0
  let c0_i32_132_r0 : BitVec 32 := 0#32
  let v134_r0 : BitVec 32 := Scalar.addi arg12_r0 c0_i32_132_r0
  let c1_i32_136_r0 : BitVec 32 := 1#32
  let v138_r0 : BitVec 32 := Scalar.select v137_r0 c1_i32_136_r0 v136_r0
  let c0_i32_141_r0 : BitVec 32 := 0#32
  let v144_r0 : BitVec 32 := Scalar.addi v138_r0 c0_i32_141_r0
  let v206_r0 : BitVec 1 := Scalar.cmpi .ne v134_r0 v144_r0
  let v207_r0 : BitVec 1 := Scalar.ori v205_r0 v206_r0
  let c0_i32_74_r0 : BitVec 32 := 0#32
  let c1_i32_75_r0 : BitVec 32 := 1#32
  let arg4_r0 : BitVec 32 := Scf.iv c0_i32_74_r0 c1_i32_75_r0 k0_t1
  let c0_i32_130_r0 : BitVec 32 := 0#32
  let v131_r0 : BitVec 1 := Scalar.cmpi .eq arg4_r0 c0_i32_130_r0
  let v208_r0 : BitVec 1 := Scalar.ori v207_r0 v131_r0
  let c0_i32_182_r0 : BitVec 32 := 0#32
  let v209_r0 : BitVec 1 := Scalar.cmpi .sge arg4_r0 c0_i32_182_r0
  let v210_r0 : BitVec 1 := Scalar.andi v208_r0 v209_r0
  let v211_r0 : BitVec 32 := Scalar.extui v210_r0
  let c0_i32_183_r0 : BitVec 32 := 0#32
  let v212_r0 : BitVec 1 := Scalar.cmpi .ne v211_r0 c0_i32_183_r0
  v212_r0

def k0_off17 (arg6_r0 : BitVec 32) : Fin 5 → Nat :=
  let c3_i32_379_r0 : BitVec 32 := 3#32
  let v497_r0 : BitVec 32 := Scalar.remui arg6_r0 c3_i32_379_r0
  let c0_i32_380_r0 : BitVec 32 := 0#32
  let c0_i32_381_r0 : BitVec 32 := 0#32
  let c0_i32_382_r0 : BitVec 32 := 0#32
  let c0_i32_383_r0 : BitVec 32 := 0#32
  ![v497_r0.toNat, 0, 0, 0, 0]
def k0_off18 (arg11_r0 : BitVec 32) (arg12_r0 : BitVec 32) : Fin 4 → Nat :=
  let c1_i32_377_r0 : BitVec 32 := 1#32
  let c0_i32_131_r0 : BitVec 32 := 0#32
  let v133_r0 : BitVec 32 := Scalar.addi arg11_r0 c0_i32_131_r0
  let v495_r0 : BitVec 32 := Scalar.muli c1_i32_377_r0 v133_r0
  let c0_i32_384_r0 : BitVec 32 := 0#32
  let c2048_i32_378_r0 : BitVec 32 := 2048#32
  let c0_i32_132_r0 : BitVec 32 := 0#32
  let v134_r0 : BitVec 32 := Scalar.addi arg12_r0 c0_i32_132_r0
  let v496_r0 : BitVec 32 := Scalar.muli c2048_i32_378_r0 v134_r0
  let c0_i32_385_r0 : BitVec 32 := 0#32
  ![v495_r0.toNat, 0, v496_r0.toNat, 0]
def k0_off19 (arg8_r0 : BitVec 32) : Fin 1 → Nat :=
  let c3_i32_379_r0 : BitVec 32 := 3#32
  let v497_r0 : BitVec 32 := Scalar.remui arg8_r0 c3_i32_379_r0
  ![v497_r0.toNat]
def k0_cond6 (k0_t1 : Fin k0_t1_loop.trips) (arg11_r0 : BitVec 32) (arg12_r0 : BitVec 32) : BitVec 1 :=
  let c0_i32_131_r0 : BitVec 32 := 0#32
  let v133_r0 : BitVec 32 := Scalar.addi arg11_r0 c0_i32_131_r0
  let true_134_r0 : BitVec 1 := 1#1
  let c1_i32_133_r0 : BitVec 32 := 1#32
  let v135_r0 : BitVec 32 := Scalar.subi arg12_r0 c1_i32_133_r0
  let v136_r0 : BitVec 32 := Scalar.select true_134_r0 v135_r0 arg12_r0
  let c_m1_i32_135_r0 : BitVec 32 := 4294967295#32
  let v137_r0 : BitVec 1 := Scalar.cmpi .eq v136_r0 c_m1_i32_135_r0
  let c1_i32_137_r0 : BitVec 32 := 1#32
  let v139_r0 : BitVec 32 := Scalar.subi arg11_r0 c1_i32_137_r0
  let v140_r0 : BitVec 32 := Scalar.select v137_r0 v139_r0 arg11_r0
  let c_m1_i32_138_r0 : BitVec 32 := 4294967295#32
  let v141_r0 : BitVec 1 := Scalar.cmpi .eq v140_r0 c_m1_i32_138_r0
  let c7_i32_139_r0 : BitVec 32 := 7#32
  let v142_r0 : BitVec 32 := Scalar.select v141_r0 c7_i32_139_r0 v140_r0
  let c0_i32_140_r0 : BitVec 32 := 0#32
  let v143_r0 : BitVec 32 := Scalar.addi v142_r0 c0_i32_140_r0
  let v213_r0 : BitVec 1 := Scalar.cmpi .ne v133_r0 v143_r0
  let c0_i32_132_r0 : BitVec 32 := 0#32
  let v134_r0 : BitVec 32 := Scalar.addi arg12_r0 c0_i32_132_r0
  let c1_i32_136_r0 : BitVec 32 := 1#32
  let v138_r0 : BitVec 32 := Scalar.select v137_r0 c1_i32_136_r0 v136_r0
  let c0_i32_141_r0 : BitVec 32 := 0#32
  let v144_r0 : BitVec 32 := Scalar.addi v138_r0 c0_i32_141_r0
  let v214_r0 : BitVec 1 := Scalar.cmpi .ne v134_r0 v144_r0
  let v215_r0 : BitVec 1 := Scalar.ori v213_r0 v214_r0
  let c0_i32_74_r0 : BitVec 32 := 0#32
  let c1_i32_75_r0 : BitVec 32 := 1#32
  let arg4_r0 : BitVec 32 := Scf.iv c0_i32_74_r0 c1_i32_75_r0 k0_t1
  let c0_i32_130_r0 : BitVec 32 := 0#32
  let v131_r0 : BitVec 1 := Scalar.cmpi .eq arg4_r0 c0_i32_130_r0
  let v216_r0 : BitVec 1 := Scalar.ori v215_r0 v131_r0
  let c0_i32_184_r0 : BitVec 32 := 0#32
  let v217_r0 : BitVec 1 := Scalar.cmpi .sge arg4_r0 c0_i32_184_r0
  let v218_r0 : BitVec 1 := Scalar.andi v216_r0 v217_r0
  let v219_r0 : BitVec 32 := Scalar.extui v218_r0
  let c0_i32_185_r0 : BitVec 32 := 0#32
  let v220_r0 : BitVec 1 := Scalar.cmpi .ne v219_r0 c0_i32_185_r0
  v220_r0

def k0_off20 (arg8_r0 : BitVec 32) : Fin 4 → Nat :=
  let c3_i32_379_r0 : BitVec 32 := 3#32
  let v497_r0 : BitVec 32 := Scalar.remui arg8_r0 c3_i32_379_r0
  let c0_i32_380_r0 : BitVec 32 := 0#32
  let c0_i32_381_r0 : BitVec 32 := 0#32
  let c0_i32_382_r0 : BitVec 32 := 0#32
  ![v497_r0.toNat, 0, 0, 0]
def k0_off21 (arg11_r0 : BitVec 32) (arg12_r0 : BitVec 32) : Fin 3 → Nat :=
  let c1_i32_377_r0 : BitVec 32 := 1#32
  let c0_i32_131_r0 : BitVec 32 := 0#32
  let v133_r0 : BitVec 32 := Scalar.addi arg11_r0 c0_i32_131_r0
  let v495_r0 : BitVec 32 := Scalar.muli c1_i32_377_r0 v133_r0
  let c2048_i32_378_r0 : BitVec 32 := 2048#32
  let c0_i32_132_r0 : BitVec 32 := 0#32
  let v134_r0 : BitVec 32 := Scalar.addi arg12_r0 c0_i32_132_r0
  let v496_r0 : BitVec 32 := Scalar.muli c2048_i32_378_r0 v134_r0
  let c0_i32_383_r0 : BitVec 32 := 0#32
  ![v495_r0.toNat, v496_r0.toNat, 0]
def k0_off22 (arg8_r0 : BitVec 32) : Fin 4 → Nat :=
  let c3_i32_189_r0 : BitVec 32 := 3#32
  let v230_r0 : BitVec 32 := Scalar.remui arg8_r0 c3_i32_189_r0
  let c0_i32_191_r0 : BitVec 32 := 0#32
  let c0_i32_192_r0 : BitVec 32 := 0#32
  let c0_i32_193_r0 : BitVec 32 := 0#32
  ![v230_r0.toNat, 0, 0, 0]

def k0_chk2 (arg8_r0 : BitVec 32) : Prop :=
  (∀ a, (k0_off22 arg8_r0) a + S1x1x2048x32.size a ≤ S3x1x2048x32.size a)
theorem k0_off22_inb : ∀ (arg8_r0 : BitVec 32) (k0_hw2 : k0_chk2 arg8_r0), ∀ a, (k0_off22 arg8_r0) a + S1x1x2048x32.size a ≤ S3x1x2048x32.size a := fun arg8_r0 k0_hw2 => k0_hw2

def k0_off23 (arg6_r0 : BitVec 32) : Fin 5 → Nat :=
  let c3_i32_188_r0 : BitVec 32 := 3#32
  let v229_r0 : BitVec 32 := Scalar.remui arg6_r0 c3_i32_188_r0
  let c0_i32_210_r0 : BitVec 32 := 0#32
  let c0_i32_211_r0 : BitVec 32 := 0#32
  let c0_i32_212_r0 : BitVec 32 := 0#32
  let c0_i32_213_r0 : BitVec 32 := 0#32
  ![v229_r0.toNat, 0, 0, 0, 0]

def k0_off24 (arg9_r0 : BitVec 32) : Fin 5 → Nat :=
  let c2_i32_190_r0 : BitVec 32 := 2#32
  let v231_r0 : BitVec 32 := Scalar.remui arg9_r0 c2_i32_190_r0
  let c0_i32_218_r0 : BitVec 32 := 0#32
  let c0_i32_219_r0 : BitVec 32 := 0#32
  let c0_i32_220_r0 : BitVec 32 := 0#32
  let c0_i32_221_r0 : BitVec 32 := 0#32
  ![v231_r0.toNat, 0, 0, 0, 0]

def k0_off25 (arg9_r0 : BitVec 32) : Fin 5 → Nat :=
  let c2_i32_190_r0 : BitVec 32 := 2#32
  let v231_r0 : BitVec 32 := Scalar.remui arg9_r0 c2_i32_190_r0
  let c0_i32_218_r0 : BitVec 32 := 0#32
  let c0_i32_219_r0 : BitVec 32 := 0#32
  let c0_i32_220_r0 : BitVec 32 := 0#32
  let c0_i32_221_r0 : BitVec 32 := 0#32
  ![v231_r0.toNat, 0, 0, 0, 0]
def k0_off26 (arg6_r0 : BitVec 32) : Fin 5 → Nat :=
  let c3_i32_188_r0 : BitVec 32 := 3#32
  let v229_r0 : BitVec 32 := Scalar.remui arg6_r0 c3_i32_188_r0
  let c0_i32_228_r0 : BitVec 32 := 0#32
  let c0_i32_229_r0 : BitVec 32 := 0#32
  let c0_i32_230_r0 : BitVec 32 := 0#32
  let c0_i32_231_r0 : BitVec 32 := 0#32
  ![v229_r0.toNat, 0, 0, 0, 0]

def k0_chk3 (arg6_r0 : BitVec 32) : Prop :=
  (∀ a, (k0_off23 arg6_r0) a + S1x1x4x2048x128.size a ≤ S3x1x4x2048x128.size a) ∧
  (∀ a, (k0_off26 arg6_r0) a + S1x1x4x2048x128.size a ≤ S3x1x4x2048x128.size a)
theorem k0_off23_inb : ∀ (arg6_r0 : BitVec 32) (k0_hw3 : k0_chk3 arg6_r0), ∀ a, (k0_off23 arg6_r0) a + S1x1x4x2048x128.size a ≤ S3x1x4x2048x128.size a := fun arg6_r0 k0_hw3 => k0_hw3.1
theorem k0_off26_inb : ∀ (arg6_r0 : BitVec 32) (k0_hw3 : k0_chk3 arg6_r0), ∀ a, (k0_off26 arg6_r0) a + S1x1x4x2048x128.size a ≤ S3x1x4x2048x128.size a := fun arg6_r0 k0_hw3 => k0_hw3.2

def k0_off27 (arg9_r0 : BitVec 32) : Fin 5 → Nat :=
  let c2_i32_190_r0 : BitVec 32 := 2#32
  let v231_r0 : BitVec 32 := Scalar.remui arg9_r0 c2_i32_190_r0
  let c0_i32_236_r0 : BitVec 32 := 0#32
  let c0_i32_238_r0 : BitVec 32 := 0#32
  let c0_i32_239_r0 : BitVec 32 := 0#32
  ![v231_r0.toNat, 0, 1, 0, 0]
def k0_off28 (arg9_r0 : BitVec 32) : Fin 5 → Nat :=
  let c2_i32_190_r0 : BitVec 32 := 2#32
  let v231_r0 : BitVec 32 := Scalar.remui arg9_r0 c2_i32_190_r0
  let c0_i32_254_r0 : BitVec 32 := 0#32
  let c0_i32_256_r0 : BitVec 32 := 0#32
  let c0_i32_257_r0 : BitVec 32 := 0#32
  ![v231_r0.toNat, 0, 2, 0, 0]
def k0_off29 (arg9_r0 : BitVec 32) : Fin 5 → Nat :=
  let c2_i32_190_r0 : BitVec 32 := 2#32
  let v231_r0 : BitVec 32 := Scalar.remui arg9_r0 c2_i32_190_r0
  let c0_i32_272_r0 : BitVec 32 := 0#32
  let c0_i32_274_r0 : BitVec 32 := 0#32
  let c0_i32_275_r0 : BitVec 32 := 0#32
  ![v231_r0.toNat, 0, 3, 0, 0]
def k0_off30 (arg9_r0 : BitVec 32) : Fin 5 → Nat :=
  let c2_i32_190_r0 : BitVec 32 := 2#32
  let v231_r0 : BitVec 32 := Scalar.remui arg9_r0 c2_i32_190_r0
  let c0_i32_290_r0 : BitVec 32 := 0#32
  let c0_i32_292_r0 : BitVec 32 := 0#32
  let c0_i32_293_r0 : BitVec 32 := 0#32
  ![v231_r0.toNat, 0, 4, 0, 0]
def k0_off31 (arg9_r0 : BitVec 32) : Fin 5 → Nat :=
  let c2_i32_190_r0 : BitVec 32 := 2#32
  let v231_r0 : BitVec 32 := Scalar.remui arg9_r0 c2_i32_190_r0
  let c0_i32_308_r0 : BitVec 32 := 0#32
  let c0_i32_310_r0 : BitVec 32 := 0#32
  let c0_i32_311_r0 : BitVec 32 := 0#32
  ![v231_r0.toNat, 0, 5, 0, 0]
def k0_off32 (arg9_r0 : BitVec 32) : Fin 5 → Nat :=
  let c2_i32_190_r0 : BitVec 32 := 2#32
  let v231_r0 : BitVec 32 := Scalar.remui arg9_r0 c2_i32_190_r0
  let c0_i32_326_r0 : BitVec 32 := 0#32
  let c0_i32_328_r0 : BitVec 32 := 0#32
  let c0_i32_329_r0 : BitVec 32 := 0#32
  ![v231_r0.toNat, 0, 6, 0, 0]
def k0_off33 (arg9_r0 : BitVec 32) : Fin 5 → Nat :=
  let c2_i32_190_r0 : BitVec 32 := 2#32
  let v231_r0 : BitVec 32 := Scalar.remui arg9_r0 c2_i32_190_r0
  let c0_i32_344_r0 : BitVec 32 := 0#32
  let c0_i32_346_r0 : BitVec 32 := 0#32
  let c0_i32_347_r0 : BitVec 32 := 0#32
  ![v231_r0.toNat, 0, 7, 0, 0]

def k0_chk4 (arg9_r0 : BitVec 32) : Prop :=
  (∀ a, (k0_off24 arg9_r0) a + S1x1x8x2048x128.size a ≤ S2x1x8x2048x128.size a) ∧
  (∀ a, (k0_off25 arg9_r0) a + S1x1x1x2048x128.size a ≤ S2x1x8x2048x128.size a) ∧
  (∀ (hinb : ∀ a, (k0_off25 arg9_r0) a + S1x1x1x2048x128.size a ≤ S2x1x8x2048x128.size a), (Rect.unit (s := S2x1x8x2048x128) (k0_off25 arg9_r0) S1x1x1x2048x128.size hinb).PackedRows (EltTy.packing .bf16)) ∧
  (∀ a, (k0_off27 arg9_r0) a + S1x1x1x2048x128.size a ≤ S2x1x8x2048x128.size a) ∧
  (∀ (hinb : ∀ a, (k0_off27 arg9_r0) a + S1x1x1x2048x128.size a ≤ S2x1x8x2048x128.size a), (Rect.unit (s := S2x1x8x2048x128) (k0_off27 arg9_r0) S1x1x1x2048x128.size hinb).PackedRows (EltTy.packing .bf16)) ∧
  (∀ a, (k0_off28 arg9_r0) a + S1x1x1x2048x128.size a ≤ S2x1x8x2048x128.size a) ∧
  (∀ (hinb : ∀ a, (k0_off28 arg9_r0) a + S1x1x1x2048x128.size a ≤ S2x1x8x2048x128.size a), (Rect.unit (s := S2x1x8x2048x128) (k0_off28 arg9_r0) S1x1x1x2048x128.size hinb).PackedRows (EltTy.packing .bf16)) ∧
  (∀ a, (k0_off29 arg9_r0) a + S1x1x1x2048x128.size a ≤ S2x1x8x2048x128.size a) ∧
  (∀ (hinb : ∀ a, (k0_off29 arg9_r0) a + S1x1x1x2048x128.size a ≤ S2x1x8x2048x128.size a), (Rect.unit (s := S2x1x8x2048x128) (k0_off29 arg9_r0) S1x1x1x2048x128.size hinb).PackedRows (EltTy.packing .bf16)) ∧
  (∀ a, (k0_off30 arg9_r0) a + S1x1x1x2048x128.size a ≤ S2x1x8x2048x128.size a) ∧
  (∀ (hinb : ∀ a, (k0_off30 arg9_r0) a + S1x1x1x2048x128.size a ≤ S2x1x8x2048x128.size a), (Rect.unit (s := S2x1x8x2048x128) (k0_off30 arg9_r0) S1x1x1x2048x128.size hinb).PackedRows (EltTy.packing .bf16)) ∧
  (∀ a, (k0_off31 arg9_r0) a + S1x1x1x2048x128.size a ≤ S2x1x8x2048x128.size a) ∧
  (∀ (hinb : ∀ a, (k0_off31 arg9_r0) a + S1x1x1x2048x128.size a ≤ S2x1x8x2048x128.size a), (Rect.unit (s := S2x1x8x2048x128) (k0_off31 arg9_r0) S1x1x1x2048x128.size hinb).PackedRows (EltTy.packing .bf16)) ∧
  (∀ a, (k0_off32 arg9_r0) a + S1x1x1x2048x128.size a ≤ S2x1x8x2048x128.size a) ∧
  (∀ (hinb : ∀ a, (k0_off32 arg9_r0) a + S1x1x1x2048x128.size a ≤ S2x1x8x2048x128.size a), (Rect.unit (s := S2x1x8x2048x128) (k0_off32 arg9_r0) S1x1x1x2048x128.size hinb).PackedRows (EltTy.packing .bf16)) ∧
  (∀ a, (k0_off33 arg9_r0) a + S1x1x1x2048x128.size a ≤ S2x1x8x2048x128.size a) ∧
  (∀ (hinb : ∀ a, (k0_off33 arg9_r0) a + S1x1x1x2048x128.size a ≤ S2x1x8x2048x128.size a), (Rect.unit (s := S2x1x8x2048x128) (k0_off33 arg9_r0) S1x1x1x2048x128.size hinb).PackedRows (EltTy.packing .bf16))
theorem k0_off24_inb : ∀ (arg9_r0 : BitVec 32) (k0_hw4 : k0_chk4 arg9_r0), ∀ a, (k0_off24 arg9_r0) a + S1x1x8x2048x128.size a ≤ S2x1x8x2048x128.size a := fun arg9_r0 k0_hw4 => k0_hw4.1
theorem k0_off25_inb : ∀ (arg9_r0 : BitVec 32) (k0_hw4 : k0_chk4 arg9_r0), ∀ a, (k0_off25 arg9_r0) a + S1x1x1x2048x128.size a ≤ S2x1x8x2048x128.size a := fun arg9_r0 k0_hw4 => k0_hw4.2.1
theorem k0_off25_packedbf16 : ∀ (arg9_r0 : BitVec 32) (k0_hw4 : k0_chk4 arg9_r0), (Rect.unit (s := S2x1x8x2048x128) (k0_off25 arg9_r0) S1x1x1x2048x128.size (k0_off25_inb arg9_r0 k0_hw4)).PackedRows (EltTy.packing .bf16) := fun arg9_r0 k0_hw4 => k0_hw4.2.2.1 (k0_off25_inb arg9_r0 k0_hw4)
theorem k0_off27_inb : ∀ (arg9_r0 : BitVec 32) (k0_hw4 : k0_chk4 arg9_r0), ∀ a, (k0_off27 arg9_r0) a + S1x1x1x2048x128.size a ≤ S2x1x8x2048x128.size a := fun arg9_r0 k0_hw4 => k0_hw4.2.2.2.1
theorem k0_off27_packedbf16 : ∀ (arg9_r0 : BitVec 32) (k0_hw4 : k0_chk4 arg9_r0), (Rect.unit (s := S2x1x8x2048x128) (k0_off27 arg9_r0) S1x1x1x2048x128.size (k0_off27_inb arg9_r0 k0_hw4)).PackedRows (EltTy.packing .bf16) := fun arg9_r0 k0_hw4 => k0_hw4.2.2.2.2.1 (k0_off27_inb arg9_r0 k0_hw4)
theorem k0_off28_inb : ∀ (arg9_r0 : BitVec 32) (k0_hw4 : k0_chk4 arg9_r0), ∀ a, (k0_off28 arg9_r0) a + S1x1x1x2048x128.size a ≤ S2x1x8x2048x128.size a := fun arg9_r0 k0_hw4 => k0_hw4.2.2.2.2.2.1
theorem k0_off28_packedbf16 : ∀ (arg9_r0 : BitVec 32) (k0_hw4 : k0_chk4 arg9_r0), (Rect.unit (s := S2x1x8x2048x128) (k0_off28 arg9_r0) S1x1x1x2048x128.size (k0_off28_inb arg9_r0 k0_hw4)).PackedRows (EltTy.packing .bf16) := fun arg9_r0 k0_hw4 => k0_hw4.2.2.2.2.2.2.1 (k0_off28_inb arg9_r0 k0_hw4)
theorem k0_off29_inb : ∀ (arg9_r0 : BitVec 32) (k0_hw4 : k0_chk4 arg9_r0), ∀ a, (k0_off29 arg9_r0) a + S1x1x1x2048x128.size a ≤ S2x1x8x2048x128.size a := fun arg9_r0 k0_hw4 => k0_hw4.2.2.2.2.2.2.2.1
theorem k0_off29_packedbf16 : ∀ (arg9_r0 : BitVec 32) (k0_hw4 : k0_chk4 arg9_r0), (Rect.unit (s := S2x1x8x2048x128) (k0_off29 arg9_r0) S1x1x1x2048x128.size (k0_off29_inb arg9_r0 k0_hw4)).PackedRows (EltTy.packing .bf16) := fun arg9_r0 k0_hw4 => k0_hw4.2.2.2.2.2.2.2.2.1 (k0_off29_inb arg9_r0 k0_hw4)
theorem k0_off30_inb : ∀ (arg9_r0 : BitVec 32) (k0_hw4 : k0_chk4 arg9_r0), ∀ a, (k0_off30 arg9_r0) a + S1x1x1x2048x128.size a ≤ S2x1x8x2048x128.size a := fun arg9_r0 k0_hw4 => k0_hw4.2.2.2.2.2.2.2.2.2.1
theorem k0_off30_packedbf16 : ∀ (arg9_r0 : BitVec 32) (k0_hw4 : k0_chk4 arg9_r0), (Rect.unit (s := S2x1x8x2048x128) (k0_off30 arg9_r0) S1x1x1x2048x128.size (k0_off30_inb arg9_r0 k0_hw4)).PackedRows (EltTy.packing .bf16) := fun arg9_r0 k0_hw4 => k0_hw4.2.2.2.2.2.2.2.2.2.2.1 (k0_off30_inb arg9_r0 k0_hw4)
theorem k0_off31_inb : ∀ (arg9_r0 : BitVec 32) (k0_hw4 : k0_chk4 arg9_r0), ∀ a, (k0_off31 arg9_r0) a + S1x1x1x2048x128.size a ≤ S2x1x8x2048x128.size a := fun arg9_r0 k0_hw4 => k0_hw4.2.2.2.2.2.2.2.2.2.2.2.1
theorem k0_off31_packedbf16 : ∀ (arg9_r0 : BitVec 32) (k0_hw4 : k0_chk4 arg9_r0), (Rect.unit (s := S2x1x8x2048x128) (k0_off31 arg9_r0) S1x1x1x2048x128.size (k0_off31_inb arg9_r0 k0_hw4)).PackedRows (EltTy.packing .bf16) := fun arg9_r0 k0_hw4 => k0_hw4.2.2.2.2.2.2.2.2.2.2.2.2.1 (k0_off31_inb arg9_r0 k0_hw4)
theorem k0_off32_inb : ∀ (arg9_r0 : BitVec 32) (k0_hw4 : k0_chk4 arg9_r0), ∀ a, (k0_off32 arg9_r0) a + S1x1x1x2048x128.size a ≤ S2x1x8x2048x128.size a := fun arg9_r0 k0_hw4 => k0_hw4.2.2.2.2.2.2.2.2.2.2.2.2.2.1
theorem k0_off32_packedbf16 : ∀ (arg9_r0 : BitVec 32) (k0_hw4 : k0_chk4 arg9_r0), (Rect.unit (s := S2x1x8x2048x128) (k0_off32 arg9_r0) S1x1x1x2048x128.size (k0_off32_inb arg9_r0 k0_hw4)).PackedRows (EltTy.packing .bf16) := fun arg9_r0 k0_hw4 => k0_hw4.2.2.2.2.2.2.2.2.2.2.2.2.2.2.1 (k0_off32_inb arg9_r0 k0_hw4)
theorem k0_off33_inb : ∀ (arg9_r0 : BitVec 32) (k0_hw4 : k0_chk4 arg9_r0), ∀ a, (k0_off33 arg9_r0) a + S1x1x1x2048x128.size a ≤ S2x1x8x2048x128.size a := fun arg9_r0 k0_hw4 => k0_hw4.2.2.2.2.2.2.2.2.2.2.2.2.2.2.2.1
theorem k0_off33_packedbf16 : ∀ (arg9_r0 : BitVec 32) (k0_hw4 : k0_chk4 arg9_r0), (Rect.unit (s := S2x1x8x2048x128) (k0_off33 arg9_r0) S1x1x1x2048x128.size (k0_off33_inb arg9_r0 k0_hw4)).PackedRows (EltTy.packing .bf16) := fun arg9_r0 k0_hw4 => k0_hw4.2.2.2.2.2.2.2.2.2.2.2.2.2.2.2.2 (k0_off33_inb arg9_r0 k0_hw4)

def k0_off34 (arg9_r0 : BitVec 32) : Fin 1 → Nat :=
  let c2_i32_377_r0 : BitVec 32 := 2#32
  let v495_r0 : BitVec 32 := Scalar.remui arg9_r0 c2_i32_377_r0
  ![v495_r0.toNat]
def k0_cond10 (k0_t1 : Fin k0_t1_loop.trips) (arg11_r0 : BitVec 32) (arg12_r0 : BitVec 32) : BitVec 1 :=
  let c0_i32_131_r0 : BitVec 32 := 0#32
  let v133_r0 : BitVec 32 := Scalar.addi arg11_r0 c0_i32_131_r0
  let true_143_r0 : BitVec 1 := 1#1
  let c1_i32_142_r0 : BitVec 32 := 1#32
  let v145_r0 : BitVec 32 := Scalar.addi arg12_r0 c1_i32_142_r0
  let v146_r0 : BitVec 32 := Scalar.select true_143_r0 v145_r0 arg12_r0
  let c2_i32_144_r0 : BitVec 32 := 2#32
  let v147_r0 : BitVec 1 := Scalar.cmpi .eq v146_r0 c2_i32_144_r0
  let c1_i32_146_r0 : BitVec 32 := 1#32
  let v149_r0 : BitVec 32 := Scalar.addi arg11_r0 c1_i32_146_r0
  let v150_r0 : BitVec 32 := Scalar.select v147_r0 v149_r0 arg11_r0
  let c8_i32_147_r0 : BitVec 32 := 8#32
  let v151_r0 : BitVec 1 := Scalar.cmpi .eq v150_r0 c8_i32_147_r0
  let c0_i32_148_r0 : BitVec 32 := 0#32
  let v152_r0 : BitVec 32 := Scalar.select v151_r0 c0_i32_148_r0 v150_r0
  let c0_i32_149_r0 : BitVec 32 := 0#32
  let v153_r0 : BitVec 32 := Scalar.addi v152_r0 c0_i32_149_r0
  let v440_r0 : BitVec 1 := Scalar.cmpi .ne v133_r0 v153_r0
  let c0_i32_132_r0 : BitVec 32 := 0#32
  let v134_r0 : BitVec 32 := Scalar.addi arg12_r0 c0_i32_132_r0
  let c0_i32_145_r0 : BitVec 32 := 0#32
  let v148_r0 : BitVec 32 := Scalar.select v147_r0 c0_i32_145_r0 v146_r0
  let c0_i32_150_r0 : BitVec 32 := 0#32
  let v154_r0 : BitVec 32 := Scalar.addi v148_r0 c0_i32_150_r0
  let v441_r0 : BitVec 1 := Scalar.cmpi .ne v134_r0 v154_r0
  let v442_r0 : BitVec 1 := Scalar.ori v440_r0 v441_r0
  let c0_i32_74_r0 : BitVec 32 := 0#32
  let c1_i32_75_r0 : BitVec 32 := 1#32
  let arg4_r0 : BitVec 32 := Scf.iv c0_i32_74_r0 c1_i32_75_r0 k0_t1
  let c15_i32_r0 : BitVec 32 := 15#32
  let v132_r0 : BitVec 1 := Scalar.cmpi .eq arg4_r0 c15_i32_r0
  let v443_r0 : BitVec 1 := Scalar.ori v442_r0 v132_r0
  let v444_r0 : BitVec 32 := Scalar.extui v443_r0
  let c0_i32_355_r0 : BitVec 32 := 0#32
  let v445_r0 : BitVec 1 := Scalar.cmpi .ne v444_r0 c0_i32_355_r0
  v445_r0

def k0_off35 (arg11_r0 : BitVec 32) (arg12_r0 : BitVec 32) : Fin 4 → Nat :=
  let c1_i32_378_r0 : BitVec 32 := 1#32
  let c0_i32_131_r0 : BitVec 32 := 0#32
  let v133_r0 : BitVec 32 := Scalar.addi arg11_r0 c0_i32_131_r0
  let v496_r0 : BitVec 32 := Scalar.muli c1_i32_378_r0 v133_r0
  let c0_i32_380_r0 : BitVec 32 := 0#32
  let c2048_i32_379_r0 : BitVec 32 := 2048#32
  let c0_i32_132_r0 : BitVec 32 := 0#32
  let v134_r0 : BitVec 32 := Scalar.addi arg12_r0 c0_i32_132_r0
  let v497_r0 : BitVec 32 := Scalar.muli c2048_i32_379_r0 v134_r0
  let c0_i32_381_r0 : BitVec 32 := 0#32
  ![v496_r0.toNat, 0, v497_r0.toNat, 0]
def k0_off36 (arg9_r0 : BitVec 32) : Fin 5 → Nat :=
  let c2_i32_377_r0 : BitVec 32 := 2#32
  let v495_r0 : BitVec 32 := Scalar.remui arg9_r0 c2_i32_377_r0
  let c0_i32_382_r0 : BitVec 32 := 0#32
  let c0_i32_383_r0 : BitVec 32 := 0#32
  let c0_i32_384_r0 : BitVec 32 := 0#32
  let c0_i32_385_r0 : BitVec 32 := 0#32
  ![v495_r0.toNat, 0, 0, 0, 0]
def k0_off37 (arg10_r0 : BitVec 32) : Fin 1 → Nat :=
  let c2_i32_377_r0 : BitVec 32 := 2#32
  let v495_r0 : BitVec 32 := Scalar.remui arg10_r0 c2_i32_377_r0
  ![v495_r0.toNat]
def k0_cond13 (k0_t1 : Fin k0_t1_loop.trips) (arg11_r0 : BitVec 32) (arg12_r0 : BitVec 32) : BitVec 1 :=
  let c0_i32_131_r0 : BitVec 32 := 0#32
  let v133_r0 : BitVec 32 := Scalar.addi arg11_r0 c0_i32_131_r0
  let true_134_r0 : BitVec 1 := 1#1
  let c1_i32_133_r0 : BitVec 32 := 1#32
  let v135_r0 : BitVec 32 := Scalar.subi arg12_r0 c1_i32_133_r0
  let v136_r0 : BitVec 32 := Scalar.select true_134_r0 v135_r0 arg12_r0
  let c_m1_i32_135_r0 : BitVec 32 := 4294967295#32
  let v137_r0 : BitVec 1 := Scalar.cmpi .eq v136_r0 c_m1_i32_135_r0
  let c1_i32_137_r0 : BitVec 32 := 1#32
  let v139_r0 : BitVec 32 := Scalar.subi arg11_r0 c1_i32_137_r0
  let v140_r0 : BitVec 32 := Scalar.select v137_r0 v139_r0 arg11_r0
  let c_m1_i32_138_r0 : BitVec 32 := 4294967295#32
  let v141_r0 : BitVec 1 := Scalar.cmpi .eq v140_r0 c_m1_i32_138_r0
  let c7_i32_139_r0 : BitVec 32 := 7#32
  let v142_r0 : BitVec 32 := Scalar.select v141_r0 c7_i32_139_r0 v140_r0
  let c0_i32_140_r0 : BitVec 32 := 0#32
  let v143_r0 : BitVec 32 := Scalar.addi v142_r0 c0_i32_140_r0
  let v465_r0 : BitVec 1 := Scalar.cmpi .ne v133_r0 v143_r0
  let c0_i32_132_r0 : BitVec 32 := 0#32
  let v134_r0 : BitVec 32 := Scalar.addi arg12_r0 c0_i32_132_r0
  let c1_i32_136_r0 : BitVec 32 := 1#32
  let v138_r0 : BitVec 32 := Scalar.select v137_r0 c1_i32_136_r0 v136_r0
  let c0_i32_141_r0 : BitVec 32 := 0#32
  let v144_r0 : BitVec 32 := Scalar.addi v138_r0 c0_i32_141_r0
  let v466_r0 : BitVec 1 := Scalar.cmpi .ne v134_r0 v144_r0
  let v467_r0 : BitVec 1 := Scalar.ori v465_r0 v466_r0
  let c0_i32_74_r0 : BitVec 32 := 0#32
  let c1_i32_75_r0 : BitVec 32 := 1#32
  let arg4_r0 : BitVec 32 := Scf.iv c0_i32_74_r0 c1_i32_75_r0 k0_t1
  let c0_i32_130_r0 : BitVec 32 := 0#32
  let v131_r0 : BitVec 1 := Scalar.cmpi .eq arg4_r0 c0_i32_130_r0
  let true_364_r0 : BitVec 1 := 1#1
  let v468_r0 : BitVec 1 := Scalar.xori v131_r0 true_364_r0
  let v469_r0 : BitVec 1 := Scalar.andi v467_r0 v468_r0
  let v470_r0 : BitVec 32 := Scalar.extui v469_r0
  let c0_i32_365_r0 : BitVec 32 := 0#32
  let v471_r0 : BitVec 1 := Scalar.cmpi .ne v470_r0 c0_i32_365_r0
  v471_r0

def k0_off38 (arg11_r0 : BitVec 32) (arg12_r0 : BitVec 32) : Fin 4 → Nat :=
  let c1_i32_378_r0 : BitVec 32 := 1#32
  let true_134_r0 : BitVec 1 := 1#1
  let c1_i32_133_r0 : BitVec 32 := 1#32
  let v135_r0 : BitVec 32 := Scalar.subi arg12_r0 c1_i32_133_r0
  let v136_r0 : BitVec 32 := Scalar.select true_134_r0 v135_r0 arg12_r0
  let c_m1_i32_135_r0 : BitVec 32 := 4294967295#32
  let v137_r0 : BitVec 1 := Scalar.cmpi .eq v136_r0 c_m1_i32_135_r0
  let c1_i32_137_r0 : BitVec 32 := 1#32
  let v139_r0 : BitVec 32 := Scalar.subi arg11_r0 c1_i32_137_r0
  let v140_r0 : BitVec 32 := Scalar.select v137_r0 v139_r0 arg11_r0
  let c_m1_i32_138_r0 : BitVec 32 := 4294967295#32
  let v141_r0 : BitVec 1 := Scalar.cmpi .eq v140_r0 c_m1_i32_138_r0
  let c7_i32_139_r0 : BitVec 32 := 7#32
  let v142_r0 : BitVec 32 := Scalar.select v141_r0 c7_i32_139_r0 v140_r0
  let c0_i32_140_r0 : BitVec 32 := 0#32
  let v143_r0 : BitVec 32 := Scalar.addi v142_r0 c0_i32_140_r0
  let v496_r0 : BitVec 32 := Scalar.muli c1_i32_378_r0 v143_r0
  let c0_i32_380_r0 : BitVec 32 := 0#32
  let c2048_i32_379_r0 : BitVec 32 := 2048#32
  let c1_i32_136_r0 : BitVec 32 := 1#32
  let v138_r0 : BitVec 32 := Scalar.select v137_r0 c1_i32_136_r0 v136_r0
  let c0_i32_141_r0 : BitVec 32 := 0#32
  let v144_r0 : BitVec 32 := Scalar.addi v138_r0 c0_i32_141_r0
  let v497_r0 : BitVec 32 := Scalar.muli c2048_i32_379_r0 v144_r0
  let c0_i32_381_r0 : BitVec 32 := 0#32
  ![v496_r0.toNat, 0, v497_r0.toNat, 0]
def k0_off39 (arg10_r0 : BitVec 32) : Fin 5 → Nat :=
  let c2_i32_377_r0 : BitVec 32 := 2#32
  let v495_r0 : BitVec 32 := Scalar.remui arg10_r0 c2_i32_377_r0
  let c0_i32_382_r0 : BitVec 32 := 0#32
  let c0_i32_383_r0 : BitVec 32 := 0#32
  let c0_i32_384_r0 : BitVec 32 := 0#32
  let c0_i32_385_r0 : BitVec 32 := 0#32
  ![v495_r0.toNat, 0, 0, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h3 : k0_cond3 k0_t1 arg11_r0 arg12_r0 = 1#1), ∀ a, (k0_off10 arg5_r0) a + S1.size a ≤ S3.size a) ∧
  (∀ (k0_h3 : k0_cond3 k0_t1 arg11_r0 arg12_r0 = 1#1), ∀ a, (k0_off11 arg5_r0) a + S1x1x4x2048x128.size a ≤ S3x1x4x2048x128.size a) ∧
  (∀ (k0_h3 : k0_cond3 k0_t1 arg11_r0 arg12_r0 = 1#1), ∀ a, (k0_off12 arg11_r0 arg12_r0) a + S1x4x2048x128.size a ≤ S8x4x4096x128.size a) ∧
  (∀ (k0_h3 : k0_cond3 k0_t1 arg11_r0 arg12_r0 = 1#1), ∀ (hinb : ∀ a, (k0_off12 arg11_r0 arg12_r0) a + S1x4x2048x128.size a ≤ S8x4x4096x128.size a), (Rect.unit (s := S8x4x4096x128) (k0_off12 arg11_r0 arg12_r0) S1x4x2048x128.size hinb).WholeWords (EltTy.packing .bf16)) ∧
  (∀ (k0_h3 : k0_cond3 k0_t1 arg11_r0 arg12_r0 = 1#1), ∀ (hinb : ∀ a, (k0_off11 arg5_r0) a + S1x1x4x2048x128.size a ≤ S3x1x4x2048x128.size a), (Rect.unit (s := S3x1x4x2048x128) (k0_off11 arg5_r0) S1x1x4x2048x128.size hinb).WholeWords (EltTy.packing .bf16)) ∧
  (∀ (k0_h4 : k0_cond4 k0_t1 arg11_r0 arg12_r0 = 1#1), ∀ a, (k0_off13 arg7_r0) a + S1.size a ≤ S3.size a) ∧
  (∀ (k0_h4 : k0_cond4 k0_t1 arg11_r0 arg12_r0 = 1#1), ∀ a, (k0_off14 arg7_r0) a + S1x1x2048x32.size a ≤ S3x1x2048x32.size a) ∧
  (∀ (k0_h4 : k0_cond4 k0_t1 arg11_r0 arg12_r0 = 1#1), ∀ a, (k0_off15 arg11_r0 arg12_r0) a + S1x2048x32.size a ≤ S8x4096x32.size a) ∧
  (∀ (k0_h5 : k0_cond5 k0_t1 arg11_r0 arg12_r0 = 1#1), ∀ a, (k0_off16 arg6_r0) a + S1.size a ≤ S3.size a) ∧
  (∀ (k0_h5 : k0_cond5 k0_t1 arg11_r0 arg12_r0 = 1#1), ∀ a, (k0_off17 arg6_r0) a + S1x1x4x2048x128.size a ≤ S3x1x4x2048x128.size a) ∧
  (∀ (k0_h5 : k0_cond5 k0_t1 arg11_r0 arg12_r0 = 1#1), ∀ a, (k0_off18 arg11_r0 arg12_r0) a + S1x4x2048x128.size a ≤ S8x4x4096x128.size a) ∧
  (∀ (k0_h5 : k0_cond5 k0_t1 arg11_r0 arg12_r0 = 1#1), ∀ (hinb : ∀ a, (k0_off18 arg11_r0 arg12_r0) a + S1x4x2048x128.size a ≤ S8x4x4096x128.size a), (Rect.unit (s := S8x4x4096x128) (k0_off18 arg11_r0 arg12_r0) S1x4x2048x128.size hinb).WholeWords (EltTy.packing .bf16)) ∧
  (∀ (k0_h5 : k0_cond5 k0_t1 arg11_r0 arg12_r0 = 1#1), ∀ (hinb : ∀ a, (k0_off17 arg6_r0) a + S1x1x4x2048x128.size a ≤ S3x1x4x2048x128.size a), (Rect.unit (s := S3x1x4x2048x128) (k0_off17 arg6_r0) S1x1x4x2048x128.size hinb).WholeWords (EltTy.packing .bf16)) ∧
  (∀ (k0_h6 : k0_cond6 k0_t1 arg11_r0 arg12_r0 = 1#1), ∀ a, (k0_off19 arg8_r0) a + S1.size a ≤ S3.size a) ∧
  (∀ (k0_h6 : k0_cond6 k0_t1 arg11_r0 arg12_r0 = 1#1), ∀ a, (k0_off20 arg8_r0) a + S1x1x2048x32.size a ≤ S3x1x2048x32.size a) ∧
  (∀ (k0_h6 : k0_cond6 k0_t1 arg11_r0 arg12_r0 = 1#1), ∀ a, (k0_off21 arg11_r0 arg12_r0) a + S1x2048x32.size a ≤ S8x4096x32.size a) ∧
  (∀ (k0_h10 : k0_cond10 k0_t1 arg11_r0 arg12_r0 = 1#1), ∀ a, (k0_off34 arg9_r0) a + S1.size a ≤ S2.size a) ∧
  (∀ (k0_h10 : k0_cond10 k0_t1 arg11_r0 arg12_r0 = 1#1), ∀ a, (k0_off35 arg11_r0 arg12_r0) a + S1x8x2048x128.size a ≤ S8x8x4096x128.size a) ∧
  (∀ (k0_h10 : k0_cond10 k0_t1 arg11_r0 arg12_r0 = 1#1), ∀ a, (k0_off36 arg9_r0) a + S1x1x8x2048x128.size a ≤ S2x1x8x2048x128.size a) ∧
  (∀ (k0_h10 : k0_cond10 k0_t1 arg11_r0 arg12_r0 = 1#1), ∀ (hinb : ∀ a, (k0_off36 arg9_r0) a + S1x1x8x2048x128.size a ≤ S2x1x8x2048x128.size a), (Rect.unit (s := S2x1x8x2048x128) (k0_off36 arg9_r0) S1x1x8x2048x128.size hinb).WholeWords (EltTy.packing .bf16)) ∧
  (∀ (k0_h10 : k0_cond10 k0_t1 arg11_r0 arg12_r0 = 1#1), ∀ (hinb : ∀ a, (k0_off35 arg11_r0 arg12_r0) a + S1x8x2048x128.size a ≤ S8x8x4096x128.size a), (Rect.unit (s := S8x8x4096x128) (k0_off35 arg11_r0 arg12_r0) S1x8x2048x128.size hinb).WholeWords (EltTy.packing .bf16)) ∧
  (∀ (k0_h13 : k0_cond13 k0_t1 arg11_r0 arg12_r0 = 1#1), ∀ a, (k0_off37 arg10_r0) a + S1.size a ≤ S2.size a) ∧
  (∀ (k0_h13 : k0_cond13 k0_t1 arg11_r0 arg12_r0 = 1#1), ∀ a, (k0_off38 arg11_r0 arg12_r0) a + S1x8x2048x128.size a ≤ S8x8x4096x128.size a) ∧
  (∀ (k0_h13 : k0_cond13 k0_t1 arg11_r0 arg12_r0 = 1#1), ∀ a, (k0_off39 arg10_r0) a + S1x1x8x2048x128.size a ≤ S2x1x8x2048x128.size a) ∧
  (∀ (k0_h13 : k0_cond13 k0_t1 arg11_r0 arg12_r0 = 1#1), ∀ (hinb : ∀ a, (k0_off39 arg10_r0) a + S1x1x8x2048x128.size a ≤ S2x1x8x2048x128.size a), (Rect.unit (s := S2x1x8x2048x128) (k0_off39 arg10_r0) S1x1x8x2048x128.size hinb).WholeWords (EltTy.packing .bf16)) ∧
  (∀ (k0_h13 : k0_cond13 k0_t1 arg11_r0 arg12_r0 = 1#1), ∀ (hinb : ∀ a, (k0_off38 arg11_r0 arg12_r0) a + S1x8x2048x128.size a ≤ S8x8x4096x128.size a), (Rect.unit (s := S8x8x4096x128) (k0_off38 arg11_r0 arg12_r0) S1x8x2048x128.size hinb).WholeWords (EltTy.packing .bf16))
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off10 arg5_r0) a + S1.size a ≤ S3.size a := fun k0_t1 arg5_r0 arg6_r0 arg7_r0 arg8_r0 arg9_r0 arg10_r0 arg11_r0 arg12_r0 k0_hw1 k0_h3 => k0_hw1.1 k0_h3
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off11 arg5_r0) a + S1x1x4x2048x128.size a ≤ S3x1x4x2048x128.size a := fun k0_t1 arg5_r0 arg6_r0 arg7_r0 arg8_r0 arg9_r0 arg10_r0 arg11_r0 arg12_r0 k0_hw1 k0_h3 => k0_hw1.2.1 k0_h3
theorem k0_off12_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off12 arg11_r0 arg12_r0) a + S1x4x2048x128.size a ≤ S8x4x4096x128.size a := fun k0_t1 arg5_r0 arg6_r0 arg7_r0 arg8_r0 arg9_r0 arg10_r0 arg11_r0 arg12_r0 k0_hw1 k0_h3 => k0_hw1.2.2.1 k0_h3
theorem k0_off12_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), (Rect.unit (s := S8x4x4096x128) (k0_off12 arg11_r0 arg12_r0) S1x4x2048x128.size (k0_off12_inb k0_t1 arg5_r0 arg6_r0 arg7_r0 arg8_r0 arg9_r0 arg10_r0 arg11_r0 arg12_r0 k0_hw1 k0_h3)).WholeWords (EltTy.packing .bf16) := fun k0_t1 arg5_r0 arg6_r0 arg7_r0 arg8_r0 arg9_r0 arg10_r0 arg11_r0 arg12_r0 k0_hw1 k0_h3 => k0_hw1.2.2.2.1 k0_h3 (k0_off12_inb k0_t1 arg5_r0 arg6_r0 arg7_r0 arg8_r0 arg9_r0 arg10_r0 arg11_r0 arg12_r0 k0_hw1 k0_h3)
theorem k0_off11_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), (Rect.unit (s := S3x1x4x2048x128) (k0_off11 arg5_r0) S1x1x4x2048x128.size (k0_off11_inb k0_t1 arg5_r0 arg6_r0 arg7_r0 arg8_r0 arg9_r0 arg10_r0 arg11_r0 arg12_r0 k0_hw1 k0_h3)).WholeWords (EltTy.packing .bf16) := fun k0_t1 arg5_r0 arg6_r0 arg7_r0 arg8_r0 arg9_r0 arg10_r0 arg11_r0 arg12_r0 k0_hw1 k0_h3 => k0_hw1.2.2.2.2.1 k0_h3 (k0_off11_inb k0_t1 arg5_r0 arg6_r0 arg7_r0 arg8_r0 arg9_r0 arg10_r0 arg11_r0 arg12_r0 k0_hw1 k0_h3)
theorem k0_off13_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h4 : k0_cond4 k0_t1 arg11_r0 arg12_r0 = 1#1), ∀ a, (k0_off13 arg7_r0) a + S1.size a ≤ S3.size a := fun k0_t1 arg5_r0 arg6_r0 arg7_r0 arg8_r0 arg9_r0 arg10_r0 arg11_r0 arg12_r0 k0_hw1 k0_h4 => k0_hw1.2.2.2.2.2.1 k0_h4
theorem k0_off14_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h4 : k0_cond4 k0_t1 arg11_r0 arg12_r0 = 1#1), ∀ a, (k0_off14 arg7_r0) a + S1x1x2048x32.size a ≤ S3x1x2048x32.size a := fun k0_t1 arg5_r0 arg6_r0 arg7_r0 arg8_r0 arg9_r0 arg10_r0 arg11_r0 arg12_r0 k0_hw1 k0_h4 => k0_hw1.2.2.2.2.2.2.1 k0_h4
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h4 : k0_cond4 k0_t1 arg11_r0 arg12_r0 = 1#1), ∀ a, (k0_off15 arg11_r0 arg12_r0) a + S1x2048x32.size a ≤ S8x4096x32.size a := fun k0_t1 arg5_r0 arg6_r0 arg7_r0 arg8_r0 arg9_r0 arg10_r0 arg11_r0 arg12_r0 k0_hw1 k0_h4 => k0_hw1.2.2.2.2.2.2.2.1 k0_h4
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h5 : k0_cond5 k0_t1 arg11_r0 arg12_r0 = 1#1), ∀ a, (k0_off16 arg6_r0) a + S1.size a ≤ S3.size a := fun k0_t1 arg5_r0 arg6_r0 arg7_r0 arg8_r0 arg9_r0 arg10_r0 arg11_r0 arg12_r0 k0_hw1 k0_h5 => k0_hw1.2.2.2.2.2.2.2.2.1 k0_h5
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h5 : k0_cond5 k0_t1 arg11_r0 arg12_r0 = 1#1), ∀ a, (k0_off17 arg6_r0) a + S1x1x4x2048x128.size a ≤ S3x1x4x2048x128.size a := fun k0_t1 arg5_r0 arg6_r0 arg7_r0 arg8_r0 arg9_r0 arg10_r0 arg11_r0 arg12_r0 k0_hw1 k0_h5 => k0_hw1.2.2.2.2.2.2.2.2.2.1 k0_h5
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h5 : k0_cond5 k0_t1 arg11_r0 arg12_r0 = 1#1), ∀ a, (k0_off18 arg11_r0 arg12_r0) a + S1x4x2048x128.size a ≤ S8x4x4096x128.size a := fun k0_t1 arg5_r0 arg6_r0 arg7_r0 arg8_r0 arg9_r0 arg10_r0 arg11_r0 arg12_r0 k0_hw1 k0_h5 => k0_hw1.2.2.2.2.2.2.2.2.2.2.1 k0_h5
theorem k0_off18_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h5 : k0_cond5 k0_t1 arg11_r0 arg12_r0 = 1#1), (Rect.unit (s := S8x4x4096x128) (k0_off18 arg11_r0 arg12_r0) S1x4x2048x128.size (k0_off18_inb k0_t1 arg5_r0 arg6_r0 arg7_r0 arg8_r0 arg9_r0 arg10_r0 arg11_r0 arg12_r0 k0_hw1 k0_h5)).WholeWords (EltTy.packing .bf16) := fun k0_t1 arg5_r0 arg6_r0 arg7_r0 arg8_r0 arg9_r0 arg10_r0 arg11_r0 arg12_r0 k0_hw1 k0_h5 => k0_hw1.2.2.2.2.2.2.2.2.2.2.2.1 k0_h5 (k0_off18_inb k0_t1 arg5_r0 arg6_r0 arg7_r0 arg8_r0 arg9_r0 arg10_r0 arg11_r0 arg12_r0 k0_hw1 k0_h5)
theorem k0_off17_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h5 : k0_cond5 k0_t1 arg11_r0 arg12_r0 = 1#1), (Rect.unit (s := S3x1x4x2048x128) (k0_off17 arg6_r0) S1x1x4x2048x128.size (k0_off17_inb k0_t1 arg5_r0 arg6_r0 arg7_r0 arg8_r0 arg9_r0 arg10_r0 arg11_r0 arg12_r0 k0_hw1 k0_h5)).WholeWords (EltTy.packing .bf16) := fun k0_t1 arg5_r0 arg6_r0 arg7_r0 arg8_r0 arg9_r0 arg10_r0 arg11_r0 arg12_r0 k0_hw1 k0_h5 => k0_hw1.2.2.2.2.2.2.2.2.2.2.2.2.1 k0_h5 (k0_off17_inb k0_t1 arg5_r0 arg6_r0 arg7_r0 arg8_r0 arg9_r0 arg10_r0 arg11_r0 arg12_r0 k0_hw1 k0_h5)
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h6 : k0_cond6 k0_t1 arg11_r0 arg12_r0 = 1#1), ∀ a, (k0_off19 arg8_r0) a + S1.size a ≤ S3.size a := fun k0_t1 arg5_r0 arg6_r0 arg7_r0 arg8_r0 arg9_r0 arg10_r0 arg11_r0 arg12_r0 k0_hw1 k0_h6 => k0_hw1.2.2.2.2.2.2.2.2.2.2.2.2.2.1 k0_h6
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h6 : k0_cond6 k0_t1 arg11_r0 arg12_r0 = 1#1), ∀ a, (k0_off20 arg8_r0) a + S1x1x2048x32.size a ≤ S3x1x2048x32.size a := fun k0_t1 arg5_r0 arg6_r0 arg7_r0 arg8_r0 arg9_r0 arg10_r0 arg11_r0 arg12_r0 k0_hw1 k0_h6 => k0_hw1.2.2.2.2.2.2.2.2.2.2.2.2.2.2.1 k0_h6
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h6 : k0_cond6 k0_t1 arg11_r0 arg12_r0 = 1#1), ∀ a, (k0_off21 arg11_r0 arg12_r0) a + S1x2048x32.size a ≤ S8x4096x32.size a := fun k0_t1 arg5_r0 arg6_r0 arg7_r0 arg8_r0 arg9_r0 arg10_r0 arg11_r0 arg12_r0 k0_hw1 k0_h6 => k0_hw1.2.2.2.2.2.2.2.2.2.2.2.2.2.2.2.1 k0_h6
theorem k0_off34_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off34 arg9_r0) a + S1.size a ≤ S2.size a := fun k0_t1 arg5_r0 arg6_r0 arg7_r0 arg8_r0 arg9_r0 arg10_r0 arg11_r0 arg12_r0 k0_hw1 k0_h10 => k0_hw1.2.2.2.2.2.2.2.2.2.2.2.2.2.2.2.2.1 k0_h10
theorem k0_off35_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off35 arg11_r0 arg12_r0) a + S1x8x2048x128.size a ≤ S8x8x4096x128.size a := fun k0_t1 arg5_r0 arg6_r0 arg7_r0 arg8_r0 arg9_r0 arg10_r0 arg11_r0 arg12_r0 k0_hw1 k0_h10 => k0_hw1.2.2.2.2.2.2.2.2.2.2.2.2.2.2.2.2.2.1 k0_h10
theorem k0_off36_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off36 arg9_r0) a + S1x1x8x2048x128.size a ≤ S2x1x8x2048x128.size a := fun k0_t1 arg5_r0 arg6_r0 arg7_r0 arg8_r0 arg9_r0 arg10_r0 arg11_r0 arg12_r0 k0_hw1 k0_h10 => k0_hw1.2.2.2.2.2.2.2.2.2.2.2.2.2.2.2.2.2.2.1 k0_h10
theorem k0_off36_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), (Rect.unit (s := S2x1x8x2048x128) (k0_off36 arg9_r0) S1x1x8x2048x128.size (k0_off36_inb k0_t1 arg5_r0 arg6_r0 arg7_r0 arg8_r0 arg9_r0 arg10_r0 arg11_r0 arg12_r0 k0_hw1 k0_h10)).WholeWords (EltTy.packing .bf16) := fun k0_t1 arg5_r0 arg6_r0 arg7_r0 arg8_r0 arg9_r0 arg10_r0 arg11_r0 arg12_r0 k0_hw1 k0_h10 => k0_hw1.2.2.2.2.2.2.2.2.2.2.2.2.2.2.2.2.2.2.2.1 k0_h10 (k0_off36_inb k0_t1 arg5_r0 arg6_r0 arg7_r0 arg8_r0 arg9_r0 arg10_r0 arg11_r0 arg12_r0 k0_hw1 k0_h10)
theorem k0_off35_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), (Rect.unit (s := S8x8x4096x128) (k0_off35 arg11_r0 arg12_r0) S1x8x2048x128.size (k0_off35_inb k0_t1 arg5_r0 arg6_r0 arg7_r0 arg8_r0 arg9_r0 arg10_r0 arg11_r0 arg12_r0 k0_hw1 k0_h10)).WholeWords (EltTy.packing .bf16) := fun k0_t1 arg5_r0 arg6_r0 arg7_r0 arg8_r0 arg9_r0 arg10_r0 arg11_r0 arg12_r0 k0_hw1 k0_h10 => k0_hw1.2.2.2.2.2.2.2.2.2.2.2.2.2.2.2.2.2.2.2.2.1 k0_h10 (k0_off35_inb k0_t1 arg5_r0 arg6_r0 arg7_r0 arg8_r0 arg9_r0 arg10_r0 arg11_r0 arg12_r0 k0_hw1 k0_h10)
theorem k0_off37_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h13 : k0_cond13 k0_t1 arg11_r0 arg12_r0 = 1#1), ∀ a, (k0_off37 arg10_r0) a + S1.size a ≤ S2.size a := fun k0_t1 arg5_r0 arg6_r0 arg7_r0 arg8_r0 arg9_r0 arg10_r0 arg11_r0 arg12_r0 k0_hw1 k0_h13 => k0_hw1.2.2.2.2.2.2.2.2.2.2.2.2.2.2.2.2.2.2.2.2.2.1 k0_h13
theorem k0_off38_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h13 : k0_cond13 k0_t1 arg11_r0 arg12_r0 = 1#1), ∀ a, (k0_off38 arg11_r0 arg12_r0) a + S1x8x2048x128.size a ≤ S8x8x4096x128.size a := fun k0_t1 arg5_r0 arg6_r0 arg7_r0 arg8_r0 arg9_r0 arg10_r0 arg11_r0 arg12_r0 k0_hw1 k0_h13 => k0_hw1.2.2.2.2.2.2.2.2.2.2.2.2.2.2.2.2.2.2.2.2.2.2.1 k0_h13
theorem k0_off39_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h13 : k0_cond13 k0_t1 arg11_r0 arg12_r0 = 1#1), ∀ a, (k0_off39 arg10_r0) a + S1x1x8x2048x128.size a ≤ S2x1x8x2048x128.size a := fun k0_t1 arg5_r0 arg6_r0 arg7_r0 arg8_r0 arg9_r0 arg10_r0 arg11_r0 arg12_r0 k0_hw1 k0_h13 => k0_hw1.2.2.2.2.2.2.2.2.2.2.2.2.2.2.2.2.2.2.2.2.2.2.2.1 k0_h13
theorem k0_off39_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h13 : k0_cond13 k0_t1 arg11_r0 arg12_r0 = 1#1), (Rect.unit (s := S2x1x8x2048x128) (k0_off39 arg10_r0) S1x1x8x2048x128.size (k0_off39_inb k0_t1 arg5_r0 arg6_r0 arg7_r0 arg8_r0 arg9_r0 arg10_r0 arg11_r0 arg12_r0 k0_hw1 k0_h13)).WholeWords (EltTy.packing .bf16) := fun k0_t1 arg5_r0 arg6_r0 arg7_r0 arg8_r0 arg9_r0 arg10_r0 arg11_r0 arg12_r0 k0_hw1 k0_h13 => k0_hw1.2.2.2.2.2.2.2.2.2.2.2.2.2.2.2.2.2.2.2.2.2.2.2.2.1 k0_h13 (k0_off39_inb k0_t1 arg5_r0 arg6_r0 arg7_r0 arg8_r0 arg9_r0 arg10_r0 arg11_r0 arg12_r0 k0_hw1 k0_h13)
theorem k0_off38_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h13 : k0_cond13 k0_t1 arg11_r0 arg12_r0 = 1#1), (Rect.unit (s := S8x8x4096x128) (k0_off38 arg11_r0 arg12_r0) S1x8x2048x128.size (k0_off38_inb k0_t1 arg5_r0 arg6_r0 arg7_r0 arg8_r0 arg9_r0 arg10_r0 arg11_r0 arg12_r0 k0_hw1 k0_h13)).WholeWords (EltTy.packing .bf16) := fun k0_t1 arg5_r0 arg6_r0 arg7_r0 arg8_r0 arg9_r0 arg10_r0 arg11_r0 arg12_r0 k0_hw1 k0_h13 => k0_hw1.2.2.2.2.2.2.2.2.2.2.2.2.2.2.2.2.2.2.2.2.2.2.2.2.2 k0_h13 (k0_off38_inb k0_t1 arg5_r0 arg6_r0 arg7_r0 arg8_r0 arg9_r0 arg10_r0 arg11_r0 arg12_r0 k0_hw1 k0_h13)

def k0_off40 (v72_5_r0 : BitVec 32) : Fin 1 → Nat :=
  let c2_i32_122_r0 : BitVec 32 := 2#32
  let v123_r0 : BitVec 32 := Scalar.remui v72_5_r0 c2_i32_122_r0
  ![v123_r0.toNat]

def k0_off41 (v72_7_r0 : BitVec 32) (v72_6_r0 : BitVec 32) : Fin 4 → Nat :=
  let c1_i32_123_r0 : BitVec 32 := 1#32
  let true_78_r0 : BitVec 1 := 1#1
  let c1_i32_77_r0 : BitVec 32 := 1#32
  let v73_r0 : BitVec 32 := Scalar.subi v72_7_r0 c1_i32_77_r0
  let v74_r0 : BitVec 32 := Scalar.select true_78_r0 v73_r0 v72_7_r0
  let c_m1_i32_79_r0 : BitVec 32 := 4294967295#32
  let v75_r0 : BitVec 1 := Scalar.cmpi .eq v74_r0 c_m1_i32_79_r0
  let c1_i32_81_r0 : BitVec 32 := 1#32
  let v77_r0 : BitVec 32 := Scalar.subi v72_6_r0 c1_i32_81_r0
  let v78_r0 : BitVec 32 := Scalar.select v75_r0 v77_r0 v72_6_r0
  let c_m1_i32_82_r0 : BitVec 32 := 4294967295#32
  let v79_r0 : BitVec 1 := Scalar.cmpi .eq v78_r0 c_m1_i32_82_r0
  let c7_i32_83_r0 : BitVec 32 := 7#32
  let v80_r0 : BitVec 32 := Scalar.select v79_r0 c7_i32_83_r0 v78_r0
  let c0_i32_84_r0 : BitVec 32 := 0#32
  let v81_r0 : BitVec 32 := Scalar.addi v80_r0 c0_i32_84_r0
  let v124_r0 : BitVec 32 := Scalar.muli c1_i32_123_r0 v81_r0
  let c0_i32_124_r0 : BitVec 32 := 0#32
  let c2048_i32_r0 : BitVec 32 := 2048#32
  let c1_i32_80_r0 : BitVec 32 := 1#32
  let v76_r0 : BitVec 32 := Scalar.select v75_r0 c1_i32_80_r0 v74_r0
  let c0_i32_85_r0 : BitVec 32 := 0#32
  let v82_r0 : BitVec 32 := Scalar.addi v76_r0 c0_i32_85_r0
  let v125_r0 : BitVec 32 := Scalar.muli c2048_i32_r0 v82_r0
  let c0_i32_125_r0 : BitVec 32 := 0#32
  ![v124_r0.toNat, 0, v125_r0.toNat, 0]

def k0_off42 (v72_5_r0 : BitVec 32) : Fin 5 → Nat :=
  let c2_i32_122_r0 : BitVec 32 := 2#32
  let v123_r0 : BitVec 32 := Scalar.remui v72_5_r0 c2_i32_122_r0
  let c0_i32_126_r0 : BitVec 32 := 0#32
  let c0_i32_127_r0 : BitVec 32 := 0#32
  let c0_i32_128_r0 : BitVec 32 := 0#32
  let c0_i32_129_r0 : BitVec 32 := 0#32
  ![v123_r0.toNat, 0, 0, 0, 0]

def k0_chk5 (v72_5_r0 : BitVec 32) : Prop :=
  (∀ a, (k0_off40 v72_5_r0) a + S1.size a ≤ S2.size a) ∧
  (∀ a, (k0_off42 v72_5_r0) a + S1x1x8x2048x128.size a ≤ S2x1x8x2048x128.size a) ∧
  (∀ (hinb : ∀ a, (k0_off42 v72_5_r0) a + S1x1x8x2048x128.size a ≤ S2x1x8x2048x128.size a), (Rect.unit (s := S2x1x8x2048x128) (k0_off42 v72_5_r0) S1x1x8x2048x128.size hinb).WholeWords (EltTy.packing .bf16))
theorem k0_off40_inb : ∀ (v72_5_r0 : BitVec 32) (k0_hw5 : k0_chk5 v72_5_r0), ∀ a, (k0_off40 v72_5_r0) a + S1.size a ≤ S2.size a := fun v72_5_r0 k0_hw5 => k0_hw5.1
theorem k0_off42_inb : ∀ (v72_5_r0 : BitVec 32) (k0_hw5 : k0_chk5 v72_5_r0), ∀ a, (k0_off42 v72_5_r0) a + S1x1x8x2048x128.size a ≤ S2x1x8x2048x128.size a := fun v72_5_r0 k0_hw5 => k0_hw5.2.1
theorem k0_off42_wordsbf16 : ∀ (v72_5_r0 : BitVec 32) (k0_hw5 : k0_chk5 v72_5_r0), (Rect.unit (s := S2x1x8x2048x128) (k0_off42 v72_5_r0) S1x1x8x2048x128.size (k0_off42_inb v72_5_r0 k0_hw5)).WholeWords (EltTy.packing .bf16) := fun v72_5_r0 k0_hw5 => k0_hw5.2.2 (k0_off42_inb v72_5_r0 k0_hw5)

def k0_chk6 (v72_7_r0 : BitVec 32) (v72_6_r0 : BitVec 32) : Prop :=
  (∀ a, (k0_off41 v72_7_r0 v72_6_r0) a + S1x8x2048x128.size a ≤ S8x8x4096x128.size a) ∧
  (∀ (hinb : ∀ a, (k0_off41 v72_7_r0 v72_6_r0) a + S1x8x2048x128.size a ≤ S8x8x4096x128.size a), (Rect.unit (s := S8x8x4096x128) (k0_off41 v72_7_r0 v72_6_r0) S1x8x2048x128.size hinb).WholeWords (EltTy.packing .bf16))
theorem k0_off41_inb : ∀ (v72_7_r0 : BitVec 32) (v72_6_r0 : BitVec 32) (k0_hw6 : k0_chk6 v72_7_r0 v72_6_r0), ∀ a, (k0_off41 v72_7_r0 v72_6_r0) a + S1x8x2048x128.size a ≤ S8x8x4096x128.size a := fun v72_7_r0 v72_6_r0 k0_hw6 => k0_hw6.1
theorem k0_off41_wordsbf16 : ∀ (v72_7_r0 : BitVec 32) (v72_6_r0 : BitVec 32) (k0_hw6 : k0_chk6 v72_7_r0 v72_6_r0), (Rect.unit (s := S8x8x4096x128) (k0_off41 v72_7_r0 v72_6_r0) S1x8x2048x128.size (k0_off41_inb v72_7_r0 v72_6_r0 k0_hw6)).WholeWords (EltTy.packing .bf16) := fun v72_7_r0 v72_6_r0 k0_hw6 => k0_hw6.2 (k0_off41_inb v72_7_r0 v72_6_r0 k0_hw6)

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x4x4096x128 : Shape := ⟨4, ![8, 4, 4096, 128]⟩
abbrev S8x8x4096 : Shape := ⟨3, ![8, 8, 4096]⟩
abbrev S8x4x4096x2x64 : Shape := ⟨5, ![8, 4, 4096, 2, 64]⟩
abbrev S8x4x2x4096x64 : Shape := ⟨5, ![8, 4, 2, 4096, 64]⟩
abbrev S8x4x1x4096x64 : Shape := ⟨5, ![8, 4, 1, 4096, 64]⟩
abbrev S8x4x4096x64 : Shape := ⟨4, ![8, 4, 4096, 64]⟩
abbrev S_ : Shape := ⟨0, ![]⟩
abbrev S8x8x4096x3 : Shape := ⟨4, ![8, 8, 4096, 3]⟩
abbrev S8x8x4096x60 : Shape := ⟨4, ![8, 8, 4096, 60]⟩
abbrev S8x8x4096x1 : Shape := ⟨4, ![8, 8, 4096, 1]⟩
abbrev S8x8x4096x64 : Shape := ⟨4, ![8, 8, 4096, 64]⟩
abbrev S8x4x1x4096x128 : Shape := ⟨5, ![8, 4, 1, 4096, 128]⟩
abbrev S8x4x2x4096x128 : Shape := ⟨5, ![8, 4, 2, 4096, 128]⟩
abbrev S8x8x4096x128 : Shape := ⟨4, ![8, 8, 4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x4x4096x128, .bf16⟩
  | .hbm, ⟨1, _⟩ => ⟨S8x8x4096, .f32⟩
  | .hbm, ⟨2, _⟩ => ⟨S8x4x4096x128, .f32⟩
  | .hbm, ⟨3, _⟩ => ⟨S8x4x4096x2x64, .f32⟩
  | .hbm, ⟨4, _⟩ => ⟨S8x4x2x4096x64, .f32⟩
  | .hbm, ⟨5, _⟩ => ⟨S8x4x1x4096x64, .f32⟩
  | .hbm, ⟨6, _⟩ => ⟨S8x4x4096x64, .f32⟩
  | .hbm, ⟨7, _⟩ => ⟨S8x4x1x4096x64, .f32⟩
  | .hbm, ⟨8, _⟩ => ⟨S8x4x4096x64, .f32⟩
  | .hbm, ⟨9, _⟩ => ⟨S_, .f32⟩
  | .hbm, ⟨10, _⟩ => ⟨S8x8x4096x3, .f32⟩
  | .hbm, ⟨11, _⟩ => ⟨S_, .f32⟩
  | .hbm, ⟨12, _⟩ => ⟨S8x8x4096x60, .f32⟩
  | .hbm, ⟨13, _⟩ => ⟨S8x8x4096x1, .f32⟩
  | .hbm, ⟨14, _⟩ => ⟨S8x8x4096x1, .f32⟩
  | .hbm, ⟨15, _⟩ => ⟨S8x8x4096x64, .f32⟩
  | .hbm, ⟨16, _⟩ => ⟨S8x4x2x4096x64, .f32⟩
  | .hbm, ⟨17, _⟩ => ⟨S8x4x1x4096x64, .f32⟩
  | .hbm, ⟨18, _⟩ => ⟨S8x4x4096x64, .f32⟩
  | .hbm, ⟨19, _⟩ => ⟨S8x4x4096x128, .f32⟩
  | .hbm, ⟨20, _⟩ => ⟨S8x4x1x4096x64, .f32⟩
  | .hbm, ⟨21, _⟩ => ⟨S8x4x4096x64, .f32⟩
  | .hbm, ⟨22, _⟩ => ⟨S8x4x4096x128, .f32⟩
  | .hbm, ⟨23, _⟩ => ⟨S8x4x1x4096x128, .f32⟩
  | .hbm, ⟨24, _⟩ => ⟨S8x4x1x4096x128, .f32⟩
  | .hbm, ⟨25, _⟩ => ⟨S8x4x2x4096x128, .f32⟩
  | .hbm, ⟨26, _⟩ => ⟨S8x8x4096x128, .f32⟩
  | .hbm, ⟨27, _⟩ => ⟨S8x8x4096x128, .bf16⟩
  | _, _ => ⟨S8x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2056 : Shape := ⟨2, ![1024, 2056]⟩
abbrev S8 : Shape := ⟨1, ![8]⟩
abbrev S1024x512 : Shape := ⟨2, ![1024, 512]⟩
abbrev S512x1024 : Shape := ⟨2, ![512, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S1040x1024 : Shape := ⟨2, ![1040, 1024]⟩
abbrev S1024x1024 : Shape := ⟨2, ![1024, 1024]⟩
abbrev S1x1024 : Shape := ⟨2, ![1, 1024]⟩
abbrev S8x1 : Shape := ⟨2, ![8, 1]⟩
abbrev S8x512x4096 : Shape := ⟨3, ![8, 512, 4096]⟩
abbrev S8x4x4096x128 : Shape := ⟨4, ![8, 4, 4096, 128]⟩
abbrev S8x8x4096 : Shape := ⟨3, ![8, 8, 4096]⟩
abbrev S8x4096x512 : Shape := ⟨3, ![8, 4096, 512]⟩
abbrev S1x1024x1024 : Shape := ⟨3, ![1, 1024, 1024]⟩
abbrev S1x512x1024 : Shape := ⟨3, ![1, 512, 1024]⟩
abbrev S1x4x1024x128 : Shape := ⟨4, ![1, 4, 1024, 128]⟩
abbrev S1x8x1024 : Shape := ⟨3, ![1, 8, 1024]⟩
abbrev S1x1024x512 : Shape := ⟨3, ![1, 1024, 512]⟩
abbrev S512 : Shape := ⟨1, ![512]⟩
abbrev S512x1 : Shape := ⟨2, ![512, 1]⟩
abbrev S1040x512 : Shape := ⟨2, ![1040, 512]⟩
abbrev S512x512 : Shape := ⟨2, ![512, 512]⟩
abbrev S1x512x512 : Shape := ⟨3, ![1, 512, 512]⟩
abbrev S8x512 : Shape := ⟨2, ![8, 512]⟩
abbrev S1x8x512 : Shape := ⟨3, ![1, 8, 512]⟩
abbrev S512x128 : Shape := ⟨2, ![512, 128]⟩
abbrev S1x1x512x128 : Shape := ⟨4, ![1, 1, 512, 128]⟩

abbrev nBuf : Space → Nat
  | .hbm => 25
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2056, .f32⟩
  | .hbm, ⟨3, _⟩ => ⟨S8, .f32⟩
  | .hbm, ⟨4, _⟩ => ⟨S1024x2056, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S512x1024, .bf16⟩
  | .hbm, ⟨9, _⟩ => ⟨S512x1024, .bf16⟩
  | .hbm, ⟨10, _⟩ => ⟨S1024x8, .bf16⟩
  | .hbm, ⟨11, _⟩ => ⟨S8x1024, .bf16⟩
  | .hbm, ⟨12, _⟩ => ⟨S_, .i32⟩
  | .hbm, ⟨13, _⟩ => ⟨S_, .bf16⟩
  | .hbm, ⟨14, _⟩ => ⟨S16x1024, .bf16⟩
  | .hbm, ⟨15, _⟩ => ⟨S1040x1024, .bf16⟩
  | .hbm, ⟨16, _⟩ => ⟨S1024x512, .bf16⟩
  | .hbm, ⟨17, _⟩ => ⟨S1024x1024, .bf16⟩
  | .hbm, ⟨18, _⟩ => ⟨S1x1024, .f32⟩
  | .hbm, ⟨19, _⟩ => ⟨S8x1, .f32⟩
  | .hbm, ⟨20, _⟩ => ⟨S8x512x4096, .bf16⟩
  | .hbm, ⟨21, _⟩ => ⟨S8x4x4096x128, .bf16⟩
  | .hbm, ⟨22, _⟩ => ⟨S8x512x4096, .bf16⟩
  | .hbm, ⟨23, _⟩ => ⟨S8x8x4096, .f32⟩
  | .hbm, ⟨24, _⟩ => ⟨S8x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1040x1024, .bf16⟩
  | .local _ .vmem, ⟨4, _⟩ => ⟨S1024x1024, .bf16⟩
  | .local _ .vmem, ⟨5, _⟩ => ⟨S8x1, .f32⟩
  | .local _ .vmem, ⟨6, _⟩ => ⟨S1x512x1024, .bf16⟩
  | .local _ .vmem, ⟨7, _⟩ => ⟨S1x512x1024, .bf16⟩
  | .local _ .vmem, ⟨8, _⟩ => ⟨S1x4x1024x128, .bf16⟩
  | .local _ .vmem, ⟨9, _⟩ => ⟨S1x4x1024x128, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x8x1024, .f32⟩
  | .local _ .vmem, ⟨13, _⟩ => ⟨S1x8x1024, .f32⟩
  | .local _ .vmem, ⟨14, _⟩ => ⟨S1x1024x512, .f32⟩
  | .local _ .vmem, ⟨15, _⟩ => ⟨S1x1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1040x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S8x4096x1024 : Shape := ⟨3, ![8, 4096, 1024]⟩
abbrev S1024 : Shape := ⟨1, ![1024]⟩
abbrev S1024x2056 : Shape := ⟨2, ![1024, 2056]⟩
abbrev S8 : Shape := ⟨1, ![8]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2056 : Shape := ⟨3, ![8, 4096, 2056]⟩
abbrev S8x4096x512 : Shape := ⟨3, ![8, 4096, 512]⟩
abbrev S8x4096x8 : Shape := ⟨3, ![8, 4096, 8]⟩
abbrev S1x1x8 : Shape := ⟨3, ![1, 1, 8]⟩
abbrev S8x4096x4x128 : Shape := ⟨4, ![8, 4096, 4, 128]⟩
abbrev S8x4x4096x128 : Shape := ⟨4, ![8, 4, 4096, 128]⟩
abbrev S8x512x4096 : Shape := ⟨3, ![8, 512, 4096]⟩
abbrev S8x8x4096 : Shape := ⟨3, ![8, 8, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2056, .f32⟩
  | .hbm, ⟨3, _⟩ => ⟨S8, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x2056, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x8, .f32⟩
  | .hbm, ⟨25, _⟩ => ⟨S1x1x8, .f32⟩
  | .hbm, ⟨26, _⟩ => ⟨S8x4096x8, .f32⟩
  | .hbm, ⟨27, _⟩ => ⟨S8x4096x8, .f32⟩
  | .hbm, ⟨28, _⟩ => ⟨S8x4096x8, .f32⟩
  | .hbm, ⟨29, _⟩ => ⟨S_, .f32⟩
  | .hbm, ⟨30, _⟩ => ⟨S8x4096x8, .f32⟩
  | .hbm, ⟨31, _⟩ => ⟨S8x4096x8, .f32⟩
  | .hbm, ⟨32, _⟩ => ⟨S8x4096x8, .f32⟩
  | .hbm, ⟨33, _⟩ => ⟨S8x4096x8, .f32⟩
  | .hbm, ⟨34, _⟩ => ⟨S8x4096x8, .i1⟩
  | .hbm, ⟨35, _⟩ => ⟨S8x4096x8, .f32⟩
  | .hbm, ⟨36, _⟩ => ⟨S8x4096x8, .f32⟩
  | .hbm, ⟨37, _⟩ => ⟨S8x4096x8, .f32⟩
  | .hbm, ⟨38, _⟩ => ⟨S8x4096x8, .f32⟩
  | .hbm, ⟨39, _⟩ => ⟨S8x4096x8, .f32⟩
  | .hbm, ⟨40, _⟩ => ⟨S8x4096x8, .f32⟩
  | .hbm, ⟨41, _⟩ => ⟨S8x4096x8, .f32⟩
  | .hbm, ⟨42, _⟩ => ⟨S8x4096x8, .f32⟩
  | .hbm, ⟨43, _⟩ => ⟨S8x4096x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x4096x512, .f32⟩
  | .hbm, ⟨50, _⟩ => ⟨S8x4096x512, .f32⟩
  | .hbm, ⟨51, _⟩ => ⟨S8x4096x4x128, .f32⟩
  | .hbm, ⟨52, _⟩ => ⟨S8x4x4096x128, .f32⟩
  | .hbm, ⟨53, _⟩ => ⟨S8x512x4096, .f32⟩
  | .hbm, ⟨54, _⟩ => ⟨S8x512x4096, .bf16⟩
  | .hbm, ⟨55, _⟩ => ⟨S8x4x4096x128, .bf16⟩
  | .hbm, ⟨56, _⟩ => ⟨S8x512x4096, .f32⟩
  | .hbm, ⟨57, _⟩ => ⟨S8x512x4096, .bf16⟩
  | .hbm, ⟨58, _⟩ => ⟨S8x8x4096, .f32⟩
  | .hbm, ⟨59, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S1x512 : Shape := ⟨2, ![1, 512]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x16x512 : Shape := ⟨3, ![1, 16, 512]⟩
abbrev S1x256x1024 : Shape := ⟨3, ![1, 256, 1024]⟩
abbrev S16x512 : Shape := ⟨2, ![16, 512]⟩
abbrev S1x512x512 : Shape := ⟨3, ![1, 512, 512]⟩
abbrev S512x512 : Shape := ⟨2, ![512, 512]⟩
abbrev S16x1 : Shape := ⟨2, ![16, 1]⟩
abbrev S512x128 : Shape := ⟨2, ![512, 128]⟩
abbrev S16x128 : Shape := ⟨2, ![16, 128]⟩
abbrev S528x128 : Shape := ⟨2, ![528, 128]⟩
abbrev S527x128 : Shape := ⟨2, ![527, 128]⟩
abbrev S496x128 : Shape := ⟨2, ![496, 128]⟩
abbrev S1x128x128 : Shape := ⟨3, ![1, 128, 128]⟩
abbrev S128x128 : Shape := ⟨2, ![128, 128]⟩
abbrev S525x128 : Shape := ⟨2, ![525, 128]⟩
abbrev S521x128 : Shape := ⟨2, ![521, 128]⟩
abbrev S513x128 : Shape := ⟨2, ![513, 128]⟩
abbrev S512x1024 : Shape := ⟨2, ![512, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 22
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .bf16⟩
  | .hbm, ⟨2, _⟩ => ⟨S8x4096x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S8x256x1024, .bf16⟩
  | .hbm, ⟨10, _⟩ => ⟨S8x256x1024, .bf16⟩
  | .hbm, ⟨11, _⟩ => ⟨S1024x1024, .f32⟩
  | .hbm, ⟨12, _⟩ => ⟨S1024, .f32⟩
  | .hbm, ⟨13, _⟩ => ⟨S4x128x128, .bf16⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x16x512, .f32⟩
  | .local _ .vmem, ⟨7, _⟩ => ⟨S1x16x512, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S4096 : Shape := ⟨1, ![4096]⟩
abbrev S8x4096x128 : Shape := ⟨3, ![8, 4096, 128]⟩
abbrev S_ : Shape := ⟨0, ![]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4099x128 : Shape := ⟨3, ![8, 4099, 128]⟩
abbrev S8x4103x128 : Shape := ⟨3, ![8, 4103, 128]⟩
abbrev S8x4111x128 : Shape := ⟨3, ![8, 4111, 128]⟩
abbrev S1x1x512 : Shape := ⟨3, ![1, 1, 512]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 240
  | .vmem => 0
  | .smem => 0
  | _ => 0

abbrev hbmTy0_0 (i : Nat) : BufTy := match i % 128 with
  | 0 => ⟨S8x4096x1024, .f32⟩
  | 1 => ⟨S8x512x4096, .bf16⟩
  | 2 => ⟨S8x4096x512, .f32⟩
  | 3 => ⟨S4x128x128, .f32⟩
  | 4 => ⟨S512, .f32⟩
  | 5 => ⟨S1024x1024, .f32⟩
  | 6 => ⟨S1024, .f32⟩
  | 7 => ⟨S1024, .f32⟩
  | 8 => ⟨S1024x1024, .f32⟩
  | 9 => ⟨S8x256x1024, .bf16⟩
  | 10 => ⟨S8x256x1024, .bf16⟩
  | 11 => ⟨S1024x1024, .f32⟩
  | 12 => ⟨S1024, .f32⟩
  | 13 => ⟨S4096, .i32⟩
  | 14 => ⟨S8x4096x128, .f32⟩
  | 15 => ⟨S_, .i32⟩
  | 16 => ⟨S_, .f32⟩
  | 17 => ⟨S8x4097x128, .f32⟩
  | 18 => ⟨S8x4096x128, .f32⟩
  | 19 => ⟨S_, .f32⟩
  | 20 => ⟨S8x4096x128, .f32⟩
  | 21 => ⟨S8x4096x128, .f32⟩
  | 22 => ⟨S8x4096x128, .f32⟩
  | 23 => ⟨S8x4096x128, .f32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .f32⟩
  | 31 => ⟨S1x4096x1, .f32⟩
  | 32 => ⟨S8x4096x128, .f32⟩
  | 33 => ⟨S8x4096x128, .f32⟩
  | 34 => ⟨S8x4096x128, .f32⟩
  | 35 => ⟨S1x128x128, .f32⟩
  | 36 => ⟨S128x128, .f32⟩
  | 37 => ⟨S8x4096x128, .f32⟩
  | 38 => ⟨S8x4096x128, .f32⟩
  | 39 => ⟨S_, .i32⟩
  | 40 => ⟨S_, .f32⟩
  | 41 => ⟨S8x4099x128, .f32⟩
  | 42 => ⟨S8x4096x128, .f32⟩
  | 43 => ⟨S_, .f32⟩
  | 44 => ⟨S8x4096x128, .f32⟩
  | 45 => ⟨S8x4096x128, .f32⟩
  | 46 => ⟨S8x4096x128, .f32⟩
  | 47 => ⟨S8x4096x128, .f32⟩
  | 48 => ⟨S8x4096x128, .f32⟩
  | 49 => ⟨S8x4096x128, .f32⟩
  | 50 => ⟨S8x4096x128, .f32⟩
  | 51 => ⟨S8x4096x128, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .f32⟩
  | 59 => ⟨S1x4096x1, .f32⟩
  | 60 => ⟨S8x4096x128, .f32⟩
  | 61 => ⟨S8x4096x128, .f32⟩
  | 62 => ⟨S8x4096x128, .f32⟩
  | 63 => ⟨S1x128x128, .f32⟩
  | 64 => ⟨S128x128, .f32⟩
  | 65 => ⟨S8x4096x128, .f32⟩
  | 66 => ⟨S8x4096x128, .f32⟩
  | 67 => ⟨S_, .i32⟩
  | 68 => ⟨S_, .f32⟩
  | 69 => ⟨S8x4103x128, .f32⟩
  | 70 => ⟨S8x4096x128, .f32⟩
  | 71 => ⟨S_, .f32⟩
  | 72 => ⟨S8x4096x128, .f32⟩
  | 73 => ⟨S8x4096x128, .f32⟩
  | 74 => ⟨S8x4096x128, .f32⟩
  | 75 => ⟨S8x4096x128, .f32⟩
  | 76 => ⟨S8x4096x128, .f32⟩
  | 77 => ⟨S8x4096x128, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096, .f32⟩
  | 95 => ⟨S1x4096x1, .f32⟩
  | 96 => ⟨S8x4096x128, .f32⟩
  | 97 => ⟨S8x4096x128, .f32⟩
  | 98 => ⟨S8x4096x128, .f32⟩
  | 99 => ⟨S1x128x128, .f32⟩
  | 100 => ⟨S128x128, .f32⟩
  | 101 => ⟨S8x4096x128, .f32⟩
  | 102 => ⟨S8x4096x128, .f32⟩
  | 103 => ⟨S_, .i32⟩
  | 104 => ⟨S_, .f32⟩
  | 105 => ⟨S8x4111x128, .f32⟩
  | 106 => ⟨S8x4096x128, .f32⟩
  | 107 => ⟨S_, .f32⟩
  | 108 => ⟨S8x4096x128, .f32⟩
  | 109 => ⟨S8x4096x128, .f32⟩
  | 110 => ⟨S8x4096x128, .f32⟩
  | 111 => ⟨S8x4096x128, .f32⟩
  | 112 => ⟨S8x4096x128, .f32⟩
  | 113 => ⟨S8x4096x128, .f32⟩
  | 114 => ⟨S8x4096x128, .f32⟩
  | 115 => ⟨S8x4096x128, .f32⟩
  | 116 => ⟨S8x4096x128, .f32⟩
  | 117 => ⟨S8x4096x128, .f32⟩
  | 118 => ⟨S8x4096x128, .f32⟩
  | 119 => ⟨S8x4096x128, .f32⟩
  | 120 => ⟨S8x4096x128, .f32⟩
  | 121 => ⟨S8x4096x128, .f32⟩
  | 122 => ⟨S8x4096x128, .f32⟩
  | 123 => ⟨S8x4096x128, .f32⟩
  | 124 => ⟨S8x4096x128, .f32⟩
  | 125 => ⟨S8x4096x128, .f32⟩
  | 126 => ⟨S8x4096x128, .f32⟩
  | 127 => ⟨S8x4096x128, .f32⟩
  | _ => ⟨S8x4096x1024, .f32⟩

abbrev hbmTy0_1 (i : Nat) : BufTy := match i % 128 with
  | 0 => ⟨S8x4096x128, .f32⟩
  | 1 => ⟨S8x4096x128, .f32⟩
  | 2 => ⟨S8x4096x128, .f32⟩
  | 3 => ⟨S8x4096x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096, .f32⟩
  | 19 => ⟨S1x4096x1, .f32⟩
  | 20 => ⟨S8x4096x128, .f32⟩
  | 21 => ⟨S8x4096x128, .f32⟩
  | 22 => ⟨S8x4096x128, .f32⟩
  | 23 => ⟨S1x128x128, .f32⟩
  | 24 => ⟨S128x128, .f32⟩
  | 25 => ⟨S8x4096x128, .f32⟩
  | 26 => ⟨S8x4096x512, .f32⟩
  | 27 => ⟨S1x1x512, .f32⟩
  | 28 => ⟨S8x4096x512, .f32⟩
  | 29 => ⟨S8x4096x512, .f32⟩
  | 30 => ⟨S8x4096x512, .bf16⟩
  | 31 => ⟨S8x4096x512, .f32⟩
  | 32 => ⟨S8x4096x1024, .f32⟩
  | 33 => ⟨S8x4096x1024, .f32⟩
  | 34 => ⟨S8x4096x1024, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S_, .f32⟩
  | 42 => ⟨S8x4096x1, .f32⟩
  | 43 => ⟨S8x4096x1, .f32⟩
  | 44 => ⟨S8x4096x1, .f32⟩
  | 45 => ⟨S8x4096x1024, .f32⟩
  | 46 => ⟨S8x4096x1024, .f32⟩
  | 47 => ⟨S1x1x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x4x256, .f32⟩
  | 69 => ⟨S8x256x1024, .f32⟩
  | 70 => ⟨S8x256x4x256, .f32⟩
  | 71 => ⟨S8x256x1024, .f32⟩
  | 72 => ⟨S8x256x4x256, .f32⟩
  | 73 => ⟨S8x4x4096x256, .f32⟩
  | 74 => ⟨S_, .f32⟩
  | 75 => ⟨S8x4x4096x256, .f32⟩
  | 76 => ⟨S8x4x4096x256, .f32⟩
  | 77 => ⟨S_, .f32⟩
  | 78 => ⟨S8x4x4096, .f32⟩
  | 79 => ⟨S_, .f32⟩
  | 80 => ⟨S8x4x4096, .f32⟩
  | 81 => ⟨S8x4x4096, .f32⟩
  | 82 => ⟨S8x4x4096x1, .f32⟩
  | 83 => ⟨S8x4x4096x256, .f32⟩
  | 84 => ⟨S8x4x4096x256, .f32⟩
  | 85 => ⟨S8x4x4096x256, .f32⟩
  | 86 => ⟨S_, .f32⟩
  | 87 => ⟨S8x4x4096, .f32⟩
  | 88 => ⟨S8x4x4096x1, .f32⟩
  | 89 => ⟨S8x4x4096x256, .f32⟩
  | 90 => ⟨S8x4x4096x256, .f32⟩
  | 91 => ⟨S8x4x256x4096, .f32⟩
  | 92 => ⟨S8x4096x4x256, .f32⟩
  | 93 => ⟨S8x4096x1024, .f32⟩
  | 94 => ⟨S8x4096x1024, .f32⟩
  | 95 => ⟨S8x4096x1024, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x1024, .f32⟩
  | 107 => ⟨S8x4096x1024, .f32⟩
  | 108 => ⟨S1x1x1024, .f32⟩
  | 109 => ⟨S8x4096x1024, .f32⟩
  | 110 => ⟨S8x4096x1024, .f32⟩
  | 111 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_call1_v0 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_call2_v0 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_8 : Ref sig .tc := ⟨.hbm, 88, rfl⟩
abbrev main_v62 : Ref sig .tc := ⟨.hbm, 89, rfl⟩
abbrev main_v63 : Ref sig .tc := ⟨.hbm, 90, rfl⟩
abbrev main_c_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_10 : Ref sig .tc := ⟨.hbm, 103, rfl⟩
abbrev main_call3_v0 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_12 : Ref sig .tc := ⟨.hbm, 140, rfl⟩
abbrev main_v109 : Ref sig .tc := ⟨.hbm, 141, rfl⟩
abbrev main_v110 : Ref sig .tc := ⟨.hbm, 142, rfl⟩
abbrev main_c_13 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_14 : Ref sig .tc := ⟨.hbm, 163, rfl⟩
abbrev main_v130 : Ref sig .tc := ⟨.hbm, 164, rfl⟩
abbrev main_v131 : Ref sig .tc := ⟨.hbm, 165, rfl⟩
abbrev main_cst_15 : Ref sig .tc := ⟨.hbm, 166, rfl⟩
abbrev main_v132 : Ref sig .tc := ⟨.hbm, 167, rfl⟩
abbrev main_v133 : Ref sig .tc := ⟨.hbm, 168, rfl⟩
abbrev main_cst_16 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_17 : Ref sig .tc := ⟨.hbm, 180, rfl⟩
abbrev main_v144 : Ref sig .tc := ⟨.hbm, 181, rfl⟩
abbrev main_v145 : Ref sig .tc := ⟨.hbm, 182, rfl⟩
abbrev main_cst_18 : Ref sig .tc := ⟨.hbm, 183, rfl⟩
abbrev main_v146 : Ref sig .tc := ⟨.hbm, 184, rfl⟩
abbrev main_v147 : Ref sig .tc := ⟨.hbm, 185, rfl⟩
abbrev main_cst_19 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_20 : Ref sig .tc := ⟨.hbm, 202, rfl⟩
abbrev main_v163 : Ref sig .tc := ⟨.hbm, 203, rfl⟩
abbrev main_v164 : Ref sig .tc := ⟨.hbm, 204, rfl⟩
abbrev main_cst_21 : Ref sig .tc := ⟨.hbm, 205, rfl⟩
abbrev main_v165 : Ref sig .tc := ⟨.hbm, 206, rfl⟩
abbrev main_cst_22 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_23 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_cst_24 : Ref sig .tc := ⟨.hbm, 224, rfl⟩
abbrev main_v181 : Ref sig .tc := ⟨.hbm, 225, rfl⟩
abbrev main_v182 : Ref sig .tc := ⟨.hbm, 226, rfl⟩
abbrev main_cst_25 : Ref sig .tc := ⟨.hbm, 227, rfl⟩
abbrev main_v183 : Ref sig .tc := ⟨.hbm, 228, rfl⟩
abbrev main_v184 : Ref sig .tc := ⟨.hbm, 229, rfl⟩
abbrev main_cst_26 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩

abbrev nD : Nat := 1
abbrev τ : Topo := Topo.v7x

variable {F : FTy → Type} [FloatOps F]
-- ==== Kernel5.lean ====
abbrev S8x256x1024 : Shape := ⟨3, ![8, 256, 1024]⟩
abbrev S1024 : Shape := ⟨1, ![1024]⟩
abbrev S1024x2048 : Shape := ⟨2, ![1024, 2048]⟩
abbrev S1x1024 : Shape := ⟨2, ![1, 1024]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S8x256x1024, .bf16⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S8x256x1024, .f32⟩
  | .hbm, ⟨21, _⟩ => ⟨S8x256x1024, .bf16⟩
  | .hbm, ⟨22, _⟩ => ⟨S8x256x1024, .f32⟩
  | .hbm, ⟨23, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Names.lean ====
/-
  Names for the pieces of `key_aug`'s software pipeline: the block of the keys, of the bias columns and of the
  output that step `b` of the sixteen works on, the slots of the three VMEM rings and their semaphores, and the
  carried words of the counted loop in closed form. Each offset the kernel computes from its carried words is the
  named one (`…_eq`, over the sixteen trips), and the slices are the names (`@[sl_canon]`).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Tactic

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The whole buffers -/

abbrev kM : Memref sig .tc .hbm S8x4x4096x128 .bf16 := Memref.whole main_arg0
abbrev cM : Memref sig .tc .hbm S8x4096x32 .f32 := Memref.whole main_v2
abbrev oM : Memref sig .tc .hbm S8x8x4096x128 .bf16 := Memref.whole main_v3
abbrev kB : Memref sig .tc .vmem S3x1x4x2048x128 .bf16 := Memref.whole cc0_scoped0
abbrev cB : Memref sig .tc .vmem S3x1x2048x32 .f32 := Memref.whole cc0_scoped2
abbrev oB : Memref sig .tc .vmem S2x1x8x2048x128 .bf16 := Memref.whole cc0_scoped4

/-! ## Offsets of blocks, slots and cells -/

abbrev kOff (b : Fin 16) : Fin 4 → Nat := ![b.val / 2, 0, 2048 * (b.val % 2), 0]
abbrev cOff (b : Fin 16) : Fin 3 → Nat := ![b.val / 2, 2048 * (b.val % 2), 0]
abbrev ksOff (s : Fin 3) : Fin 5 → Nat := ![s.val, 0, 0, 0, 0]
abbrev csOff (s : Fin 3) : Fin 4 → Nat := ![s.val, 0, 0, 0]
abbrev osOff (s : Fin 2) : Fin 5 → Nat := ![s.val, 0, 0, 0, 0]

theorem kOff_inb : ∀ b : Fin 16, ∀ a, kOff b a + S1x4x2048x128.size a ≤ S8x4x4096x128.size a := by decide
theorem cOff_inb : ∀ b : Fin 16, ∀ a, cOff b a + S1x2048x32.size a ≤ S8x4096x32.size a := by decide
theorem oOff_inb : ∀ b : Fin 16, ∀ a, kOff b a + S1x8x2048x128.size a ≤ S8x8x4096x128.size a := by decide
theorem ksOff_inb : ∀ s : Fin 3, ∀ a, ksOff s a + S1x1x4x2048x128.size a ≤ S3x1x4x2048x128.size a := by decide
theorem csOff_inb : ∀ s : Fin 3, ∀ a, csOff s a + S1x1x2048x32.size a ≤ S3x1x2048x32.size a := by decide
theorem osOff_inb : ∀ s : Fin 2, ∀ a, osOff s a + S1x1x8x2048x128.size a ≤ S2x1x8x2048x128.size a := by decide
theorem sem3_inb : ∀ s : Fin 3, ∀ a, (![s.val] : Fin 1 → Nat) a + S1.size a ≤ S3.size a := by decide
theorem sem2_inb : ∀ s : Fin 2, ∀ a, (![s.val] : Fin 1 → Nat) a + S1.size a ≤ S2.size a := by decide

/-- Block `b` of the keys: batch `b / 2`, sequence half `b % 2`. -/
def kblk (b : Fin 16) : Memref sig .tc .hbm S1x4x2048x128 .bf16 :=
  kM.slice (Rect.unit (s := S8x4x4096x128) (kOff b) S1x4x2048x128.size (kOff_inb b)) (fun _ => rfl)
/-- Block `b` of the bias columns. -/
def cblk (b : Fin 16) : Memref sig .tc .hbm S1x2048x32 .f32 :=
  cM.slice (Rect.unit (s := S8x4096x32) (cOff b) S1x2048x32.size (cOff_inb b)) (fun _ => rfl)
/-- Block `b` of the output. -/
def oblk (b : Fin 16) : Memref sig .tc .hbm S1x8x2048x128 .bf16 :=
  oM.slice (Rect.unit (s := S8x8x4096x128) (kOff b) S1x8x2048x128.size (oOff_inb b)) (fun _ => rfl)
/-- Slot `s` of the keys' ring. -/
def kslot (s : Fin 3) : Memref sig .tc .vmem S1x4x2048x128 .bf16 :=
  (kB.slice (Rect.unit (s := S3x1x4x2048x128) (ksOff s) S1x1x4x2048x128.size (ksOff_inb s)) (fun _ => rfl)).squeeze S1x4x2048x128 squeezes_S1x1x4x2048x128_S1x4x2048x128
/-- Slot `s` of the bias columns' ring. -/
def cslot (s : Fin 3) : Memref sig .tc .vmem S1x2048x32 .f32 :=
  (cB.slice (Rect.unit (s := S3x1x2048x32) (csOff s) S1x1x2048x32.size (csOff_inb s)) (fun _ => rfl)).squeeze S1x2048x32 squeezes_S1x1x2048x32_S1x2048x32
/-- Slot `s` of the output's ring. -/
def oslot (s : Fin 2) : Memref sig .tc .vmem S1x8x2048x128 .bf16 :=
  (oB.slice (Rect.unit (s := S2x1x8x2048x128) (osOff s) S1x1x8x2048x128.size (osOff_inb s)) (fun _ => rfl)).squeeze S1x8x2048x128 squeezes_S1x1x8x2048x128_S1x8x2048x128
/-- The cells the three rings' transfers count on. -/
def ksem (s : Fin 3) : DmaSems sig S_ := (cc0_scoped1.slice (Rect.unit (s := S3) ![s.val] S1.size (sem3_inb s))).squeeze S_ squeezes_S1_S_
def csem (s : Fin 3) : DmaSems sig S_ := (cc0_scoped3.slice (Rect.unit (s := S3) ![s.val] S1.size (sem3_inb s))).squeeze S_ squeezes_S1_S_
def osem (s : Fin 2) : DmaSems sig S_ := (cc0_scoped5.slice (Rect.unit (s := S2) ![s.val] S1.size (sem2_inb s))).squeeze S_ squeezes_S1_S_

instance (b : Fin 16) : ClosedOff (kOff b) := ⟨kOff b, rfl⟩
instance (b : Fin 16) : ClosedOff (cOff b) := ⟨cOff b, rfl⟩
instance (s : Fin 3) : ClosedOff (ksOff s) := ⟨ksOff s, rfl⟩
instance (s : Fin 3) : ClosedOff (csOff s) := ⟨csOff s, rfl⟩
instance (s : Fin 2) : ClosedOff (osOff s) := ⟨osOff s, rfl⟩

/-! ## The carried words -/

/-- how many blocks have been fetched before trip `k`: two ahead, until there is none left; -/
def w5 (k : ℕ) : BitVec 32 := BitVec.ofNat 32 (min (k + 2) 16)
/-- how many have been worked on; -/
def w6 (k : ℕ) : BitVec 32 := BitVec.ofNat 32 k
/-- how many have been waited for on the way out; -/
def w10 (k : ℕ) : BitVec 32 := BitVec.ofNat 32 (k - 1)
/-- and the trip's place in the grid of eight by two. -/
def w11 (k : ℕ) : BitVec 32 := BitVec.ofNat 32 (k / 2 % 8)
def w12 (k : ℕ) : BitVec 32 := BitVec.ofNat 32 (k % 2)
/-- The eight words the loop carries before trip `k`. -/
def words (k : ℕ) : BitVec 32 × BitVec 32 × BitVec 32 × BitVec 32 × BitVec 32 × BitVec 32 × BitVec 32 × BitVec 32 :=
  (w5 k, w6 k, w5 k, w6 k, w6 k, w10 k, w11 k, w12 k)

abbrev K16 := Fin k0_t1_loop.trips
theorem trips_eq : k0_t1_loop.trips = 16 := by decide

/-! ## The kernel's conditions, trip by trip -/

theorem cond3_pos : ∀ k : K16, k.val < 14 → k0_cond3 k (w11 k.val) (w12 k.val) = 1#1 := by decide +kernel
theorem cond3_neg : ∀ k : K16, ¬ k.val < 14 → ¬ k0_cond3 k (w11 k.val) (w12 k.val) = 1#1 := by decide +kernel
theorem cond4_pos : ∀ k : K16, k.val < 14 → k0_cond4 k (w11 k.val) (w12 k.val) = 1#1 := by decide +kernel
theorem cond4_neg : ∀ k : K16, ¬ k.val < 14 → ¬ k0_cond4 k (w11 k.val) (w12 k.val) = 1#1 := by decide +kernel
theorem cond5_pos : ∀ k : K16, k0_cond5 k (w11 k.val) (w12 k.val) = 1#1 := by decide +kernel
theorem cond6_pos : ∀ k : K16, k0_cond6 k (w11 k.val) (w12 k.val) = 1#1 := by decide +kernel
theorem cond10_pos : ∀ k : K16, k0_cond10 k (w11 k.val) (w12 k.val) = 1#1 := by decide +kernel
theorem cond13_pos : ∀ k : K16, 1 ≤ k.val → k0_cond13 k (w11 k.val) (w12 k.val) = 1#1 := by decide +kernel
theorem cond13_neg : ∀ k : K16, ¬ 1 ≤ k.val → ¬ k0_cond13 k (w11 k.val) (w12 k.val) = 1#1 := by decide +kernel

/-! ## The kernel's checks hold at every trip -/

theorem chk1 : ∀ k : K16, k0_chk1 k (w5 k.val) (w6 k.val) (w5 k.val) (w6 k.val) (w6 k.val) (w10 k.val) (w11 k.val) (w12 k.val) := by decide +kernel
theorem chk2 : ∀ k : K16, k0_chk2 (w6 k.val) := by decide +kernel
theorem chk3 : ∀ k : K16, k0_chk3 (w6 k.val) := by decide +kernel
theorem chk4 : ∀ k : K16, k0_chk4 (w6 k.val) := by decide +kernel
theorem chk5 : k0_chk5 (w10 16) := by decide +kernel
theorem chk6 : k0_chk6 (w12 16) (w11 16) := by decide +kernel

/-! ## The computed offsets -/

section Offs

theorem off10_eq : ∀ k : K16, k.val < 14 → k0_off10 (w5 k.val) = ![(Ring.sl 3 (k.val + 2)).val] := by decide +kernel
theorem off11_eq : ∀ k : K16, k.val < 14 → k0_off11 (w5 k.val) = ksOff (Ring.sl 3 (k.val + 2)) := by decide +kernel
theorem off12_eq : ∀ k : K16, k.val < 14 → k0_off12 (w11 k.val) (w12 k.val) = kOff (Ring.bk 16 (k.val + 2)) := by decide +kernel
theorem off13_eq : ∀ k : K16, k.val < 14 → k0_off13 (w5 k.val) = ![(Ring.sl 3 (k.val + 2)).val] := by decide +kernel
theorem off14_eq : ∀ k : K16, k.val < 14 → k0_off14 (w5 k.val) = csOff (Ring.sl 3 (k.val + 2)) := by decide +kernel
theorem off15_eq : ∀ k : K16, k.val < 14 → k0_off15 (w11 k.val) (w12 k.val) = cOff (Ring.bk 16 (k.val + 2)) := by decide +kernel
theorem off16_eq : ∀ k : K16, k0_off16 (w6 k.val) = ![(Ring.sl 3 k.val).val] := by decide +kernel
theorem off17_eq : ∀ k : K16, k0_off17 (w6 k.val) = ksOff (Ring.sl 3 k.val) := by decide +kernel
theorem off18_eq : ∀ k : K16, k0_off18 (w11 k.val) (w12 k.val) = kOff (Ring.bk 16 k.val) := by decide +kernel
theorem off19_eq : ∀ k : K16, k0_off19 (w6 k.val) = ![(Ring.sl 3 k.val).val] := by decide +kernel
theorem off20_eq : ∀ k : K16, k0_off20 (w6 k.val) = csOff (Ring.sl 3 k.val) := by decide +kernel
theorem off21_eq : ∀ k : K16, k0_off21 (w11 k.val) (w12 k.val) = cOff (Ring.bk 16 k.val) := by decide +kernel
theorem off22_eq : ∀ k : K16, k0_off22 (w6 k.val) = csOff (Ring.sl 3 k.val) := by decide +kernel
theorem off23_eq : ∀ k : K16, k0_off23 (w6 k.val) = ksOff (Ring.sl 3 k.val) := by decide +kernel
theorem off24_eq : ∀ k : K16, k0_off24 (w6 k.val) = osOff (Ring.sl 2 k.val) := by decide +kernel
theorem off26_eq : ∀ k : K16, k0_off26 (w6 k.val) = ksOff (Ring.sl 3 k.val) := by decide +kernel
theorem off34_eq : ∀ k : K16, k0_off34 (w6 k.val) = ![(Ring.sl 2 k.val).val] := by decide +kernel
theorem off35_eq : ∀ k : K16, k0_off35 (w11 k.val) (w12 k.val) = kOff (Ring.bk 16 k.val) := by decide +kernel
theorem off36_eq : ∀ k : K16, k0_off36 (w6 k.val) = osOff (Ring.sl 2 k.val) := by decide +kernel
theorem off37_eq : ∀ k : K16, 1 ≤ k.val → k0_off37 (w10 k.val) = ![(Ring.sl 2 (k.val + 1)).val] := by decide +kernel
theorem off38_eq : ∀ k : K16, 1 ≤ k.val → k0_off38 (w11 k.val) (w12 k.val) = kOff (Ring.bk 16 (k.val - 1)) := by decide +kernel
theorem off39_eq : ∀ k : K16, 1 ≤ k.val → k0_off39 (w10 k.val) = osOff (Ring.sl 2 (k.val + 1)) := by decide +kernel
theorem off40_eq : k0_off40 (w10 16) = ![(1 : Fin 2).val] := by decide +kernel
theorem off41_eq : k0_off41 (w12 16) (w11 16) = kOff 15 := by decide +kernel
theorem off42_eq : k0_off42 (w10 16) = osOff 1 := by decide +kernel

theorem off25_eq : ∀ k : K16, k0_off25 (w6 k.val) = ![(Ring.sl 2 k.val).val, 0, 0, 0, 0] := by decide +kernel
theorem off27_eq : ∀ k : K16, k0_off27 (w6 k.val) = ![(Ring.sl 2 k.val).val, 0, 1, 0, 0] := by decide +kernel
theorem off28_eq : ∀ k : K16, k0_off28 (w6 k.val) = ![(Ring.sl 2 k.val).val, 0, 2, 0, 0] := by decide +kernel
theorem off29_eq : ∀ k : K16, k0_off29 (w6 k.val) = ![(Ring.sl 2 k.val).val, 0, 3, 0, 0] := by decide +kernel
theorem off30_eq : ∀ k : K16, k0_off30 (w6 k.val) = ![(Ring.sl 2 k.val).val, 0, 4, 0, 0] := by decide +kernel
theorem off31_eq : ∀ k : K16, k0_off31 (w6 k.val) = ![(Ring.sl 2 k.val).val, 0, 5, 0, 0] := by decide +kernel
theorem off32_eq : ∀ k : K16, k0_off32 (w6 k.val) = ![(Ring.sl 2 k.val).val, 0, 6, 0, 0] := by decide +kernel
theorem off33_eq : ∀ k : K16, k0_off33 (w6 k.val) = ![(Ring.sl 2 k.val).val, 0, 7, 0, 0] := by decide +kernel

instance (k : K16) : ClosedOff (k0_off25 (w6 k.val)) := ⟨![(Ring.sl 2 k.val).val, 0, 0, 0, 0], off25_eq k⟩
instance (k : K16) : ClosedOff (k0_off27 (w6 k.val)) := ⟨![(Ring.sl 2 k.val).val, 0, 1, 0, 0], off27_eq k⟩
instance (k : K16) : ClosedOff (k0_off28 (w6 k.val)) := ⟨![(Ring.sl 2 k.val).val, 0, 2, 0, 0], off28_eq k⟩
instance (k : K16) : ClosedOff (k0_off29 (w6 k.val)) := ⟨![(Ring.sl 2 k.val).val, 0, 3, 0, 0], off29_eq k⟩
instance (k : K16) : ClosedOff (k0_off30 (w6 k.val)) := ⟨![(Ring.sl 2 k.val).val, 0, 4, 0, 0], off30_eq k⟩
instance (k : K16) : ClosedOff (k0_off31 (w6 k.val)) := ⟨![(Ring.sl 2 k.val).val, 0, 5, 0, 0], off31_eq k⟩
instance (k : K16) : ClosedOff (k0_off32 (w6 k.val)) := ⟨![(Ring.sl 2 k.val).val, 0, 6, 0, 0], off32_eq k⟩
instance (k : K16) : ClosedOff (k0_off33 (w6 k.val)) := ⟨![(Ring.sl 2 k.val).val, 0, 7, 0, 0], off33_eq k⟩

/-! ## The slices are the names -/

private theorem ksem_of {off : Fin 1 → Nat} {s : Fin 3} (e : off = ![s.val]) (hh) :
    (cc0_scoped1.slice (Rect.unit (s := S3) off S1.size hh)).squeeze S_ squeezes_S1_S_ = ksem s :=
  congrArg (fun A : DmaSems sig S1 => A.squeeze S_ squeezes_S1_S_) (SemArray.slice_unit_congr _ e _ _)
private theorem csem_of {off : Fin 1 → Nat} {s : Fin 3} (e : off = ![s.val]) (hh) :
    (cc0_scoped3.slice (Rect.unit (s := S3) off S1.size hh)).squeeze S_ squeezes_S1_S_ = csem s :=
  congrArg (fun A : DmaSems sig S1 => A.squeeze S_ squeezes_S1_S_) (SemArray.slice_unit_congr _ e _ _)
private theorem osem_of {off : Fin 1 → Nat} {s : Fin 2} (e : off = ![s.val]) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
private theorem kslot_of {off : Fin 5 → Nat} {s : Fin 3} (e : off = ksOff s) (hh hs) :
    (kB.slice (Rect.unit (s := S3x1x4x2048x128) off S1x1x4x2048x128.size hh) hs).squeeze S1x4x2048x128 squeezes_S1x1x4x2048x128_S1x4x2048x128 = kslot s :=
  congrArg (fun M : Memref sig .tc .vmem S1x1x4x2048x128 .bf16 => M.squeeze S1x4x2048x128 squeezes_S1x1x4x2048x128_S1x4x2048x128) (Memref.slice_unit_congr _ e _ _ _ _)
private theorem cslot_of {off : Fin 4 → Nat} {s : Fin 3} (e : off = csOff s) (hh hs) :
    (cB.slice (Rect.unit (s := S3x1x2048x32) off S1x1x2048x32.size hh) hs).squeeze S1x2048x32 squeezes_S1x1x2048x32_S1x2048x32 = cslot s :=
  congrArg (fun M : Memref sig .tc .vmem S1x1x2048x32 .f32 => M.squeeze S1x2048x32 squeezes_S1x1x2048x32_S1x2048x32) (Memref.slice_unit_congr _ e _ _ _ _)
private theorem oslot_of {off : Fin 5 → Nat} {s : Fin 2} (e : off = osOff s) (hh hs) :
    (oB.slice (Rect.unit (s := S2x1x8x2048x128) off S1x1x8x2048x128.size hh) hs).squeeze S1x8x2048x128 squeezes_S1x1x8x2048x128_S1x8x2048x128 = oslot s :=
  congrArg (fun M : Memref sig .tc .vmem S1x1x8x2048x128 .bf16 => M.squeeze S1x8x2048x128 squeezes_S1x1x8x2048x128_S1x8x2048x128) (Memref.slice_unit_congr _ e _ _ _ _)
private theorem kblk_of {off : Fin 4 → Nat} {b : Fin 16} (e : off = kOff b) (hh hs) :
    kM.slice (Rect.unit (s := S8x4x4096x128) off S1x4x2048x128.size hh) hs = kblk b := Memref.slice_unit_congr _ e _ _ _ fun _ => rfl
private theorem cblk_of {off : Fin 3 → Nat} {b : Fin 16} (e : off = cOff b) (hh hs) :
    cM.slice (Rect.unit (s := S8x4096x32) off S1x2048x32.size hh) hs = cblk b := Memref.slice_unit_congr _ e _ _ _ fun _ => rfl
private theorem oblk_of {off : Fin 4 → Nat} {b : Fin 16} (e : off = kOff b) (hh hs) :
    oM.slice (Rect.unit (s := S8x8x4096x128) off S1x8x2048x128.size hh) hs = oblk b := Memref.slice_unit_congr _ e _ _ _ fun _ => rfl

/-! ### of the prologue: blocks 0 and 1 into slots 0 and 1, -/

@[sl_canon] theorem n1k (hh) : (cc0_scoped1.slice (Rect.unit (s := S3) k0_off1 S1.size hh)).squeeze S_ squeezes_S1_S_ = ksem 0 := ksem_of (by decide) _
@[sl_canon] theorem n1c (hh) : (cc0_scoped3.slice (Rect.unit (s := S3) k0_off1 S1.size hh)).squeeze S_ squeezes_S1_S_ = csem 0 := csem_of (by decide) _
@[sl_canon] theorem n2 (hh hs) : (kB.slice (Rect.unit (s := S3x1x4x2048x128) k0_off2 S1x1x4x2048x128.size hh) hs).squeeze S1x4x2048x128 squeezes_S1x1x4x2048x128_S1x4x2048x128 = kslot 0 := kslot_of (by decide) _ _
@[sl_canon] theorem n3 (hh hs) : (cB.slice (Rect.unit (s := S3x1x2048x32) k0_off3 S1x1x2048x32.size hh) hs).squeeze S1x2048x32 squeezes_S1x1x2048x32_S1x2048x32 = cslot 0 := cslot_of (by decide) _ _
@[sl_canon] theorem n4 (hh) : (cc0_scoped1.slice (Rect.unit (s := S3) k0_off4 S1.size hh)).squeeze S_ squeezes_S1_S_ = ksem 1 := ksem_of (by decide) _
@[sl_canon] theorem n5 (hh hs) : (kB.slice (Rect.unit (s := S3x1x4x2048x128) k0_off5 S1x1x4x2048x128.size hh) hs).squeeze S1x4x2048x128 squeezes_S1x1x4x2048x128_S1x4x2048x128 = kslot 1 := kslot_of (by decide) _ _
@[sl_canon] theorem n6 (hh hs) : kM.slice (Rect.unit (s := S8x4x4096x128) k0_off6 S1x4x2048x128.size hh) hs = kblk 1 := kblk_of (by decide) _ _
@[sl_canon] theorem n7 (hh) : (cc0_scoped3.slice (Rect.unit (s := S3) k0_off7 S1.size hh)).squeeze S_ squeezes_S1_S_ = csem 1 := csem_of (by decide) _
@[sl_canon] theorem n8 (hh hs) : (cB.slice (Rect.unit (s := S3x1x2048x32) k0_off8 S1x1x2048x32.size hh) hs).squeeze S1x2048x32 squeezes_S1x1x2048x32_S1x2048x32 = cslot 1 := cslot_of (by decide) _ _
@[sl_canon] theorem n9 (hh hs) : cM.slice (Rect.unit (s := S8x4096x32) k0_off9 S1x2048x32.size hh) hs = cblk 1 := cblk_of (by decide) _ _
@[sl_canon] theorem n0k (hh hs) : kM.slice (Rect.unit (s := S8x4x4096x128) ![0, 0, 0, 0] S1x4x2048x128.size hh) hs = kblk 0 := kblk_of (by decide) _ _
@[sl_canon] theorem n0c (hh hs) : cM.slice (Rect.unit (s := S8x4096x32) ![0, 0, 0] S1x2048x32.size hh) hs = cblk 0 := cblk_of (by decide) _ _

/-! ### of trip `k`: block `k + 2` fetched, -/

@[sl_canon] theorem n10 (k : K16) (hk : k.val < 14) (hh) : (cc0_scoped1.slice (Rect.unit (s := S3) (k0_off10 (w5 k.val)) S1.size hh)).squeeze S_ squeezes_S1_S_ = ksem (Ring.sl 3 (k.val + 2)) := ksem_of (off10_eq k hk) _
@[sl_canon] theorem n11 (k : K16) (hk : k.val < 14) (hh hs) : (kB.slice (Rect.unit (s := S3x1x4x2048x128) (k0_off11 (w5 k.val)) S1x1x4x2048x128.size hh) hs).squeeze S1x4x2048x128 squeezes_S1x1x4x2048x128_S1x4x2048x128 = kslot (Ring.sl 3 (k.val + 2)) := kslot_of (off11_eq k hk) _ _
@[sl_canon] theorem n12 (k : K16) (hk : k.val < 14) (hh hs) : kM.slice (Rect.unit (s := S8x4x4096x128) (k0_off12 (w11 k.val) (w12 k.val)) S1x4x2048x128.size hh) hs = kblk (Ring.bk 16 (k.val + 2)) := kblk_of (off12_eq k hk) _ _
@[sl_canon] theorem n13 (k : K16) (hk : k.val < 14) (hh) : (cc0_scoped3.slice (Rect.unit (s := S3) (k0_off13 (w5 k.val)) S1.size hh)).squeeze S_ squeezes_S1_S_ = csem (Ring.sl 3 (k.val + 2)) := csem_of (off13_eq k hk) _
@[sl_canon] theorem n14 (k : K16) (hk : k.val < 14) (hh hs) : (cB.slice (Rect.unit (s := S3x1x2048x32) (k0_off14 (w5 k.val)) S1x1x2048x32.size hh) hs).squeeze S1x2048x32 squeezes_S1x1x2048x32_S1x2048x32 = cslot (Ring.sl 3 (k.val + 2)) := cslot_of (off14_eq k hk) _ _
@[sl_canon] theorem n15 (k : K16) (hk : k.val < 14) (hh hs) : cM.slice (Rect.unit (s := S8x4096x32) (k0_off15 (w11 k.val) (w12 k.val)) S1x2048x32.size hh) hs = cblk (Ring.bk 16 (k.val + 2)) := cblk_of (off15_eq k hk) _ _

/-! ### block `k` waited for and read, -/

@[sl_canon] theorem n16 (k : K16) (hh) : (cc0_scoped1.slice (Rect.unit (s := S3) (k0_off16 (w6 k.val)) S1.size hh)).squeeze S_ squeezes_S1_S_ = ksem (Ring.sl 3 k.val) := ksem_of (off16_eq k) _
@[sl_canon] theorem n17 (k : K16) (hh hs) : (kB.slice (Rect.unit (s := S3x1x4x2048x128) (k0_off17 (w6 k.val)) S1x1x4x2048x128.size hh) hs).squeeze S1x4x2048x128 squeezes_S1x1x4x2048x128_S1x4x2048x128 = kslot (Ring.sl 3 k.val) := kslot_of (off17_eq k) _ _
@[sl_canon] theorem n18 (k : K16) (hh hs) : kM.slice (Rect.unit (s := S8x4x4096x128) (k0_off18 (w11 k.val) (w12 k.val)) S1x4x2048x128.size hh) hs = kblk (Ring.bk 16 k.val) := kblk_of (off18_eq k) _ _
@[sl_canon] theorem n19 (k : K16) (hh) : (cc0_scoped3.slice (Rect.unit (s := S3) (k0_off19 (w6 k.val)) S1.size hh)).squeeze S_ squeezes_S1_S_ = csem (Ring.sl 3 k.val) := csem_of (off19_eq k) _
@[sl_canon] theorem n20 (k : K16) (hh hs) : (cB.slice (Rect.unit (s := S3x1x2048x32) (k0_off20 (w6 k.val)) S1x1x2048x32.size hh) hs).squeeze S1x2048x32 squeezes_S1x1x2048x32_S1x2048x32 = cslot (Ring.sl 3 k.val) := cslot_of (off20_eq k) _ _
@[sl_canon] theorem n21 (k : K16) (hh hs) : cM.slice (Rect.unit (s := S8x4096x32) (k0_off21 (w11 k.val) (w12 k.val)) S1x2048x32.size hh) hs = cblk (Ring.bk 16 k.val) := cblk_of (off21_eq k) _ _
@[sl_canon] theorem n22 (k : K16) (hh hs) : (cB.slice (Rect.unit (s := S3x1x2048x32) (k0_off22 (w6 k.val)) S1x1x2048x32.size hh) hs).squeeze S1x2048x32 squeezes_S1x1x2048x32_S1x2048x32 = cslot (Ring.sl 3 k.val) := cslot_of (off22_eq k) _ _
@[sl_canon] theorem n23 (k : K16) (hh hs) : (kB.slice (Rect.unit (s := S3x1x4x2048x128) (k0_off23 (w6 k.val)) S1x1x4x2048x128.size hh) hs).squeeze S1x4x2048x128 squeezes_S1x1x4x2048x128_S1x4x2048x128 = kslot (Ring.sl 3 k.val) := kslot_of (off23_eq k) _ _
@[sl_canon] theorem n24 (k : K16) (hh hs) : (oB.slice (Rect.unit (s := S2x1x8x2048x128) (k0_off24 (w6 k.val)) S1x1x8x2048x128.size hh) hs).squeeze S1x8x2048x128 squeezes_S1x1x8x2048x128_S1x8x2048x128 = oslot (Ring.sl 2 k.val) := oslot_of (off24_eq k) _ _
@[sl_canon] theorem n26 (k : K16) (hh hs) : (kB.slice (Rect.unit (s := S3x1x4x2048x128) (k0_off26 (w6 k.val)) S1x1x4x2048x128.size hh) hs).squeeze S1x4x2048x128 squeezes_S1x1x4x2048x128_S1x4x2048x128 = kslot (Ring.sl 3 k.val) := kslot_of (off26_eq k) _ _

/-! ### block `k` sent out, and block `k - 1`'s sending waited for; -/

@[sl_canon] theorem n34 (k : K16) (hh) : (cc0_scoped5.slice (Rect.unit (s := S2) (k0_off34 (w6 k.val)) S1.size hh)).squeeze S_ squeezes_S1_S_ = osem (Ring.sl 2 k.val) := osem_of (off34_eq k) _
@[sl_canon] theorem n35 (k : K16) (hh hs) : oM.slice (Rect.unit (s := S8x8x4096x128) (k0_off35 (w11 k.val) (w12 k.val)) S1x8x2048x128.size hh) hs = oblk (Ring.bk 16 k.val) := oblk_of (off35_eq k) _ _
@[sl_canon] theorem n36 (k : K16) (hh hs) : (oB.slice (Rect.unit (s := S2x1x8x2048x128) (k0_off36 (w6 k.val)) S1x1x8x2048x128.size hh) hs).squeeze S1x8x2048x128 squeezes_S1x1x8x2048x128_S1x8x2048x128 = oslot (Ring.sl 2 k.val) := oslot_of (off36_eq k) _ _
@[sl_canon] theorem n37 (k : K16) (hk : 1 ≤ k.val) (hh) : (cc0_scoped5.slice (Rect.unit (s := S2) (k0_off37 (w10 k.val)) S1.size hh)).squeeze S_ squeezes_S1_S_ = osem (Ring.sl 2 (k.val + 1)) := osem_of (off37_eq k hk) _
@[sl_canon] theorem n38 (k : K16) (hk : 1 ≤ k.val) (hh hs) : oM.slice (Rect.unit (s := S8x8x4096x128) (k0_off38 (w11 k.val) (w12 k.val)) S1x8x2048x128.size hh) hs = oblk (Ring.bk 16 (k.val - 1)) := oblk_of (off38_eq k hk) _ _
@[sl_canon] theorem n39 (k : K16) (hk : 1 ≤ k.val) (hh hs) : (oB.slice (Rect.unit (s := S2x1x8x2048x128) (k0_off39 (w10 k.val)) S1x1x8x2048x128.size hh) hs).squeeze S1x8x2048x128 squeezes_S1x1x8x2048x128_S1x8x2048x128 = oslot (Ring.sl 2 (k.val + 1)) := oslot_of (off39_eq k hk) _ _

/-! ### and of the last wait. -/

@[sl_canon] theorem n40 (hh) : (cc0_scoped5.slice (Rect.unit (s := S2) (k0_off40 (w10 16)) S1.size hh)).squeeze S_ squeezes_S1_S_ = osem 1 := osem_of off40_eq _
@[sl_canon] theorem n41 (hh hs) : oM.slice (Rect.unit (s := S8x8x4096x128) (k0_off41 (w12 16) (w11 16)) S1x8x2048x128.size hh) hs = oblk 15 := oblk_of off41_eq _ _
@[sl_canon] theorem n42 (hh hs) : (oB.slice (Rect.unit (s := S2x1x8x2048x128) (k0_off42 (w10 16)) S1x1x8x2048x128.size hh) hs).squeeze S1x8x2048x128 squeezes_S1x1x8x2048x128_S1x8x2048x128 = oslot 1 := oslot_of off42_eq _ _

end Offs

end Cert.Proof.KeyAug

end
-- ==== Proof.Heads.lean ====
/-
  The values of one trip. The trip puts the eight heads of its block of the output into its slot by eight stores; read
  back, the slot holds at head `h`, row `r`, lane `d` what head `h`'s store carried there (`slot_read`), which is
  the key's lane where the head's key lies and the placed bias column elsewhere (`zVal`, `pay…_eq`).
-/
module

public import proofs.«01_k».proof.Proof.Names
public import Idealize.ShloMosaic.Lib.Pointwise.Index
public import Idealize.ShloMosaic.Lib.Pipeline.Value
public import Idealize.ShloMosaic.Lib.Pipeline.FrameBody

@[expose] public section

noncomputable section

namespace Cert.Proof.KeyAug

open Cert.KernelIdeal Cert.KernelIdeal.Gen
open Idealize.ShloMosaic
open Idealize.ShloMosaic.TcCoe Idealize.ShloMosaic.Tactic

variable {F : FTy → Type} [FloatOps F]

/-! ## The slot read back -/

theorem write_emb_eq {t : Shape} {e : EltTy} (v : View sig .tc .vmem t e) (he : v.ty.elt = e) (f : v.ty.Contents (Elt F)) (w : t.Idx → Elt F e) (x : t.Idx) :
    HEq (View.write (Elt F) v f w Finset.univ (v.emb x)) (w x) := by
  rw [View.write_emb_of_mem f w (Finset.mem_univ x)]
  exact cast_heq _ _

/-- One head's store into the two slots. -/
def put (off : Fin 5 → Nat) (p : ∀ a, off a + S1x1x1x2048x128.size a ≤ S2x1x8x2048x128.size a) (f : cc0_scoped4.ty.Contents (Elt F))
    (w : S1x1x1x2048x128.Idx → Elt F .bf16) : cc0_scoped4.ty.Contents (Elt F) :=
  View.write (Elt F) (oB.access (Rect.unit (s := S2x1x8x2048x128) off S1x1x1x2048x128.size p)) f w Finset.univ

theorem put_hit (s : Fin 2) (h : Fin 8) (p : ∀ a, (![s.val, 0, h.val, 0, 0] : Fin 5 → Nat) a + S1x1x1x2048x128.size a ≤ S2x1x8x2048x128.size a)
    (f : cc0_scoped4.ty.Contents (Elt F)) (w : S1x1x1x2048x128.Idx → Elt F .bf16) (x : S1x1x1x2048x128.Idx) :
    put _ p f w ((oB.access (Rect.unit (s := S2x1x8x2048x128) ![s.val, 0, h.val, 0, 0] S1x1x1x2048x128.size p)).emb x) = w x := by
  have := write_emb_eq (oB.access (Rect.unit (s := S2x1x8x2048x128) ![s.val, 0, h.val, 0, 0] S1x1x1x2048x128.size p)) rfl f w x
  exact eq_of_heq this

theorem put_miss (off : Fin 5 → Nat) (p : ∀ a, off a + S1x1x1x2048x128.size a ≤ S2x1x8x2048x128.size a)
    (f : cc0_scoped4.ty.Contents (Elt F)) (w : S1x1x1x2048x128.Idx → Elt F .bf16) (y : S2x1x8x2048x128.Idx)
    (hy : ¬ (off 2 ≤ (y 2).val ∧ (y 2).val < off 2 + 1)) : put off p f w y = f y := by
  have hm : y ∉ (oB.access (Rect.unit (s := S2x1x8x2048x128) off S1x1x1x2048x128.size p)).setOn Finset.univ := by
    rw [View.setOn_univ, (View.set_slice_whole cc0_scoped4 _), Rect.mem_set_unit]
    exact fun h => hy (h 2)
  exact View.write_of_not_mem (v := oB.access (Rect.unit (s := S2x1x8x2048x128) off S1x1x1x2048x128.size p)) f w Finset.univ hm

/-- One head's store, read at an index of the slot's half. -/
theorem head_write (s : Fin 2) (h : Fin 8) {off : Fin 5 → Nat} (e : off = ![s.val, 0, h.val, 0, 0])
    (p : ∀ a, off a + S1x1x1x2048x128.size a ≤ S2x1x8x2048x128.size a) (f : cc0_scoped4.ty.Contents (Elt F))
    (w : S1x1x1x2048x128.Idx → Elt F .bf16) (h' : Fin 8) (r : Fin 2048) (d : Fin 128) :
    put off p f w (ix5 s 0 h' r d)
      = if h' = h then w (ix5 0 0 0 r d) else f (ix5 s 0 h' r d) := by
  subst e
  split
  · next hh =>
    subst hh
    generalize hx : (ix5 0 0 0 r d : S1x1x1x2048x128.Idx) = x
    have hy : (ix5 s 0 h' r d : S2x1x8x2048x128.Idx)
        = (oB.access (Rect.unit (s := S2x1x8x2048x128) ![s.val, 0, h'.val, 0, 0] S1x1x1x2048x128.size p)).emb x := by
      subst hx
      funext a; apply Fin.ext; fin_cases a
      · show s.val = s.val + 1 * 0; omega
      · show 0 = 0 + 1 * 0; omega
      · show h'.val = h'.val + 1 * 0; omega
      · show r.val = 0 + 1 * r.val; omega
      · show d.val = 0 + 1 * d.val; omega
    rw [hy]
    exact put_hit s h' p f w x
  · next hh =>
    refine put_miss _ p f w _ (fun hm => hh (Fin.ext ?_))
    have h2 : h.val ≤ h'.val ∧ h'.val < h.val + 1 := hm
    omega

theorem oslot_emb (s : Fin 2) (h : Fin 8) (r : Fin 2048) (d : Fin 128) :
    (oslot s).view.emb (ix4 0 h r d) = (ix5 s 0 h r d : S2x1x8x2048x128.Idx) := by
  have e : Shape.reshapeEquiv (squeezes_S1x1x8x2048x128_S1x8x2048x128).numel_eq (ix4 0 h r d : S1x8x2048x128.Idx) = (ix5 0 0 h r d : S1x1x8x2048x128.Idx) := by
    apply Shape.reshapeEquiv_eq_of_rowMajor
    rw [Shape.rowMajor_val_five, Shape.rowMajor_val_four]
    rfl
  show (Rect.unit (s := S2x1x8x2048x128) (osOff s) S1x1x8x2048x128.size (osOff_inb s)).emb (Shape.reshapeEquiv _ (ix4 0 h r d)) = _
  rw [e]
  funext a; apply Fin.ext; fin_cases a
  · show s.val + 1 * 0 = s.val; omega
  · show 0 + 1 * 0 = 0; omega
  · show 0 + 1 * h.val = h.val; omega
  · show 0 + 1 * r.val = r.val; omega
  · show 0 + 1 * d.val = d.val; omega

theorem oslot_at (s : Fin 2) (g : cc0_scoped4.ty.Contents (Elt F)) (h : Fin 8) (r : Fin 2048) (d : Fin 128) :
    (oslot s).view.read (Elt F) g (ix4 0 h r d) = g (ix5 s 0 h r d) :=
  congrArg g (oslot_emb s h r d)

/-- The slot after the eight stores: head `h` as its store left it. -/
theorem slot_read (s : Fin 2) {o0 o1 o2 o3 o4 o5 o6 o7 : Fin 5 → Nat}
    (e0 : o0 = ![s.val, 0, 0, 0, 0]) (e1 : o1 = ![s.val, 0, 1, 0, 0]) (e2 : o2 = ![s.val, 0, 2, 0, 0]) (e3 : o3 = ![s.val, 0, 3, 0, 0])
    (e4 : o4 = ![s.val, 0, 4, 0, 0]) (e5 : o5 = ![s.val, 0, 5, 0, 0]) (e6 : o6 = ![s.val, 0, 6, 0, 0]) (e7 : o7 = ![s.val, 0, 7, 0, 0])
    (p0 p1 p2 p3 p4 p5 p6 p7) (f : cc0_scoped4.ty.Contents (Elt F)) (w0 w1 w2 w3 w4 w5 w6 w7 : S1x1x1x2048x128.Idx → Elt F .bf16)
    (h : Fin 8) (r : Fin 2048) (d : Fin 128) :
    (oslot s).view.read (Elt F) (put o7 p7 (put o6 p6 (put o5 p5 (put o4 p4 (put o3 p3 (put o2 p2 (put o1 p1 (put o0 p0 f w0) w1) w2) w3) w4) w5) w6) w7)
      (ix4 0 h r d)
    = (![w0, w1, w2, w3, w4, w5, w6, w7] : Fin 8 → S1x1x1x2048x128.Idx → Elt F .bf16) h (ix5 0 0 0 r d) := by
  rw [oslot_at]
  rw [head_write s 7 e7 p7]
  by_cases h7 : h = 7
  · rw [if_pos h7, h7]; rfl
  rw [if_neg h7, head_write s 6 e6 p6]
  by_cases h6 : h = 6
  · rw [if_pos h6, h6]; rfl
  rw [if_neg h6, head_write s 5 e5 p5]
  by_cases h5 : h = 5
  · rw [if_pos h5, h5]; rfl
  rw [if_neg h5, head_write s 4 e4 p4]
  by_cases h4 : h = 4
  · rw [if_pos h4, h4]; rfl
  rw [if_neg h4, head_write s 3 e3 p3]
  by_cases h3 : h = 3
  · rw [if_pos h3, h3]; rfl
  rw [if_neg h3, head_write s 2 e2 p2]
  by_cases h2 : h = 2
  · rw [if_pos h2, h2]; rfl
  rw [if_neg h2, head_write s 1 e1 p1]
  by_cases h1 : h = 1
  · rw [if_pos h1, h1]; rfl
  rw [if_neg h1, head_write s 0 e0 p0]
  have h0 : h = 0 := by omega
  rw [if_pos h0, h0]; rfl

/-! ## The slots of the inputs read -/

/-- Rows of one pair of heads of a slot the transfer filled with `P`. -/
theorem kread (v : View sig .tc .vmem S1x4x2048x128 .bf16) (P : S1x4x2048x128.Idx → Elt F .bf16) (i : Fin 4) {off : Fin 4 → Nat}
    (e : off = ![0, i.val, 0, 0]) (p : ∀ a, off a + S1x1x2048x128.size a ≤ S1x4x2048x128.size a) (r : Fin 2048) (d : Fin 128) :
    v.readCov [(⟨Rect.whole S1x4x2048x128, P⟩ : View.Piece (Elt F) S1x4x2048x128 .bf16)] (Rect.unit (s := S1x4x2048x128) off S1x1x2048x128.size p).toLoadRect (ix4 0 0 r d : S1x1x2048x128.Idx)
      = P (ix4 0 i r d) := by
  subst e
  rw [View.readCov_eq_canon']
  have hc := View.canon_cons_emb (Rect.whole S1x4x2048x128) P ([] : List (View.Piece (Elt F) S1x4x2048x128 .bf16)) (ix4 0 i r d : S1x4x2048x128.Idx)
  rw [Rect.emb_whole_apply] at hc
  refine (congrArg _ ?_).trans hc
  funext a; apply Fin.ext; fin_cases a
  · show 0 + 1 * 0 = 0; omega
  · show i.val + 1 * 0 = i.val; omega
  · show 0 + 1 * r.val = r.val; omega
  · show 0 + 1 * d.val = d.val; omega

theorem cread (v : View sig .tc .vmem S1x2048x32 .f32) (P : S1x2048x32.Idx → Elt F .f32)
    (p : ∀ a, (![0, 0, 0] : Fin 3 → Nat) a + S1x2048x32.size a ≤ S1x2048x32.size a) :
    v.readCov [(⟨Rect.whole S1x2048x32, P⟩ : View.Piece (Elt F) S1x2048x32 .f32)] (Rect.unit (s := S1x2048x32) ![0, 0, 0] S1x2048x32.size p).toLoadRect = P := by
  have h0 : (![0, 0, 0] : Fin 3 → Nat) = fun _ => 0 := by decide
  revert p; rw [h0]; intro p
  exact View.readCov_unit_zero v rfl p P

/-! ## What a head's store carries -/

/-- The lanes a head takes from its key: `d < 64` for the heads with `b = 1`, the others for those with `b = 0`. -/
def vmask (b : BitVec 1) : IVec S2048x128 1 :=
  xori (xori (cmpi .slt (iota .tc S2048x128 32 [1] iota_S2048x128_d1_w32) (broadcast S2048x128 64#32))
    (broadcastTo S2048x128 (broadcast S2048x128 b) broadcasts_S2048x128_S2048x128)) (constantI S2048x128 1 1#1)

theorem vmask_one (r : Fin 2048) (d : Fin 128) : vmask 1#1 (ix2 r d) = if d.val < 64 then 1#1 else 0#1 := by
  have h : ∀ d : Fin 128, IntOp.xori (IntOp.xori (IntOp.cmpi .slt (BitVec.ofNat 32 (0 * 128 + d.val)) 64#32) 1#1) 1#1 = if d.val < 64 then 1#1 else 0#1 := by
    decide +kernel
  exact h d

theorem vmask_zero (r : Fin 2048) (d : Fin 128) : vmask 0#1 (ix2 r d) = if d.val < 64 then 0#1 else 1#1 := by
  have h : ∀ d : Fin 128, IntOp.xori (IntOp.xori (IntOp.cmpi .slt (BitVec.ofNat 32 (0 * 128 + d.val)) 64#32) 0#1) 1#1 = if d.val < 64 then 0#1 else 1#1 := by
    decide +kernel
  exact h d

/-- What one head's store carries: its key where `m` is set, the columns `o …` of the placed bias elsewhere. -/
def vput (m : IVec S2048x128 1) (o : Nat) (ho : S2048x1024.Slices ![0, o] S2048x128) (P : FVec F S2048x1024 .f32) (x : Vec F S1x1x2048x128 .bf16) :
    Vec F S1x1x1x2048x128 .bf16 :=
  shapeCast S1x1x1x2048x128 (shapeCast S1x1x2048x128
    (select m (shapeCast S2048x128 x shapeCasts_S1x1x2048x128_S2048x128 : FVec F S2048x128 .bf16)
      (truncf .bf16 (extractStridedSlice S2048x128 ![0, o] P ho) bitsLt_bf16_f32)) shapeCasts_S2048x128_S1x1x2048x128)
    shapeCasts_S1x1x2048x128_S1x1x1x2048x128

theorem vput_apply (m : IVec S2048x128 1) (o : Nat) (ho : S2048x1024.Slices ![0, o] S2048x128) (P : FVec F S2048x1024 .f32) (x : Vec F S1x1x2048x128 .bf16)
    (r : Fin 2048) (d : Fin 128) (c : Fin 1024) (hc : c.val = o + d.val) :
    vput m o ho P x (ix5 0 0 0 r d) = Scalar.select (m (ix2 r d)) (x (ix4 0 0 r d)) (truncf .bf16 P bitsLt_bf16_f32 (ix2 r c)) := by
  unfold vput
  rw [shapeCast_apply (k := (ix4 0 0 r d : S1x1x2048x128.Idx)) (hk := by rw [Shape.rowMajor_val_five, Shape.rowMajor_val_four]; rfl),
    shapeCast_apply (k := (ix2 r d : S2048x128.Idx)) (hk := by
      rw [Shape.rowMajor_val_two, Shape.rowMajor_val_four]
      show r.val * 128 + d.val = ((0 * 1 + 0) * 2048 + r.val) * 128 + d.val
      omega)]
  show Scalar.select _ _ _ = _
  congr 1
  · rw [shapeCast_apply (k := (ix4 0 0 r d : S1x1x2048x128.Idx)) (hk := by
      rw [Shape.rowMajor_val_two, Shape.rowMajor_val_four]
      show ((0 * 1 + 0) * 2048 + r.val) * 128 + d.val = r.val * 128 + d.val
      omega)]
  · refine congrArg (fun z => FloatOps.truncf _ _ z) ?_
    rw [extractStridedSlice_apply (k := (ix2 r c : S2048x1024.Idx)) (hk := by
      intro a; fin_cases a
      · show r.val = 0 + r.val; omega
      · exact hc)]

/-- Column `128·h + d` of the placed bias. -/
abbrev col (h : Fin 8) (d : Fin 128) : Fin 1024 := ⟨128 * h.val + d.val, by omega⟩
/-- The pair of heads a head belongs to. -/
abbrev half (h : Fin 8) : Fin 4 := ⟨h.val / 2, by omega⟩

/-- A block of the result from the block `kb` of the keys, the block `cb` of the bias pieces and the placement `e`. -/
def zVal (kb : S1x4x2048x128.Idx → Elt F .bf16) (cb : Vec F S1x2048x32 .f32) (e : Vec F S32x1024 .bf16) (h : Fin 8) (r : Fin 2048) (d : Fin 128) : Elt F .bf16 :=
  if (d.val < 64 ↔ h.val % 2 = 0) then kb (ix4 0 (half h) r d)
  else truncf .bf16 (k0_pay2 (k0_pay1 cb) e) bitsLt_bf16_f32 (ix2 r (col h d))

theorem even_eq (kb : S1x4x2048x128.Idx → Elt F .bf16) (cb : Vec F S1x2048x32 .f32) (e : Vec F S32x1024 .bf16) (h : Fin 8) (hh : h.val % 2 = 0)
    (ho) (x : Vec F S1x1x2048x128 .bf16) (r : Fin 2048) (d : Fin 128) (hx : x (ix4 0 0 r d) = kb (ix4 0 (half h) r d)) :
    vput (vmask 1#1) (128 * h.val) ho (k0_pay2 (k0_pay1 cb) e) x (ix5 0 0 0 r d) = zVal kb cb e h r d := by
  rw [vput_apply (c := col h d) (hc := rfl), vmask_one, hx]; unfold zVal
  by_cases hd : d.val < 64
  · rw [if_pos hd, if_pos (by tauto)]; rfl
  · rw [if_neg hd, if_neg (by tauto)]; rfl

theorem odd_eq (kb : S1x4x2048x128.Idx → Elt F .bf16) (cb : Vec F S1x2048x32 .f32) (e : Vec F S32x1024 .bf16) (h : Fin 8) (hh : h.val % 2 = 1)
    (ho) (x : Vec F S1x1x2048x128 .bf16) (r : Fin 2048) (d : Fin 128) (hx : x (ix4 0 0 r d) = kb (ix4 0 (half h) r d)) :
    vput (vmask 0#1) (128 * h.val) ho (k0_pay2 (k0_pay1 cb) e) x (ix5 0 0 0 r d) = zVal kb cb e h r d := by
  have hn : ¬ h.val % 2 = 0 := by omega
  rw [vput_apply (c := col h d) (hc := rfl), vmask_zero, hx]; unfold zVal
  by_cases hd : d.val < 64
  · rw [if_pos hd, if_neg (by tauto)]; rfl
  · rw [if_neg hd, if_pos (by tauto)]; rfl

/-- The eight stores' payloads. -/
def heads (cb : Vec F S1x2048x32 .f32) (e : Vec F S32x1024 .bf16) (x0 x1 x2 x3 x4 x5 x6 x7 : Vec F S1x1x2048x128 .bf16) :
    Fin 8 → S1x1x1x2048x128.Idx → Elt F .bf16 :=
  ![k0_pay3 (k0_pay1 cb) e x0, k0_pay6 k0_pay4 (k0_pay5 (k0_pay1 cb) e) x1,
    k0_pay7 (k0_pay2 (k0_pay1 cb) e) (iota .tc S2048x128 32 [1] iota_S2048x128_d1_w32) x2,
    k0_pay8 (k0_pay2 (k0_pay1 cb) e) (iota .tc S2048x128 32 [1] iota_S2048x128_d1_w32) x3,
    k0_pay11 (k0_pay9 (iota .tc S2048x128 32 [1] iota_S2048x128_d1_w32)) (k0_pay10 (k0_pay2 (k0_pay1 cb) e)) x4,
    k0_pay12 (k0_pay2 (k0_pay1 cb) e) (iota .tc S2048x128 32 [1] iota_S2048x128_d1_w32) x5,
    k0_pay14 (k0_pay2 (k0_pay1 cb) e) (k0_pay13 (iota .tc S2048x128 32 [1] iota_S2048x128_d1_w32)) x6,
    k0_pay16 (k0_pay15 (k0_pay2 (k0_pay1 cb) e) (iota .tc S2048x128 32 [1] iota_S2048x128_d1_w32) x7)]

theorem heads_eq (kb : S1x4x2048x128.Idx → Elt F .bf16) (cb : Vec F S1x2048x32 .f32) (e : Vec F S32x1024 .bf16) (x0 x1 x2 x3 x4 x5 x6 x7 : Vec F S1x1x2048x128 .bf16)
    (e0 : ∀ r d, x0 (ix4 0 0 r d) = kb (ix4 0 0 r d)) (e1 : ∀ r d, x1 (ix4 0 0 r d) = kb (ix4 0 0 r d))
    (e2 : ∀ r d, x2 (ix4 0 0 r d) = kb (ix4 0 1 r d)) (e3 : ∀ r d, x3 (ix4 0 0 r d) = kb (ix4 0 1 r d))
    (e4 : ∀ r d, x4 (ix4 0 0 r d) = kb (ix4 0 2 r d)) (e5 : ∀ r d, x5 (ix4 0 0 r d) = kb (ix4 0 2 r d))
    (e6 : ∀ r d, x6 (ix4 0 0 r d) = kb (ix4 0 3 r d)) (e7 : ∀ r d, x7 (ix4 0 0 r d) = kb (ix4 0 3 r d))
    (h : Fin 8) (r : Fin 2048) (d : Fin 128) : heads cb e x0 x1 x2 x3 x4 x5 x6 x7 h (ix5 0 0 0 r d) = zVal kb cb e h r d := by
  match h with
  | 0 => exact even_eq kb cb e 0 rfl slices_S2048x1024_o0_0_S2048x128 x0 r d (e0 r d)
  | 1 => exact odd_eq kb cb e 1 rfl slices_S2048x1024_o0_128_S2048x128 x1 r d (e1 r d)
  | 2 => exact even_eq kb cb e 2 rfl slices_S2048x1024_o0_256_S2048x128 x2 r d (e2 r d)
  | 3 => exact odd_eq kb cb e 3 rfl slices_S2048x1024_o0_384_S2048x128 x3 r d (e3 r d)
  | 4 => exact even_eq kb cb e 4 rfl slices_S2048x1024_o0_512_S2048x128 x4 r d (e4 r d)
  | 5 => exact odd_eq kb cb e 5 rfl slices_S2048x1024_o0_640_S2048x128 x5 r d (e5 r d)
  | 6 => exact even_eq kb cb e 6 rfl slices_S2048x1024_o0_768_S2048x128 x6 r d (e6 r d)
  | 7 => exact odd_eq kb cb e 7 rfl slices_S2048x1024_o0_896_S2048x128 x7 r d (e7 r d)

/-- The slot after the trip's eight stores, the inputs' slots holding what their transfers brought. -/
theorem slot_value (vk : View sig .tc .vmem S1x4x2048x128 .bf16) (vc : View sig .tc .vmem S1x2048x32 .f32) (kb : S1x4x2048x128.Idx → Elt F .bf16) (cb : S1x2048x32.Idx → Elt F .f32)
    (e : Vec F S32x1024 .bf16) (s : Fin 2) {o0 o1 o2 o3 o4 o5 o6 o7 : Fin 5 → Nat}
    (e0 : o0 = ![s.val, 0, 0, 0, 0]) (e1 : o1 = ![s.val, 0, 1, 0, 0]) (e2 : o2 = ![s.val, 0, 2, 0, 0]) (e3 : o3 = ![s.val, 0, 3, 0, 0])
    (e4 : o4 = ![s.val, 0, 4, 0, 0]) (e5 : o5 = ![s.val, 0, 5, 0, 0]) (e6 : o6 = ![s.val, 0, 6, 0, 0]) (e7 : o7 = ![s.val, 0, 7, 0, 0])
    (p0 p1 p2 p3 p4 p5 p6 p7) (f : cc0_scoped4.ty.Contents (Elt F)) (q0 q1 q2 q3 qc) (h : Fin 8) (r : Fin 2048) (d : Fin 128) :
    let x (i : Fin 4) (q : ∀ a, (![0, i.val, 0, 0] : Fin 4 → Nat) a + S1x1x2048x128.size a ≤ S1x4x2048x128.size a) : Vec F S1x1x2048x128 .bf16 :=
      vk.readCov [(⟨Rect.whole S1x4x2048x128, kb⟩ : View.Piece (Elt F) S1x4x2048x128 .bf16)] (Rect.unit (s := S1x4x2048x128) ![0, i.val, 0, 0] S1x1x2048x128.size q).toLoadRect
    let c : Vec F S1x2048x32 .f32 := vc.readCov [(⟨Rect.whole S1x2048x32, cb⟩ : View.Piece (Elt F) S1x2048x32 .f32)] (Rect.unit (s := S1x2048x32) ![0, 0, 0] S1x2048x32.size qc).toLoadRect
    let w := heads c e (x 0 q0) (x 0 q0) (x 1 q1) (x 1 q1) (x 2 q2) (x 2 q2) (x 3 q3) (x 3 q3)
    (oslot s).view.read (Elt F) (put o7 p7 (put o6 p6 (put o5 p5 (put o4 p4 (put o3 p3 (put o2 p2 (put o1 p1 (put o0 p0 f (w 0)) (w 1)) (w 2)) (w 3)) (w 4)) (w 5)) (w 6)) (w 7))
      (ix4 0 h r d) = zVal kb cb e h r d := by
  intro x c w
  have hx : ∀ i q r d, x i q (ix4 0 0 r d) = kb (ix4 0 i r d) := fun i q r d => kread vk kb i rfl q r d
  have hc : c = cb := cread vc cb qc
  rw [slot_read s e0 e1 e2 e3 e4 e5 e6 e7, ← hc]
  refine Eq.trans ?_ (heads_eq kb c e (x 0 q0) (x 0 q0) (x 1 q1) (x 1 q1) (x 2 q2) (x 2 q2) (x 3 q3) (x 3 q3) (hx 0 q0) (hx 0 q0) (hx 1 q1) (hx 1 q1)
    (hx 2 q2) (hx 2 q2) (hx 3 q3) (hx 3 q3) h r d)
  match h with
  | 0 => rfl
  | 1 => rfl
  | 2 => rfl
  | 3 => rfl
  | 4 => rfl
  | 5 => rfl
  | 6 => rfl
  | 7 => rfl

end Cert.Proof.KeyAug

end
-- ==== Proof.Trip.lean ====
module

public import proofs.«01_k».proof.Proof.Heads
public import Idealize.ShloMosaic.Lib.Pipeline.Routed

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch kit's beside the counters the kernel's own transfers ride on. -/
abbrev UU (nD : Nat) (τ : Topo) : Type := Pipeline.UC sig nD τ
local notation "𝕄" => MT nD τ sig Unit (Elt F) ℕ (UU nD τ) ℕ
abbrev 𝒱₀ : Variants := Variants.none

section Pieces
variable (c : Dev nD)

abbrev kCell (s : Fin 3) : sProp 𝕄 := semVal ((c : Thread nD τ), SemLoc.dma (ksem s).sem) 0
abbrev cCell (s : Fin 3) : sProp 𝕄 := semVal ((c : Thread nD τ), SemLoc.dma (csem s).sem) 0
abbrev oCell (s : Fin 2) : sProp 𝕄 := semVal ((c : Thread nD τ), SemLoc.dma (osem s).sem) 0
abbrev kSlot (s : Fin 3) (f : Buf (Elt F) ((kslot s).view.loc (c : Thread nD τ))) : sProp 𝕄 :=
  (kslot s).view.loc (c : Thread nD τ) ↦[(kslot s).view.set]{fullShare} f
abbrev cSlot (s : Fin 3) (f : Buf (Elt F) ((cslot s).view.loc (c : Thread nD τ))) : sProp 𝕄 :=
  (cslot s).view.loc (c : Thread nD τ) ↦[(cslot s).view.set]{fullShare} f
abbrev oSlot (s : Fin 2) (f : Buf (Elt F) ((oslot s).view.loc (c : Thread nD τ))) : sProp 𝕄 :=
  (oslot s).view.loc (c : Thread nD τ) ↦[(oslot s).view.set]{fullShare} f
abbrev kHome (A : Buf (Elt F) (kM.view.loc (c : Thread nD τ))) (b : Fin 16) : sProp 𝕄 :=
  (kblk b).view.loc (c : Thread nD τ) ↦[(kblk b).view.set]{fullShare} A
abbrev cHome (A : Buf (Elt F) (cM.view.loc (c : Thread nD τ))) (b : Fin 16) : sProp 𝕄 :=
  (cblk b).view.loc (c : Thread nD τ) ↦[(cblk b).view.set]{fullShare} A
abbrev oHome (b : Fin 16) (A : Buf (Elt F) ((oblk b).view.loc (c : Thread nD τ))) : sProp 𝕄 :=
  (oblk b).view.loc (c : Thread nD τ) ↦[(oblk b).view.set]{fullShare} A

/-- What a block's transfer leaves in its slot over prior contents `f`. -/
abbrev kLanded (A : Buf (Elt F) (kM.view.loc (c : Thread nD τ))) (s : Fin 3) (b : Fin 16)
    (f : Buf (Elt F) ((kslot s).view.loc (c : Thread nD τ))) : Buf (Elt F) ((kslot s).view.loc (c : Thread nD τ)) :=
  (kslot s).view.writes (Elt F) f [⟨Rect.whole S1x4x2048x128, ReadAs.same.apply ((kblk b).view.read (Elt F) A)⟩]
abbrev cLanded (A : Buf (Elt F) (cM.view.loc (c : Thread nD τ))) (s : Fin 3) (b : Fin 16)
    (f : Buf (Elt F) ((cslot s).view.loc (c : Thread nD τ))) : Buf (Elt F) ((cslot s).view.loc (c : Thread nD τ)) :=
  (cslot s).view.writes (Elt F) f [⟨Rect.whole S1x2048x32, ReadAs.same.apply ((cblk b).view.read (Elt F) A)⟩]

abbrev kN (s : Fin 3) : ℕ := (kslot s).view.amount (SemLoc.dma (sig := sig) (ksem s).sem)
abbrev cN (s : Fin 3) : ℕ := (cslot s).view.amount (SemLoc.dma (sig := sig) (csem s).sem)
abbrev oN (s : Fin 2) (b : Fin 16) : ℕ := (oblk b).view.amount (SemLoc.dma (sig := sig) (osem s).sem)

abbrev kFlight (A : Buf (Elt F) (kM.view.loc (c : Thread nD τ))) (s : Fin 3) (b : Fin 16) (f : Buf (Elt F) ((kslot s).view.loc (c : Thread nD τ))) : sProp 𝕄 :=
  Transfers.Flight countersEmb (c : Thread nD τ) (SemLoc.dma (ksem s).sem) () 65536 iprop(kSlot c s (kLanded c A s b f) ∗ kHome c A b)
abbrev cFlight (A : Buf (Elt F) (cM.view.loc (c : Thread nD τ))) (s : Fin 3) (b : Fin 16) (f : Buf (Elt F) ((cslot s).view.loc (c : Thread nD τ))) : sProp 𝕄 :=
  Transfers.Flight countersEmb (c : Thread nD τ) (SemLoc.dma (csem s).sem) () 32768 iprop(cSlot c s (cLanded c A s b f) ∗ cHome c A b)
abbrev oFlight (s : Fin 2) (b : Fin 16) (g : Buf (Elt F) ((oblk b).view.loc (c : Thread nD τ))) (f : Buf (Elt F) ((oslot s).view.loc (c : Thread nD τ))) : sProp 𝕄 :=
  Transfers.Flight countersEmb (c : Thread nD τ) (SemLoc.dma (osem s).sem) () 131072 iprop(oHome c b g ∗ oSlot c s f)

/-- Block `b` of the result, from the keys, the bias columns and the placement. -/
def zBlk (AK : Buf (Elt F) (kM.view.loc (c : Thread nD τ))) (AC : Buf (Elt F) (cM.view.loc (c : Thread nD τ))) (e : Vec F S32x1024 .bf16)
    (b : Fin 16) : Fin 8 → Fin 2048 → Fin 128 → Elt F .bf16 :=
  zVal ((kblk b).view.read (Elt F) AK) ((cblk b).view.read (Elt F) AC) e

/-- Block `b` of the output's buffer holds block `b` of the result. -/
def Holds (Z : Fin 16 → Fin 8 → Fin 2048 → Fin 128 → Elt F .bf16) (b : Fin 16) (g : Buf (Elt F) ((oblk b).view.loc (c : Thread nD τ))) : Prop :=
  ∀ h r d, (oblk b).view.read (Elt F) g (ix4 0 h r d) = Z b h r d

/-- A block of the output not yet written, one written, a free slot of its ring, and one under way. -/
abbrev oAhead (b : Fin 16) : sProp 𝕄 := iprop(∃ g, oHome c b g)
abbrev oDone (Z : Fin 16 → Fin 8 → Fin 2048 → Fin 128 → Elt F .bf16) (b : Fin 16) : sProp 𝕄 := iprop(∃ g, ⌜Holds c Z b g⌝ ∗ oHome c b g)
abbrev oFree (s : Fin 2) : sProp 𝕄 := Ring.free (oCell c) (oSlot c) s
abbrev oInfl (Z : Fin 16 → Fin 8 → Fin 2048 → Fin 128 → Elt F .bf16) (s : Fin 2) (b : Fin 16) : sProp 𝕄 := iprop(∃ g f, ⌜Holds c Z b g⌝ ∗ oFlight c s b g f)
abbrev kFree (s : Fin 3) : sProp 𝕄 := Ring.free (kCell c) (kSlot c) s
abbrev cFree (s : Fin 3) : sProp 𝕄 := Ring.free (cCell c) (cSlot c) s
abbrev kInfl (A : Buf (Elt F) (kM.view.loc (c : Thread nD τ))) (s : Fin 3) (b : Fin 16) : sProp 𝕄 := Ring.inflight (kFlight c A) s b
abbrev cInfl (A : Buf (Elt F) (cM.view.loc (c : Thread nD τ))) (s : Fin 3) (b : Fin 16) : sProp 𝕄 := Ring.inflight (cFlight c A) s b

end Pieces

section Trip
variable (c : Dev nD) (AK : Buf (Elt F) (kM.view.loc (c : Thread nD τ))) (AC : Buf (Elt F) (cM.view.loc (c : Thread nD τ)))
  (arg2 : Memref sig .tc .vmem S32x1024 .bf16) (harg2 : arg2.IsWhole) (E : Buf (Elt F) (arg2.view.loc (c : Thread nD τ)))
  (x17 x18 x45 x52 : BitVec 32) (x55 x58 : BitVec 1)

abbrev tripG (k : K16) : Prog (TpuEff nD τ sig (Elt F) Λ₀ .tc) (BitVec 32 × BitVec 32 × BitVec 32 × BitVec 32 × BitVec 32 × BitVec 32 × BitVec 32 × BitVec 32) :=
  k0_t1_body (F := F) kM (Memref.isWhole_whole _) cM (Memref.isWhole_whole _) arg2 harg2 oM (Memref.isWhole_whole _) kB (Memref.isWhole_whole _) cc0_scoped1
    cB (Memref.isWhole_whole _) cc0_scoped3 oB (Memref.isWhole_whole _) cc0_scoped5 x17 x18 x45 x52 x55 x58 k (words k.val)

/-- The placement as a trip reads it. -/
abbrev eVal : Vec F S32x1024 .bf16 := View.readAt (Elt F) arg2.view (Rect.unit (s := S32x1024) ![0, 0] S32x1024.size inb_S32x1024_S32x1024_0_0).toLoadRect E
abbrev ZZ : Fin 16 → Fin 8 → Fin 2048 → Fin 128 → Elt F .bf16 := zBlk c AK AC (eVal c arg2 E)
abbrev eHeld : sProp 𝕄 := iprop(arg2.view.loc (c : Thread nD τ) ↦[arg2.view.set]{fullShare} E)

set_option backward.proofsInPublic true in
/-- A trip in the middle: it issues the next fetches, waits its own, computes, sends its block off and waits the one before. -/
theorem trip_mid (k : K16) (h1 : 1 ≤ k.val) (h14 : k.val < 14) :
    iprop(eHeld c arg2 E ∗ (∃ W, owes (c : Thread nD τ) 0 W)
      ∗ kHome c AK (Ring.bk 16 (k.val + 2)) ∗ kInfl c AK (Ring.sl 3 k.val) (Ring.bk 16 k.val) ∗ kFree c (Ring.sl 3 (k.val + 2))
      ∗ cHome c AC (Ring.bk 16 (k.val + 2)) ∗ cInfl c AC (Ring.sl 3 k.val) (Ring.bk 16 k.val) ∗ cFree c (Ring.sl 3 (k.val + 2))
      ∗ oAhead c (Ring.bk 16 k.val) ∗ oFree c (Ring.sl 2 k.val) ∗ oInfl c (ZZ c AK AC arg2 E) (Ring.sl 2 (k.val + 1)) (Ring.bk 16 (k.val - 1)))
    ⊢ wp frame (wpE (defs₀ (F := F)) 𝒱₀ (c : Thread nD τ) none) Set.univ (tripG arg2 harg2 x17 x18 x45 x52 x55 x58 k)
        (fun r => iprop(⌜r = words (k.val + 1)⌝ ∗ eHeld c arg2 E ∗ (∃ W, owes (c : Thread nD τ) 0 W)
          ∗ kHome c AK (Ring.bk 16 k.val) ∗ kFree c (Ring.sl 3 k.val) ∗ kInfl c AK (Ring.sl 3 (k.val + 2)) (Ring.bk 16 (k.val + 2))
          ∗ cHome c AC (Ring.bk 16 k.val) ∗ cFree c (Ring.sl 3 k.val) ∗ cInfl c AC (Ring.sl 3 (k.val + 2)) (Ring.bk 16 (k.val + 2))
          ∗ oDone c (ZZ c AK AC arg2 E) (Ring.bk 16 (k.val - 1)) ∗ oFree c (Ring.sl 2 (k.val + 1)) ∗ oInfl c (ZZ c AK AC arg2 E) (Ring.sl 2 k.val) (Ring.bk 16 k.val))) := by
  have hc3 := cond3_pos k h14
  have hc4 := cond4_pos k h14
  have hc5 := cond5_pos k
  have hc6 := cond6_pos k
  have hc10 := cond10_pos k
  have hc13 := cond13_pos k h1
  have hk1 := chk1 k
  have hk2 := chk2 k
  have hk3 := chk3 k
  have hk4 := chk4 k
  dsimp only [kFree, cFree, oFree, kInfl, cInfl, Ring.free, Ring.inflight]
  iintro ⟨HE, ⟨%W, HW⟩, Hkh, ⟨%fk, HFk⟩, ⟨Hkc, ⟨%fk2, Hks⟩⟩, Hch, ⟨%fc, HFc⟩, ⟨Hcc, ⟨%fc2, Hcs⟩⟩, ⟨%g0, Hoh⟩, ⟨Hoc, ⟨%fo, Hos⟩⟩, ⟨%g, %fo', %hg, HFo⟩⟩
  dsimp only [tripG, words]
  sl_unfold [k0_t1_body]
  sl_exec
  sl_step
  isplitr
  · ipureintro
    have hw : ∀ k : K16, k.val < 14 → trip_mid.sl.v186_r0 k = w5 (k.val + 1) ∧ trip_mid.sl.v448_r0 k = w6 (k.val + 1) ∧ trip_mid.sl.v474_r0 k = w10 (k.val + 1)
        ∧ trip_mid.sl.v152_r0 k = w11 (k.val + 1) ∧ trip_mid.sl.v148_r0 k = w12 (k.val + 1) := by decide +kernel
    obtain ⟨e5, e6, e10, e11, e12⟩ := hw k h14
    rw [e5, e6, e10, e11, e12]
  isplitl [HE]; · iexact HE
  isplitl [HW]; · iexists _; iexact HW
  isplitl [HFk_src]; · iexact HFk_src
  isplitl [HFk HFk_dst]
  · isplitl [HFk]; · iexact HFk
    iexists _; iexact HFk_dst
  isplitl [Hkc]; · iexists fk2; iexact Hkc
  isplitl [HFc_src]; · iexact HFc_src
  isplitl [HFc HFc_dst]
  · isplitl [HFc]; · iexact HFc
    iexists _; iexact HFc_dst
  isplitl [Hcc]; · iexists fc2; iexact Hcc
  isplitl [HFo_dst]
  · iexists g; isplitr; · ipureintro; exact hg
    iexact HFo_dst
  isplitl [HFo HFo_src]
  · isplitl [HFo]; · iexact HFo
    iexists fo'; iexact HFo_src
  iexists _, _
  isplitr [Hoc]
  rotate_left
  · iexact Hoc
  ipureintro
  intro h r d
  refine (congrFun (View.read_writes_whole _ _ _) _).trans ?_
  exact slot_value (kslot (Ring.sl 3 k.val)).view (cslot (Ring.sl 3 k.val)).view _ _ _ (Ring.sl 2 k.val) (off25_eq k) (off27_eq k) (off28_eq k) (off29_eq k) (off30_eq k) (off31_eq k)
    (off32_eq k) (off33_eq k) _ _ _ _ _ _ _ _ fo _ _ _ _ _ h r d
set_option backward.proofsInPublic true in
/-- The first trip: no block to wait for on the way out. -/
theorem trip_first (k : K16) (h1 : ¬ 1 ≤ k.val) (h14 : k.val < 14) :
    iprop(eHeld c arg2 E ∗ (∃ W, owes (c : Thread nD τ) 0 W)
      ∗ kHome c AK (Ring.bk 16 (k.val + 2)) ∗ kInfl c AK (Ring.sl 3 k.val) (Ring.bk 16 k.val) ∗ kFree c (Ring.sl 3 (k.val + 2))
      ∗ cHome c AC (Ring.bk 16 (k.val + 2)) ∗ cInfl c AC (Ring.sl 3 k.val) (Ring.bk 16 k.val) ∗ cFree c (Ring.sl 3 (k.val + 2))
      ∗ oAhead c (Ring.bk 16 k.val) ∗ oFree c (Ring.sl 2 k.val))
    ⊢ wp frame (wpE (defs₀ (F := F)) 𝒱₀ (c : Thread nD τ) none) Set.univ (tripG arg2 harg2 x17 x18 x45 x52 x55 x58 k)
        (fun r => iprop(⌜r = words (k.val + 1)⌝ ∗ eHeld c arg2 E ∗ (∃ W, owes (c : Thread nD τ) 0 W)
          ∗ kHome c AK (Ring.bk 16 k.val) ∗ kFree c (Ring.sl 3 k.val) ∗ kInfl c AK (Ring.sl 3 (k.val + 2)) (Ring.bk 16 (k.val + 2))
          ∗ cHome c AC (Ring.bk 16 k.val) ∗ cFree c (Ring.sl 3 k.val) ∗ cInfl c AC (Ring.sl 3 (k.val + 2)) (Ring.bk 16 (k.val + 2))
          ∗ oInfl c (ZZ c AK AC arg2 E) (Ring.sl 2 k.val) (Ring.bk 16 k.val))) := by
  have hc3 := cond3_pos k h14
  have hc4 := cond4_pos k h14
  have hc5 := cond5_pos k
  have hc6 := cond6_pos k
  have hc10 := cond10_pos k
  have hc13 := cond13_neg k h1
  have hk1 := chk1 k
  have hk2 := chk2 k
  have hk3 := chk3 k
  have hk4 := chk4 k
  dsimp only [kFree, cFree, oFree, kInfl, cInfl, Ring.free, Ring.inflight]
  iintro ⟨HE, ⟨%W, HW⟩, Hkh, ⟨%fk, HFk⟩, ⟨Hkc, ⟨%fk2, Hks⟩⟩, Hch, ⟨%fc, HFc⟩, ⟨Hcc, ⟨%fc2, Hcs⟩⟩, ⟨%g0, Hoh⟩, ⟨Hoc, ⟨%fo, Hos⟩⟩⟩
  dsimp only [tripG, words]
  sl_unfold [k0_t1_body]
  sl_exec
  sl_step
  isplitr
  · ipureintro
    have hw : ∀ k : K16, ¬ 1 ≤ k.val → trip_first.sl.v186_r0 k = w5 (k.val + 1) ∧ trip_first.sl.v448_r0 k = w6 (k.val + 1) ∧ trip_first.sl.v474_r0 k = w10 (k.val + 1)
        ∧ trip_first.sl.v152_r0 k = w11 (k.val + 1) ∧ trip_first.sl.v148_r0 k = w12 (k.val + 1) := by decide +kernel
    obtain ⟨e5, e6, e10, e11, e12⟩ := hw k h1
    rw [e5, e6, e10, e11, e12]
  isplitl [HE]; · iexact HE
  isplitl [HW]; · iexists _; iexact HW
  isplitl [HFk_src]; · iexact HFk_src
  isplitl [HFk HFk_dst]
  · isplitl [HFk]; · iexact HFk
    iexists _; iexact HFk_dst
  isplitl [Hkc]; · iexists fk2; iexact Hkc
  isplitl [HFc_src]; · iexact HFc_src
  isplitl [HFc HFc_dst]
  · isplitl [HFc]; · iexact HFc
    iexists _; iexact HFc_dst
  isplitl [Hcc]; · iexists fc2; iexact Hcc
  iexists _, _
  isplitr [Hoc]
  rotate_left
  · iexact Hoc
  ipureintro
  intro h r d
  refine (congrFun (View.read_writes_whole _ _ _) _).trans ?_
  exact slot_value (kslot (Ring.sl 3 k.val)).view (cslot (Ring.sl 3 k.val)).view _ _ _ (Ring.sl 2 k.val) (off25_eq k) (off27_eq k) (off28_eq k) (off29_eq k) (off30_eq k) (off31_eq k)
    (off32_eq k) (off33_eq k) _ _ _ _ _ _ _ _ fo _ _ _ _ _ h r d

set_option backward.proofsInPublic true in
/-- The last two trips: no block left to fetch. -/
theorem trip_tail (k : K16) (h1 : 1 ≤ k.val) (h14 : ¬ k.val < 14) :
    iprop(eHeld c arg2 E ∗ (∃ W, owes (c : Thread nD τ) 0 W)
      ∗ kInfl c AK (Ring.sl 3 k.val) (Ring.bk 16 k.val)
      ∗ cInfl c AC (Ring.sl 3 k.val) (Ring.bk 16 k.val)
      ∗ oAhead c (Ring.bk 16 k.val) ∗ oFree c (Ring.sl 2 k.val) ∗ oInfl c (ZZ c AK AC arg2 E) (Ring.sl 2 (k.val + 1)) (Ring.bk 16 (k.val - 1)))
    ⊢ wp frame (wpE (defs₀ (F := F)) 𝒱₀ (c : Thread nD τ) none) Set.univ (tripG arg2 harg2 x17 x18 x45 x52 x55 x58 k)
        (fun r => iprop(⌜r = words (k.val + 1)⌝ ∗ eHeld c arg2 E ∗ (∃ W, owes (c : Thread nD τ) 0 W)
          ∗ kHome c AK (Ring.bk 16 k.val) ∗ kFree c (Ring.sl 3 k.val)
          ∗ cHome c AC (Ring.bk 16 k.val) ∗ cFree c (Ring.sl 3 k.val)
          ∗ oDone c (ZZ c AK AC arg2 E) (Ring.bk 16 (k.val - 1)) ∗ oFree c (Ring.sl 2 (k.val + 1)) ∗ oInfl c (ZZ c AK AC arg2 E) (Ring.sl 2 k.val) (Ring.bk 16 k.val))) := by
  have hc3 := cond3_neg k h14
  have hc4 := cond4_neg k h14
  have hc5 := cond5_pos k
  have hc6 := cond6_pos k
  have hc10 := cond10_pos k
  have hc13 := cond13_pos k h1
  have hk1 := chk1 k
  have hk2 := chk2 k
  have hk3 := chk3 k
  have hk4 := chk4 k
  dsimp only [kFree, cFree, oFree, kInfl, cInfl, Ring.free, Ring.inflight]
  iintro ⟨HE, ⟨%W, HW⟩, ⟨%fk, HFk⟩, ⟨%fc, HFc⟩, ⟨%g0, Hoh⟩, ⟨Hoc, ⟨%fo, Hos⟩⟩, ⟨%g, %fo', %hg, HFo⟩⟩
  dsimp only [tripG, words]
  sl_unfold [k0_t1_body]
  sl_exec
  sl_step
  isplitr
  · ipureintro
    have hw : ∀ k : K16, ¬ k.val < 14 → trip_tail.sl.v186_r0 k = w5 (k.val + 1) ∧ trip_tail.sl.v448_r0 k = w6 (k.val + 1) ∧ trip_tail.sl.v474_r0 k = w10 (k.val + 1)
        ∧ trip_tail.sl.v152_r0 k = w11 (k.val + 1) ∧ trip_tail.sl.v148_r0 k = w12 (k.val + 1) := by decide +kernel
    obtain ⟨e5, e6, e10, e11, e12⟩ := hw k h14
    rw [e5, e6, e10, e11, e12]
  isplitl [HE]; · iexact HE
  isplitl [HW]; · iexists _; iexact HW
  isplitl [HFk_src]; · iexact HFk_src
  isplitl [HFk HFk_dst]
  · isplitl [HFk]; · iexact HFk
    iexists _; iexact HFk_dst
  isplitl [HFc_src]; · iexact HFc_src
  isplitl [HFc HFc_dst]
  · isplitl [HFc]; · iexact HFc
    iexists _; iexact HFc_dst
  isplitl [HFo_dst]
  · iexists g; isplitr; · ipureintro; exact hg
    iexact HFo_dst
  isplitl [HFo HFo_src]
  · isplitl [HFo]; · iexact HFo
    iexists fo'; iexact HFo_src
  iexists _, _
  isplitr [Hoc]
  rotate_left
  · iexact Hoc
  ipureintro
  intro h r d
  refine (congrFun (View.read_writes_whole _ _ _) _).trans ?_
  exact slot_value (kslot (Ring.sl 3 k.val)).view (cslot (Ring.sl 3 k.val)).view _ _ _ (Ring.sl 2 k.val) (off25_eq k) (off27_eq k) (off28_eq k) (off29_eq k) (off30_eq k) (off31_eq k)
    (off32_eq k) (off33_eq k) _ _ _ _ _ _ _ _ fo _ _ _ _ _ h r d
end Trip
end Cert.Proof.KeyAug
end
-- ==== Proof.Loop.lean ====
/-
  The sixteen trips. Before trip `k` the loop carries the words of `k`, the rings of the keys and of the bias columns
  stand at `k` with two blocks under way, and the output's ring stands at `k` with one block on its way out, every
  block written so far holding its part of the result.
-/
module

public import proofs.«01_k».proof.Proof.Trip
public import Idealize.ShloMosaic.Lib.Ring.WriteBehind

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Loop
variable (c : Dev nD) (AK : Buf (Elt F) (kM.view.loc (c : Thread nD τ))) (AC : Buf (Elt F) (cM.view.loc (c : Thread nD τ)))
  (arg2 : Memref sig .tc .vmem S32x1024 .bf16) (harg2 : arg2.IsWhole) (E : Buf (Elt F) (arg2.view.loc (c : Thread nD τ)))
  (x17 x18 x45 x52 : BitVec 32) (x55 x58 : BitVec 1)

abbrev kRing (k : ℕ) : sProp 𝕄 := Ring.At 2 (kCell c) (kSlot c) (kHome c AK) (kFlight c AK) k
abbrev cRing (k : ℕ) : sProp 𝕄 := Ring.At 2 (cCell c) (cSlot c) (cHome c AC) (cFlight c AC) k
abbrev oRing (Z : Fin 16 → Fin 8 → Fin 2048 → Fin 128 → Elt F .bf16) (k : ℕ) : sProp 𝕄 :=
  Ring.AtB (n := 2) (NB := 16) 1 (oFree c) (oInfl c Z) (oAhead c) (oDone c Z) k

/-- The resources before trip `k`. -/
abbrev state (k : ℕ) : sProp 𝕄 :=
  iprop(eHeld c arg2 E ∗ (∃ W, owes (c : Thread nD τ) 0 W) ∗ kRing c AK k ∗ cRing c AC k ∗ oRing c (ZZ c AK AC arg2 E) k)

theorem step_mid (k : K16) (h1 : 1 ≤ k.val) (h14 : k.val < 14) :
    state c AK AC arg2 E k ⊢ wp frame (wpE (defs₀ (F := F)) 𝒱₀ (c : Thread nD τ) none) Set.univ (tripG arg2 harg2 x17 x18 x45 x52 x55 x58 k)
      (fun r => iprop(⌜r = words (k.val + 1)⌝ ∗ state c AK AC arg2 E (k.val + 1))) := by
  have hB : k.val + 2 < 16 := by omega
  dsimp only [state, kRing, cRing, oRing]
  rw [Ring.At3_here (kHome c AK) (kCell c) (kSlot c) (kFlight c AK) k.val hB, Ring.At3_next (kHome c AK) (kCell c) (kSlot c) (kFlight c AK) k.val hB,
    Ring.slotAt3_next0 (kCell c) (kSlot c) (kFlight c AK) k.val (by omega), Ring.slotAt3_next1 (kCell c) (kSlot c) (kFlight c AK) k.val hB,
    Ring.At3_here (cHome c AC) (cCell c) (cSlot c) (cFlight c AC) k.val hB, Ring.At3_next (cHome c AC) (cCell c) (cSlot c) (cFlight c AC) k.val hB,
    Ring.slotAt3_next0 (cCell c) (cSlot c) (cFlight c AC) k.val (by omega), Ring.slotAt3_next1 (cCell c) (cSlot c) (cFlight c AC) k.val hB,
    Ring.AtB21_here _ _ _ _ k.val h1 (by omega), Ring.AtB21_next _ _ _ _ k.val h1 (by omega)]
  iintro ⟨HE, HW, ⟨⟨Hkh, Hkr⟩, Hk0, Hk1, Hk2⟩, ⟨⟨Hch, Hcr⟩, Hc0, Hc1, Hc2⟩, ⟨Hoa, Hor⟩, Hob, Hof, Hoi⟩
  iapply (wp_wand_r Idealize.ShloMosaic.frame (wpE (defs₀ (F := F)) 𝒱₀ (c : Thread nD τ) none) Set.univ)
  isplitl [HE HW Hkh Hk0 Hk2 Hch Hc0 Hc2 Hoa Hof Hoi]
  · iapply (trip_mid c AK AC arg2 harg2 E x17 x18 x45 x52 x55 x58 k h1 h14)
    iframe
  · iintro %r ⟨%hr, HE, HW, Hkh, Hkf, Hki, Hch, Hcf, Hci, Hod, Hof, Hoi⟩
    isplitr; · ipureintro; exact hr
    iframe

theorem step_first (k : K16) (h1 : ¬ 1 ≤ k.val) :
    state c AK AC arg2 E k ⊢ wp frame (wpE (defs₀ (F := F)) 𝒱₀ (c : Thread nD τ) none) Set.univ (tripG arg2 harg2 x17 x18 x45 x52 x55 x58 k)
      (fun r => iprop(⌜r = words (k.val + 1)⌝ ∗ state c AK AC arg2 E (k.val + 1))) := by
  have hB : k.val + 2 < 16 := by omega
  have h0 : k.val = 0 := by omega
  dsimp only [state, kRing, cRing, oRing]
  rw [Ring.At3_here (kHome c AK) (kCell c) (kSlot c) (kFlight c AK) k.val hB, Ring.At3_next (kHome c AK) (kCell c) (kSlot c) (kFlight c AK) k.val hB,
    Ring.slotAt3_next0 (kCell c) (kSlot c) (kFlight c AK) k.val (by omega), Ring.slotAt3_next1 (kCell c) (kSlot c) (kFlight c AK) k.val hB,
    Ring.At3_here (cHome c AC) (cCell c) (cSlot c) (cFlight c AC) k.val hB, Ring.At3_next (cHome c AC) (cCell c) (cSlot c) (cFlight c AC) k.val hB,
    Ring.slotAt3_next0 (cCell c) (cSlot c) (cFlight c AC) k.val (by omega), Ring.slotAt3_next1 (cCell c) (cSlot c) (cFlight c AC) k.val hB,
    Ring.AtB2_zero' _ _ _ _ _ k.val h0, Ring.AtB21_next_zero' _ _ _ _ k.val h0]
  iintro ⟨HE, HW, ⟨⟨Hkh, Hkr⟩, Hk0, Hk1, Hk2⟩, ⟨⟨Hch, Hcr⟩, Hc0, Hc1, Hc2⟩, ⟨Hoa, Hor⟩, Hof, Hof2⟩
  iapply (wp_wand_r Idealize.ShloMosaic.frame (wpE (defs₀ (F := F)) 𝒱₀ (c : Thread nD τ) none) Set.univ)
  isplitl [HE HW Hkh Hk0 Hk2 Hch Hc0 Hc2 Hoa Hof]
  · iapply (trip_first c AK AC arg2 harg2 E x17 x18 x45 x52 x55 x58 k h1 (by omega))
    iframe
  · iintro %r ⟨%hr, HE, HW, Hkh, Hkf, Hki, Hch, Hcf, Hci, Hoi⟩
    isplitr; · ipureintro; exact hr
    iframe

theorem step_tail (k : K16) (h14 : ¬ k.val < 14) :
    state c AK AC arg2 E k ⊢ wp frame (wpE (defs₀ (F := F)) 𝒱₀ (c : Thread nD τ) none) Set.univ (tripG arg2 harg2 x17 x18 x45 x52 x55 x58 k)
      (fun r => iprop(⌜r = words (k.val + 1)⌝ ∗ state c AK AC arg2 E (k.val + 1))) := by
  have hk : k.val < 16 := lt_of_lt_of_eq k.isLt trips_eq
  have hB : 16 ≤ k.val + 2 := by omega
  dsimp only [state, kRing, cRing, oRing]
  rw [Ring.At3_here_tail (kHome c AK) (kCell c) (kSlot c) (kFlight c AK) k.val hk, Ring.At3_next_tail (kHome c AK) (kCell c) (kSlot c) (kFlight c AK) k.val hB hk,
    Ring.slotAt3_tail_role (kCell c) (kSlot c) (kFlight c AK) k.val,
    Ring.At3_here_tail (cHome c AC) (cCell c) (cSlot c) (cFlight c AC) k.val hk, Ring.At3_next_tail (cHome c AC) (cCell c) (cSlot c) (cFlight c AC) k.val hB hk,
    Ring.slotAt3_tail_role (cCell c) (cSlot c) (cFlight c AC) k.val,
    Ring.AtB21_here _ _ _ _ k.val (by omega) hk, Ring.AtB21_next _ _ _ _ k.val (by omega) hk]
  iintro ⟨HE, HW, ⟨Hkr, Hk0, Hk1, Hk2⟩, ⟨Hcr, Hc0, Hc1, Hc2⟩, ⟨Hoa, Hor⟩, Hob, Hof, Hoi⟩
  iapply (wp_wand_r Idealize.ShloMosaic.frame (wpE (defs₀ (F := F)) 𝒱₀ (c : Thread nD τ) none) Set.univ)
  isplitl [HE HW Hk0 Hc0 Hoa Hof Hoi]
  · iapply (trip_tail c AK AC arg2 harg2 E x17 x18 x45 x52 x55 x58 k (by omega) h14)
    iframe
  · iintro %r ⟨%hr, HE, HW, Hkh, Hkf, Hch, Hcf, Hod, Hof, Hoi⟩
    isplitr; · ipureintro; exact hr
    iframe

/-- Any trip. -/
theorem step_any (k : K16) (acc) :
    iprop(⌜acc = words k.val⌝ ∗ state c AK AC arg2 E k)
    ⊢ wp frame (wpE (defs₀ (F := F)) 𝒱₀ (c : Thread nD τ) none) Set.univ
      (k0_t1_body (F := F) kM (Memref.isWhole_whole _) cM (Memref.isWhole_whole _) arg2 harg2 oM (Memref.isWhole_whole _) kB (Memref.isWhole_whole _) cc0_scoped1
        cB (Memref.isWhole_whole _) cc0_scoped3 oB (Memref.isWhole_whole _) cc0_scoped5 x17 x18 x45 x52 x55 x58 k acc)
      (fun r => iprop(⌜r = words (k.val + 1)⌝ ∗ state c AK AC arg2 E (k.val + 1))) := by
  iintro ⟨%e, H⟩
  subst e
  by_cases h1 : 1 ≤ k.val
  · by_cases h14 : k.val < 14
    · iapply (step_mid c AK AC arg2 harg2 E x17 x18 x45 x52 x55 x58 k h1 h14); iexact H
    · iapply (step_tail c AK AC arg2 harg2 E x17 x18 x45 x52 x55 x58 k h14); iexact H
  · iapply (step_first c AK AC arg2 harg2 E x17 x18 x45 x52 x55 x58 k h1); iexact H

end Loop
end Cert.Proof.KeyAug
end
-- ==== Proof.Body.lean ====
/-
  The kernel's body: it issues the first two blocks' transfers, goes through the sixteen trips and waits for the last
  block's way out.
-/
module

public import proofs.«01_k».proof.Proof.Loop

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (AK : Buf (Elt F) (kM.view.loc (c : Thread nD τ))) (AC : Buf (Elt F) (cM.view.loc (c : Thread nD τ)))
  (arg2 : Memref sig .tc .vmem S32x1024 .bf16) (harg2 : arg2.IsWhole) (E : Buf (Elt F) (arg2.view.loc (c : Thread nD τ)))

abbrev bodyG : Prog (TpuEff nD τ sig (Elt F) Λ₀ .tc) PUnit :=
  cc0_key_aug kM (Memref.isWhole_whole _) cM (Memref.isWhole_whole _) arg2 harg2 oM (Memref.isWhole_whole _) kB (Memref.isWhole_whole _) cc0_scoped1
    cB (Memref.isWhole_whole _) cc0_scoped3 oB (Memref.isWhole_whole _) cc0_scoped5

/-- What the body is handed: the placement, the keys' and the bias columns' blocks and rings, the output's blocks and ring. -/
abbrev PRE (W : Waits sig Unit) : sProp 𝕄 :=
  iprop(eHeld c arg2 E ∗ owes (c : Thread nD τ) 0 W ∗ Ring.At₀ (kCell c) (kSlot c) (kHome c AK) ∗ Ring.At₀ (cCell c) (cSlot c) (cHome c AC)
    ∗ Ring.AtB₀ (oFree c) (oAhead c))
/-- What it hands back: the same, the output's blocks written. -/
abbrev POST : sProp 𝕄 :=
  iprop(eHeld c arg2 E ∗ (∃ W, owes (c : Thread nD τ) 0 W) ∗ Ring.At₀ (kCell c) (kSlot c) (kHome c AK) ∗ Ring.At₀ (cCell c) (cSlot c) (cHome c AC)
    ∗ Ring.AtB₀ (oFree c) (oDone c (ZZ c AK AC arg2 E)))

theorem words_zero : words 0 = (2#32, 0#32, 2#32, 0#32, 0#32, 0#32, 0#32, 0#32) := by
  unfold words
  rfl

/-- The rings before the first trip, opened. -/
theorem kStart : Ring.At₀ (kCell c) (kSlot c) (kHome c AK)
    = (iprop((kHome c AK 0 ∗ kHome c AK 1 ∗ kHome c AK (Ring.bk 16 2) ∗ bigSep ((Ring.homeSet 2 0).erase (Ring.bk 16 2)) (kHome c AK))
        ∗ (kCell c 0 ∗ ∃ f, kSlot c 0 f) ∗ (kCell c 1 ∗ ∃ f, kSlot c 1 f) ∗ kFree c 2) : sProp 𝕄) :=
  (Ring.At₀_eq3 (kHome c AK) (kCell c) (kSlot c) (by decide)).trans rfl
theorem cStart : Ring.At₀ (cCell c) (cSlot c) (cHome c AC)
    = (iprop((cHome c AC 0 ∗ cHome c AC 1 ∗ cHome c AC (Ring.bk 16 2) ∗ bigSep ((Ring.homeSet 2 0).erase (Ring.bk 16 2)) (cHome c AC))
        ∗ (cCell c 0 ∗ ∃ f, cSlot c 0 f) ∗ (cCell c 1 ∗ ∃ f, cSlot c 1 f) ∗ cFree c 2) : sProp 𝕄) :=
  (Ring.At₀_eq3 (cHome c AC) (cCell c) (cSlot c) (by decide)).trans rfl
theorem kFirst : kRing c AK 0
    = (iprop((kHome c AK (Ring.bk 16 2) ∗ bigSep ((Ring.homeSet 2 0).erase (Ring.bk 16 2)) (kHome c AK))
        ∗ (∃ f, kFlight c AK 0 0 f) ∗ (∃ f, kFlight c AK 1 1 f) ∗ kFree c 2) : sProp 𝕄) :=
  (Ring.At3_here (kHome c AK) (kCell c) (kSlot c) (kFlight c AK) 0 (by decide)).trans rfl
theorem cFirst : cRing c AC 0
    = (iprop((cHome c AC (Ring.bk 16 2) ∗ bigSep ((Ring.homeSet 2 0).erase (Ring.bk 16 2)) (cHome c AC))
        ∗ (∃ f, cFlight c AC 0 0 f) ∗ (∃ f, cFlight c AC 1 1 f) ∗ cFree c 2) : sProp 𝕄) :=
  (Ring.At3_here (cHome c AC) (cCell c) (cSlot c) (cFlight c AC) 0 (by decide)).trans rfl

/-- The rings after the last trip. -/
theorem kLast : kRing c AK 16 ⊢ Ring.At₀ (kCell c) (kSlot c) (kHome c AK) := by
  dsimp only [kRing]
  unfold Ring.At₀
  rw [Ring.bigSep_fin3]
  exact Ring.free3_of_At_last (kHome c AK) (kCell c) (kSlot c) (kFlight c AK)
theorem cLast : cRing c AC 16 ⊢ Ring.At₀ (cCell c) (cSlot c) (cHome c AC) := by
  dsimp only [cRing]
  unfold Ring.At₀
  rw [Ring.bigSep_fin3]
  exact Ring.free3_of_At_last (cHome c AC) (cCell c) (cSlot c) (cFlight c AC)
theorem oLast (Z : Fin 16 → Fin 8 → Fin 2048 → Fin 128 → Elt F .bf16) : oRing c Z 16
    = (iprop(bigSep (Ring.behindSet 1 16) (oDone c Z) ∗ oFree c 0 ∗ ∃ g f, ⌜Holds c Z 15 g⌝ ∗ oFlight c 1 15 g f) : sProp 𝕄) :=
  (Ring.AtB21_end' (oFree c) (oInfl c Z) (oAhead c) (oDone c Z) 16 rfl (by decide)).trans rfl
theorem oBack (Z : Fin 16 → Fin 8 → Fin 2048 → Fin 128 → Elt F .bf16) : Ring.AtB₀ (oFree c) (oDone c Z)
    = (iprop((oDone c Z 15 ∗ bigSep (Ring.behindSet 1 16) (oDone c Z)) ∗ oFree c 0 ∗ oFree c 1) : sProp 𝕄) :=
  (Ring.AtB21_epilogue' (oFree c) (oDone c Z) 16 rfl (by decide)).trans rfl

set_option backward.proofsInPublic true in
theorem bodyRun (W : Waits sig Unit) :
    PRE c AK AC arg2 E W ⊢ wp frame (wpE (defs₀ (F := F)) 𝒱₀ (c : Thread nD τ) none) Set.univ (bodyG arg2 harg2) (fun _ => POST c AK AC arg2 E) := by
  dsimp only [PRE, POST]
  iintro ⟨HE, HW, HK, HC, HO⟩
  ihave HK := (Entails.of_eq (kStart c AK)) $$ HK
  ihave HC := (Entails.of_eq (cStart c AC)) $$ HC
  ihave HO := (Entails.of_eq (Ring.AtB_zero 1 (oFree c) (oInfl c (ZZ c AK AC arg2 E)) (oAhead c) (oDone c (ZZ c AK AC arg2 E))).symm) $$ HO
  icases HK with ⟨⟨Hk0, Hk1, Hkr⟩, ⟨Hkc0, %fk0, Hks0⟩, ⟨Hkc1, %fk1, Hks1⟩, Hkf2⟩
  icases HC with ⟨⟨Hc0, Hc1, Hcr⟩, ⟨Hcc0, %fc0, Hcs0⟩, ⟨Hcc1, %fc1, Hcs1⟩, Hcf2⟩
  sl_exec
  iapply (Scf.wp_for_bind Idealize.ShloMosaic.frame (wpE (defs₀ (F := F)) 𝒱₀ (c : Thread nD τ) none) Set.univ k0_t1_loop.lb k0_t1_loop.ub k0_t1_loop.st k0_t1_ok
    (2#32, 0#32, 2#32, 0#32, 0#32, 0#32, 0#32, 0#32) _ (fun k acc => iprop(⌜acc = words k⌝ ∗ state c AK AC arg2 E k))
    (fun k acc => step_any c AK AC arg2 harg2 E 0#32 1#32 1#32 1#32 1#1 1#1 k acc)) $$ [HE HW Hkr Hkc0 Hkc1 Hkf2 Hcr Hcc0 Hcc1 Hcf2 HO]
  · isplitr; · ipureintro; exact words_zero.symm
    isplitl [HE]; · iexact HE
    isplitl [HW]; · iexists _; iexact HW
    isplitl [Hkr Hkc0 Hkc1 Hkf2]
    · iapply (Entails.of_eq (kFirst c AK).symm)
      isplitl [Hkr]; · iexact Hkr
      isplitl [Hkc0]; · iexists fk0; iexact Hkc0
      isplitl [Hkc1]; · iexists fk1; iexact Hkc1
      iexact Hkf2
    isplitl [Hcr Hcc0 Hcc1 Hcf2]
    · iapply (Entails.of_eq (cFirst c AC).symm)
      isplitl [Hcr]; · iexact Hcr
      isplitl [Hcc0]; · iexists fc0; iexact Hcc0
      isplitl [Hcc1]; · iexists fc1; iexact Hcc1
      iexact Hcf2
    iexact HO
  rw [show Scf.trips k0_t1_loop.lb k0_t1_loop.ub k0_t1_loop.st = 16 from trips_eq]
  iintro %acc ⟨%e, HE, ⟨%W', HW⟩, HK, HC, HO⟩
  subst e
  ihave HK := (kLast c AK) $$ HK
  ihave HC := (cLast c AC) $$ HC
  ihave HO := (Entails.of_eq (oLast c (ZZ c AK AC arg2 E))) $$ HO
  icases HO with ⟨Hob, Hof, %g, %f, %hg, HFo⟩
  have hc5 := chk5
  have hc6 := chk6
  dsimp only [words]
  sl_exec
  sl_step
  iframe
  isplitl [HW]; · iexists _; iexact HW
  iapply (Entails.of_eq (oBack c (ZZ c AK AC arg2 E)).symm)
  isplitl [HFo_dst Hob]
  · isplitl [HFo_dst]
    · iexists g; isplitr; · ipureintro; exact hg
      iexact HFo_dst
    iexact Hob
  isplitl [Hof]; · iexact Hof
  isplitl [HFo]; · iexact HFo
  iexists f; iexact HFo_src

end Body
end Cert.Proof.KeyAug
end
-- ==== Proof.Blocks.lean ====
/-
  The arrays as their sixteen blocks and the VMEM buffers as their slots: the element sets, that they are disjoint
  and cover, and the buffers held whole as the blocks held one by one.
-/
module

public import proofs.«01_k».proof.Proof.Body

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Element sets -/

abbrev GK (b : Fin 16) : Finset S8x4x4096x128.Idx := (Rect.unit (s := S8x4x4096x128) (kOff b) S1x4x2048x128.size (kOff_inb b)).set
abbrev GC (b : Fin 16) : Finset S8x4096x32.Idx := (Rect.unit (s := S8x4096x32) (cOff b) S1x2048x32.size (cOff_inb b)).set
abbrev GO (b : Fin 16) : Finset S8x8x4096x128.Idx := (Rect.unit (s := S8x8x4096x128) (kOff b) S1x8x2048x128.size (oOff_inb b)).set
abbrev SK (s : Fin 3) : Finset S3x1x4x2048x128.Idx := (Rect.unit (s := S3x1x4x2048x128) (ksOff s) S1x1x4x2048x128.size (ksOff_inb s)).set
abbrev SC (s : Fin 3) : Finset S3x1x2048x32.Idx := (Rect.unit (s := S3x1x2048x32) (csOff s) S1x1x2048x32.size (csOff_inb s)).set
abbrev SO (s : Fin 2) : Finset S2x1x8x2048x128.Idx := (Rect.unit (s := S2x1x8x2048x128) (osOff s) S1x1x8x2048x128.size (osOff_inb s)).set

theorem kblk_set (b : Fin 16) : (kblk b).view.set = GK b := View.set_slice_whole _ _
theorem cblk_set (b : Fin 16) : (cblk b).view.set = GC b := View.set_slice_whole _ _
theorem oblk_set (b : Fin 16) : (oblk b).view.set = GO b := View.set_slice_whole _ _
theorem kslot_set (s : Fin 3) : (kslot s).view.set = SK s := (View.set_reshape _ _).trans (View.set_slice_whole _ _)
theorem cslot_set (s : Fin 3) : (cslot s).view.set = SC s := (View.set_reshape _ _).trans (View.set_slice_whole _ _)
theorem oslot_set (s : Fin 2) : (oslot s).view.set = SO s := (View.set_reshape _ _).trans (View.set_slice_whole _ _)

theorem mem_GK (b : Fin 16) (y : S8x4x4096x128.Idx) : y ∈ GK b ↔ (y 0).val = b.val / 2 ∧ (y 2).val / 2048 = b.val % 2 := by
  rw [Rect.mem_set_unit]
  have h0 : (y 0).val < 8 := (y 0).isLt
  have h1 : (y 1).val < 4 := (y 1).isLt
  have h2 : (y 2).val < 4096 := (y 2).isLt
  have h3 : (y 3).val < 128 := (y 3).isLt
  have hb := b.isLt
  constructor
  · intro H
    have a0 : b.val / 2 ≤ (y 0).val ∧ (y 0).val < b.val / 2 + 1 := H 0
    have a1 : 0 ≤ (y 1).val ∧ (y 1).val < 0 + 4 := H 1
    have a2 : 2048 * (b.val % 2) ≤ (y 2).val ∧ (y 2).val < 2048 * (b.val % 2) + 2048 := H 2
    have a3 : 0 ≤ (y 3).val ∧ (y 3).val < 0 + 128 := H 3
    omega
  · intro H i; fin_cases i
    · show b.val / 2 ≤ (y 0).val ∧ (y 0).val < b.val / 2 + 1; omega
    · show 0 ≤ (y 1).val ∧ (y 1).val < 0 + 4; omega
    · show 2048 * (b.val % 2) ≤ (y 2).val ∧ (y 2).val < 2048 * (b.val % 2) + 2048; omega
    · show 0 ≤ (y 3).val ∧ (y 3).val < 0 + 128; omega
theorem mem_GC (b : Fin 16) (y : S8x4096x32.Idx) : y ∈ GC b ↔ (y 0).val = b.val / 2 ∧ (y 1).val / 2048 = b.val % 2 := by
  rw [Rect.mem_set_unit]
  have h0 : (y 0).val < 8 := (y 0).isLt
  have h1 : (y 1).val < 4096 := (y 1).isLt
  have h2 : (y 2).val < 32 := (y 2).isLt
  have hb := b.isLt
  constructor
  · intro H
    have a0 : b.val / 2 ≤ (y 0).val ∧ (y 0).val < b.val / 2 + 1 := H 0
    have a1 : 2048 * (b.val % 2) ≤ (y 1).val ∧ (y 1).val < 2048 * (b.val % 2) + 2048 := H 1
    have a2 : 0 ≤ (y 2).val ∧ (y 2).val < 0 + 32 := H 2
    omega
  · intro H i; fin_cases i
    · show b.val / 2 ≤ (y 0).val ∧ (y 0).val < b.val / 2 + 1; omega
    · show 2048 * (b.val % 2) ≤ (y 1).val ∧ (y 1).val < 2048 * (b.val % 2) + 2048; omega
    · show 0 ≤ (y 2).val ∧ (y 2).val < 0 + 32; omega
theorem mem_GO (b : Fin 16) (y : S8x8x4096x128.Idx) : y ∈ GO b ↔ (y 0).val = b.val / 2 ∧ (y 2).val / 2048 = b.val % 2 := by
  rw [Rect.mem_set_unit]
  have h0 : (y 0).val < 8 := (y 0).isLt
  have h1 : (y 1).val < 8 := (y 1).isLt
  have h2 : (y 2).val < 4096 := (y 2).isLt
  have h3 : (y 3).val < 128 := (y 3).isLt
  have hb := b.isLt
  constructor
  · intro H
    have a0 : b.val / 2 ≤ (y 0).val ∧ (y 0).val < b.val / 2 + 1 := H 0
    have a1 : 0 ≤ (y 1).val ∧ (y 1).val < 0 + 8 := H 1
    have a2 : 2048 * (b.val % 2) ≤ (y 2).val ∧ (y 2).val < 2048 * (b.val % 2) + 2048 := H 2
    have a3 : 0 ≤ (y 3).val ∧ (y 3).val < 0 + 128 := H 3
    omega
  · intro H i; fin_cases i
    · show b.val / 2 ≤ (y 0).val ∧ (y 0).val < b.val / 2 + 1; omega
    · show 0 ≤ (y 1).val ∧ (y 1).val < 0 + 8; omega
    · show 2048 * (b.val % 2) ≤ (y 2).val ∧ (y 2).val < 2048 * (b.val % 2) + 2048; omega
    · show 0 ≤ (y 3).val ∧ (y 3).val < 0 + 128; omega
theorem mem_SK (b : Fin 3) (y : S3x1x4x2048x128.Idx) : y ∈ SK b ↔ (y 0).val = b.val := by
  rw [Rect.mem_set_unit]
  have h0 : (y 0).val < 3 := (y 0).isLt
  have h1 : (y 1).val < 1 := (y 1).isLt
  have h2 : (y 2).val < 4 := (y 2).isLt
  have h3 : (y 3).val < 2048 := (y 3).isLt
  have h4 : (y 4).val < 128 := (y 4).isLt
  have hb := b.isLt
  constructor
  · intro H
    have a0 : b.val ≤ (y 0).val ∧ (y 0).val < b.val + 1 := H 0
    have a1 : 0 ≤ (y 1).val ∧ (y 1).val < 0 + 1 := H 1
    have a2 : 0 ≤ (y 2).val ∧ (y 2).val < 0 + 4 := H 2
    have a3 : 0 ≤ (y 3).val ∧ (y 3).val < 0 + 2048 := H 3
    have a4 : 0 ≤ (y 4).val ∧ (y 4).val < 0 + 128 := H 4
    omega
  · intro H i; fin_cases i
    · show b.val ≤ (y 0).val ∧ (y 0).val < b.val + 1; omega
    · show 0 ≤ (y 1).val ∧ (y 1).val < 0 + 1; omega
    · show 0 ≤ (y 2).val ∧ (y 2).val < 0 + 4; omega
    · show 0 ≤ (y 3).val ∧ (y 3).val < 0 + 2048; omega
    · show 0 ≤ (y 4).val ∧ (y 4).val < 0 + 128; omega
theorem mem_SC (b : Fin 3) (y : S3x1x2048x32.Idx) : y ∈ SC b ↔ (y 0).val = b.val := by
  rw [Rect.mem_set_unit]
  have h0 : (y 0).val < 3 := (y 0).isLt
  have h1 : (y 1).val < 1 := (y 1).isLt
  have h2 : (y 2).val < 2048 := (y 2).isLt
  have h3 : (y 3).val < 32 := (y 3).isLt
  have hb := b.isLt
  constructor
  · intro H
    have a0 : b.val ≤ (y 0).val ∧ (y 0).val < b.val + 1 := H 0
    have a1 : 0 ≤ (y 1).val ∧ (y 1).val < 0 + 1 := H 1
    have a2 : 0 ≤ (y 2).val ∧ (y 2).val < 0 + 2048 := H 2
    have a3 : 0 ≤ (y 3).val ∧ (y 3).val < 0 + 32 := H 3
    omega
  · intro H i; fin_cases i
    · show b.val ≤ (y 0).val ∧ (y 0).val < b.val + 1; omega
    · show 0 ≤ (y 1).val ∧ (y 1).val < 0 + 1; omega
    · show 0 ≤ (y 2).val ∧ (y 2).val < 0 + 2048; omega
    · show 0 ≤ (y 3).val ∧ (y 3).val < 0 + 32; omega
theorem mem_SO (b : Fin 2) (y : S2x1x8x2048x128.Idx) : y ∈ SO b ↔ (y 0).val = b.val := by
  rw [Rect.mem_set_unit]
  have h0 : (y 0).val < 2 := (y 0).isLt
  have h1 : (y 1).val < 1 := (y 1).isLt
  have h2 : (y 2).val < 8 := (y 2).isLt
  have h3 : (y 3).val < 2048 := (y 3).isLt
  have h4 : (y 4).val < 128 := (y 4).isLt
  have hb := b.isLt
  constructor
  · intro H
    have a0 : b.val ≤ (y 0).val ∧ (y 0).val < b.val + 1 := H 0
    have a1 : 0 ≤ (y 1).val ∧ (y 1).val < 0 + 1 := H 1
    have a2 : 0 ≤ (y 2).val ∧ (y 2).val < 0 + 8 := H 2
    have a3 : 0 ≤ (y 3).val ∧ (y 3).val < 0 + 2048 := H 3
    have a4 : 0 ≤ (y 4).val ∧ (y 4).val < 0 + 128 := H 4
    omega
  · intro H i; fin_cases i
    · show b.val ≤ (y 0).val ∧ (y 0).val < b.val + 1; omega
    · show 0 ≤ (y 1).val ∧ (y 1).val < 0 + 1; omega
    · show 0 ≤ (y 2).val ∧ (y 2).val < 0 + 8; omega
    · show 0 ≤ (y 3).val ∧ (y 3).val < 0 + 2048; omega
    · show 0 ≤ (y 4).val ∧ (y 4).val < 0 + 128; omega

theorem GK_disjoint : ∀ b b' : Fin 16, b ≠ b' → Disjoint (GK b) (GK b') := by
  intro b b' hne; rw [Finset.disjoint_left]; intro y hy hy'; rw [mem_GK] at hy hy'; exact hne (Fin.ext (by omega))
theorem GK_cover : (Finset.univ : Finset (Fin 16)).biUnion GK = Finset.univ := by
  ext y; simp only [Finset.mem_biUnion, Finset.mem_univ, true_and, iff_true]
  have h0 : (y 0).val < 8 := (y 0).isLt
  have h1 : (y 2).val < 4096 := (y 2).isLt
  refine ⟨⟨2 * (y 0).val + (y 2).val / 2048, by omega⟩, ?_⟩
  rw [mem_GK]
  constructor
  · show (y 0).val = (2 * (y 0).val + (y 2).val / 2048) / 2; omega
  · show (y 2).val / 2048 = (2 * (y 0).val + (y 2).val / 2048) % 2; omega
theorem GC_disjoint : ∀ b b' : Fin 16, b ≠ b' → Disjoint (GC b) (GC b') := by
  intro b b' hne; rw [Finset.disjoint_left]; intro y hy hy'; rw [mem_GC] at hy hy'; exact hne (Fin.ext (by omega))
theorem GC_cover : (Finset.univ : Finset (Fin 16)).biUnion GC = Finset.univ := by
  ext y; simp only [Finset.mem_biUnion, Finset.mem_univ, true_and, iff_true]
  have h0 : (y 0).val < 8 := (y 0).isLt
  have h1 : (y 1).val < 4096 := (y 1).isLt
  refine ⟨⟨2 * (y 0).val + (y 1).val / 2048, by omega⟩, ?_⟩
  rw [mem_GC]
  constructor
  · show (y 0).val = (2 * (y 0).val + (y 1).val / 2048) / 2; omega
  · show (y 1).val / 2048 = (2 * (y 0).val + (y 1).val / 2048) % 2; omega
theorem GO_disjoint : ∀ b b' : Fin 16, b ≠ b' → Disjoint (GO b) (GO b') := by
  intro b b' hne; rw [Finset.disjoint_left]; intro y hy hy'; rw [mem_GO] at hy hy'; exact hne (Fin.ext (by omega))
theorem GO_cover : (Finset.univ : Finset (Fin 16)).biUnion GO = Finset.univ := by
  ext y; simp only [Finset.mem_biUnion, Finset.mem_univ, true_and, iff_true]
  have h0 : (y 0).val < 8 := (y 0).isLt
  have h1 : (y 2).val < 4096 := (y 2).isLt
  refine ⟨⟨2 * (y 0).val + (y 2).val / 2048, by omega⟩, ?_⟩
  rw [mem_GO]
  constructor
  · show (y 0).val = (2 * (y 0).val + (y 2).val / 2048) / 2; omega
  · show (y 2).val / 2048 = (2 * (y 0).val + (y 2).val / 2048) % 2; omega
theorem SK_disjoint : ∀ b b' : Fin 3, b ≠ b' → Disjoint (SK b) (SK b') := by
  intro b b' hne; rw [Finset.disjoint_left]; intro y hy hy'; rw [mem_SK] at hy hy'; exact hne (Fin.ext (by omega))
theorem SK_cover : (Finset.univ : Finset (Fin 3)).biUnion SK = Finset.univ := by
  ext y; simp only [Finset.mem_biUnion, Finset.mem_univ, true_and, iff_true]; exact ⟨(y 0).cast (by decide), by rw [mem_SK]; rfl⟩
theorem SC_disjoint : ∀ b b' : Fin 3, b ≠ b' → Disjoint (SC b) (SC b') := by
  intro b b' hne; rw [Finset.disjoint_left]; intro y hy hy'; rw [mem_SC] at hy hy'; exact hne (Fin.ext (by omega))
theorem SC_cover : (Finset.univ : Finset (Fin 3)).biUnion SC = Finset.univ := by
  ext y; simp only [Finset.mem_biUnion, Finset.mem_univ, true_and, iff_true]; exact ⟨(y 0).cast (by decide), by rw [mem_SC]; rfl⟩
theorem SO_disjoint : ∀ b b' : Fin 2, b ≠ b' → Disjoint (SO b) (SO b') := by
  intro b b' hne; rw [Finset.disjoint_left]; intro y hy hy'; rw [mem_SO] at hy hy'; exact hne (Fin.ext (by omega))
theorem SO_cover : (Finset.univ : Finset (Fin 2)).biUnion SO = Finset.univ := by
  ext y; simp only [Finset.mem_biUnion, Finset.mem_univ, true_and, iff_true]; exact ⟨(y 0).cast (by decide), by rw [mem_SO]; rfl⟩

/-! ## What a block's element is -/

theorem kblk_emb (b : Fin 16) (h : Fin 4) (r : Fin 2048) (d : Fin 128) :
    (kblk b).view.emb (ix4 0 h r d) = (ix4 ⟨b.val / 2, by omega⟩ h ⟨2048 * (b.val % 2) + r.val, by omega⟩ d : S8x4x4096x128.Idx) := by
  funext a; apply Fin.ext; fin_cases a
  · show b.val / 2 + 1 * 0 = b.val / 2; omega
  · show 0 + 1 * h.val = h.val; omega
  · show 2048 * (b.val % 2) + 1 * r.val = 2048 * (b.val % 2) + r.val; omega
  · show 0 + 1 * d.val = d.val; omega
theorem kblk_at (b : Fin 16) (g : main_arg0.ty.Contents (Elt F)) (h : Fin 4) (r : Fin 2048) (d : Fin 128) :
    (kblk b).view.read (Elt F) g (ix4 0 h r d) = g (ix4 ⟨b.val / 2, by omega⟩ h ⟨2048 * (b.val % 2) + r.val, by omega⟩ d) :=
  congrArg g (kblk_emb b h r d)
theorem oblk_emb (b : Fin 16) (h : Fin 8) (r : Fin 2048) (d : Fin 128) :
    (oblk b).view.emb (ix4 0 h r d) = (ix4 ⟨b.val / 2, by omega⟩ h ⟨2048 * (b.val % 2) + r.val, by omega⟩ d : S8x8x4096x128.Idx) := by
  funext a; apply Fin.ext; fin_cases a
  · show b.val / 2 + 1 * 0 = b.val / 2; omega
  · show 0 + 1 * h.val = h.val; omega
  · show 2048 * (b.val % 2) + 1 * r.val = 2048 * (b.val % 2) + r.val; omega
  · show 0 + 1 * d.val = d.val; omega
theorem oblk_at (b : Fin 16) (g : main_v3.ty.Contents (Elt F)) (h : Fin 8) (r : Fin 2048) (d : Fin 128) :
    (oblk b).view.read (Elt F) g (ix4 0 h r d) = g (ix4 ⟨b.val / 2, by omega⟩ h ⟨2048 * (b.val % 2) + r.val, by omega⟩ d) :=
  congrArg g (oblk_emb b h r d)
theorem cblk_emb (b : Fin 16) (r : Fin 2048) (d : Fin 32) :
    (cblk b).view.emb (ix3 0 r d) = (ix3 ⟨b.val / 2, by omega⟩ ⟨2048 * (b.val % 2) + r.val, by omega⟩ d : S8x4096x32.Idx) := by
  funext a; apply Fin.ext; fin_cases a
  · show b.val / 2 + 1 * 0 = b.val / 2; omega
  · show 2048 * (b.val % 2) + 1 * r.val = 2048 * (b.val % 2) + r.val; omega
  · show 0 + 1 * d.val = d.val; omega
theorem cblk_at (b : Fin 16) (g : main_v2.ty.Contents (Elt F)) (r : Fin 2048) (d : Fin 32) :
    (cblk b).view.read (Elt F) g (ix3 0 r d) = g (ix3 ⟨b.val / 2, by omega⟩ ⟨2048 * (b.val % 2) + r.val, by omega⟩ d) :=
  congrArg g (cblk_emb b r d)

/-! ## The output from its blocks -/

/-- The block an element of the output lies in. -/
def blkOf (y : S8x8x4096x128.Idx) : Fin 16 :=
  ⟨2 * (y 0).val + (y 2).val / 2048, by have h0 : (y 0).val < 8 := (y 0).isLt; have h2 : (y 2).val < 4096 := (y 2).isLt; omega⟩
/-- The output whole, from its blocks' values. -/
def whole (Z : Fin 16 → Fin 8 → Fin 2048 → Fin 128 → Elt F .bf16) : main_v3.ty.Contents (Elt F) :=
  fun y => Z (blkOf y) (y 1) ⟨(y 2).val % 2048, Nat.mod_lt _ (by decide)⟩ (y 3)

section Split
variable (c : Dev nD)

theorem each {n : ℕ} {Φ Ψ : Fin n → sProp 𝕄} (h : ∀ b, Φ b ⊢ Ψ b) : bigSep Finset.univ Φ ⊢ bigSep Finset.univ Ψ := bigSep_mono fun b _ => h b

theorem holds_whole (Z : Fin 16 → Fin 8 → Fin 2048 → Fin 128 → Elt F .bf16) (b : Fin 16) (g : main_v3.ty.Contents (Elt F)) (hg : Holds c Z b g)
    (y : S8x8x4096x128.Idx) (hy : y ∈ GO b) : g y = whole Z y := by
  rw [mem_GO] at hy
  obtain ⟨e0, e2⟩ := hy
  have hb : blkOf y = b := Fin.ext (by show 2 * (y 0).val + (y 2).val / 2048 = b.val; omega)
  have h := hg (y 1) ⟨(y 2).val % 2048, Nat.mod_lt _ (by decide)⟩ (y 3)
  have h := (oblk_at b g (y 1) ⟨(y 2).val % 2048, Nat.mod_lt _ (by decide)⟩ (y 3)).symm.trans h
  unfold whole
  rw [hb, ← h]
  congr 1
  funext a; apply Fin.ext; fin_cases a
  · show (y 0).val = b.val / 2; omega
  · rfl
  · show (y 2).val = 2048 * (b.val % 2) + (y 2).val % 2048; omega
  · rfl

theorem kHome_eq (A : main_arg0.ty.Contents (Elt F)) :
    (((c : Thread nD τ).loc main_arg0) ↦{fullShare} A : sProp 𝕄) = bigSep Finset.univ (kHome c A) := by
  rw [Ring.pointsTo_blocks (ℓ := (c : Thread nD τ).loc main_arg0) GK GK_disjoint GK_cover]
  exact bigSep_congr fun b _ => by rw [← kblk_set]; rfl
theorem cHome_eq (A : main_v2.ty.Contents (Elt F)) :
    (((c : Thread nD τ).loc main_v2) ↦{fullShare} A : sProp 𝕄) = bigSep Finset.univ (cHome c A) := by
  rw [Ring.pointsTo_blocks (ℓ := (c : Thread nD τ).loc main_v2) GC GC_disjoint GC_cover]
  exact bigSep_congr fun b _ => by rw [← cblk_set]; rfl
theorem oHome_eq (A : main_v3.ty.Contents (Elt F)) :
    (((c : Thread nD τ).loc main_v3) ↦{fullShare} A : sProp 𝕄) = bigSep Finset.univ (fun b => oHome c b A) := by
  rw [Ring.pointsTo_blocks (ℓ := (c : Thread nD τ).loc main_v3) GO GO_disjoint GO_cover]
  exact bigSep_congr fun b _ => by rw [← oblk_set]; rfl
theorem o_split (A : main_v3.ty.Contents (Elt F)) :
    (((c : Thread nD τ).loc main_v3) ↦{fullShare} A : sProp 𝕄) ⊢ bigSep Finset.univ (oAhead c) := by
  rw [oHome_eq]
  refine each fun b => ?_
  iintro H; iexists A; iexact H
theorem o_join (Z : Fin 16 → Fin 8 → Fin 2048 → Fin 128 → Elt F .bf16) :
    bigSep Finset.univ (oDone c Z) ⊢ (((c : Thread nD τ).loc main_v3) ↦{fullShare} whole Z : sProp 𝕄) := by
  rw [oHome_eq]
  refine each fun b => ?_
  iintro ⟨%g, %hg, H⟩
  iapply (Entails.of_eq (pointsTo_congr (ℓ := (oblk b).view.loc (c : Thread nD τ)) (I := (oblk b).view.set) (q := fullShare) (f := g) (g := whole Z)
    (fun y hy => holds_whole c Z b g hg y (by rw [← oblk_set]; exact hy))))
  iexact H

theorem kSlot_eq (s : Fin 3) (f) : kSlot c s f = (((c : Thread nD τ).loc cc0_scoped0) ↦[SK s]{fullShare} f : sProp 𝕄) :=
  congrArg (fun S => (_ ↦[S]{fullShare} f : sProp 𝕄)) (kslot_set s)
theorem kSlots_split : iprop(∃ f : Buf (Elt F) ((c : Thread nD τ).loc cc0_scoped0), ((c : Thread nD τ).loc cc0_scoped0) ↦{fullShare} f)
    ⊢ (bigSep Finset.univ (fun s => iprop(∃ f, kSlot c s f)) : sProp 𝕄) := by
  iintro ⟨%f, H⟩
  ihave H2 := (Entails.of_eq (Ring.pointsTo_blocks (Ix := Unit) (Name := ℕ) (U := UU nD τ) (Lvl := ℕ) (q := fullShare) (ℓ := (c : Thread nD τ).loc cc0_scoped0) SK SK_disjoint SK_cover f)) $$ H
  have e : ∀ s, (((c : Thread nD τ).loc cc0_scoped0) ↦[SK s]{fullShare} f : sProp 𝕄) ⊢ iprop(∃ f, kSlot c s f) := fun s => by
    iintro H; iexists f; iapply (Entails.of_eq (kSlot_eq c s f).symm); iexact H
  iapply (each e)
  iexact H2
theorem kSlots_join : bigSep Finset.univ (fun s => iprop(∃ f, kSlot c s f))
    ⊢ (iprop(∃ f : Buf (Elt F) ((c : Thread nD τ).loc cc0_scoped0), ((c : Thread nD τ).loc cc0_scoped0) ↦{fullShare} f) : sProp 𝕄) := by
  have h : bigSep Finset.univ (fun s => iprop(∃ f, kSlot c s f))
      ⊢ (bigSep Finset.univ (fun s => iprop(∃ f, ((c : Thread nD τ).loc cc0_scoped0) ↦[SK s]{fullShare} f)) : sProp 𝕄) :=
    each fun s => by iintro ⟨%f, H⟩; iexists f; iapply (Entails.of_eq (kSlot_eq c s f)); iexact H
  exact h.trans (Ring.pointsTo_blocks_join_exists (ℓ := (c : Thread nD τ).loc cc0_scoped0) SK SK_disjoint SK_cover (fun _ => default))
theorem cSlot_eq (s : Fin 3) (f) : cSlot c s f = (((c : Thread nD τ).loc cc0_scoped2) ↦[SC s]{fullShare} f : sProp 𝕄) :=
  congrArg (fun S => (_ ↦[S]{fullShare} f : sProp 𝕄)) (cslot_set s)
theorem cSlots_split : iprop(∃ f : Buf (Elt F) ((c : Thread nD τ).loc cc0_scoped2), ((c : Thread nD τ).loc cc0_scoped2) ↦{fullShare} f)
    ⊢ (bigSep Finset.univ (fun s => iprop(∃ f, cSlot c s f)) : sProp 𝕄) := by
  iintro ⟨%f, H⟩
  ihave H2 := (Entails.of_eq (Ring.pointsTo_blocks (Ix := Unit) (Name := ℕ) (U := UU nD τ) (Lvl := ℕ) (q := fullShare) (ℓ := (c : Thread nD τ).loc cc0_scoped2) SC SC_disjoint SC_cover f)) $$ H
  have e : ∀ s, (((c : Thread nD τ).loc cc0_scoped2) ↦[SC s]{fullShare} f : sProp 𝕄) ⊢ iprop(∃ f, cSlot c s f) := fun s => by
    iintro H; iexists f; iapply (Entails.of_eq (cSlot_eq c s f).symm); iexact H
  iapply (each e)
  iexact H2
theorem cSlots_join : bigSep Finset.univ (fun s => iprop(∃ f, cSlot c s f))
    ⊢ (iprop(∃ f : Buf (Elt F) ((c : Thread nD τ).loc cc0_scoped2), ((c : Thread nD τ).loc cc0_scoped2) ↦{fullShare} f) : sProp 𝕄) := by
  have h : bigSep Finset.univ (fun s => iprop(∃ f, cSlot c s f))
      ⊢ (bigSep Finset.univ (fun s => iprop(∃ f, ((c : Thread nD τ).loc cc0_scoped2) ↦[SC s]{fullShare} f)) : sProp 𝕄) :=
    each fun s => by iintro ⟨%f, H⟩; iexists f; iapply (Entails.of_eq (cSlot_eq c s f)); iexact H
  exact h.trans (Ring.pointsTo_blocks_join_exists (ℓ := (c : Thread nD τ).loc cc0_scoped2) SC SC_disjoint SC_cover (fun _ => default))
theorem oSlot_eq (s : Fin 2) (f) : oSlot c s f = (((c : Thread nD τ).loc cc0_scoped4) ↦[SO s]{fullShare} f : sProp 𝕄) :=
  congrArg (fun S => (_ ↦[S]{fullShare} f : sProp 𝕄)) (oslot_set s)
theorem oSlots_split : iprop(∃ f : Buf (Elt F) ((c : Thread nD τ).loc cc0_scoped4), ((c : Thread nD τ).loc cc0_scoped4) ↦{fullShare} f)
    ⊢ (bigSep Finset.univ (fun s => iprop(∃ f, oSlot c s f)) : sProp 𝕄) := by
  iintro ⟨%f, H⟩
  ihave H2 := (Entails.of_eq (Ring.pointsTo_blocks (Ix := Unit) (Name := ℕ) (U := UU nD τ) (Lvl := ℕ) (q := fullShare) (ℓ := (c : Thread nD τ).loc cc0_scoped4) SO SO_disjoint SO_cover f)) $$ H
  have e : ∀ s, (((c : Thread nD τ).loc cc0_scoped4) ↦[SO s]{fullShare} f : sProp 𝕄) ⊢ iprop(∃ f, oSlot c s f) := fun s => by
    iintro H; iexists f; iapply (Entails.of_eq (oSlot_eq c s f).symm); iexact H
  iapply (each e)
  iexact H2
theorem oSlots_join : bigSep Finset.univ (fun s => iprop(∃ f, oSlot c s f))
    ⊢ (iprop(∃ f : Buf (Elt F) ((c : Thread nD τ).loc cc0_scoped4), ((c : Thread nD τ).loc cc0_scoped4) ↦{fullShare} f) : sProp 𝕄) := by
  have h : bigSep Finset.univ (fun s => iprop(∃ f, oSlot c s f))
      ⊢ (bigSep Finset.univ (fun s => iprop(∃ f, ((c : Thread nD τ).loc cc0_scoped4) ↦[SO s]{fullShare} f)) : sProp 𝕄) :=
    each fun s => by iintro ⟨%f, H⟩; iexists f; iapply (Entails.of_eq (oSlot_eq c s f)); iexact H
  exact h.trans (Ring.pointsTo_blocks_join_exists (ℓ := (c : Thread nD τ).loc cc0_scoped4) SO SO_disjoint SO_cover (fun _ => default))

end Split

end Cert.Proof.KeyAug
end
-- ==== Proof.Run.lean ====
/-
  The launch: the region's proof data, the body's obligation and the run of the whole program, once for any float
  values. The result's buffer ends at its sixteen blocks' values.
-/
module

public import proofs.«01_k».proof.Proof.Blocks
public import proofs.«01_k».proof.Proof.Gen.KernelIdeal.Frame
public import Idealize.ShloMosaic.Lib.Pipeline.Routed

@[expose] public section

noncomputable section

namespace Cert.Proof.KeyAug

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Run
variable (AK : main_arg0.ty.Contents (Elt F)) (AC : main_v2.ty.Contents (Elt F)) (m : (ℓ : Loc nD τ sig) → Buf (Elt F) ℓ) (ρ : Dev nD → PrngReg) (c : Dev nD)

open Idealize.ShloMosaic.Pipeline (Dat Cfg Window BodyObligation)

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own cells. -/
abbrev cells8 : Fin 8 → SemLoc sig :=
  ![.dma (ksem 0).sem, .dma (ksem 1).sem, .dma (ksem 2).sem, .dma (csem 0).sem, .dma (csem 1).sem, .dma (csem 2).sem, .dma (osem 0).sem, .dma (osem 1).sem]
theorem cells8_facts : Pipeline.OwnSemFacts spec0 cells8 := by decide
theorem cells8_eq : (Pipeline.ownSems0 (Ix := Unit) (Name := ℕ) (U := UU nD τ) (Lvl := ℕ) (Val := Elt F) (τ := τ) cells8 c : sProp 𝕄)
    = iprop(kCell c 0 ∗ kCell c 1 ∗ kCell c 2 ∗ cCell c 0 ∗ cCell c 1 ∗ cCell c 2 ∗ oCell c 0 ∗ oCell c 1) := by
  rw [Pipeline.ownSems0_eq_of_list c cells8 [0, 1, 2, 3, 4, 5, 6, 7] (by decide) (by decide)]; rfl

/-- The buffers the region's body reads and writes by its own transfers. -/
abbrev RR : Finset (Ref sig .tc) := {main_arg0, main_v2, main_v3}
theorem routed_eq (W : (b : Ref sig .tc) → Buf (Elt F) ((c : Thread nD τ).loc b)) :
    (Pipeline.routed RR c W : sProp 𝕄) = iprop((((c : Thread nD τ).loc main_arg0) ↦{fullShare} W main_arg0) ∗ (((c : Thread nD τ).loc main_v2) ↦{fullShare} W main_v2)
      ∗ (((c : Thread nD τ).loc main_v3) ↦{fullShare} W main_v3)) := by
  unfold Pipeline.routed
  rw [bigSep_eq_bigSepL_of_eq [main_arg0, main_v2, main_v3] (by decide) (by decide)]; rfl

theorem k_at : (Ring.At₀ (kCell c) (kSlot c) (kHome c AK) : sProp 𝕄)
    = iprop(bigSep Finset.univ (kHome c AK) ∗ (kCell c 0 ∗ kCell c 1 ∗ kCell c 2) ∗ bigSep Finset.univ (fun s => iprop(∃ f, kSlot c s f))) := by
  unfold Ring.At₀ Ring.free; rw [bigSep_sep', Ring.bigSep_fin3]
theorem c_at : (Ring.At₀ (cCell c) (cSlot c) (cHome c AC) : sProp 𝕄)
    = iprop(bigSep Finset.univ (cHome c AC) ∗ (cCell c 0 ∗ cCell c 1 ∗ cCell c 2) ∗ bigSep Finset.univ (fun s => iprop(∃ f, cSlot c s f))) := by
  unfold Ring.At₀ Ring.free; rw [bigSep_sep', Ring.bigSep_fin3]
theorem o_at (A : Fin 16 → sProp 𝕄) : (Ring.AtB₀ (oFree c) A : sProp 𝕄)
    = iprop(bigSep Finset.univ A ∗ (oCell c 0 ∗ oCell c 1) ∗ bigSep Finset.univ (fun s => iprop(∃ f, oSlot c s f))) := by
  unfold Ring.AtB₀;
  rw [show bigSep Finset.univ (oFree c) = (bigSep Finset.univ (fun s => iprop(oCell c s ∗ ∃ f, oSlot c s f)) : sProp 𝕄) from rfl, bigSep_sep', Ring.bigSep_fin2]

abbrev stg (t : Fin cfg0.N) : Memref sig .tc .vmem S32x1024 .bf16 := win0_0.stage (cfg0.slots t 0)
/-- The placement as the staging buffer holds it. -/
abbrev eBuf (t : Fin cfg0.N) : Buf (Elt F) ((stg t).view.loc (c : Thread nD τ)) := (stg t).view.rep (iblk m c 0 t)
/-- The result's blocks. -/
abbrev zRun : Fin 16 → Fin 8 → Fin 2048 → Fin 128 → Elt F .bf16 :=
  ZZ c (V m c main_arg0) (V m c main_v2) (stg t0_0) (eBuf m c t0_0)
/-- What the region leaves in the three buffers. -/
def YY (b : Ref sig .tc) : Buf (Elt F) ((c : Thread nD τ).loc b) :=
  if h : b = main_v3 then h ▸ (whole (zRun m c) : main_v3.ty.Contents (Elt F)) else V m c b
theorem YY_v3 : YY m c main_v3 = whole (zRun m c) := by unfold YY; rw [dif_pos rfl]
theorem YY_arg0 : YY m c main_arg0 = V m c main_arg0 := by unfold YY; rw [dif_neg (by decide)]
theorem YY_v2 : YY m c main_v2 = V m c main_v2 := by unfold YY; rw [dif_neg (by decide)]

def Φs (A : Fin 16 → sProp 𝕄) : sProp 𝕄 :=
  iprop((Ring.At₀ (kCell c) (kSlot c) (kHome c (V m c main_arg0)) ∗ Ring.At₀ (cCell c) (cSlot c) (cHome c (V m c main_v2)) ∗ Ring.AtB₀ (oFree c) A)
    ∗ ∃ r, prngReg c r)

def dats (_ : Fin 1) (c : Dev nD) : Dat τ (Elt F) Unit ℕ (UU nD τ) ℕ cfg0 c where
  A w := V m c (Pipeline.arrRef spec0 w)
  after w t := match w with
    | ⟨0, _⟩ => iblk m c 0 t
  Φ i := if i.val = 0 then Φs m c (oAhead c) else Φs m c (oDone c (zRun m c))
  q _ := fullShare
  owed _ := 0

theorem A_eq (w : Fin cfg0.W) : (dats m 0 c).A w = V m c (Pipeline.arrRef spec0 w) := by dsimp only [dats]
theorem before_w0 (t : Fin cfg0.N) (d) : (dats m 0 c).before 0 t d = iblk m c 0 t := by
  unfold Dat.before; rw [if_pos (fetch0_0 t)]; unfold Dat.fetched Dat.blockOf iblk; dsimp only [dats]; rfl
theorem after_w0 (t : Fin cfg0.N) : (dats m 0 c).after 0 t = iblk m c 0 t := by dsimp only [dats]

theorem enter : Pipeline.Ends spec0 cells8 RR c (V m c) ⊢ (dats m 0 c).Φ 0 := by
  rw [show (dats m 0 c).Φ 0 = Φs m c (oAhead c) from rfl]
  unfold Pipeline.Ends Φs
  rw [routed_eq, cells8_eq, scopedRest0_eq, k_at, c_at, o_at]
  iintro ⟨⟨HK, HC, HO⟩, ⟨k0, k1, k2, c0, c1, c2, o0, o1⟩, ⟨Hk, Hc, Ho⟩, Hg⟩
  isplitr [Hg]
  · isplitl [HK k0 k1 k2 Hk]
    · isplitl [HK]; · iapply (Entails.of_eq (kHome_eq c (V m c main_arg0))); iexact HK
      isplitl [k0 k1 k2]; · iframe
      iapply (kSlots_split c); iexact Hk
    isplitl [HC c0 c1 c2 Hc]
    · isplitl [HC]; · iapply (Entails.of_eq (cHome_eq c (V m c main_v2))); iexact HC
      isplitl [c0 c1 c2]; · iframe
      iapply (cSlots_split c); iexact Hc
    isplitl [HO]; · iapply (o_split c (V m c main_v3)); iexact HO
    isplitl [o0 o1]; · iframe
    iapply (oSlots_split c); iexact Ho
  iexact Hg

theorem leave : (dats m 0 c).Φ (Fin.last cfg0.N) ⊢ Pipeline.Ends spec0 cells8 RR c (YY m c) := by
  rw [show (dats m 0 c).Φ (Fin.last cfg0.N) = Φs m c (oDone c (zRun m c)) from by
    dsimp only [dats]; rw [if_neg (by decide)]]
  unfold Pipeline.Ends Φs
  rw [routed_eq, cells8_eq, scopedRest0_eq, k_at, c_at, o_at, YY_v3, YY_arg0, YY_v2]
  iintro ⟨⟨⟨HK, ⟨k0, k1, k2⟩, Hk⟩, ⟨HC, ⟨c0, c1, c2⟩, Hc⟩, HO, ⟨o0, o1⟩, Ho⟩, Hg⟩
  isplitl [HK HC HO]
  · isplitl [HK]; · iapply (Entails.of_eq (kHome_eq c (V m c main_arg0)).symm); iexact HK
    isplitl [HC]; · iapply (Entails.of_eq (cHome_eq c (V m c main_v2)).symm); iexact HC
    iapply (o_join c (zRun m c)); iexact HO
  isplitl [k0 k1 k2 c0 c1 c2 o0 o1]; · iframe
  isplitl [Hk Hc Ho]
  · isplitl [Hk]; · iapply (kSlots_join c); iexact Hk
    isplitl [Hc]; · iapply (cSlots_join c); iexact Hc
    iapply (oSlots_join c); iexact Ho
  iexact Hg

def bodyPre (t : Fin cfg0.N) : sProp 𝕄 :=
  iprop((dats m 0 c).Φ t.castSucc ∗ (dats m 0 c).owesAt () t.castSucc
    ∗ (∃ d, owns (c : Thread nD τ) (stg t) fullShare ((dats m 0 c).before 0 t d)))
def bodyPost (t : Fin cfg0.N) : sProp 𝕄 :=
  iprop((dats m 0 c).Φ t.succ ∗ (dats m 0 c).owesAt () t.succ
    ∗ owns (c : Thread nD τ) (stg t) fullShare ((dats m 0 c).after 0 t))

theorem sound_body (t : Fin cfg0.N) :
    bodyPre m c t ⊢ wp frame (wpE (defs₀ (F := F)) 𝒱₀ (c : Thread nD τ) none) Set.univ (bodyAt0 t) (fun _ => bodyPost m c t) := by
  unfold bodyPre bodyPost
  obtain rfl := fin_N0 t
  rw [show (dats m 0 c).Φ (Fin.succ t0_0) = Φs m c (oDone c (zRun m c)) from rfl, after_w0]
  rw [show (dats m 0 c).Φ (Fin.castSucc t0_0) = Φs m c (oAhead c) from rfl]
  simp only [before_w0]
  unfold Dat.owesAt Pipeline.owesWithin
  rw [show (dats m 0 c).owed (Fin.castSucc t0_0) = 0 from rfl, show (dats m 0 c).owed (Fin.succ t0_0) = 0 from rfl]
  unfold owns Φs
  iintro ⟨⟨⟨HK, HC, HO⟩, Hg⟩, ⟨%W, -, HW⟩, ⟨%d0, %g0, %hg0, HE⟩⟩
  ihave HE := (pointsTo_rep_entails (c : Thread nD τ) (stg t0_0) g0 fullShare) $$ HE
  rw [hg0]
  iapply (wp_wand_r Idealize.ShloMosaic.frame (wpE (defs₀ (F := F)) 𝒱₀ (c : Thread nD τ) none) Set.univ)
  isplitr [Hg]
  · iapply (bodyRun c (V m c main_arg0) (V m c main_v2) (stg t0_0) (hstage0_0 0) (eBuf m c t0_0) W)
    isplitl [HE]; · iexact HE
    isplitl [HW]; · iexact HW
    isplitl [HK]; · iexact HK
    isplitl [HC]; · iexact HC
    iexact HO
  iintro %_ ⟨HE, ⟨%W', HW⟩, HK, HC, HO⟩
  isplitl [HK HC HO Hg]
  · isplitr [Hg]
    · isplitl [HK]; · iexact HK
      isplitl [HC]; · iexact HC
      iexact HO
    iexact Hg
  isplitl [HW]
  · iexists W'; isplitr; · ipureintro; exact fun _ _ => Or.inl trivial
    iexact HW
  iexists _; isplitr; · ipureintro; exact View.read_rep _ _
  iexact HE

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every weakly fair execution of the program terminates with the arguments as launched, the result's buffer at its
    blocks' values, and every counter at zero. -/
theorem run_main : θ_run defs (onTc (τ := τ) (main (F := F))) ⟨m, fun _ => 0, ρ⟩ (fun r => (∀ c : Dev nD,
      r.2.mem ((c.tc : Thread nD τ).loc main_v3) = whole (zRun m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_routed cfgs (dats m) (0 : Fin 1) launch0 cells8_facts defs₀ 𝒱₀ m ρ main
    (hbody := fun c => (body_obligation m c).loose) (hshare := fun c => (dats m 0 c).share_full fun _ => rfl)
    (howed := fun _ _ => rfl) (V := V m) (hmain := hmainU m) (hA := A_eq m) (R := RR) (hR := by decide) (Y := YY m)
    (hin := enter m) (hout := leave m) (Q' := _)
    (hQ' := fun r h => ⟨fun c => ⟨((h.1 c).2.1 main_v3 (by decide)).trans (YY_v3 m c),
      ((h.1 c).2.1 main_arg0 (by decide)).trans ((YY_arg0 m c).trans (V_main_arg0 m c)),
      ((h.1 c).2.2 main_arg1 (by decide)).trans (V_main_arg1 m c)⟩, h.2⟩)

/-- The frame, over any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_main m ρ)

end Run

end Cert.Proof.KeyAug
end
-- ==== Proof.LitForm.lean ====
/-
  The placement's table in closed form: a one in row 24 at the first three bias lanes of every head, and a minus one in row
  `8 p + h` at head `h`'s bias lane `3 + p`; nothing elsewhere among the bias lanes.
-/
module

public import proofs.«01_k».proof.KernelIdeal

@[expose] public section

namespace Cert.Proof.KeyAug

/-- The first of head `h`'s bias lanes: the half the head's own keys leave free. -/
def laneBase (h : ℕ) : ℕ := if h % 2 = 0 then 64 else 0
/-- The entry of row `k` at head `h`'s bias lane `x`. -/
def litForm (k h x : ℕ) : BitVec 16 :=
  if k = 24 then (if x < 3 then 0x3F80#16 else 0#16)
  else if k < 24 ∧ k % 8 = h ∧ x = 3 + k / 8 then 0xBF80#16 else 0#16

end Cert.Proof.KeyAug
-- ==== Proof.KerVal.lean ====
/-
  The kernel's payloads over the reals: the pieces of the bias columns, and the bias lanes as the placement's product
  gives them.
-/
module

public import proofs.«01_k».proof.Proof.Heads
public import proofs.«01_k».proof.Proof.LitForm
public import Idealize.ShloMosaic.Lib.Pointwise
public import Idealize.ShloMosaic.PureOps.Ideal

@[expose] public section

noncomputable section

namespace Cert.Proof.KeyAug

open Cert.KernelIdeal Cert.KernelIdeal.Gen
open Idealize.ShloMosaic Idealize.ShloMosaic.TcCoe

theorem pay2_at (p : FVec Ideal S2048x32 .bf16) (e : Vec Ideal S32x1024 .bf16) (r : Fin 2048) (j : Fin 1024) :
    k0_pay2 (F := Ideal) p e (ix2 r j) = ∑ k : Fin 32, p (ix2 r k) * e (ix2 k j) := by
  pointwise [k0_pay2]

/-- Which piece a lane of the bias columns holds. -/
def piece (k : Fin 32) (v : EReal) : EReal :=
  if k.val < 8 then v else if k.val < 16 then v - v else if k.val < 24 then v - v - (v - v) else v

theorem pay1_at (cb : Vec Ideal S1x2048x32 .f32) (r : Fin 2048) (k : Fin 32) :
    k0_pay1 (F := Ideal) cb (ix2 r k) = piece k (cb (ix3 0 r k)) := by
  pointwise [k0_pay1]
  generalize cb (ix3 0 r k) = v
  fin_cases k <;> rfl

end Cert.Proof.KeyAug
end
-- ==== Proof.Entry.lean ====
/-
  What the region finds at its entry, over the reals, and the result's blocks put together: the whole result, element by
  element.
-/
module

public import proofs.«01_k».proof.Proof.Run
public import proofs.«01_k».proof.Proof.KerVal
public import proofs.«01_k».proof.Proof.Gen.ReferenceIdeal
public import Idealize.ShloMosaic.Lib.Claim

@[expose] public section

noncomputable section

namespace Cert.Proof.KeyAug

open Cert.KernelIdeal Cert.KernelIdeal.Gen
open Idealize.ShloMosaic Idealize.ShloMosaic.TcCoe Idealize.ShloMosaic.StableHlo

section
variable {F : FTy → Type} [FloatOps F] (m : (ℓ : Loc nD τ sig) → Buf (Elt F) ℓ) (c : Dev nD)

/-- The bias columns: three copies of the bias, then ones. -/
def cols (cc : FVec F S8x8x4096 .f32) : FVec F S8x4096x32 .f32 :=
  concatenate S8x4096x32 2 [⟨S8x4096x8, transpose S8x4096x8 [0, 2, 1] cc transposes_S8x8x4096_S8x4096x8_0_2_1⟩,
    ⟨S8x4096x8, transpose S8x4096x8 [0, 2, 1] cc transposes_S8x8x4096_S8x4096x8_0_2_1⟩,
    ⟨S8x4096x8, transpose S8x4096x8 [0, 2, 1] cc transposes_S8x8x4096_S8x4096x8_0_2_1⟩,
    ⟨S8x4096x8, broadcastInDim S8x4096x8 ![] bcast_S_S8x4096x8 (constant S_ .f32 0x3F800000#32)⟩]
    concatenates_S8x4096x8_S8x4096x8_S8x4096x8_S8x4096x8_S8x4096x32_d2

theorem V_v2 : V m c main_v2 = cols (m ((c : Thread nD τ).loc main_arg1)) := by
  show after hostOps0 _ _ = _
  after_results <;> rfl

/-- The same operations with any table in the placement's place. -/
def opsWith (x : main_cst.ty.Contents (Elt F)) : List (HloOp τ sig (Elt F)) :=
  [ StableHlo.nullary main_cst x,
    StableHlo.unary main_arg1 main_v0 ((transpose S8x4096x8 [0, 2, 1] · transposes_S8x8x4096_S8x4096x8_0_2_1) : (⟨S8x8x4096, .f32⟩ : BufTy).Contents (Elt F) → (⟨S8x4096x8, .f32⟩ : BufTy).Contents (Elt F)),
    StableHlo.nullary main_cst_0 (constant S_ .f32 0x3F800000#32),
    StableHlo.unary main_cst_0 main_v1 (broadcastInDim S8x4096x8 ![] bcast_S_S8x4096x8 : (⟨S_, .f32⟩ : BufTy).Contents (Elt F) → (⟨S8x4096x8, .f32⟩ : BufTy).Contents (Elt F)),
    StableHlo.nary ![main_v0, main_v0, main_v0, main_v1] main_v2 (fun u => (concatenate S8x4096x32 2 [⟨S8x4096x8, (u 0 : (⟨S8x4096x8, .f32⟩ : BufTy).Contents (Elt F))⟩, ⟨S8x4096x8, (u 1 : (⟨S8x4096x8, .f32⟩ : BufTy).Contents (Elt F))⟩, ⟨S8x4096x8, (u 2 : (⟨S8x4096x8, .f32⟩ : BufTy).Contents (Elt F))⟩, ⟨S8x4096x8, (u 3 : (⟨S8x4096x8, .f32⟩ : BufTy).Contents (Elt F))⟩] concatenates_S8x4096x8_S8x4096x8_S8x4096x8_S8x4096x8_S8x4096x32_d2 : (⟨S8x4096x32, .f32⟩ : BufTy).Contents (Elt F))) ]

theorem after_cst (x : main_cst.ty.Contents (Elt F)) (σ) : after (opsWith (F := F) x) σ (Proc.devRef .tc main_cst) = x := by
  unfold opsWith
  after_results

theorem V_cst : V m c main_cst = fun i => FloatOps.ofBits .bf16 (lit0 (S32x1024.rowMajor i)) :=
  after_cst (fun i => FloatOps.ofBits .bf16 (lit0 (S32x1024.rowMajor i))) _

theorem eVal_eq : eVal c (stg t0_0) (eBuf m c t0_0) = V m c main_cst := by
  refine (View.readAt_rep _ _ _).trans ?_
  funext i
  show V m c main_cst _ = V m c main_cst i
  refine congrArg (V m c main_cst) ?_
  idx_vars i
  funext a; apply Fin.ext; fin_cases a
  · show 0 + 1 * (0 + 1 * i0.val) = i0.val; omega
  · show 0 + 1 * (0 + 1 * i1.val) = i1.val; omega
end

theorem cols_bias (cc : FVec Ideal S8x8x4096 .f32) (b : Fin 8) (s : Fin 4096) (k : Fin 32) (h : Fin 8) (hk : k.val < 24) (e : k.val % 8 = h.val) :
    cols cc (ix3 b s k) = cc (ix3 b h s) := by
  pointwise [cols]
  have key : ∀ n (hn : n < 8), n = h.val → cc (ix3 b ⟨n, hn⟩ s) = cc (ix3 b h s) := by
    intro n hn e'; subst e'; rfl
  by_cases h1 : k.val < 8
  · rw [dif_pos h1]; exact key _ _ (by omega)
  · rw [dif_neg h1]
    by_cases h2 : k.val - 8 < 8
    · rw [dif_pos h2]; exact key _ _ (by omega)
    · rw [dif_neg h2, dif_pos (by omega)]; exact key _ _ (by omega)
theorem cols_one (cc : FVec Ideal S8x8x4096 .f32) (b : Fin 8) (s : Fin 4096) :
    cols cc (ix3 b s 24) = 1 := by
  pointwise [cols]

end Cert.Proof.KeyAug
end
-- ==== Proof.Lit0.lean ====
/-
  The placement's table, rows 0 to 3, at the bias lanes: the closed form, entry by entry.
-/
module

public import proofs.«01_k».proof.Proof.LitForm

@[expose] public section

namespace Cert.Proof.KeyAug

open Cert.KernelIdeal Idealize.ShloMosaic

set_option maxRecDepth 100000 in
theorem lit_row0 : ∀ h : Fin 8, ∀ x : Fin 64, lit0t (1024 * 0 + 128 * h.val + (laneBase h.val + x.val)) = litForm 0 h.val x.val := by decide +kernel
set_option maxRecDepth 100000 in
theorem lit_row1 : ∀ h : Fin 8, ∀ x : Fin 64, lit0t (1024 * 1 + 128 * h.val + (laneBase h.val + x.val)) = litForm 1 h.val x.val := by decide +kernel
set_option maxRecDepth 100000 in
theorem lit_row2 : ∀ h : Fin 8, ∀ x : Fin 64, lit0t (1024 * 2 + 128 * h.val + (laneBase h.val + x.val)) = litForm 2 h.val x.val := by decide +kernel
set_option maxRecDepth 100000 in
theorem lit_row3 : ∀ h : Fin 8, ∀ x : Fin 64, lit0t (1024 * 3 + 128 * h.val + (laneBase h.val + x.val)) = litForm 3 h.val x.val := by decide +kernel

end Cert.Proof.KeyAug
-- ==== Proof.Lit1.lean ====
/-
  The placement's table, rows 4 to 7, at the bias lanes: the closed form, entry by entry.
-/
module

public import proofs.«01_k».proof.Proof.LitForm

@[expose] public section

namespace Cert.Proof.KeyAug

open Cert.KernelIdeal Idealize.ShloMosaic

set_option maxRecDepth 100000 in
theorem lit_row4 : ∀ h : Fin 8, ∀ x : Fin 64, lit0t (1024 * 4 + 128 * h.val + (laneBase h.val + x.val)) = litForm 4 h.val x.val := by decide +kernel
set_option maxRecDepth 100000 in
theorem lit_row5 : ∀ h : Fin 8, ∀ x : Fin 64, lit0t (1024 * 5 + 128 * h.val + (laneBase h.val + x.val)) = litForm 5 h.val x.val := by decide +kernel
set_option maxRecDepth 100000 in
theorem lit_row6 : ∀ h : Fin 8, ∀ x : Fin 64, lit0t (1024 * 6 + 128 * h.val + (laneBase h.val + x.val)) = litForm 6 h.val x.val := by decide +kernel
set_option maxRecDepth 100000 in
theorem lit_row7 : ∀ h : Fin 8, ∀ x : Fin 64, lit0t (1024 * 7 + 128 * h.val + (laneBase h.val + x.val)) = litForm 7 h.val x.val := by decide +kernel

end Cert.Proof.KeyAug
-- ==== Proof.Lit2.lean ====
/-
  The placement's table, rows 8 to 11, at the bias lanes: the closed form, entry by entry.
-/
module

public import proofs.«01_k».proof.Proof.LitForm

@[expose] public section

namespace Cert.Proof.KeyAug

open Cert.KernelIdeal Idealize.ShloMosaic

set_option maxRecDepth 100000 in
theorem lit_row8 : ∀ h : Fin 8, ∀ x : Fin 64, lit0t (1024 * 8 + 128 * h.val + (laneBase h.val + x.val)) = litForm 8 h.val x.val := by decide +kernel
set_option maxRecDepth 100000 in
theorem lit_row9 : ∀ h : Fin 8, ∀ x : Fin 64, lit0t (1024 * 9 + 128 * h.val + (laneBase h.val + x.val)) = litForm 9 h.val x.val := by decide +kernel
set_option maxRecDepth 100000 in
theorem lit_row10 : ∀ h : Fin 8, ∀ x : Fin 64, lit0t (1024 * 10 + 128 * h.val + (laneBase h.val + x.val)) = litForm 10 h.val x.val := by decide +kernel
set_option maxRecDepth 100000 in
theorem lit_row11 : ∀ h : Fin 8, ∀ x : Fin 64, lit0t (1024 * 11 + 128 * h.val + (laneBase h.val + x.val)) = litForm 11 h.val x.val := by decide +kernel

end Cert.Proof.KeyAug
-- ==== Proof.Lit3.lean ====
/-
  The placement's table, rows 12 to 15, at the bias lanes: the closed form, entry by entry.
-/
module

public import proofs.«01_k».proof.Proof.LitForm

@[expose] public section

namespace Cert.Proof.KeyAug

open Cert.KernelIdeal Idealize.ShloMosaic

set_option maxRecDepth 100000 in
theorem lit_row12 : ∀ h : Fin 8, ∀ x : Fin 64, lit0t (1024 * 12 + 128 * h.val + (laneBase h.val + x.val)) = litForm 12 h.val x.val := by decide +kernel
set_option maxRecDepth 100000 in
theorem lit_row13 : ∀ h : Fin 8, ∀ x : Fin 64, lit0t (1024 * 13 + 128 * h.val + (laneBase h.val + x.val)) = litForm 13 h.val x.val := by decide +kernel
set_option maxRecDepth 100000 in
theorem lit_row14 : ∀ h : Fin 8, ∀ x : Fin 64, lit0t (1024 * 14 + 128 * h.val + (laneBase h.val + x.val)) = litForm 14 h.val x.val := by decide +kernel
set_option maxRecDepth 100000 in
theorem lit_row15 : ∀ h : Fin 8, ∀ x : Fin 64, lit0t (1024 * 15 + 128 * h.val + (laneBase h.val + x.val)) = litForm 15 h.val x.val := by decide +kernel

end Cert.Proof.KeyAug
-- ==== Proof.Lit4.lean ====
/-
  The placement's table, rows 16 to 19, at the bias lanes: the closed form, entry by entry.
-/
module

public import proofs.«01_k».proof.Proof.LitForm

@[expose] public section

namespace Cert.Proof.KeyAug

open Cert.KernelIdeal Idealize.ShloMosaic

set_option maxRecDepth 100000 in
theorem lit_row16 : ∀ h : Fin 8, ∀ x : Fin 64, lit0t (1024 * 16 + 128 * h.val + (laneBase h.val + x.val)) = litForm 16 h.val x.val := by decide +kernel
set_option maxRecDepth 100000 in
theorem lit_row17 : ∀ h : Fin 8, ∀ x : Fin 64, lit0t (1024 * 17 + 128 * h.val + (laneBase h.val + x.val)) = litForm 17 h.val x.val := by decide +kernel
set_option maxRecDepth 100000 in
theorem lit_row18 : ∀ h : Fin 8, ∀ x : Fin 64, lit0t (1024 * 18 + 128 * h.val + (laneBase h.val + x.val)) = litForm 18 h.val x.val := by decide +kernel
set_option maxRecDepth 100000 in
theorem lit_row19 : ∀ h : Fin 8, ∀ x : Fin 64, lit0t (1024 * 19 + 128 * h.val + (laneBase h.val + x.val)) = litForm 19 h.val x.val := by decide +kernel

end Cert.Proof.KeyAug
-- ==== Proof.Lit5.lean ====
/-
  The placement's table, rows 20 to 23, at the bias lanes: the closed form, entry by entry.
-/
module

public import proofs.«01_k».proof.Proof.LitForm

@[expose] public section

namespace Cert.Proof.KeyAug

open Cert.KernelIdeal Idealize.ShloMosaic

set_option maxRecDepth 100000 in
theorem lit_row20 : ∀ h : Fin 8, ∀ x : Fin 64, lit0t (1024 * 20 + 128 * h.val + (laneBase h.val + x.val)) = litForm 20 h.val x.val := by decide +kernel
set_option maxRecDepth 100000 in
theorem lit_row21 : ∀ h : Fin 8, ∀ x : Fin 64, lit0t (1024 * 21 + 128 * h.val + (laneBase h.val + x.val)) = litForm 21 h.val x.val := by decide +kernel
set_option maxRecDepth 100000 in
theorem lit_row22 : ∀ h : Fin 8, ∀ x : Fin 64, lit0t (1024 * 22 + 128 * h.val + (laneBase h.val + x.val)) = litForm 22 h.val x.val := by decide +kernel
set_option maxRecDepth 100000 in
theorem lit_row23 : ∀ h : Fin 8, ∀ x : Fin 64, lit0t (1024 * 23 + 128 * h.val + (laneBase h.val + x.val)) = litForm 23 h.val x.val := by decide +kernel

end Cert.Proof.KeyAug
-- ==== Proof.Lit6.lean ====
/-
  The placement's table, rows 24 to 27, at the bias lanes: the closed form, entry by entry.
-/
module

public import proofs.«01_k».proof.Proof.LitForm

@[expose] public section

namespace Cert.Proof.KeyAug

open Cert.KernelIdeal Idealize.ShloMosaic

set_option maxRecDepth 100000 in
theorem lit_row24 : ∀ h : Fin 8, ∀ x : Fin 64, lit0t (1024 * 24 + 128 * h.val + (laneBase h.val + x.val)) = litForm 24 h.val x.val := by decide +kernel
set_option maxRecDepth 100000 in
theorem lit_row25 : ∀ h : Fin 8, ∀ x : Fin 64, lit0t (1024 * 25 + 128 * h.val + (laneBase h.val + x.val)) = litForm 25 h.val x.val := by decide +kernel
set_option maxRecDepth 100000 in
theorem lit_row26 : ∀ h : Fin 8, ∀ x : Fin 64, lit0t (1024 * 26 + 128 * h.val + (laneBase h.val + x.val)) = litForm 26 h.val x.val := by decide +kernel
set_option maxRecDepth 100000 in
theorem lit_row27 : ∀ h : Fin 8, ∀ x : Fin 64, lit0t (1024 * 27 + 128 * h.val + (laneBase h.val + x.val)) = litForm 27 h.val x.val := by decide +kernel

end Cert.Proof.KeyAug
-- ==== Proof.Lit7.lean ====
/-
  The placement's table, rows 28 to 31, at the bias lanes: the closed form, entry by entry.
-/
module

public import proofs.«01_k».proof.Proof.LitForm

@[expose] public section

namespace Cert.Proof.KeyAug

open Cert.KernelIdeal Idealize.ShloMosaic

set_option maxRecDepth 100000 in
theorem lit_row28 : ∀ h : Fin 8, ∀ x : Fin 64, lit0t (1024 * 28 + 128 * h.val + (laneBase h.val + x.val)) = litForm 28 h.val x.val := by decide +kernel
set_option maxRecDepth 100000 in
theorem lit_row29 : ∀ h : Fin 8, ∀ x : Fin 64, lit0t (1024 * 29 + 128 * h.val + (laneBase h.val + x.val)) = litForm 29 h.val x.val := by decide +kernel
set_option maxRecDepth 100000 in
theorem lit_row30 : ∀ h : Fin 8, ∀ x : Fin 64, lit0t (1024 * 30 + 128 * h.val + (laneBase h.val + x.val)) = litForm 30 h.val x.val := by decide +kernel
set_option maxRecDepth 100000 in
theorem lit_row31 : ∀ h : Fin 8, ∀ x : Fin 64, lit0t (1024 * 31 + 128 * h.val + (laneBase h.val + x.val)) = litForm 31 h.val x.val := by decide +kernel

end Cert.Proof.KeyAug
-- ==== Proof.Table.lean ====
/-
  Every entry of the placement at a bias lane, from the rows read one by one, and the bias lanes of the product.
-/
module

public import proofs.«01_k».proof.Proof.KerVal
public import proofs.«01_k».proof.Proof.Lit0
public import proofs.«01_k».proof.Proof.Lit1
public import proofs.«01_k».proof.Proof.Lit2
public import proofs.«01_k».proof.Proof.Lit3
public import proofs.«01_k».proof.Proof.Lit4
public import proofs.«01_k».proof.Proof.Lit5
public import proofs.«01_k».proof.Proof.Lit6
public import proofs.«01_k».proof.Proof.Lit7
public import Idealize.ShloMosaic.Lib.IdealHost

@[expose] public section

noncomputable section

namespace Cert.Proof.KeyAug

open Cert.KernelIdeal Cert.KernelIdeal.Gen
open Idealize.ShloMosaic Idealize.ShloMosaic.TcCoe Idealize.ShloMosaic.Ideal

theorem lit_all (k : ℕ) (hk : k < 32) (h : Fin 8) (x : Fin 64) :
    lit0t (1024 * k + 128 * h.val + (laneBase h.val + x.val)) = litForm k h.val x.val := by
  interval_cases k
  · exact lit_row0 h x
  · exact lit_row1 h x
  · exact lit_row2 h x
  · exact lit_row3 h x
  · exact lit_row4 h x
  · exact lit_row5 h x
  · exact lit_row6 h x
  · exact lit_row7 h x
  · exact lit_row8 h x
  · exact lit_row9 h x
  · exact lit_row10 h x
  · exact lit_row11 h x
  · exact lit_row12 h x
  · exact lit_row13 h x
  · exact lit_row14 h x
  · exact lit_row15 h x
  · exact lit_row16 h x
  · exact lit_row17 h x
  · exact lit_row18 h x
  · exact lit_row19 h x
  · exact lit_row20 h x
  · exact lit_row21 h x
  · exact lit_row22 h x
  · exact lit_row23 h x
  · exact lit_row24 h x
  · exact lit_row25 h x
  · exact lit_row26 h x
  · exact lit_row27 h x
  · exact lit_row28 h x
  · exact lit_row29 h x
  · exact lit_row30 h x
  · exact lit_row31 h x

/-- The placement's table over the reals. -/
def tab : Vec Ideal S32x1024 .bf16 := fun i => FloatOps.ofBits (F := Ideal) .bf16 (lit0 (S32x1024.rowMajor i))

theorem tab_at (k : Fin 32) (h : Fin 8) (d : Fin 128) (x : Fin 64) (hd : d.val = laneBase h.val + x.val) :
    tab (ix2 k (col h d)) = Ideal.ofBits .bf16 (litForm k.val h.val x.val) := by
  have e : ((S32x1024.rowMajor (ix2 k (col h d))).val) = 1024 * k.val + 128 * h.val + (laneBase h.val + x.val) := by
    rw [rowMajor_val2 _ 1024 rfl, ← hd]
    show k.val * 1024 + (128 * h.val + d.val) = _
    omega
  show Ideal.ofBits .bf16 (lit0t (S32x1024.rowMajor (ix2 k (col h d))).val) = _
  rw [e, lit_all k.val k.isLt h x]

theorem neg_one_mul_bits (v : EReal) : v * Ideal.ofBits .bf16 0xBF80#16 = -v := by
  rw [ofBits_neg_one_bf16, mul_comm]
  exact (congrArg (· * v) (show (-((1 : ℝ) : EReal)) = -1 from by norm_num)).trans (neg_one_mul v)

/-- A bias lane of the product: a one at the first three, the bias negated at the fourth, nothing after. -/
theorem lanes (p : Fin 32 → EReal) (v : EReal) (hv : v - v = 0) (h : Fin 8) (x : Fin 64)
    (h24 : p 24 = 1) (hp : ∀ k : Fin 32, k.val < 24 → k.val % 8 = h.val → p k = piece k v) :
    ∑ k : Fin 32, p k * Ideal.ofBits .bf16 (litForm k.val h.val x.val) = if x.val < 3 then 1 else if x.val = 3 then -v else 0 := by
  have hz : ∀ k : Fin 32, litForm k.val h.val x.val = 0#16 → p k * Ideal.ofBits .bf16 (litForm k.val h.val x.val) = 0 := by
    intro k e; rw [e, ofBits_zero_bf16, mul_zero]
  by_cases h3 : x.val < 3
  · rw [if_pos h3, Finset.sum_eq_single (24 : Fin 32)]
    · rw [h24, show litForm (24 : Fin 32).val h.val x.val = 0x3F80#16 from by unfold litForm; rw [if_pos (by rfl), if_pos h3], ofBits_one_bf16, one_mul]
    · intro k _ hk
      refine hz k ?_
      unfold litForm
      rw [if_neg (fun e => hk (Fin.ext (e.trans (by rfl)))), if_neg (by omega)]
    · intro h'; exact absurd (Finset.mem_univ _) h'
  · rw [if_neg h3]
    by_cases h6 : x.val < 6
    · have hk : 8 * (x.val - 3) + h.val < 32 := by omega
      rw [Finset.sum_eq_single (⟨8 * (x.val - 3) + h.val, hk⟩ : Fin 32)]
      · rw [show litForm (8 * (x.val - 3) + h.val) h.val x.val = 0xBF80#16 from by
            unfold litForm; rw [if_neg (by omega), if_pos (by omega)], neg_one_mul_bits, hp _ (by simp only; omega) (by simp only; omega)]
        unfold piece
        by_cases e3 : x.val = 3
        · rw [if_pos e3, if_pos (by simp only; omega)]
        · rw [if_neg e3, if_neg (by simp only; omega)]
          by_cases e4 : x.val = 4
          · rw [if_pos (by simp only; omega), hv, neg_zero]
          · rw [if_neg (by simp only; omega), if_pos (by simp only; omega), hv, sub_zero, neg_zero]
      · intro k _ hk'
        refine hz k ?_
        unfold litForm
        by_cases e24 : k.val = 24
        · rw [if_pos e24, if_neg h3]
        · rw [if_neg e24, if_neg]
          rintro ⟨a, b, c⟩
          exact hk' (Fin.ext (by simp only; omega))
      · intro h'; exact absurd (Finset.mem_univ _) h'
    · rw [if_neg (by omega)]
      refine Finset.sum_eq_zero fun k _ => hz k ?_
      unfold litForm
      by_cases e24 : k.val = 24
      · rw [if_pos e24, if_neg h3]
      · rw [if_neg e24, if_neg (by omega)]

end Cert.Proof.KeyAug
end
-- ==== Proof.RefVal.lean ====
/-
  The reference's host operations, one stage at a time, read element by element.
-/
module

public import proofs.«01_k».proof.Proof.Gen.ReferenceIdeal
public import Idealize.ShloMosaic.Lib.Pointwise
public import Idealize.ShloMosaic.PureOps.Ideal

@[expose] public section

noncomputable section

namespace Cert.Proof.KeyAug

open Idealize.ShloMosaic Idealize.ShloMosaic.TcCoe
open Cert.ReferenceIdeal Cert.ReferenceIdeal.Gen

/-- The bias lanes of every head. -/
def biasT (cc : FVec Ideal S8x8x4096 .f32) : FVec Ideal S8x8x4096x64 .f32 :=
  concatenate S8x8x4096x64 3 [⟨S8x8x4096x3, broadcastInDim S8x8x4096x3 ![] bcast_S_S8x8x4096x3 (constant S_ .f32 0x3F800000#32)⟩,
    ⟨S8x8x4096x1, Host.negf (broadcastInDim S8x8x4096x1 ![0, 1, 2] bcast_S8x8x4096_S8x8x4096x1_0_1_2 cc)⟩,
    ⟨S8x8x4096x60, broadcastInDim S8x8x4096x60 ![] bcast_S_S8x8x4096x60 (constant S_ .f32 0x00000000#32)⟩]
    concatenates_S8x8x4096x3_S8x8x4096x1_S8x8x4096x60_S8x8x4096x64_d3

theorem biasT_at (cc : FVec Ideal S8x8x4096 .f32) (b h : Fin 8) (s : Fin 4096) (x : Fin 64) :
    biasT cc (ix4 b h s x) = if x.val < 3 then 1 else if x.val - 3 < 1 then -cc (ix3 b h s) else 0 := by
  pointwise [biasT]
  split_ifs <;> rfl

/-- The even heads of a stack over heads. -/
def evens (v : FVec Ideal S8x8x4096x64 .f32) : FVec Ideal S8x4x4096x64 .f32 :=
  shapeCast S8x4x4096x64 (extractStridedSlice S8x4x1x4096x64 ![0, 0, 0, 0, 0] (shapeCast S8x4x2x4096x64 v shapeCasts_S8x8x4096x64_S8x4x2x4096x64) slices_S8x4x2x4096x64_S8x4x1x4096x64_0_0_0_0_0) shapeCasts_S8x4x1x4096x64_S8x4x4096x64

/-- The odd heads of a stack over heads. -/
def odds (v : FVec Ideal S8x8x4096x64 .f32) : FVec Ideal S8x4x4096x64 .f32 :=
  shapeCast S8x4x4096x64 (extractStridedSlice S8x4x1x4096x64 ![0, 0, 1, 0, 0] (shapeCast S8x4x2x4096x64 v shapeCasts_S8x8x4096x64_S8x4x2x4096x64) slices_S8x4x2x4096x64_S8x4x1x4096x64_0_0_1_0_0) shapeCasts_S8x4x1x4096x64_S8x4x4096x64

theorem evens_at (v : FVec Ideal S8x8x4096x64 .f32) (b : Fin 8) (p : Fin 4) (s : Fin 4096) (x : Fin 64) :
    evens v (ix4 b p s x) = v (ix4 b ⟨p.val * 2, by omega⟩ s x) := by
  pointwise [evens]

theorem odds_at (v : FVec Ideal S8x8x4096x64 .f32) (b : Fin 8) (p : Fin 4) (s : Fin 4096) (x : Fin 64) :
    odds v (ix4 b p s x) = v (ix4 b ⟨p.val * 2 + 1, by omega⟩ s x) := by
  pointwise [odds]

/-- The even heads' keys. -/
def evenK (k : FVec Ideal S8x4x4096x128 .bf16) : FVec Ideal S8x4x4096x64 .f32 :=
  shapeCast S8x4x4096x64 (extractStridedSlice S8x4x1x4096x64 ![0, 0, 0, 0, 0] (transpose S8x4x2x4096x64 [0, 1, 3, 2, 4] (shapeCast S8x4x4096x2x64 (extf .f32 k bitsLt_bf16_f32) shapeCasts_S8x4x4096x128_S8x4x4096x2x64) transposes_S8x4x4096x2x64_S8x4x2x4096x64_0_1_3_2_4) slices_S8x4x2x4096x64_S8x4x1x4096x64_0_0_0_0_0) shapeCasts_S8x4x1x4096x64_S8x4x4096x64

/-- The odd heads' keys. -/
def oddK (k : FVec Ideal S8x4x4096x128 .bf16) : FVec Ideal S8x4x4096x64 .f32 :=
  shapeCast S8x4x4096x64 (extractStridedSlice S8x4x1x4096x64 ![0, 0, 1, 0, 0] (transpose S8x4x2x4096x64 [0, 1, 3, 2, 4] (shapeCast S8x4x4096x2x64 (extf .f32 k bitsLt_bf16_f32) shapeCasts_S8x4x4096x128_S8x4x4096x2x64) transposes_S8x4x4096x2x64_S8x4x2x4096x64_0_1_3_2_4) slices_S8x4x2x4096x64_S8x4x1x4096x64_0_0_1_0_0) shapeCasts_S8x4x1x4096x64_S8x4x4096x64

theorem evenK_at (k : FVec Ideal S8x4x4096x128 .bf16) (b : Fin 8) (p : Fin 4) (s : Fin 4096) (x : Fin 64) :
    evenK k (ix4 b p s x) = k (ix4 b p s ⟨x.val, by omega⟩) := by
  pointwise [evenK]

theorem oddK_at (k : FVec Ideal S8x4x4096x128 .bf16) (b : Fin 8) (p : Fin 4) (s : Fin 4096) (x : Fin 64) :
    oddK k (ix4 b p s x) = k (ix4 b p s ⟨64 + x.val, by omega⟩) := by
  pointwise [oddK]

/-- Two halves side by side. -/
def halves (a b : FVec Ideal S8x4x4096x64 .f32) : FVec Ideal S8x4x4096x128 .f32 :=
  concatenate S8x4x4096x128 3 [⟨S8x4x4096x64, a⟩, ⟨S8x4x4096x64, b⟩] concatenates_S8x4x4096x64_S8x4x4096x64_S8x4x4096x128_d3

theorem halves_at (a a' : FVec Ideal S8x4x4096x64 .f32) (b : Fin 8) (p : Fin 4) (s : Fin 4096) (d : Fin 128) :
    halves a a' (ix4 b p s d) = if h : d.val < 64 then a (ix4 b p s ⟨d.val, h⟩) else a' (ix4 b p s ⟨d.val - 64, by omega⟩) := by
  pointwise [halves]

theorem unfoldHeads (a : FVec Ideal S8x4x2x4096x128 .f32) (b h : Fin 8) (s : Fin 4096) (d : Fin 128) :
    shapeCast S8x8x4096x128 a shapeCasts_S8x4x2x4096x128_S8x8x4096x128 (ix4 b h s d) = a (ix5 b ⟨h.val / 2, by omega⟩ ⟨h.val % 2, by omega⟩ s d) := by
  pointwise

theorem pairUp (a a' : FVec Ideal S8x4x1x4096x128 .f32) (b : Fin 8) (p : Fin 4) (e : Fin 2) (s : Fin 4096) (d : Fin 128) :
    concatenate S8x4x2x4096x128 2 [⟨S8x4x1x4096x128, a⟩, ⟨S8x4x1x4096x128, a'⟩] concatenates_S8x4x1x4096x128_S8x4x1x4096x128_S8x4x2x4096x128_d2 (ix5 b p e s d) = if h : e.val < 1 then a (ix5 b p ⟨e.val, h⟩ s d) else a' (ix5 b p ⟨e.val - 1, by omega⟩ s d) := by
  pointwise

theorem layer (a : FVec Ideal S8x4x4096x128 .f32) (b : Fin 8) (p : Fin 4) (e : Fin 1) (s : Fin 4096) (d : Fin 128) :
    broadcastInDim S8x4x1x4096x128 ![0, 1, 3, 4] bcast_S8x4x4096x128_S8x4x1x4096x128_0_1_3_4 a (ix5 b p e s d) = a (ix4 b p s d) := by
  pointwise

/-- Even and odd heads laid over one another. -/
def stackT (a b : FVec Ideal S8x4x4096x128 .f32) : FVec Ideal S8x8x4096x128 .f32 :=
  shapeCast S8x8x4096x128 (concatenate S8x4x2x4096x128 2 [⟨S8x4x1x4096x128, broadcastInDim S8x4x1x4096x128 ![0, 1, 3, 4] bcast_S8x4x4096x128_S8x4x1x4096x128_0_1_3_4 a⟩, ⟨S8x4x1x4096x128, broadcastInDim S8x4x1x4096x128 ![0, 1, 3, 4] bcast_S8x4x4096x128_S8x4x1x4096x128_0_1_3_4 b⟩] concatenates_S8x4x1x4096x128_S8x4x1x4096x128_S8x4x2x4096x128_d2) shapeCasts_S8x4x2x4096x128_S8x8x4096x128

theorem stackT_at (a a' : FVec Ideal S8x4x4096x128 .f32) (b h : Fin 8) (s : Fin 4096) (d : Fin 128) :
    stackT a a' (ix4 b h s d) = if h.val % 2 < 1 then a (ix4 b ⟨h.val / 2, by omega⟩ s d) else a' (ix4 b ⟨h.val / 2, by omega⟩ s d) := by
  unfold stackT
  rw [unfoldHeads, pairUp]
  by_cases e : h.val % 2 < 1
  · rw [dif_pos e, if_pos e, layer]
  · rw [dif_neg e, if_neg e, layer]

theorem trunc_at (v : FVec Ideal S8x8x4096x128 .f32) (i : S8x8x4096x128.Idx) : truncf .bf16 v bitsLt_bf16_f32 i = v i := rfl

end Cert.Proof.KeyAug
end
-- ==== Proof.RefRun.lean ====
/-
  The reference's run: its result element by element, and its frame.
-/
module

public import proofs.«01_k».proof.Proof.RefVal
public import proofs.«01_k».proof.Proof.Gen.ReferenceIdeal.Run

@[expose] public section

noncomputable section

namespace Cert.Proof.KeyAug

open Idealize.ShloMosaic Idealize.ShloMosaic.TcCoe Idealize.SL.Sem
open Cert.ReferenceIdeal Cert.ReferenceIdeal.Gen

/-- The result's element. -/
def refAt (k : FVec Ideal S8x4x4096x128 .bf16) (cc : FVec Ideal S8x8x4096 .f32) (b h : Fin 8) (s : Fin 4096) (d : Fin 128) : EReal :=
  if d.val < 64 ↔ h.val % 2 = 0 then k (ix4 b ⟨h.val / 2, by omega⟩ s d)
  else if d.val % 64 < 3 then 1 else if d.val % 64 = 3 then -cc (ix3 b h s) else 0

/-- The whole result, from the stages. -/
def refT (k : FVec Ideal S8x4x4096x128 .bf16) (cc : FVec Ideal S8x8x4096 .f32) : FVec Ideal S8x8x4096x128 .bf16 :=
  truncf .bf16 (stackT (halves (evenK k) (evens (biasT cc))) (halves (odds (biasT cc)) (oddK k))) bitsLt_bf16_f32

theorem refT_at (k : FVec Ideal S8x4x4096x128 .bf16) (cc : FVec Ideal S8x8x4096 .f32) (b h : Fin 8) (s : Fin 4096) (d : Fin 128) :
    refT k cc (ix4 b h s d) = refAt k cc b h s d := by
  unfold refT refAt
  rw [trunc_at, stackT_at]
  by_cases hh : h.val % 2 < 1
  · have h2 : h.val % 2 = 0 := by omega
    rw [if_pos hh, halves_at]
    by_cases hd : d.val < 64
    · rw [dif_pos hd, if_pos (by simp only [hd, h2]), evenK_at]
    · rw [dif_neg hd, if_neg (by simp only [hd, h2]; simp), evens_at, biasT_at]
      have e : (⟨h.val / 2 * 2, by omega⟩ : Fin 8) = h := Fin.ext (by simp only; omega)
      simp only [e]
      have e1 : d.val % 64 = d.val - 64 := by omega
      rw [e1]
      by_cases a : d.val - 64 < 3
      · rw [if_pos a, if_pos a]
      · rw [if_neg a, if_neg a]
        by_cases a' : d.val - 64 = 3
        · rw [if_pos a', if_pos (by omega)]
        · rw [if_neg a', if_neg (by omega)]
  · have h2 : ¬ h.val % 2 = 0 := by omega
    rw [if_neg hh, halves_at]
    by_cases hd : d.val < 64
    · rw [dif_pos hd, if_neg (by simp only [hd, h2]; simp), odds_at, biasT_at]
      have e : (⟨h.val / 2 * 2 + 1, by omega⟩ : Fin 8) = h := Fin.ext (by simp only; omega)
      simp only [e]
      have e1 : d.val % 64 = d.val := by omega
      rw [e1]
      by_cases a : d.val < 3
      · rw [if_pos a, if_pos a]
      · rw [if_neg a, if_neg a]
        by_cases a' : d.val = 3
        · rw [if_pos a', if_pos (by omega)]
        · rw [if_neg a', if_neg (by omega)]
    · rw [dif_neg hd, if_pos (by simp only [hd, h2]), oddK_at]
      exact congrArg (fun z => k (ix4 b _ s z)) (Fin.ext (by simp only; omega))

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = refT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.KeyAug
end
-- ==== Proof.Whole.lean ====
/-
  The whole result over the reals is the reference's, element by element, where every bias is finite.
-/
module

public import proofs.«01_k».proof.Proof.Entry
public import proofs.«01_k».proof.Proof.Table
public import proofs.«01_k».proof.Proof.RefRun

@[expose] public section

noncomputable section

namespace Cert.Proof.KeyAug

open Cert.KernelIdeal Cert.KernelIdeal.Gen
open Idealize.ShloMosaic Idealize.ShloMosaic.TcCoe

variable (m : (ℓ : Loc nD τ sig) → Buf (Elt Ideal) ℓ) (c : Dev nD)

theorem trunc_row (v : FVec Ideal S2048x1024 .f32) (i : S2048x1024.Idx) : truncf .bf16 v bitsLt_bf16_f32 i = v i := rfl

/-- One block's value at an element. -/
theorem zVal_at (kb : S1x4x2048x128.Idx → Elt Ideal .bf16) (cb : Vec Ideal S1x2048x32 .f32) (h : Fin 8) (r : Fin 2048) (d : Fin 128) (v : EReal)
    (hv : v - v = 0) (h1 : cb (ix3 0 r 24) = (1 : EReal)) (hc : ∀ k : Fin 32, k.val < 24 → k.val % 8 = h.val → cb (ix3 0 r k) = v) :
    zVal (F := Ideal) kb cb tab h r d = if d.val < 64 ↔ h.val % 2 = 0 then kb (ix4 0 (half h) r d)
      else if d.val % 64 < 3 then 1 else if d.val % 64 = 3 then -v else 0 := by
  unfold zVal
  by_cases own : d.val < 64 ↔ h.val % 2 = 0
  · rw [if_pos own, if_pos own]
  · rw [if_neg own, if_neg own, trunc_row, pay2_at]
    have hx : d.val = laneBase h.val + d.val % 64 := by
      unfold laneBase
      have := d.isLt
      split_ifs with h2
      · simp only [h2, iff_true] at own; omega
      · simp only [h2, iff_false, not_not] at own; omega
    have hs : ∀ k : Fin 32, (k0_pay1 (F := Ideal) cb) (ix2 r k) * tab (ix2 k (col h d))
        = piece k (cb (ix3 0 r k)) * Ideal.ofBits .bf16 (litForm k.val h.val (⟨d.val % 64, Nat.mod_lt _ (by decide)⟩ : Fin 64).val) := by
      intro k; rw [pay1_at, tab_at k h d ⟨d.val % 64, Nat.mod_lt _ (by decide)⟩ hx]
    rw [Finset.sum_congr rfl fun k _ => hs k]
    refine lanes (fun k => piece k (cb (ix3 0 r k))) v hv h ⟨d.val % 64, Nat.mod_lt _ (by decide)⟩ ?_ ?_
    · show piece 24 (cb (ix3 0 r 24)) = 1
      rw [h1]; rfl
    · intro k hk e
      show piece k (cb (ix3 0 r k)) = piece k v
      rw [hc k hk e]

theorem whole_eq (hfin : ∀ i : S8x8x4096.Idx, (show EReal from m ((c : Thread nD τ).loc main_arg1) i) - (show EReal from m ((c : Thread nD τ).loc main_arg1) i) = 0) :
    whole (zRun m c) = refT (m ((c : Thread nD τ).loc main_arg0)) (m ((c : Thread nD τ).loc main_arg1)) := by
  funext y
  obtain ⟨b, h, s, d, rfl⟩ : ∃ b h s d, y = ix4 b h s d := ⟨y 0, y 1, y 2, y 3, eq_ix4 y⟩
  refine Eq.trans ?_ (refT_at _ _ b h s d).symm
  have hs := s.isLt
  have e0 : (2 * b.val + s.val / 2048) / 2 = b.val := by omega
  have e1 : 2048 * ((2 * b.val + s.val / 2048) % 2) + s.val % 2048 = s.val := by omega
  show zBlk c (V m c main_arg0) (V m c main_v2) (eVal c (stg t0_0) (eBuf m c t0_0)) (blkOf (ix4 b h s d)) h ⟨s.val % 2048, _⟩ d = _
  rw [eVal_eq, V_cst]
  have hcb : ∀ k : Fin 32, (cblk (blkOf (ix4 b h s d))).view.read (Elt Ideal) (V m c main_v2) (ix3 0 (⟨s.val % 2048, Nat.mod_lt _ (by decide)⟩ : Fin 2048) k)
      = cols (F := Ideal) (m ((c : Thread nD τ).loc main_arg1)) (ix3 b s k) := by
    intro k
    rw [cblk_at, V_v2]
    congr 1
    exact congrArg₂ (fun p q => ix3 p q k) (Fin.ext e0) (Fin.ext e1)
  refine (zVal_at _ _ h _ d (m ((c : Thread nD τ).loc main_arg1) (ix3 b h s)) (hfin _) ?_ ?_).trans ?_
  · exact (hcb 24).trans (cols_one _ b s)
  · intro k hk e; exact (hcb k).trans (cols_bias _ b s k h hk e)
  · unfold refAt
    by_cases own : d.val < 64 ↔ h.val % 2 = 0
    · rw [if_pos own, if_pos own, kblk_at, V_main_arg0]
      exact congrArg₂ (fun p q => m ((c : Thread nD τ).loc main_arg0) (ix4 p (half h) q d)) (Fin.ext e0) (Fin.ext e1)
    · rw [if_neg own, if_neg own]

end Cert.Proof.KeyAug
end
-- ==== Proof.Finite.lean ====
/-
  What the precondition gives: every bias is a real number, so that it less itself is zero.
-/
module

public import proofs.«01_k».proof.Pre_finite
public import Idealize.ShloMosaic.Lib.ReduceAll
public import Idealize.ShloMosaic.Lib.Pointwise
public import Idealize.ShloMosaic.PureOps.Ideal

@[expose] public section

noncomputable section

namespace Cert.Proof.KeyAug

open Cert.Pre_finite Idealize.ShloMosaic

instance facts_finite : Cert.Pre_finite.Facts where
  bcast_S_S8x8x4096 := by decide
  reducesTo_S8x8x4096_S_d0_1_2 := by decide
  h_S_ := by decide

theorem ofBits_inf_f32 : Ideal.ofBits .f32 0x7F800000#32 = ⊤ := by simp [Ideal.ofBits, Ideal.ieee]

theorem sub_self_of_lt (v : EReal) (h : max v (-v) < ⊤) : v - v = 0 := by
  induction v using EReal.rec with
  | bot => simp at h
  | top => simp at h
  | coe x => rw [← EReal.coe_sub, sub_self, EReal.coe_zero]

theorem sub_self_of_finite (k : FVec Ideal S8x4x4096x128 .bf16) (cc : FVec Ideal S8x8x4096 .f32)
    (h : Cert.Pre_finite.fn (F := Ideal) k cc = fun _ => 1#1) (i : S8x8x4096.Idx) : cc i - cc i = 0 := by
  have e := congrFun h ix0
  dsimp only [fn] at e
  have e' := Host.reduce_andi_all _ _ _ _ ix0 e i
  refine sub_self_of_lt (cc i) ?_
  have : Ideal.cmp .olt (max (cc i) (-(cc i))) (Ideal.ofBits .f32 0x7F800000#32) = 1#1 := e'
  rw [ofBits_inf_f32] at this
  by_contra hn
  simp [Ideal.cmp, hn] at this

end Cert.Proof.KeyAug
end
-- ==== Proof.MlpRow.lean ====
/-
  The feed-forward part of one row, as its formula over the reals, and its sum over the hidden units cut in four.
-/
module

public import Idealize.ShloMosaic.Lib.Pointwise

@[expose] public section

noncomputable section

namespace Cert.Proof.Mlp

open Idealize.ShloMosaic

/-- A row over the root of its mean square, with a gain. -/
def norm (v g : Fin 1024 → EReal) (k : Fin 1024) : EReal :=
  v k * Ideal.rsqrt (Ideal.div (∑ x, v x * v x) (Ideal.ofBits .f32 1149239296#32) + Ideal.ofBits .f32 897988541#32) * g k
/-- One hidden unit: the square of the positive part of a row against the unit's weights. -/
def unit (h w : Fin 1024 → EReal) : EReal := max (∑ x, h x * w x) 0 * max (∑ x, h x * w x) 0
/-- The hidden units of one chunk of 1024, back onto lane `j`. -/
def part (h : Fin 1024 → EReal) (U D : Fin 1024 → Fin 1024 → EReal) (j : Fin 1024) : EReal := ∑ f, unit h (fun x => U x f) * D f j
/-- All 4096 hidden units, back onto lane `j`. -/
def mid (h : Fin 1024 → EReal) (U : Fin 1024 → Fin 4096 → EReal) (D : Fin 4096 → Fin 1024 → EReal) (j : Fin 1024) : EReal :=
  ∑ f, unit h (fun x => U x f) * D f j
/-- The row's result: the row and the normalised second product. -/
def outRow (x g : Fin 1024 → EReal) (U : Fin 1024 → Fin 4096 → EReal) (D : Fin 4096 → Fin 1024 → EReal) (g' : Fin 1024 → EReal) (j : Fin 1024) : EReal :=
  x j + norm (mid (norm x g) U D) g' j

theorem sum_four (a : Fin 4096 → EReal) :
    (((0 + ∑ f : Fin 1024, a ⟨f.val, by omega⟩) + ∑ f : Fin 1024, a ⟨1024 + f.val, by omega⟩) + ∑ f : Fin 1024, a ⟨2048 + f.val, by omega⟩)
      + ∑ f : Fin 1024, a ⟨3072 + f.val, by omega⟩ = ∑ f, a f := by
  rw [zero_add]
  have e3 := Fin.sum_univ_add (a := 3072) (b := 1024) a
  have e2 := Fin.sum_univ_add (a := 2048) (b := 1024) (fun f : Fin 3072 => a ⟨f.val, by omega⟩)
  have e1 := Fin.sum_univ_add (a := 1024) (b := 1024) (fun f : Fin 2048 => a ⟨f.val, by omega⟩)
  refine Eq.trans ?_ e3.symm
  refine congrArg₂ (· + ·) ?_ rfl
  refine Eq.trans ?_ e2.symm
  refine congrArg₂ (· + ·) ?_ rfl
  exact e1.symm

/-- The four chunks, added one after another onto zero, are the whole sum. -/
theorem parts_eq (h : Fin 1024 → EReal) (U : Fin 1024 → Fin 4096 → EReal) (D : Fin 4096 → Fin 1024 → EReal) (j : Fin 1024) :
    (((0 + part h (fun x f => U x ⟨f.val, by omega⟩) (fun f => D ⟨f.val, by omega⟩) j)
      + part h (fun x f => U x ⟨1024 + f.val, by omega⟩) (fun f => D ⟨1024 + f.val, by omega⟩) j)
      + part h (fun x f => U x ⟨2048 + f.val, by omega⟩) (fun f => D ⟨2048 + f.val, by omega⟩) j)
      + part h (fun x f => U x ⟨3072 + f.val, by omega⟩) (fun f => D ⟨3072 + f.val, by omega⟩) j = mid h U D j :=
  sum_four fun f => unit h (fun x => U x f) * D f j

end Cert.Proof.Mlp
end
-- ==== Proof.MlpStage.lean ====
/-
  The feed-forward block, element by element over the reals: each row is the formula of the row.
-/
module

public import proofs.«01_k».proof.Proof.Gen.Kernel2Ideal.Value
public import proofs.«01_k».proof.Proof.MlpRow

@[expose] public section

noncomputable section

namespace Cert.Proof.Mlp

open Cert.Kernel2Ideal Cert.Kernel2Ideal.Gen
open Idealize.ShloMosaic Idealize.ShloMosaic.TcCoe

/-- A row of a block of rows. -/
abbrev row {n k : ℕ} {t : FTy} (v : FVec Ideal (⟨2, ![n, k]⟩ : Shape) t) (r : Fin n) : Fin k → EReal := fun j => v (ix2 r j)

section Stages
variable (a b : Vec Ideal S512x1024 .f32) (g : Vec Ideal S1x1024 .f32) (h : FVec Ideal S512x1024 .bf16) (acc : FVec Ideal S512x1024 .f32)
  (u d u' d' : Vec Ideal S1024x1024 .bf16) (r : Fin 512) (j : Fin 1024)

theorem pay2_at : k0_pay2 (F := Ideal) a (ix2 r j) = a (ix2 r j) := by pointwise [k0_pay2]
theorem pay3_at : k0_pay3 (F := Ideal) a (ix2 r j) = a (ix2 r j) := by pointwise [k0_pay3]
theorem pay4_at : k0_pay4 (F := Ideal) a g (ix2 r j) = norm (fun x => a (ix2 r x)) (fun x => g (ix2 0 x)) j := by
  unfold norm; pointwise [k0_pay4, k0_pay2]
theorem pay5_at : k0_pay5 (F := Ideal) a g (ix2 r j) = norm (fun x => a (ix2 r x)) (fun x => g (ix2 0 x)) j := by
  unfold norm; pointwise [k0_pay5, k0_pay3]
theorem pay6_at : k0_pay6 (F := Ideal) (ix2 r j) = 0 := by pointwise [k0_pay6]
theorem pay7_at : k0_pay7 (F := Ideal) (ix2 r j) = 0 := by pointwise [k0_pay7]
theorem pay8_at : k0_pay8 (F := Ideal) a g u (ix2 r j) = ∑ x, k0_pay4 (F := Ideal) a g (ix2 r x) * u (ix2 x j) := by pointwise [k0_pay8]
theorem pay9_at : k0_pay9 (F := Ideal) h acc u d (ix2 r j) = acc (ix2 r j) + part (fun x => h (ix2 r x)) (fun x f => u (ix2 x f)) (fun f k => d (ix2 f k)) j := by
  unfold part unit; pointwise [k0_pay9]
theorem pay11_at : k0_pay11 (F := Ideal) h u (ix2 r j) = unit (fun x => h (ix2 r x)) (fun x => u (ix2 x j)) := by
  unfold unit; pointwise [k0_pay11]
theorem pay10_at (p : FVec Ideal S512x1024 .f32) : k0_pay10 (F := Ideal) h acc p (Scalar.ofBits .f32 0x00000000#32) d u' d' (ix2 r j)
    = (acc (ix2 r j) + ∑ f, (max (p (ix2 r f)) 0 * max (p (ix2 r f)) 0) * d (ix2 f j))
      + part (fun x => h (ix2 r x)) (fun x f => u' (ix2 x f)) (fun f k => d' (ix2 f k)) j := by
  unfold part unit; pointwise [k0_pay10]
theorem pay12_at (p : FVec Ideal S512x1024 .bf16) : k0_pay12 (F := Ideal) h acc p d u' d' (ix2 r j)
    = (acc (ix2 r j) + ∑ f, p (ix2 r f) * d (ix2 f j))
      + part (fun x => h (ix2 r x)) (fun x f => u' (ix2 x f)) (fun f k => d' (ix2 f k)) j := by
  unfold part unit; pointwise [k0_pay12]
theorem pay13_at : k0_pay13 (F := Ideal) h acc u d u' d' (ix2 r j)
    = (acc (ix2 r j) + part (fun x => h (ix2 r x)) (fun x f => u (ix2 x f)) (fun f k => d (ix2 f k)) j)
      + part (fun x => h (ix2 r x)) (fun x f => u' (ix2 x f)) (fun f k => d' (ix2 f k)) j := by
  unfold part unit; pointwise [k0_pay13]
theorem pay14_at (p : FVec Ideal S512x1024 .f32) : k0_pay14 (F := Ideal) p acc g (ix2 r j)
    = p (ix2 r j) + norm (fun x => acc (ix2 r x)) (fun x => g (ix2 0 x)) j := by
  unfold norm; pointwise [k0_pay14]
theorem pay1_at (p q : FVec Ideal S512x1024 .f32) : k0_pay1 (F := Ideal) p q (ix2 r j) = p (ix2 r j) + q (ix2 r j) := by pointwise [k0_pay1]
/-- The last chunk's sum, which the second chain normalises in one step. -/
theorem pay15_at : k0_pay15 (F := Ideal) h acc u d g (ix2 r j)
    = norm (fun k => acc (ix2 r k) + part (fun x => h (ix2 r x)) (fun x f => u (ix2 x f)) (fun f k => d (ix2 f k)) k) (fun x => g (ix2 0 x)) j := by
  unfold norm part unit; pointwise [k0_pay15]
end Stages

/-- The row's result with the second product added up chunk by chunk. -/
def outParts (x g g' : Fin 1024 → EReal) (u0 d0 u1 d1 u2 d2 u3 d3 : Fin 1024 → Fin 1024 → EReal) (j : Fin 1024) : EReal :=
  x j + norm (fun k => (((0 + part (norm x g) u0 d0 k) + part (norm x g) u1 d1 k) + part (norm x g) u2 d2 k) + part (norm x g) u3 d3 k) g' j

section Chains
variable (a : Vec Ideal S512x1024 .f32) (g g' : Vec Ideal S1x1024 .f32) (u0 d0 u1 d1 u2 d2 u3 d3 : Vec Ideal S1024x1024 .bf16) (r : Fin 512) (j : Fin 1024)

/-- The first chain of the body. -/
theorem chain_top : k0_pay14 (F := Ideal) (k0_pay2 a) (k0_pay13 (k0_pay4 a g) (k0_pay10 (k0_pay4 a g) (k0_pay6 (F := Ideal)) (k0_pay8 a g u0) (Scalar.ofBits .f32 0x00000000#32) d0 u1 d1) u2 d2 u3 d3) g' (ix2 r j)
    = outParts (fun k => a (ix2 r k)) (fun k => g (ix2 0 k)) (fun k => g' (ix2 0 k)) (fun x f => u0 (ix2 x f)) (fun f k => d0 (ix2 f k)) (fun x f => u1 (ix2 x f)) (fun f k => d1 (ix2 f k))
      (fun x f => u2 (ix2 x f)) (fun f k => d2 (ix2 f k)) (fun x f => u3 (ix2 x f)) (fun f k => d3 (ix2 f k)) j := by
  have hh : (fun k => k0_pay4 (F := Ideal) a g (ix2 r k)) = norm (fun x => a (ix2 r x)) (fun x => g (ix2 0 x)) := funext fun k => pay4_at a g r k
  have h8 : ∀ f, k0_pay8 (F := Ideal) a g u0 (ix2 r f) = ∑ x, norm (fun x => a (ix2 r x)) (fun x => g (ix2 0 x)) x * u0 (ix2 x f) := by
    intro f; rw [pay8_at]; exact Finset.sum_congr rfl fun k _ => by rw [pay4_at]
  unfold outParts
  rw [pay14_at, pay2_at]
  refine congrArg (fun p => a (ix2 r j) + norm p _ j) (funext fun k => ?_)
  rw [pay13_at, pay10_at, pay6_at, hh]
  simp only [h8]
  rfl
/-- The second chain of the body. -/
theorem chain_bottom : k0_pay1 (F := Ideal) (k0_pay3 a) (k0_pay15 (k0_pay5 a g) (k0_pay12 (k0_pay5 a g) (k0_pay9 (k0_pay5 a g) (k0_pay7 (F := Ideal)) u0 d0) (k0_pay11 (k0_pay5 a g) u1) d1 u2 d2) u3 d3 g') (ix2 r j)
    = outParts (fun k => a (ix2 r k)) (fun k => g (ix2 0 k)) (fun k => g' (ix2 0 k)) (fun x f => u0 (ix2 x f)) (fun f k => d0 (ix2 f k)) (fun x f => u1 (ix2 x f)) (fun f k => d1 (ix2 f k))
      (fun x f => u2 (ix2 x f)) (fun f k => d2 (ix2 f k)) (fun x f => u3 (ix2 x f)) (fun f k => d3 (ix2 f k)) j := by
  have hh : (fun k => k0_pay5 (F := Ideal) a g (ix2 r k)) = norm (fun x => a (ix2 r x)) (fun x => g (ix2 0 x)) := funext fun k => pay5_at a g r k
  have h11 : ∀ f, k0_pay11 (F := Ideal) (k0_pay5 a g) u1 (ix2 r f) = unit (norm (fun x => a (ix2 r x)) (fun x => g (ix2 0 x))) (fun x => u1 (ix2 x f)) := by
    intro f; rw [pay11_at, hh]
  unfold outParts
  rw [pay1_at, pay3_at, pay15_at]
  refine congrArg (fun p => a (ix2 r j) + norm p _ j) (funext fun k => ?_)
  rw [pay12_at, pay9_at, pay7_at, hh]
  simp only [h11]
  rfl
end Chains

end Cert.Proof.Mlp
end
-- ==== Proof.MlpKer.lean ====
/-
  The feed-forward block, element by element over the reals: each row is the formula of the row.
-/
module

public import proofs.«01_k».proof.Proof.MlpStage

@[expose] public section

noncomputable section

namespace Cert.Proof.Mlp

open Cert.Kernel2Ideal Cert.Kernel2Ideal.Gen
open Idealize.ShloMosaic Idealize.ShloMosaic.TcCoe

theorem eq_ix2_of {n k : ℕ} (y : (⟨2, ![n, k]⟩ : Shape).Idx) {p : Fin n} {q : Fin k} (h0 : (y 0).val = p.val) (h1 : (y 1).val = q.val) : y = ix2 p q := by
  rw [eq_ix2 y]; exact congrArg₂ ix2 (Fin.ext h0) (Fin.ext h1)

section Block
variable (x0 : Vec Ideal S1024x1024 .f32) (x1 : Vec Ideal S1x1024 .f32) (x2 : Vec Ideal S1024x4096 .bf16) (x3 : Vec Ideal S4096x1024 .bf16) (x4 : Vec Ideal S1x1024 .f32)

theorem ld0 (r : Fin 512) (k : Fin 1024) : View.ld x0 r0_0 (ix2 r k) = x0 (ix2 ⟨r.val, by omega⟩ k) :=
  congrArg x0 (eq_ix2_of _ (by show 0 + 1 * r.val = r.val; omega) (by show 0 + 1 * k.val = k.val; omega))
theorem ld1 (r : Fin 512) (k : Fin 1024) : View.ld x0 r0_1 (ix2 r k) = x0 (ix2 ⟨512 + r.val, by omega⟩ k) :=
  congrArg x0 (eq_ix2_of _ (by show 512 + 1 * r.val = 512 + r.val; omega) (by show 0 + 1 * k.val = k.val; omega))
theorem ld2 (k : Fin 1024) : View.ld x1 r0_2 (ix2 0 k) = x1 (ix2 0 k) :=
  congrArg x1 (eq_ix2_of _ (by rfl) (by show 0 + 1 * k.val = k.val; omega))
theorem ld3 (k f : Fin 1024) : View.ld x2 r0_3 (ix2 k f) = x2 (ix2 k ⟨f.val, by omega⟩) :=
  congrArg x2 (eq_ix2_of _ (by show 0 + 1 * k.val = k.val; omega) (by show 0 + 1 * f.val = f.val; omega))
theorem ld4 (f k : Fin 1024) : View.ld x3 r0_4 (ix2 f k) = x3 (ix2 ⟨f.val, by omega⟩ k) :=
  congrArg x3 (eq_ix2_of _ (by show 0 + 1 * f.val = f.val; omega) (by show 0 + 1 * k.val = k.val; omega))
theorem ld5 (k f : Fin 1024) : View.ld x2 r0_5 (ix2 k f) = x2 (ix2 k ⟨1024 + f.val, by omega⟩) :=
  congrArg x2 (eq_ix2_of _ (by show 0 + 1 * k.val = k.val; omega) (by show 1024 + 1 * f.val = 1024 + f.val; omega))
theorem ld6 (f k : Fin 1024) : View.ld x3 r0_6 (ix2 f k) = x3 (ix2 ⟨1024 + f.val, by omega⟩ k) :=
  congrArg x3 (eq_ix2_of _ (by show 1024 + 1 * f.val = 1024 + f.val; omega) (by show 0 + 1 * k.val = k.val; omega))
theorem ld7 (k f : Fin 1024) : View.ld x2 r0_7 (ix2 k f) = x2 (ix2 k ⟨2048 + f.val, by omega⟩) :=
  congrArg x2 (eq_ix2_of _ (by show 0 + 1 * k.val = k.val; omega) (by show 2048 + 1 * f.val = 2048 + f.val; omega))
theorem ld8 (f k : Fin 1024) : View.ld x3 r0_8 (ix2 f k) = x3 (ix2 ⟨2048 + f.val, by omega⟩ k) :=
  congrArg x3 (eq_ix2_of _ (by show 2048 + 1 * f.val = 2048 + f.val; omega) (by show 0 + 1 * k.val = k.val; omega))
theorem ld9 (k f : Fin 1024) : View.ld x2 r0_9 (ix2 k f) = x2 (ix2 k ⟨3072 + f.val, by omega⟩) :=
  congrArg x2 (eq_ix2_of _ (by show 0 + 1 * k.val = k.val; omega) (by show 3072 + 1 * f.val = 3072 + f.val; omega))
theorem ld10 (f k : Fin 1024) : View.ld x3 r0_10 (ix2 f k) = x3 (ix2 ⟨3072 + f.val, by omega⟩ k) :=
  congrArg x3 (eq_ix2_of _ (by show 3072 + 1 * f.val = 3072 + f.val; omega) (by show 0 + 1 * k.val = k.val; omega))

/-- The block's formula at a row and a lane. -/
abbrev blkAt (r j : Fin 1024) : EReal :=
  outRow (fun k => x0 (ix2 r k)) (fun k => x1 (ix2 0 k)) (fun k f => x2 (ix2 k f)) (fun f k => x3 (ix2 f k)) (fun k => x4 (ix2 0 k)) j

theorem outParts_eq {x g g' x' y y' : Fin 1024 → EReal} {u0 d0 u1 d1 u2 d2 u3 d3 : Fin 1024 → Fin 1024 → EReal} (U : Fin 1024 → Fin 4096 → EReal) (D : Fin 4096 → Fin 1024 → EReal) (j : Fin 1024)
    (hx : ∀ k, x k = x' k) (hg : ∀ k, g k = y k) (hg' : ∀ k, g' k = y' k)
    (hu0 : ∀ k (f : Fin 1024), u0 k f = U k ⟨f.val, by omega⟩) (hd0 : ∀ (f : Fin 1024) k, d0 f k = D ⟨f.val, by omega⟩ k)
    (hu1 : ∀ k (f : Fin 1024), u1 k f = U k ⟨1024 + f.val, by omega⟩) (hd1 : ∀ (f : Fin 1024) k, d1 f k = D ⟨1024 + f.val, by omega⟩ k)
    (hu2 : ∀ k (f : Fin 1024), u2 k f = U k ⟨2048 + f.val, by omega⟩) (hd2 : ∀ (f : Fin 1024) k, d2 f k = D ⟨2048 + f.val, by omega⟩ k)
    (hu3 : ∀ k (f : Fin 1024), u3 k f = U k ⟨3072 + f.val, by omega⟩) (hd3 : ∀ (f : Fin 1024) k, d3 f k = D ⟨3072 + f.val, by omega⟩ k) :
    outParts x g g' u0 d0 u1 d1 u2 d2 u3 d3 j = outRow x' y U D y' j := by
  obtain rfl : x = x' := funext hx
  obtain rfl : g = y := funext hg
  obtain rfl : g' = y' := funext hg'
  obtain rfl : u0 = _ := funext fun k => funext (hu0 k)
  obtain rfl : d0 = _ := funext fun k => funext (hd0 k)
  obtain rfl : u1 = _ := funext fun k => funext (hu1 k)
  obtain rfl : d1 = _ := funext fun k => funext (hd1 k)
  obtain rfl : u2 = _ := funext fun k => funext (hu2 k)
  obtain rfl : d2 = _ := funext fun k => funext (hd2 k)
  obtain rfl : u3 = _ := funext fun k => funext (hu3 k)
  obtain rfl : d3 = _ := funext fun k => funext (hd3 k)
  unfold outParts outRow
  exact congrArg (fun p => x j + norm p g' j) (funext fun k => parts_eq _ U D k)

section Rows
variable (r : Fin 512) (j : Fin 1024)
theorem top : k0_pay14 (F := Ideal) (k0_pay2 (View.ld x0 r0_0)) (k0_pay13 (k0_pay4 (View.ld x0 r0_0) (View.ld x1 r0_2)) (k0_pay10 (k0_pay4 (View.ld x0 r0_0) (View.ld x1 r0_2)) (k0_pay6 (F := Ideal)) (k0_pay8 (View.ld x0 r0_0) (View.ld x1 r0_2) (View.ld x2 r0_3)) (Scalar.ofBits .f32 0x00000000#32) (View.ld x3 r0_4) (View.ld x2 r0_5) (View.ld x3 r0_6)) (View.ld x2 r0_7) (View.ld x3 r0_8) (View.ld x2 r0_9) (View.ld x3 r0_10)) (View.ld x4 r0_2) (ix2 r j)
    = blkAt x0 x1 x2 x3 x4 ⟨r.val, by omega⟩ j :=
  (chain_top (View.ld x0 r0_0) (View.ld x1 r0_2) (View.ld x4 r0_2) (View.ld x2 r0_3) (View.ld x3 r0_4) (View.ld x2 r0_5) (View.ld x3 r0_6) (View.ld x2 r0_7) (View.ld x3 r0_8) (View.ld x2 r0_9) (View.ld x3 r0_10) r j).trans
    (outParts_eq (fun k f => x2 (ix2 k f)) (fun f k => x3 (ix2 f k)) j (fun k => ld0 x0 r k) (fun k => ld2 x1 k) (fun k => ld2 x4 k)
      (fun k f => ld3 x2 k f) (fun f k => ld4 x3 f k) (fun k f => ld5 x2 k f) (fun f k => ld6 x3 f k) (fun k f => ld7 x2 k f) (fun f k => ld8 x3 f k) (fun k f => ld9 x2 k f) (fun f k => ld10 x3 f k))
theorem bottom : k0_pay1 (F := Ideal) (k0_pay3 (View.ld x0 r0_1)) (k0_pay15 (k0_pay5 (View.ld x0 r0_1) (View.ld x1 r0_2)) (k0_pay12 (k0_pay5 (View.ld x0 r0_1) (View.ld x1 r0_2)) (k0_pay9 (k0_pay5 (View.ld x0 r0_1) (View.ld x1 r0_2)) (k0_pay7 (F := Ideal)) (View.ld x2 r0_3) (View.ld x3 r0_4)) (k0_pay11 (k0_pay5 (View.ld x0 r0_1) (View.ld x1 r0_2)) (View.ld x2 r0_5)) (View.ld x3 r0_6) (View.ld x2 r0_7) (View.ld x3 r0_8)) (View.ld x2 r0_9) (View.ld x3 r0_10) (View.ld x4 r0_2)) (ix2 r j)
    = blkAt x0 x1 x2 x3 x4 ⟨512 + r.val, by omega⟩ j :=
  (chain_bottom (View.ld x0 r0_1) (View.ld x1 r0_2) (View.ld x4 r0_2) (View.ld x2 r0_3) (View.ld x3 r0_4) (View.ld x2 r0_5) (View.ld x3 r0_6) (View.ld x2 r0_7) (View.ld x3 r0_8) (View.ld x2 r0_9) (View.ld x3 r0_10) r j).trans
    (outParts_eq (fun k f => x2 (ix2 k f)) (fun f k => x3 (ix2 f k)) j (fun k => ld1 x0 r k) (fun k => ld2 x1 k) (fun k => ld2 x4 k)
      (fun k f => ld3 x2 k f) (fun f k => ld4 x3 f k) (fun k f => ld5 x2 k f) (fun f k => ld6 x3 f k) (fun k f => ld7 x2 k f) (fun f k => ld8 x3 f k) (fun k f => ld9 x2 k f) (fun f k => ld10 x3 f k))
end Rows

theorem r0_1_emb (r : Fin 512) (j : Fin 1024) (q : Fin 1024) (hq : q.val = 512 + r.val) : (r0_1 : Rect S1024x1024).emb (ix2 r j) = ix2 q j :=
  eq_ix2_of _ (by show 512 + 1 * r.val = q.val; omega) (by show 0 + 1 * j.val = j.val; omega)
theorem r0_0_emb (r : Fin 512) (j : Fin 1024) (q : Fin 1024) (hq : q.val = r.val) : (r0_0 : Rect S1024x1024).emb (ix2 r j) = ix2 q j :=
  eq_ix2_of _ (by show 0 + 1 * r.val = q.val; omega) (by show 0 + 1 * j.val = j.val; omega)
theorem not_mem_r0_1 (r j : Fin 1024) (h : r.val < 512) : (ix2 r j : S1024x1024.Idx) ∉ (r0_1 : Rect S1024x1024).set := by
  rw [Rect.mem_set_unit]
  intro H
  have a0 : 512 ≤ r.val ∧ r.val < 512 + 512 := H 0
  omega

theorem second_piece {Val : EltTy → Type} [∀ e, Nonempty (Val e)] {S : Shape} {e : EltTy} (R R' : Rect S) (p : R.shape.Idx → Val e) (q : R'.shape.Idx → Val e)
    (y : S.Idx) (x : R'.shape.Idx) (hy : y ∉ R.set) (hx : R'.emb x = y) : View.canon (Val := Val) [⟨R, p⟩, ⟨R', q⟩] y = q x := by
  rw [View.canon_cons_of_not_mem _ _ hy, ← hx, View.canon_cons_emb]
theorem first_piece {Val : EltTy → Type} [∀ e, Nonempty (Val e)] {S : Shape} {e : EltTy} (R R' : Rect S) (p : R.shape.Idx → Val e) (q : R'.shape.Idx → Val e)
    (y : S.Idx) (x : R.shape.Idx) (hx : R.emb x = y) : View.canon (Val := Val) [⟨R, p⟩, ⟨R', q⟩] y = p x := by
  rw [← hx, View.canon_cons_emb]

/-- The block whole: rows below 512 from the first chain, the others from the second. -/
theorem out_at (r j : Fin 1024) : out0_5 (F := Ideal) x0 x1 x2 x3 x4 (ix2 r j) = blkAt x0 x1 x2 x3 x4 r j := by
  unfold out0_5
  by_cases h : r.val < 512
  · exact (second_piece r0_1 r0_0 _ _ (ix2 r j) (ix2 ⟨r.val, h⟩ j) (not_mem_r0_1 r j h) (r0_0_emb ⟨r.val, h⟩ j r rfl)).trans (top x0 x1 x2 x3 x4 ⟨r.val, h⟩ j)
  · refine (first_piece r0_1 r0_0 _ _ (ix2 r j) (ix2 ⟨r.val - 512, by omega⟩ j) (r0_1_emb ⟨r.val - 512, by omega⟩ j r (by show r.val = 512 + (r.val - 512); omega))).trans ((bottom x0 x1 x2 x3 x4 ⟨r.val - 512, by omega⟩ j).trans ?_)
    exact congrArg (fun q => blkAt x0 x1 x2 x3 x4 q j) (Fin.ext (by show 512 + (r.val - 512) = r.val; omega))
end Block

end Cert.Proof.Mlp
end
-- ==== Proof.MlpWhole.lean ====
/-
  The feed-forward result over the reals, element by element: each row is the formula of that row of the input.
-/
module

public import proofs.«01_k».proof.Proof.MlpKer
public import Idealize.ShloMosaic.Lib.Claim

@[expose] public section

noncomputable section

namespace Cert.Proof.Mlp

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

/-! ## What the call is given -/

theorem flat_x (v : FVec Ideal S8x4096x1024 .f32) (i : Fin 32768) (k : Fin 1024) : shapeCast S32768x1024 v shapeCasts_S8x4096x1024_S32768x1024 (ix2 i k)
    = v (ix3 (⟨i.val / 4096, by omega⟩ : Fin 8) (⟨i.val % 4096, by omega⟩ : Fin 4096) k) := by pointwise
theorem lift_at (v : FVec Ideal S1024 .f32) (k : Fin 1024) : shapeCast S1x1024 v shapeCasts_S1024_S1x1024 (ix2 0 k) = v (ix1 k) := by pointwise

/-- Row `i` of the flattened input: position `i % 4096` of batch `i / 4096`. -/
theorem V_x (i : Fin 32768) (k : Fin 1024) : V m c main_v0 (ix2 i k)
    = m ((c : Thread nD τ).loc main_arg0) (ix3 (⟨i.val / 4096, by omega⟩ : Fin 8) (⟨i.val % 4096, by omega⟩ : Fin 4096) k) := by
  have e : V m c main_v0 = shapeCast S32768x1024 (m ((c : Thread nD τ).loc main_arg0)) shapeCasts_S8x4096x1024_S32768x1024 := by
    show after hostOps0 _ _ = _
    after_results <;> rfl
  exact (congrFun e _).trans (flat_x _ i k)
theorem V_gpre (k : Fin 1024) : V m c main_v1 (ix2 0 k) = m ((c : Thread nD τ).loc main_arg1) (ix1 k) := by
  have e : V m c main_v1 = shapeCast S1x1024 (m ((c : Thread nD τ).loc main_arg1)) shapeCasts_S1024_S1x1024 := by
    show after hostOps0 _ _ = _
    after_results <;> rfl
  exact (congrFun e _).trans (lift_at _ k)
theorem V_gpost (k : Fin 1024) : V m c main_v4 (ix2 0 k) = m ((c : Thread nD τ).loc main_arg4) (ix1 k) := by
  have e : V m c main_v4 = shapeCast S1x1024 (m ((c : Thread nD τ).loc main_arg4)) shapeCasts_S1024_S1x1024 := by
    show after hostOps0 _ _ = _
    after_results <;> rfl
  exact (congrFun e _).trans (lift_at _ k)
theorem V_up (k : Fin 1024) (f : Fin 4096) : V m c main_v2 (ix2 k f) = m ((c : Thread nD τ).loc main_arg2) (ix2 k f) := by
  have e : V m c main_v2 = truncf (F := Ideal) .bf16 (m ((c : Thread nD τ).loc main_arg2)) bitsLt_bf16_f32 := by
    show after hostOps0 _ _ = _
    after_results <;> rfl
  exact congrFun e _
theorem V_down (f : Fin 4096) (k : Fin 1024) : V m c main_v3 (ix2 f k) = m ((c : Thread nD τ).loc main_arg3) (ix2 f k) := by
  have e : V m c main_v3 = truncf (F := Ideal) .bf16 (m ((c : Thread nD τ).loc main_arg3)) bitsLt_bf16_f32 := by
    show after hostOps0 _ _ = _
    after_results <;> rfl
  exact congrFun e _

/-! ## The blocks of the operands -/

theorem idx0 : ∀ t : Fin cfg0.N, win0_0.index t (0 : Fin 2) = t.val ∧ win0_0.index t (1 : Fin 2) = 0 := (by decide +kernel : ∀ t : Fin grid0.N, win0_0.index t (0 : Fin 2) = t.val ∧ win0_0.index t (1 : Fin 2) = 0)
theorem idx5 : ∀ t : Fin cfg0.N, win0_5.index t (0 : Fin 2) = t.val ∧ win0_5.index t (1 : Fin 2) = 0 := (by decide +kernel : ∀ t : Fin grid0.N, win0_5.index t (0 : Fin 2) = t.val ∧ win0_5.index t (1 : Fin 2) = 0)

theorem lt_rows (t : Fin cfg0.N) (r : Fin 1024) : 1024 * t.val + r.val < 32768 := by
  have : t.val < 32 := t.isLt
  omega

theorem blk0_at (t : Fin cfg0.N) (g : main_v0.ty.Contents (Elt Ideal)) (r k : Fin 1024) :
    ((cfg0.win 0).blk t).view.read (Elt Ideal) g (ix2 r k) = g (ix2 ⟨1024 * t.val + r.val, lt_rows t r⟩ k) := by
  refine congrArg g (eq_ix2_of _ ?_ ?_)
  · show win0_0.index t (0 : Fin 2) * 1024 + 1 * r.val = 1024 * t.val + r.val
    rw [(idx0 t).1]; omega
  · show win0_0.index t (1 : Fin 2) * 1024 + 1 * k.val = k.val
    rw [(idx0 t).2]; omega
theorem blk5_at (t : Fin cfg0.N) (g : main_v5.ty.Contents (Elt Ideal)) (r k : Fin 1024) :
    ((cfg0.win 5).blk t).view.read (Elt Ideal) g (ix2 r k) = g (ix2 ⟨1024 * t.val + r.val, lt_rows t r⟩ k) := by
  refine congrArg g (eq_ix2_of _ ?_ ?_)
  · show win0_5.index t (0 : Fin 2) * 1024 + 1 * r.val = 1024 * t.val + r.val
    rw [(idx5 t).1]; omega
  · show win0_5.index t (1 : Fin 2) * 1024 + 1 * k.val = k.val
    rw [(idx5 t).2]; omega
theorem blk1_at (t : Fin cfg0.N) (g : main_v1.ty.Contents (Elt Ideal)) (k : Fin 1024) :
    ((cfg0.win 1).blk t).view.read (Elt Ideal) g (ix2 0 k) = g (ix2 0 k) :=
  congrArg g (eq_ix2_of _ (by rfl) (by show 0 * 1024 + 1 * k.val = k.val; omega))
theorem blk2_at (t : Fin cfg0.N) (g : main_v2.ty.Contents (Elt Ideal)) (k : Fin 1024) (f : Fin 4096) :
    ((cfg0.win 2).blk t).view.read (Elt Ideal) g (ix2 k f) = g (ix2 k f) :=
  congrArg g (eq_ix2_of _ (by show 0 * 1024 + 1 * k.val = k.val; omega) (by show 0 * 4096 + 1 * f.val = f.val; omega))
theorem blk3_at (t : Fin cfg0.N) (g : main_v3.ty.Contents (Elt Ideal)) (f : Fin 4096) (k : Fin 1024) :
    ((cfg0.win 3).blk t).view.read (Elt Ideal) g (ix2 f k) = g (ix2 f k) :=
  congrArg g (eq_ix2_of _ (by show 0 * 4096 + 1 * f.val = f.val; omega) (by show 0 * 1024 + 1 * k.val = k.val; omega))
theorem blk4_at (t : Fin cfg0.N) (g : main_v4.ty.Contents (Elt Ideal)) (k : Fin 1024) :
    ((cfg0.win 4).blk t).view.read (Elt Ideal) g (ix2 0 k) = g (ix2 0 k) :=
  congrArg g (eq_ix2_of _ (by rfl) (by show 0 * 1024 + 1 * k.val = k.val; omega))

/-! ## The result -/

theorem outRow_congr {x x' g y g' y' : Fin 1024 → EReal} {U U' : Fin 1024 → Fin 4096 → EReal} {D D' : Fin 4096 → Fin 1024 → EReal} (j : Fin 1024)
    (hx : ∀ k, x k = x' k) (hg : ∀ k, g k = y k) (hU : ∀ k f, U k f = U' k f) (hD : ∀ f k, D f k = D' f k) (hg' : ∀ k, g' k = y' k) :
    outRow x g U D g' j = outRow x' y U' D' y' j := by
  obtain rfl : x = x' := funext hx
  obtain rfl : g = y := funext hg
  obtain rfl : g' = y' := funext hg'
  obtain rfl : U = U' := funext fun k => funext (hU k)
  obtain rfl : D = D' := funext fun k => funext (hD k)
  rfl

/-- The formula of row `i` of the input. -/
def at_ (X : FVec Ideal S8x4096x1024 .f32) (g : FVec Ideal S1024 .f32) (U : FVec Ideal S1024x4096 .f32) (D : FVec Ideal S4096x1024 .f32) (g' : FVec Ideal S1024 .f32)
    (i : Fin 32768) (j : Fin 1024) : EReal :=
  outRow (fun k => X (ix3 (⟨i.val / 4096, by omega⟩ : Fin 8) (⟨i.val % 4096, by omega⟩ : Fin 4096) k)) (fun k => g (ix1 k)) (fun k f => U (ix2 k f)) (fun f k => D (ix2 f k)) (fun k => g' (ix1 k)) j

theorem out5_at (t : Fin cfg0.N) (r j : Fin 1024) :
    out0_5 (F := Ideal) (iblk m c 0 t) (iblk m c 1 t) (iblk m c 2 t) (iblk m c 3 t) (iblk m c 4 t) (ix2 r j)
      = at_ (m ((c : Thread nD τ).loc main_arg0)) (m ((c : Thread nD τ).loc main_arg1)) (m ((c : Thread nD τ).loc main_arg2)) (m ((c : Thread nD τ).loc main_arg3)) (m ((c : Thread nD τ).loc main_arg4))
          ⟨1024 * t.val + r.val, lt_rows t r⟩ j := by
  refine (out_at _ _ _ _ _ r j).trans ?_
  unfold at_
  exact outRow_congr j (fun k => (blk0_at t _ r k).trans (V_x m c _ k)) (fun k => (blk1_at t _ k).trans (V_gpre m c k))
    (fun k f => (blk2_at t _ k f).trans (V_up m c k f)) (fun f k => (blk3_at t _ f k).trans (V_down m c f k)) (fun k => (blk4_at t _ k).trans (V_gpost m c k))

/-- The whole result at an element. -/
theorem arr_at (i : Fin 32768) (j : Fin 1024) : (dats m 0 c).arrAt 5 cfg0.N (ix2 i j)
    = at_ (m ((c : Thread nD τ).loc main_arg0)) (m ((c : Thread nD τ).loc main_arg1)) (m ((c : Thread nD τ).loc main_arg2)) (m ((c : Thread nD τ).loc main_arg3)) (m ((c : Thread nD τ).loc main_arg4)) i j := by
  have hi := i.isLt
  let t : Fin cfg0.N := (⟨i.val / 1024, by omega⟩ : Fin 32)
  let r : Fin 1024 := ⟨i.val % 1024, by omega⟩
  have hb := congrFun (Value.blocks5 m c t (flush0_5 t)) (ix2 r j)
  rw [Value.flushed5] at hb
  have e : (⟨1024 * t.val + r.val, lt_rows t r⟩ : Fin 32768) = i := Fin.ext (by show 1024 * (i.val / 1024) + i.val % 1024 = i.val; omega)
  have h1 := (blk5_at t ((dats m 0 c).arrAt 5 cfg0.N) r j).symm.trans hb
  have h2 := h1.trans (out5_at m c t r j)
  rw [e] at h2
  exact h2

end Cert.Proof.Mlp
end
-- ==== Proof.MlpRef.lean ====
/-
  The feed-forward reference, read element by element over the reals.
-/
module

public import proofs.«01_k».proof.Proof.Gen.Reference2Ideal.Run
public import proofs.«01_k».proof.Proof.MlpRow

@[expose] public section

noncomputable section

namespace Cert.Proof.Mlp

open Cert.Reference2Ideal Cert.Reference2Ideal.Gen
open Idealize.ShloMosaic Idealize.ShloMosaic.TcCoe

variable (X : FVec Ideal S8x4096x1024 .f32) (g : FVec Ideal S1024 .f32) (U : FVec Ideal S1024x4096 .f32) (D : FVec Ideal S4096x1024 .f32)
  (H : FVec Ideal S8x4096x1024 .f32) (A : FVec Ideal S8x4096x4096 .f32) (b : Fin 8) (s : Fin 4096)

/-- One over the root of each row's mean square. -/
def refInv : FVec Ideal S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))
/-- The rows normalised. -/
def refNorm : FVec Ideal S8x4096x1024 .f32 :=
  mulf (mulf X (broadcastInDim S8x4096x1024 ![0, 1, 2] bcast_S8x4096x1_S8x4096x1024_0_1_2 (refInv X))) (broadcastInDim S8x4096x1024 ![0, 1, 2] bcast_S1x1x1024_S8x4096x1024_0_1_2 (broadcastInDim S1x1x1024 ![2] bcast_S1024_S1x1x1024_2 g))
/-- The first product's positive part. -/
def refRelu : FVec Ideal S8x4096x4096 .f32 :=
  maximumf (Host.dotGeneral dot_S8x4096x1024_S1024x4096_S8x4096x4096_2_0_01_1_n_n none H U) (broadcastInDim S8x4096x4096 ![] bcast_S_S8x4096x4096 (constant S_ .f32 0x00000000#32))
/-- The second product. -/
def refDown : FVec Ideal S8x4096x1024 .f32 := Host.dotGeneral dot_S8x4096x4096_S4096x1024_S8x4096x1024_2_0_01_1_n_n none A D
/-- The reference's term, by stages. -/
def refTerm (g' : FVec Ideal S1024 .f32) : FVec Ideal S32768x1024 .f32 :=
  shapeCast S32768x1024 (addf X (refNorm (refDown D (mulf (refRelu U (refNorm X g)) (refRelu U (refNorm X g)))) g')) shapeCasts_S8x4096x1024_S32768x1024

theorem refInv_at : refInv X (ix3 b s 0) = Ideal.rsqrt (Ideal.div (∑ x, X (ix3 b s x) * X (ix3 b s x)) (Ideal.ofBits .f32 1149239296#32) + Ideal.ofBits .f32 897988541#32) := by
  pointwise [refInv]
theorem refNorm_at (k : Fin 1024) : refNorm X g (ix3 b s k) = norm (fun x => X (ix3 b s x)) (fun x => g (ix1 x)) k := by
  have e : refNorm X g (ix3 b s k) = X (ix3 b s k) * refInv X (ix3 b s 0) * g (ix1 k) := by pointwise [refNorm]
  rw [e, refInv_at]; rfl
theorem refRelu_at (f : Fin 4096) : refRelu U H (ix3 b s f) = max (∑ x, H (ix3 b s x) * U (ix2 x f)) 0 := by pointwise [refRelu]
theorem refDown_at (k : Fin 1024) : refDown D A (ix3 b s k) = ∑ f, A (ix3 b s f) * D (ix2 f k) := by pointwise [refDown]
theorem refAct_at (f : Fin 4096) : mulf (refRelu U H) (refRelu U H) (ix3 b s f) = unit (fun x => H (ix3 b s x)) (fun x => U (ix2 x f)) := by
  have e : mulf (refRelu U H) (refRelu U H) (ix3 b s f) = refRelu U H (ix3 b s f) * refRelu U H (ix3 b s f) := rfl
  rw [e, refRelu_at]; rfl
theorem refMid_at (k : Fin 1024) : refDown D (mulf (refRelu U H) (refRelu U H)) (ix3 b s k) = mid (fun x => H (ix3 b s x)) (fun x f => U (ix2 x f)) (fun f x => D (ix2 f x)) k := by
  rw [refDown_at]; exact Finset.sum_congr rfl fun f _ => by rw [refAct_at]

theorem flat_at (Y : FVec Ideal S8x4096x1024 .f32) (i : Fin 32768) (k : Fin 1024) :
    shapeCast S32768x1024 Y shapeCasts_S8x4096x1024_S32768x1024 (ix2 i k) = Y (ix3 (⟨i.val / 4096, by omega⟩ : Fin 8) (⟨i.val % 4096, by omega⟩ : Fin 4096) k) := by pointwise

theorem refTerm_at (g' : FVec Ideal S1024 .f32) (i : Fin 32768) (j : Fin 1024) : refTerm X g U D g' (ix2 i j)
    = outRow (fun k => X (ix3 (⟨i.val / 4096, by omega⟩ : Fin 8) (⟨i.val % 4096, by omega⟩ : Fin 4096) k)) (fun k => g (ix1 k)) (fun k f => U (ix2 k f)) (fun f k => D (ix2 f k)) (fun k => g' (ix1 k)) j := by
  unfold refTerm outRow
  rw [flat_at]
  refine congrArg (fun p => _ + p) ?_
  rw [refNorm_at]
  refine congrArg (fun p => norm p _ j) (funext fun k => ?_)
  rw [refMid_at]
  exact congrArg (fun p => mid p _ _ k) (funext fun x => refNorm_at X g _ _ x)

theorem res_eq (m : (ℓ : Loc nD τ sig) → Buf (Elt Ideal) ℓ) (c : Dev nD) : Value.res_main_v31 (F := Ideal) m c
    = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Proof.Mlp
end
-- ==== Proof.Tiles.lean ====
/-
  Reading an array that was stored in pieces, and a few facts about indices and normalised rows.
-/
module

public import proofs.«01_k».proof.Proof.MlpRow
public import Idealize.ShloMosaic.Lib.Pipeline.ValueKit

@[expose] public section

noncomputable section

namespace Cert.Proof.Tile

open Idealize.ShloMosaic Idealize.ShloMosaic.View

theorem ix2_of {n k : ℕ} (y : (⟨2, ![n, k]⟩ : Shape).Idx) {p : Fin n} {q : Fin k} (h0 : (y 0).val = p.val) (h1 : (y 1).val = q.val) : y = ix2 p q := by
  rw [eq_ix2 y]; exact congrArg₂ ix2 (Fin.ext h0) (Fin.ext h1)
theorem ix3_of {l n k : ℕ} (y : (⟨3, ![l, n, k]⟩ : Shape).Idx) {o : Fin l} {p : Fin n} {q : Fin k} (h : (y 0).val = o.val) (h0 : (y 1).val = p.val) (h1 : (y 2).val = q.val) :
    y = ix3 o p q := by
  rw [eq_ix3 y, show y 0 = o from Fin.ext h, show y 1 = p from Fin.ext h0, show y 2 = q from Fin.ext h1]
theorem ix4_of {i l n k : ℕ} (y : (⟨4, ![i, l, n, k]⟩ : Shape).Idx) {m : Fin i} {o : Fin l} {p : Fin n} {q : Fin k} (g : (y 0).val = m.val) (h : (y 1).val = o.val) (h0 : (y 2).val = p.val)
    (h1 : (y 3).val = q.val) : y = ix4 m o p q := by
  rw [eq_ix4 y, show y 0 = m from Fin.ext g, show y 1 = o from Fin.ext h, show y 2 = p from Fin.ext h0, show y 3 = q from Fin.ext h1]

section
variable {Val : EltTy → Type} {e : EltTy}
/-- A stored block of rows and lanes, read where it covers. -/
theorem tile3 {N M n m : ℕ} (off1 off2 : ℕ) (w : (⟨3, ![1, n, m]⟩ : Shape).Idx → Val e) (y1 : Fin N) (y2 : Fin M) (v : Val e)
    (h : ∀ (p : Fin n) (q : Fin m), y1.val = off1 + p.val → y2.val = off2 + q.val → w (ix3 0 p q) = v) :
    TileAt (S := (⟨3, ![1, N, M]⟩ : Shape)) (ix3 0 y1 y2) ![0, off1, off2] (⟨3, ![1, n, m]⟩ : Shape).size w v := fun x hx => by
  have h0 : (x 0).val = (0 : Fin 1).val := by have : (x 0).val < 1 := (x 0).isLt; omega
  rw [show x = ix3 0 (x 1) (x 2) from ix3_of x h0 rfl rfl]
  exact h _ _ (hx 1) (hx 2)
/-- The same with one more axis in front. -/
theorem tile4 {L N M n m : ℕ} (a off1 off2 : ℕ) (w : (⟨4, ![1, 1, n, m]⟩ : Shape).Idx → Val e) (y0 : Fin L) (y1 : Fin N) (y2 : Fin M) (v : Val e)
    (h : ∀ (p : Fin n) (q : Fin m), y0.val = a → y1.val = off1 + p.val → y2.val = off2 + q.val → w (ix4 0 0 p q) = v) :
    TileAt (S := (⟨4, ![1, L, N, M]⟩ : Shape)) (ix4 0 y0 y1 y2) ![0, a, off1, off2] (⟨4, ![1, 1, n, m]⟩ : Shape).size w v := fun x hx => by
  have h0 : (x 0).val = (0 : Fin 1).val := by have : (x 0).val < 1 := (x 0).isLt; omega
  have h1' : (x 1).val < 1 := (x 1).isLt
  have h1 : (x 1).val = (0 : Fin 1).val := by show (x 1).val = 0; omega
  rw [show x = ix4 0 0 (x 2) (x 3) from ix4_of x h0 h1 rfl rfl]
  have hx1 : y0.val = a + (x 1).val := hx 1
  exact h _ _ (by omega) (hx 2) (hx 3)
end

theorem norm_congr {v v' g g' : Fin 1024 → EReal} (k : Fin 1024) (hv : ∀ x, v x = v' x) (hg : ∀ x, g x = g' x) : Mlp.norm v g k = Mlp.norm v' g' k := by
  obtain rfl : v = v' := funext hv
  obtain rfl : g = g' := funext hg
  rfl

end Cert.Proof.Tile
end
-- ==== Proof.InStage.lean ====
/-
  The input projection's block, element by element over the reals.
-/
module

public import proofs.«01_k».proof.Proof.Gen.Kernel3Ideal.Value
public import proofs.«01_k».proof.Proof.Tiles

@[expose] public section

noncomputable section

namespace Cert.Proof.In

open Cert.Kernel3Ideal Cert.Kernel3Ideal.Gen
open Idealize.ShloMosaic Idealize.ShloMosaic.TcCoe
open Cert.Proof.Mlp (norm)

/-- The logarithm of the logistic function, as the kernel forms it. -/
def lsig (z : EReal) : EReal := min z 0 - Ideal.log (1 + Ideal.exp (0 - FloatOps.absf (F := Ideal) (φ := .f32) z))
/-- The queries' scale, the named constant. -/
def qs : EReal := Named.named (F := Ideal) κ "q_scale" (φ := .f32) 0x3E38AA3B#32

section Stages
variable (a : Vec Ideal S1x512x1024 .f32) (g : Vec Ideal S1x1024 .f32) (h : FVec Ideal S512x1024 .bf16) (w : Vec Ideal S1040x1024 .bf16) (u : Vec Ideal S1024x1024 .bf16)
  (t : FVec Ideal S1040x512 .f32) (b : Vec Ideal S8x1 .f32) (n : FVec Ideal S512x1024 .f32)

theorem p4 (r : Fin 512) (j : Fin 1024) : k0_pay4 (F := Ideal) a g (ix2 r j) = norm (fun x => a (ix3 0 r x)) (fun x => g (ix2 0 x)) j := by
  unfold Mlp.norm; pointwise [k0_pay4]
theorem p5 (r : Fin 512) (j : Fin 1024) : k0_pay5 (F := Ideal) a g (ix2 r j) = norm (fun x => a (ix3 0 r x)) (fun x => g (ix2 0 x)) j := by
  unfold Mlp.norm; pointwise [k0_pay5]
theorem p6 (c : Fin 1040) (r : Fin 512) : k0_pay6 (F := Ideal) a g w (ix2 c r) = ∑ k, w (ix2 c k) * k0_pay4 (F := Ideal) a g (ix2 r k) := by pointwise [k0_pay6]
theorem p7 (c : Fin 1040) (r : Fin 512) : k0_pay7 (F := Ideal) h w (ix2 c r) = ∑ k, w (ix2 c k) * h (ix2 r k) := by pointwise [k0_pay7]
theorem p8 (c r : Fin 512) : k0_pay8 (F := Ideal) t (ix3 0 c r) = t (ix2 ⟨c.val, by omega⟩ r) * qs := by unfold qs; pointwise [k0_pay8]
theorem p9 (c r : Fin 512) : k0_pay9 (F := Ideal) t (ix3 0 c r) = t (ix2 ⟨512 + c.val, by omega⟩ r) := by pointwise [k0_pay9]
theorem p10 (c : Fin 8) (r : Fin 512) : k0_pay10 (F := Ideal) t b (ix3 0 c r) = lsig (t (ix2 ⟨1024 + c.val, by omega⟩ r) + b (ix2 c 0)) := by
  unfold lsig; pointwise [k0_pay10]
theorem p11 (c r : Fin 512) : k0_pay11 (F := Ideal) h w (ix2 c r) = k0_pay7 (F := Ideal) h w (ix2 ⟨c.val, by omega⟩ r) * qs := by unfold qs; pointwise [k0_pay11]
theorem p12 (v : FVec Ideal S512x512 .bf16) (c r : Fin 512) : k0_pay12 (F := Ideal) v (ix3 0 c r) = v (ix2 c r) := by pointwise [k0_pay12]
theorem p13 (c r : Fin 512) : k0_pay13 (F := Ideal) t (ix3 0 c r) = t (ix2 ⟨512 + c.val, by omega⟩ r) := by pointwise [k0_pay13]
theorem p14 (c : Fin 8) (r : Fin 512) : k0_pay14 (F := Ideal) t b (ix3 0 c r) = lsig (t (ix2 ⟨1024 + c.val, by omega⟩ r) + b (ix2 c 0)) := by
  unfold lsig; pointwise [k0_pay14]
theorem p15 (r : Fin 512) (c : Fin 1024) : k0_pay15 (F := Ideal) h u (ix2 r c) = ∑ k, h (ix2 r k) * u (ix2 k c) := by pointwise [k0_pay15]
theorem p16 (r : Fin 512) (c : Fin 1024) : k0_pay16 (F := Ideal) h u (ix2 r c) = ∑ k, h (ix2 r k) * u (ix2 k c) := by pointwise [k0_pay16]
theorem p17 (r : Fin 512) (l : Fin 128) : k0_pay17 (F := Ideal) h u (ix2 r l) = k0_pay15 (F := Ideal) h u (ix2 r ⟨l.val, by omega⟩) := by pointwise [k0_pay17]
theorem p18 (v : FVec Ideal S512x128 .bf16) (r : Fin 512) (l : Fin 128) : k0_pay18 (F := Ideal) v (ix4 0 0 r l) = v (ix2 r l) := by pointwise [k0_pay18]
theorem p19 (r : Fin 512) (l : Fin 128) : k0_pay19 (F := Ideal) n (ix4 0 0 r l) = n (ix2 r ⟨128 + l.val, by omega⟩) := by pointwise [k0_pay19]
theorem p20 (r : Fin 512) (l : Fin 128) : k0_pay20 (F := Ideal) n (ix4 0 0 r l) = n (ix2 r ⟨256 + l.val, by omega⟩) := by pointwise [k0_pay20]
theorem p21 (r : Fin 512) (l : Fin 128) : k0_pay21 (F := Ideal) n (ix4 0 0 r l) = n (ix2 r ⟨384 + l.val, by omega⟩) := by pointwise [k0_pay21]
theorem p22 (r c : Fin 512) : k0_pay22 (F := Ideal) n (ix3 0 r c) = n (ix2 r ⟨512 + c.val, by omega⟩) := by pointwise [k0_pay22]
theorem p23 (r : Fin 512) (l : Fin 128) : k0_pay23 (F := Ideal) n (ix4 0 0 r l) = n (ix2 r ⟨l.val, by omega⟩) := by pointwise [k0_pay23]
theorem p24 (r : Fin 512) (l : Fin 128) : k0_pay24 (F := Ideal) n (ix4 0 0 r l) = n (ix2 r ⟨128 + l.val, by omega⟩) := by pointwise [k0_pay24]
theorem p1 (r : Fin 512) (l : Fin 128) : k0_pay1 (F := Ideal) n (ix4 0 0 r l) = n (ix2 r ⟨256 + l.val, by omega⟩) := by pointwise [k0_pay1]
theorem p2 (r : Fin 512) (l : Fin 128) : k0_pay2 (F := Ideal) n (ix4 0 0 r l) = n (ix2 r ⟨384 + l.val, by omega⟩) := by pointwise [k0_pay2]
theorem p3 (r c : Fin 512) : k0_pay3 (F := Ideal) n (ix3 0 r c) = n (ix2 r ⟨512 + c.val, by omega⟩) := by pointwise [k0_pay3]
end Stages

end Cert.Proof.In
end
-- ==== Proof.InKer.lean ====
/-
  The input projection's block: its five results as one formula each, whichever of the two chains stored them.
-/
module

public import proofs.«01_k».proof.Proof.InStage

@[expose] public section

noncomputable section

namespace Cert.Proof.In

open Cert.Kernel3Ideal Cert.Kernel3Ideal.Gen
open Idealize.ShloMosaic Idealize.ShloMosaic.TcCoe Idealize.ShloMosaic.View
open Cert.Proof.Mlp (norm)
open Cert.Proof.Tile

section Block
variable (x0 : Vec Ideal S1x1024x1024 .f32) (x1 : Vec Ideal S1x1024 .f32) (x2 : Vec Ideal S1040x1024 .bf16) (x3 : Vec Ideal S1024x1024 .bf16) (x4 : Vec Ideal S8x1 .f32)

theorem ld0 (r : Fin 512) (k : Fin 1024) : View.ld x0 r0_0 (ix3 0 r k) = x0 (ix3 0 ⟨r.val, by omega⟩ k) :=
  congrArg x0 (ix3_of _ (by rfl) (by show 0 + 1 * r.val = r.val; omega) (by show 0 + 1 * k.val = k.val; omega))
theorem ld2 (r : Fin 512) (k : Fin 1024) : View.ld x0 r0_2 (ix3 0 r k) = x0 (ix3 0 ⟨512 + r.val, by omega⟩ k) :=
  congrArg x0 (ix3_of _ (by rfl) (by show 512 + 1 * r.val = 512 + r.val; omega) (by show 0 + 1 * k.val = k.val; omega))
theorem ld1 (k : Fin 1024) : View.ld x1 r0_1 (ix2 0 k) = x1 (ix2 0 k) :=
  congrArg x1 (ix2_of _ (by rfl) (by show 0 + 1 * k.val = k.val; omega))
theorem ld3 (c : Fin 1040) (k : Fin 1024) : View.ld x2 r0_3 (ix2 c k) = x2 (ix2 c k) :=
  congrArg x2 (ix2_of _ (by show 0 + 1 * c.val = c.val; omega) (by show 0 + 1 * k.val = k.val; omega))
theorem ld5 (c : Fin 8) : View.ld x4 r0_5 (ix2 c 0) = x4 (ix2 c 0) :=
  congrArg x4 (ix2_of _ (by show 0 + 1 * c.val = c.val; omega) (by rfl))
theorem ld9 (k c : Fin 1024) : View.ld x3 r0_9 (ix2 k c) = x3 (ix2 k c) :=
  congrArg x3 (ix2_of _ (by show 0 + 1 * k.val = k.val; omega) (by show 0 + 1 * c.val = c.val; omega))

/-- A row of the block normalised. -/
abbrev hrow (r : Fin 1024) : Fin 1024 → EReal := norm (fun x => x0 (ix3 0 r x)) (fun x => x1 (ix2 0 x))
/-- The transposed product: weight row `c` against row `r`. -/
abbrev tAt (c : Fin 1040) (r : Fin 1024) : EReal := ∑ k, x2 (ix2 c k) * hrow x0 x1 r k
/-- The plain product: row `r` against weight column `c`. -/
abbrev nAt (r c : Fin 1024) : EReal := ∑ k, hrow x0 x1 r k * x3 (ix2 k c)

theorem t25 (r : Fin 512) (k : Fin 1024) : k0_pay25 (F := Ideal) x0 x1 x2 x3 x4 (ix2 r k) = hrow x0 x1 ⟨r.val, by omega⟩ k :=
  (p4 (View.ld x0 r0_0) (View.ld x1 r0_1) r k).trans (norm_congr k (fun x => ld0 x0 r x) (fun x => ld1 x1 x))
theorem t26 (r : Fin 512) (k : Fin 1024) : k0_pay26 (F := Ideal) x0 x1 x2 x3 x4 (ix2 r k) = hrow x0 x1 ⟨512 + r.val, by omega⟩ k :=
  (p5 (View.ld x0 r0_2) (View.ld x1 r0_1) r k).trans (norm_congr k (fun x => ld2 x0 r x) (fun x => ld1 x1 x))
theorem t27 (c : Fin 1040) (r : Fin 512) : k0_pay27 (F := Ideal) x0 x1 x2 x3 x4 (ix2 c r) = tAt x0 x1 x2 c ⟨r.val, by omega⟩ :=
  (p6 (View.ld x0 r0_0) (View.ld x1 r0_1) (View.ld x2 r0_3) c r).trans (Finset.sum_congr rfl fun k _ => congrArg₂ (· * ·) (ld3 x2 c k) (t25 x0 x1 x2 x3 x4 r k))
theorem t28' (c : Fin 1040) (r : Fin 512) : k0_pay7 (F := Ideal) (k0_pay26 x0 x1 x2 x3 x4) (View.ld x2 r0_3) (ix2 c r) = tAt x0 x1 x2 c ⟨512 + r.val, by omega⟩ :=
  (p7 (k0_pay26 (F := Ideal) x0 x1 x2 x3 x4) (View.ld x2 r0_3) c r).trans (Finset.sum_congr rfl fun k _ => congrArg₂ (· * ·) (ld3 x2 c k) (t26 x0 x1 x2 x3 x4 r k))
theorem t28 (c : Fin 1040) (r : Fin 512) : k0_pay28 (F := Ideal) x0 x1 x2 x3 x4 (ix2 c r) = tAt x0 x1 x2 c ⟨512 + r.val, by omega⟩ := t28' x0 x1 x2 x3 x4 c r
theorem n29' (r : Fin 512) (c : Fin 1024) : k0_pay15 (F := Ideal) (k0_pay25 x0 x1 x2 x3 x4) (View.ld x3 r0_9) (ix2 r c) = nAt x0 x1 x3 ⟨r.val, by omega⟩ c :=
  (p15 (k0_pay25 (F := Ideal) x0 x1 x2 x3 x4) (View.ld x3 r0_9) r c).trans (Finset.sum_congr rfl fun k _ => congrArg₂ (· * ·) (t25 x0 x1 x2 x3 x4 r k) (ld9 x3 k c))
theorem n29 (r : Fin 512) (c : Fin 1024) : k0_pay29 (F := Ideal) x0 x1 x2 x3 x4 (ix2 r c) = nAt x0 x1 x3 ⟨r.val, by omega⟩ c := n29' x0 x1 x2 x3 x4 r c
theorem n30 (r : Fin 512) (c : Fin 1024) : k0_pay30 (F := Ideal) x0 x1 x2 x3 x4 (ix2 r c) = nAt x0 x1 x3 ⟨512 + r.val, by omega⟩ c :=
  (p16 (k0_pay26 (F := Ideal) x0 x1 x2 x3 x4) (View.ld x3 r0_9) r c).trans (Finset.sum_congr rfl fun k _ => congrArg₂ (· * ·) (t26 x0 x1 x2 x3 x4 r k) (ld9 x3 k c))

/-- The queries, transposed and scaled. -/
theorem out5_at (c : Fin 512) (r : Fin 1024) : out0_5 (F := Ideal) x0 x1 x2 x3 x4 (ix3 0 c r) = tAt x0 x1 x2 ⟨c.val, by omega⟩ r * qs := by
  unfold out0_5
  refine canon_eq_of_allAt _ _ _ (cover0_5 _ _ _) (allAt_cons_unit _ _ _ _ _ (tile3 0 512 _ c r _ ?_) (allAt_cons_unit _ _ _ _ _ (tile3 0 0 _ c r _ ?_) (allAt_nil _ _)))
  · intro p q hp hq
    refine (p12 _ p q).trans ((p11 _ _ p q).trans (congrArg (· * qs) ((t28' x0 x1 x2 x3 x4 _ q).trans ?_)))
    exact congrArg₂ (tAt x0 x1 x2) (Fin.ext (by show p.val = c.val; omega)) (Fin.ext (by show 512 + q.val = r.val; omega))
  · intro p q hp hq
    refine (p8 _ p q).trans (congrArg (· * qs) ((t27 x0 x1 x2 x3 x4 _ q).trans ?_))
    exact congrArg₂ (tAt x0 x1 x2) (Fin.ext (by show p.val = c.val; omega)) (Fin.ext (by show q.val = r.val; omega))
/-- The values, transposed. -/
theorem out7_at (c : Fin 512) (r : Fin 1024) : out0_7 (F := Ideal) x0 x1 x2 x3 x4 (ix3 0 c r) = tAt x0 x1 x2 ⟨512 + c.val, by omega⟩ r := by
  unfold out0_7
  refine canon_eq_of_allAt _ _ _ (cover0_7 _ _ _) (allAt_cons_unit _ _ _ _ _ (tile3 0 512 _ c r _ ?_) (allAt_cons_unit _ _ _ _ _ (tile3 0 0 _ c r _ ?_) (allAt_nil _ _)))
  · intro p q hp hq
    refine (p13 _ p q).trans ((t28 x0 x1 x2 x3 x4 _ q).trans ?_)
    exact congrArg₂ (tAt x0 x1 x2) (Fin.ext (by show 512 + p.val = 512 + c.val; omega)) (Fin.ext (by show 512 + q.val = r.val; omega))
  · intro p q hp hq
    refine (p9 _ p q).trans ((t27 x0 x1 x2 x3 x4 _ q).trans ?_)
    exact congrArg₂ (tAt x0 x1 x2) (Fin.ext (by show 512 + p.val = 512 + c.val; omega)) (Fin.ext (by show q.val = r.val; omega))
/-- The forget gates' logarithms. -/
theorem out8_at (c : Fin 8) (r : Fin 1024) : out0_8 (F := Ideal) x0 x1 x2 x3 x4 (ix3 0 c r) = lsig (tAt x0 x1 x2 ⟨1024 + c.val, by omega⟩ r + x4 (ix2 c 0)) := by
  unfold out0_8
  refine canon_eq_of_allAt _ _ _ (cover0_8 _ _ _) (allAt_cons_unit _ _ _ _ _ (tile3 0 512 _ c r _ ?_) (allAt_cons_unit _ _ _ _ _ (tile3 0 0 _ c r _ ?_) (allAt_nil _ _)))
  · intro p q hp hq
    obtain rfl : p = c := Fin.ext (by omega)
    refine (p14 _ _ p q).trans (congrArg lsig (congrArg₂ (· + ·) ((t28 x0 x1 x2 x3 x4 _ q).trans ?_) (ld5 x4 p)))
    exact congrArg (tAt x0 x1 x2 _) (Fin.ext (by show 512 + q.val = r.val; omega))
  · intro p q hp hq
    obtain rfl : p = c := Fin.ext (by omega)
    refine (p10 _ _ p q).trans (congrArg lsig (congrArg₂ (· + ·) ((t27 x0 x1 x2 x3 x4 _ q).trans ?_) (ld5 x4 p)))
    exact congrArg (tAt x0 x1 x2 _) (Fin.ext (by show q.val = r.val; omega))
/-- The pooling mixer's input. -/
theorem out9_at (r : Fin 1024) (c : Fin 512) : out0_9 (F := Ideal) x0 x1 x2 x3 x4 (ix3 0 r c) = nAt x0 x1 x3 r ⟨512 + c.val, by omega⟩ := by
  unfold out0_9
  refine canon_eq_of_allAt _ _ _ (cover0_9 _ _ _) (allAt_cons_unit _ _ _ _ _ (tile3 512 0 _ r c _ ?_) (allAt_cons_unit _ _ _ _ _ (tile3 0 0 _ r c _ ?_) (allAt_nil _ _)))
  · intro p q hp hq
    refine (p3 _ p q).trans ((n30 x0 x1 x2 x3 x4 p _).trans ?_)
    exact congrArg₂ (nAt x0 x1 x3) (Fin.ext (by show 512 + p.val = r.val; omega)) (Fin.ext (by show 512 + q.val = 512 + c.val; omega))
  · intro p q hp hq
    refine (p22 _ p q).trans ((n29 x0 x1 x2 x3 x4 p _).trans ?_)
    exact congrArg₂ (nAt x0 x1 x3) (Fin.ext (by show p.val = r.val; omega)) (Fin.ext (by show 512 + q.val = 512 + c.val; omega))
/-- The keys, in pairs of heads. -/
theorem out6_at (a : Fin 4) (r : Fin 1024) (l : Fin 128) : out0_6 (F := Ideal) x0 x1 x2 x3 x4 (ix4 0 a r l) = nAt x0 x1 x3 r ⟨128 * a.val + l.val, by omega⟩ := by
  unfold out0_6
  refine canon_eq_of_allAt _ _ _ (cover0_6 _ _ _ _ _ _ _ _ _) (allAt_cons_unit _ _ _ _ _ (tile4 3 512 0 _ a r l _ ?_) (allAt_cons_unit _ _ _ _ _ (tile4 2 512 0 _ a r l _ ?_)
    (allAt_cons_unit _ _ _ _ _ (tile4 1 512 0 _ a r l _ ?_) (allAt_cons_unit _ _ _ _ _ (tile4 0 512 0 _ a r l _ ?_)
    (allAt_cons_unit _ _ _ _ _ (tile4 3 0 0 _ a r l _ ?_) (allAt_cons_unit _ _ _ _ _ (tile4 2 0 0 _ a r l _ ?_)
    (allAt_cons_unit _ _ _ _ _ (tile4 1 0 0 _ a r l _ ?_) (allAt_cons_unit _ _ _ _ _ (tile4 0 0 0 _ a r l _ ?_) (allAt_nil _ _)))))))))
  · intro p q ha hp hq
    refine (p2 _ p q).trans ((n30 x0 x1 x2 x3 x4 p _).trans ?_)
    exact congrArg₂ (nAt x0 x1 x3) (Fin.ext (by show 512 + p.val = r.val; omega)) (Fin.ext (by show 384 + q.val = 128 * a.val + l.val; omega))
  · intro p q ha hp hq
    refine (p1 _ p q).trans ((n30 x0 x1 x2 x3 x4 p _).trans ?_)
    exact congrArg₂ (nAt x0 x1 x3) (Fin.ext (by show 512 + p.val = r.val; omega)) (Fin.ext (by show 256 + q.val = 128 * a.val + l.val; omega))
  · intro p q ha hp hq
    refine (p24 _ p q).trans ((n30 x0 x1 x2 x3 x4 p _).trans ?_)
    exact congrArg₂ (nAt x0 x1 x3) (Fin.ext (by show 512 + p.val = r.val; omega)) (Fin.ext (by show 128 + q.val = 128 * a.val + l.val; omega))
  · intro p q ha hp hq
    refine (p23 _ p q).trans ((n30 x0 x1 x2 x3 x4 p _).trans ?_)
    exact congrArg₂ (nAt x0 x1 x3) (Fin.ext (by show 512 + p.val = r.val; omega)) (Fin.ext (by show q.val = 128 * a.val + l.val; omega))
  · intro p q ha hp hq
    refine (p21 _ p q).trans ((n29 x0 x1 x2 x3 x4 p _).trans ?_)
    exact congrArg₂ (nAt x0 x1 x3) (Fin.ext (by show p.val = r.val; omega)) (Fin.ext (by show 384 + q.val = 128 * a.val + l.val; omega))
  · intro p q ha hp hq
    refine (p20 _ p q).trans ((n29 x0 x1 x2 x3 x4 p _).trans ?_)
    exact congrArg₂ (nAt x0 x1 x3) (Fin.ext (by show p.val = r.val; omega)) (Fin.ext (by show 256 + q.val = 128 * a.val + l.val; omega))
  · intro p q ha hp hq
    refine (p19 _ p q).trans ((n29 x0 x1 x2 x3 x4 p _).trans ?_)
    exact congrArg₂ (nAt x0 x1 x3) (Fin.ext (by show p.val = r.val; omega)) (Fin.ext (by show 128 + q.val = 128 * a.val + l.val; omega))
  · intro p q ha hp hq
    refine (p18 _ p q).trans ((p17 _ _ p q).trans ((n29' x0 x1 x2 x3 x4 p _).trans ?_))
    exact congrArg₂ (nAt x0 x1 x3) (Fin.ext (by show p.val = r.val; omega)) (Fin.ext (by show q.val = 128 * a.val + l.val; omega))
end Block

end Cert.Proof.In
end
-- ==== Proof.InWhole.lean ====
/-
  The input projection's results over the reals, element by element.
-/
module

public import proofs.«01_k».proof.Proof.InKer
public import Idealize.ShloMosaic.Lib.Claim

@[expose] public section

noncomputable section

namespace Cert.Proof.In

open Cert.Kernel3Ideal Cert.Kernel3Ideal.Gen
open Idealize.ShloMosaic Idealize.ShloMosaic.TcCoe Idealize.ShloMosaic.StableHlo
open Cert.Proof.Tile

/-- Column `c` of the projection at row `s` of batch `b`. -/
def proj (X : FVec Ideal S8x4096x1024 .f32) (g : FVec Ideal S1024 .f32) (W : FVec Ideal S1024x2056 .f32) (b : Fin 8) (s : Fin 4096) (c : Fin 2056) : EReal :=
  ∑ k, Mlp.norm (fun x => X (ix3 b s x)) (fun x => g (ix1 x)) k * W (ix2 k c)

/-! ## What the call is given -/

/-- The weights of queries, values and gates, transposed and stacked. -/
def stack (w : FVec Ideal S1024x2056 .bf16) (z : FVec Ideal S_ .bf16) : FVec Ideal S1040x1024 .bf16 :=
  concatenate S1040x1024 0 [⟨S512x1024, transpose S512x1024 [1, 0] (extractStridedSlice S1024x512 ![0, 0] w slices_S1024x2056_S1024x512_0_0) transposes_S1024x512_S512x1024_1_0⟩,
    ⟨S512x1024, transpose S512x1024 [1, 0] (extractStridedSlice S1024x512 ![0, 1024] w slices_S1024x2056_S1024x512_0_1024) transposes_S1024x512_S512x1024_1_0⟩,
    ⟨S16x1024, pad S16x1024 ![0, 0] ![8, 0] ![0, 0] (transpose S8x1024 [1, 0] (extractStridedSlice S1024x8 ![0, 1536] w slices_S1024x2056_S1024x8_0_1536) transposes_S1024x8_S8x1024_1_0) z pads_S8x1024_S16x1024_080_000 h_S_⟩]
    concatenates_S512x1024_S512x1024_S16x1024_S1040x1024_d0
/-- The weights of keys and of the pooling mixer's input, side by side. -/
def side (w : FVec Ideal S1024x2056 .bf16) : FVec Ideal S1024x1024 .bf16 :=
  concatenate S1024x1024 1 [⟨S1024x512, extractStridedSlice S1024x512 ![0, 512] w slices_S1024x2056_S1024x512_0_512⟩, ⟨S1024x512, extractStridedSlice S1024x512 ![0, 1544] w slices_S1024x2056_S1024x512_0_1544⟩]
    concatenates_S1024x512_S1024x512_S1024x1024_d1

theorem stack_q (w : FVec Ideal S1024x2056 .bf16) (z : FVec Ideal S_ .bf16) (c : Fin 512) (k : Fin 1024) : stack w z (ix2 ⟨c.val, by omega⟩ k) = w (ix2 k ⟨c.val, by omega⟩) := by
  pointwise [stack]
theorem stack_v (w : FVec Ideal S1024x2056 .bf16) (z : FVec Ideal S_ .bf16) (c : Fin 512) (k : Fin 1024) : stack w z (ix2 ⟨512 + c.val, by omega⟩ k) = w (ix2 k ⟨1024 + c.val, by omega⟩) := by
  pointwise [stack]
theorem stack_f (w : FVec Ideal S1024x2056 .bf16) (z : FVec Ideal S_ .bf16) (c : Fin 8) (k : Fin 1024) : stack w z (ix2 ⟨1024 + c.val, by omega⟩ k) = w (ix2 k ⟨1536 + c.val, by omega⟩) := by
  pointwise [stack]
  rw [dif_neg (by omega), dif_neg (by omega), dif_pos (by omega)]
  exact congrArg w (ix2_of _ rfl (by show 1536 + (1024 + c.val - 512 - 512) = 1536 + c.val; omega))
theorem side_k (w : FVec Ideal S1024x2056 .bf16) (k : Fin 1024) (c : Fin 512) : side w (ix2 k ⟨c.val, by omega⟩) = w (ix2 k ⟨512 + c.val, by omega⟩) := by pointwise [side]
theorem side_u (w : FVec Ideal S1024x2056 .bf16) (k : Fin 1024) (c : Fin 512) : side w (ix2 k ⟨512 + c.val, by omega⟩) = w (ix2 k ⟨1544 + c.val, by omega⟩) := by pointwise [side]
theorem lift_at (v : FVec Ideal S1024 .f32) (k : Fin 1024) : shapeCast S1x1024 v shapeCasts_S1024_S1x1024 (ix2 0 k) = v (ix1 k) := by pointwise
theorem col_at (v : FVec Ideal S8 .f32) (k : Fin 8) : shapeCast S8x1 v shapeCasts_S8_S8x1 (ix2 k 0) = v (ix1 k) := by pointwise

variable (m : (ℓ : Loc nD τ sig) → Buf (Elt Ideal) ℓ) (c : Dev nD)

theorem V_x : V m c main_arg0 = m ((c : Thread nD τ).loc main_arg0) := V_main_arg0 m c
theorem V_g (k : Fin 1024) : V m c main_v12 (ix2 0 k) = m ((c : Thread nD τ).loc main_arg1) (ix1 k) := by
  have e : V m c main_v12 = shapeCast S1x1024 (m ((c : Thread nD τ).loc main_arg1)) shapeCasts_S1024_S1x1024 := by
    show after (List.flatten [hostOps0, hostOps0_1, hostOps0_2]) _ _ = _
    simp only [hostOps0, hostOps0_1, hostOps0_2, List.flatten_cons, List.flatten_nil, List.append_nil, List.cons_append, List.nil_append, TRef.binary, TRef.nullary, TRef.ternary, TRef.unary, TRef.toBuf, TRef.ofBuf, cast_eq]
    after_results <;> rfl
  exact (congrFun e _).trans (lift_at _ k)
theorem V_b (k : Fin 8) : V m c main_v13 (ix2 k 0) = m ((c : Thread nD τ).loc main_arg3) (ix1 k) := by
  have e : V m c main_v13 = shapeCast S8x1 (m ((c : Thread nD τ).loc main_arg3)) shapeCasts_S8_S8x1 := by
    show after (List.flatten [hostOps0, hostOps0_1, hostOps0_2]) _ _ = _
    simp only [hostOps0, hostOps0_1, hostOps0_2, List.flatten_cons, List.flatten_nil, List.append_nil, List.cons_append, List.nil_append, TRef.binary, TRef.nullary, TRef.ternary, TRef.unary, TRef.toBuf, TRef.ofBuf, cast_eq]
    after_results <;> rfl
  exact (congrFun e _).trans (col_at _ k)
theorem V_stack : V m c main_v9 = stack (truncf (F := Ideal) .bf16 (m ((c : Thread nD τ).loc main_arg2)) bitsLt_bf16_f32) (sitofp .bf16 (constantI S_ 32 0#32)) := by
  show after (List.flatten [hostOps0, hostOps0_1, hostOps0_2]) _ _ = _
  simp only [hostOps0, hostOps0_1, hostOps0_2, List.flatten_cons, List.flatten_nil, List.append_nil, List.cons_append, List.nil_append, TRef.binary, TRef.nullary, TRef.ternary, TRef.unary, TRef.toBuf, TRef.ofBuf, cast_eq]
  after_results <;> rfl
theorem V_side : V m c main_v11 = side (truncf (F := Ideal) .bf16 (m ((c : Thread nD τ).loc main_arg2)) bitsLt_bf16_f32) := by
  show after (List.flatten [hostOps0, hostOps0_1, hostOps0_2]) _ _ = _
  simp only [hostOps0, hostOps0_1, hostOps0_2, List.flatten_cons, List.flatten_nil, List.append_nil, List.cons_append, List.nil_append, TRef.binary, TRef.nullary, TRef.ternary, TRef.unary, TRef.toBuf, TRef.ofBuf, cast_eq]
  after_results <;> rfl

/-! ## The blocks of the operands -/

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx5 : ∀ t : Fin cfg0.N, win0_5.index t (0 : Fin 3) = t.val / 4 ∧ win0_5.index t (1 : Fin 3) = 0 ∧ win0_5.index t (2 : Fin 3) = t.val % 4 :=
  (by decide +kernel : ∀ t : Fin grid0.N, win0_5.index t (0 : Fin 3) = t.val / 4 ∧ win0_5.index t (1 : Fin 3) = 0 ∧ win0_5.index t (2 : Fin 3) = t.val % 4)
theorem idx6 : ∀ t : Fin cfg0.N, win0_6.index t (0 : Fin 4) = t.val / 4 ∧ win0_6.index t (1 : Fin 4) = 0 ∧ win0_6.index t (2 : Fin 4) = t.val % 4 ∧ win0_6.index t (3 : Fin 4) = 0 :=
  (by decide +kernel : ∀ t : Fin grid0.N, win0_6.index t (0 : Fin 4) = t.val / 4 ∧ win0_6.index t (1 : Fin 4) = 0 ∧ win0_6.index t (2 : Fin 4) = t.val % 4 ∧ win0_6.index t (3 : Fin 4) = 0)
theorem idx7 : ∀ t : Fin cfg0.N, win0_7.index t (0 : Fin 3) = t.val / 4 ∧ win0_7.index t (1 : Fin 3) = 0 ∧ win0_7.index t (2 : Fin 3) = t.val % 4 :=
  (by decide +kernel : ∀ t : Fin grid0.N, win0_7.index t (0 : Fin 3) = t.val / 4 ∧ win0_7.index t (1 : Fin 3) = 0 ∧ win0_7.index t (2 : Fin 3) = t.val % 4)
theorem idx8 : ∀ t : Fin cfg0.N, win0_8.index t (0 : Fin 3) = t.val / 4 ∧ win0_8.index t (1 : Fin 3) = 0 ∧ win0_8.index t (2 : Fin 3) = t.val % 4 :=
  (by decide +kernel : ∀ t : Fin grid0.N, win0_8.index t (0 : Fin 3) = t.val / 4 ∧ win0_8.index t (1 : Fin 3) = 0 ∧ win0_8.index t (2 : Fin 3) = t.val % 4)
theorem idx9 : ∀ t : Fin cfg0.N, win0_9.index t (0 : Fin 3) = t.val / 4 ∧ win0_9.index t (1 : Fin 3) = t.val % 4 ∧ win0_9.index t (2 : Fin 3) = 0 :=
  (by decide +kernel : ∀ t : Fin grid0.N, win0_9.index t (0 : Fin 3) = t.val / 4 ∧ win0_9.index t (1 : Fin 3) = t.val % 4 ∧ win0_9.index t (2 : Fin 3) = 0)

theorem b_lt (t : Fin cfg0.N) : t.val / 4 < 8 := by
  have : t.val < 32 := t.isLt
  omega
theorem s_lt (t : Fin cfg0.N) (r : Fin 1024) : 1024 * (t.val % 4) + r.val < 4096 := by omega
abbrev bt (t : Fin cfg0.N) : Fin 8 := ⟨t.val / 4, b_lt t⟩
abbrev st (t : Fin cfg0.N) (r : Fin 1024) : Fin 4096 := ⟨1024 * (t.val % 4) + r.val, s_lt t r⟩

theorem blk0_at (t : Fin cfg0.N) (g : main_arg0.ty.Contents (Elt Ideal)) (r : Fin 1024) (k : Fin 1024) :
    ((cfg0.win 0).blk t).view.read (Elt Ideal) g (ix3 0 r k) = g (ix3 (bt t) (st t r) k) := by
  obtain ⟨h0, h1, h2⟩ := idx0 t
  refine congrArg g (ix3_of _ ?_ ?_ ?_)
  · show win0_0.index t (0 : Fin 3) * 1 + 1 * 0 = t.val / 4
    rw [h0]; omega
  · show win0_0.index t (1 : Fin 3) * 1024 + 1 * r.val = 1024 * (t.val % 4) + r.val
    rw [h1]; omega
  · show win0_0.index t (2 : Fin 3) * 1024 + 1 * k.val = k.val
    rw [h2]; omega
theorem blk5_at (t : Fin cfg0.N) (g : main_v14_0.ty.Contents (Elt Ideal)) (q : Fin 512) (r : Fin 1024) :
    ((cfg0.win 5).blk t).view.read (Elt Ideal) g (ix3 0 q r) = g (ix3 (bt t) q (st t r)) := by
  obtain ⟨h0, h1, h2⟩ := idx5 t
  refine congrArg g (ix3_of _ ?_ ?_ ?_)
  · show win0_5.index t (0 : Fin 3) * 1 + 1 * 0 = t.val / 4
    rw [h0]; omega
  · show win0_5.index t (1 : Fin 3) * 512 + 1 * q.val = q.val
    rw [h1]; omega
  · show win0_5.index t (2 : Fin 3) * 1024 + 1 * r.val = 1024 * (t.val % 4) + r.val
    rw [h2]; omega
theorem blk7_at (t : Fin cfg0.N) (g : main_v14_2.ty.Contents (Elt Ideal)) (q : Fin 512) (r : Fin 1024) :
    ((cfg0.win 7).blk t).view.read (Elt Ideal) g (ix3 0 q r) = g (ix3 (bt t) q (st t r)) := by
  obtain ⟨h0, h1, h2⟩ := idx7 t
  refine congrArg g (ix3_of _ ?_ ?_ ?_)
  · show win0_7.index t (0 : Fin 3) * 1 + 1 * 0 = t.val / 4
    rw [h0]; omega
  · show win0_7.index t (1 : Fin 3) * 512 + 1 * q.val = q.val
    rw [h1]; omega
  · show win0_7.index t (2 : Fin 3) * 1024 + 1 * r.val = 1024 * (t.val % 4) + r.val
    rw [h2]; omega
theorem blk8_at (t : Fin cfg0.N) (g : main_v14_3.ty.Contents (Elt Ideal)) (q : Fin 8) (r : Fin 1024) :
    ((cfg0.win 8).blk t).view.read (Elt Ideal) g (ix3 0 q r) = g (ix3 (bt t) q (st t r)) := by
  obtain ⟨h0, h1, h2⟩ := idx8 t
  refine congrArg g (ix3_of _ ?_ ?_ ?_)
  · show win0_8.index t (0 : Fin 3) * 1 + 1 * 0 = t.val / 4
    rw [h0]; omega
  · show win0_8.index t (1 : Fin 3) * 8 + 1 * q.val = q.val
    rw [h1]; omega
  · show win0_8.index t (2 : Fin 3) * 1024 + 1 * r.val = 1024 * (t.val % 4) + r.val
    rw [h2]; omega
theorem blk9_at (t : Fin cfg0.N) (g : main_v14_4.ty.Contents (Elt Ideal)) (r : Fin 1024) (q : Fin 512) :
    ((cfg0.win 9).blk t).view.read (Elt Ideal) g (ix3 0 r q) = g (ix3 (bt t) (st t r) q) := by
  obtain ⟨h0, h1, h2⟩ := idx9 t
  refine congrArg g (ix3_of _ ?_ ?_ ?_)
  · show win0_9.index t (0 : Fin 3) * 1 + 1 * 0 = t.val / 4
    rw [h0]; omega
  · show win0_9.index t (1 : Fin 3) * 1024 + 1 * r.val = 1024 * (t.val % 4) + r.val
    rw [h1]; omega
  · show win0_9.index t (2 : Fin 3) * 512 + 1 * q.val = q.val
    rw [h2]; omega
theorem blk6_at (t : Fin cfg0.N) (g : main_v14_1.ty.Contents (Elt Ideal)) (a : Fin 4) (r : Fin 1024) (l : Fin 128) :
    ((cfg0.win 6).blk t).view.read (Elt Ideal) g (ix4 0 a r l) = g (ix4 (bt t) a (st t r) l) := by
  obtain ⟨h0, h1, h2, h3⟩ := idx6 t
  refine congrArg g (ix4_of _ ?_ ?_ ?_ ?_)
  · show win0_6.index t (0 : Fin 4) * 1 + 1 * 0 = t.val / 4
    rw [h0]; omega
  · show win0_6.index t (1 : Fin 4) * 4 + 1 * a.val = a.val
    rw [h1]; omega
  · show win0_6.index t (2 : Fin 4) * 1024 + 1 * r.val = 1024 * (t.val % 4) + r.val
    rw [h2]; omega
  · show win0_6.index t (3 : Fin 4) * 128 + 1 * l.val = l.val
    rw [h3]; omega
theorem blk1_at (t : Fin cfg0.N) (g : main_v12.ty.Contents (Elt Ideal)) (k : Fin 1024) : ((cfg0.win 1).blk t).view.read (Elt Ideal) g (ix2 0 k) = g (ix2 0 k) :=
  congrArg g (ix2_of _ (by rfl) (by show 0 * 1024 + 1 * k.val = k.val; omega))
theorem blk2_at (t : Fin cfg0.N) (g : main_v9.ty.Contents (Elt Ideal)) (q : Fin 1040) (k : Fin 1024) : ((cfg0.win 2).blk t).view.read (Elt Ideal) g (ix2 q k) = g (ix2 q k) :=
  congrArg g (ix2_of _ (by show 0 * 1040 + 1 * q.val = q.val; omega) (by show 0 * 1024 + 1 * k.val = k.val; omega))
theorem blk3_at (t : Fin cfg0.N) (g : main_v11.ty.Contents (Elt Ideal)) (k q : Fin 1024) : ((cfg0.win 3).blk t).view.read (Elt Ideal) g (ix2 k q) = g (ix2 k q) :=
  congrArg g (ix2_of _ (by show 0 * 1024 + 1 * k.val = k.val; omega) (by show 0 * 1024 + 1 * q.val = q.val; omega))
theorem blk4_at (t : Fin cfg0.N) (g : main_v13.ty.Contents (Elt Ideal)) (q : Fin 8) : ((cfg0.win 4).blk t).view.read (Elt Ideal) g (ix2 q 0) = g (ix2 q 0) :=
  congrArg g (ix2_of _ (by show 0 * 8 + 1 * q.val = q.val; omega) (by rfl))

/-! ## The results -/

abbrev aX : FVec Ideal S8x4096x1024 .f32 := m ((c : Thread nD τ).loc main_arg0)
abbrev aG : FVec Ideal S1024 .f32 := m ((c : Thread nD τ).loc main_arg1)
abbrev aW : FVec Ideal S1024x2056 .f32 := m ((c : Thread nD τ).loc main_arg2)
abbrev aB : FVec Ideal S8 .f32 := m ((c : Thread nD τ).loc main_arg3)

theorem row_at (t : Fin cfg0.N) (r k : Fin 1024) : hrow (iblk m c 0 t) (iblk m c 1 t) r k
    = Mlp.norm (fun x => aX m c (ix3 (bt t) (st t r) x)) (fun x => aG m c (ix1 x)) k :=
  norm_congr k (fun x => (blk0_at t _ r x).trans (congrFun (V_x m c) _)) (fun x => (blk1_at t _ x).trans (V_g m c x))
theorem tAt_of (t : Fin cfg0.N) (q : Fin 1040) (r : Fin 1024) (d : Fin 2056) (h : ∀ k, V m c main_v9 (ix2 q k) = aW m c (ix2 k d)) :
    tAt (iblk m c 0 t) (iblk m c 1 t) (iblk m c 2 t) q r = proj (aX m c) (aG m c) (aW m c) (bt t) (st t r) d :=
  Finset.sum_congr rfl fun k _ => (congrArg₂ (fun p q : EReal => p * q) ((blk2_at t _ q k).trans (h k)) (row_at m c t r k)).trans (mul_comm _ _)
theorem nAt_of (t : Fin cfg0.N) (q : Fin 1024) (r : Fin 1024) (d : Fin 2056) (h : ∀ k, V m c main_v11 (ix2 k q) = aW m c (ix2 k d)) :
    nAt (iblk m c 0 t) (iblk m c 1 t) (iblk m c 3 t) r q = proj (aX m c) (aG m c) (aW m c) (bt t) (st t r) d :=
  Finset.sum_congr rfl fun k _ => congrArg₂ (fun p q : EReal => p * q) (row_at m c t r k) ((blk3_at t _ k q).trans (h k))

theorem split (b : Fin 8) (s : Fin 4096) : ∃ (t : Fin cfg0.N) (r : Fin 1024), bt t = b ∧ st t r = s := by
  have h1 := b.isLt
  have h2 := s.isLt
  refine ⟨(⟨4 * b.val + s.val / 1024, by omega⟩ : Fin 32), ⟨s.val % 1024, by omega⟩, Fin.ext ?_, Fin.ext ?_⟩
  · show (4 * b.val + s.val / 1024) / 4 = b.val; omega
  · show 1024 * ((4 * b.val + s.val / 1024) % 4) + s.val % 1024 = s.val; omega

theorem arr5_at (b : Fin 8) (s : Fin 4096) (q : Fin 512) : (dats m 0 c).arrAt 5 cfg0.N (ix3 b q s) = proj (aX m c) (aG m c) (aW m c) b s ⟨q.val, by omega⟩ * qs := by
  obtain ⟨t, r, rfl, rfl⟩ := split b s
  have hb := congrFun (Value.blocks5 m c t (flush0_5 t)) (ix3 0 q r)
  rw [Value.flushed5] at hb
  refine (blk5_at t _ q r).symm.trans (hb.trans ?_)
  refine (out5_at _ _ _ _ _ q r).trans ?_
  exact congrArg (fun p : EReal => p * qs) (tAt_of m c t _ r _ fun k => (congrFun (V_stack m c) _).trans (stack_q _ _ q k))
theorem arr7_at (b : Fin 8) (s : Fin 4096) (q : Fin 512) : (dats m 0 c).arrAt 7 cfg0.N (ix3 b q s) = proj (aX m c) (aG m c) (aW m c) b s ⟨1024 + q.val, by omega⟩ := by
  obtain ⟨t, r, rfl, rfl⟩ := split b s
  have hb := congrFun (Value.blocks7 m c t (flush0_7 t)) (ix3 0 q r)
  rw [Value.flushed7] at hb
  refine (blk7_at t _ q r).symm.trans (hb.trans ?_)
  refine (out7_at _ _ _ _ _ q r).trans ?_
  exact tAt_of m c t _ r _ fun k => (congrFun (V_stack m c) _).trans (stack_v _ _ q k)
theorem arr8_at (b : Fin 8) (s : Fin 4096) (q : Fin 8) : (dats m 0 c).arrAt 8 cfg0.N (ix3 b q s) = lsig (proj (aX m c) (aG m c) (aW m c) b s ⟨1536 + q.val, by omega⟩ + aB m c (ix1 q)) := by
  obtain ⟨t, r, rfl, rfl⟩ := split b s
  have hb := congrFun (Value.blocks8 m c t (flush0_8 t)) (ix3 0 q r)
  rw [Value.flushed8] at hb
  refine (blk8_at t _ q r).symm.trans (hb.trans ?_)
  refine (out8_at _ _ _ _ _ q r).trans ?_
  exact congrArg lsig (congrArg₂ (fun p q : EReal => p + q) (tAt_of m c t _ r _ fun k => (congrFun (V_stack m c) _).trans (stack_f _ _ q k)) ((blk4_at t _ q).trans (V_b m c q)))
theorem arr9_at (b : Fin 8) (s : Fin 4096) (q : Fin 512) : (dats m 0 c).arrAt 9 cfg0.N (ix3 b s q) = proj (aX m c) (aG m c) (aW m c) b s ⟨1544 + q.val, by omega⟩ := by
  obtain ⟨t, r, rfl, rfl⟩ := split b s
  have hb := congrFun (Value.blocks9 m c t (flush0_9 t)) (ix3 0 r q)
  rw [Value.flushed9] at hb
  refine (blk9_at t _ r q).symm.trans (hb.trans ?_)
  refine (out9_at _ _ _ _ _ r q).trans ?_
  exact nAt_of m c t _ r _ fun k => (congrFun (V_side m c) _).trans (side_u _ k q)
theorem arr6_at (b : Fin 8) (s : Fin 4096) (a : Fin 4) (l : Fin 128) : (dats m 0 c).arrAt 6 cfg0.N (ix4 b a s l) = proj (aX m c) (aG m c) (aW m c) b s ⟨512 + (128 * a.val + l.val), by omega⟩ := by
  obtain ⟨t, r, rfl, rfl⟩ := split b s
  have hb := congrFun (Value.blocks6 m c t (flush0_6 t)) (ix4 0 a r l)
  rw [Value.flushed6] at hb
  refine (blk6_at t _ a r l).symm.trans (hb.trans ?_)
  refine (out6_at _ _ _ _ _ a r l).trans ?_
  exact nAt_of m c t _ r _ fun k => (congrFun (V_side m c) _).trans (side_k _ k ⟨128 * a.val + l.val, by omega⟩)

end Cert.Proof.In
end
-- ==== Proof.InRef.lean ====
/-
  The input projection's reference, read element by element over the reals.
-/
module

public import proofs.«01_k».proof.Proof.Gen.Reference3Ideal.Run
public import proofs.«01_k».proof.Proof.MlpRow

@[expose] public section

noncomputable section

namespace Cert.Proof.In

open Cert.Reference3Ideal Cert.Reference3Ideal.Gen
open Idealize.ShloMosaic Idealize.ShloMosaic.TcCoe

variable (X : FVec Ideal S8x4096x1024 .f32) (g : FVec Ideal S1024 .f32) (W : FVec Ideal S1024x2056 .f32) (B : FVec Ideal S8 .f32)
  (H : FVec Ideal S8x4096x1024 .f32) (Y : FVec Ideal S8x4096x2056 .f32) (b : Fin 8) (s : Fin 4096)

/-- One over the root of each row's mean square. -/
def refInv : FVec Ideal S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))
/-- The rows normalised. -/
def refNorm : FVec Ideal S8x4096x1024 .f32 :=
  mulf (mulf X (broadcastInDim S8x4096x1024 ![0, 1, 2] bcast_S8x4096x1_S8x4096x1024_0_1_2 (refInv X))) (broadcastInDim S8x4096x1024 ![0, 1, 2] bcast_S1x1x1024_S8x4096x1024_0_1_2 (broadcastInDim S1x1x1024 ![2] bcast_S1024_S1x1x1024_2 g))
/-- The projection. -/
def refProj : FVec Ideal S8x4096x2056 .f32 := Host.dotGeneral dot_S8x4096x1024_S1024x2056_S8x4096x2056_2_0_01_1_n_n none H W
/-- The five results, from the projection. -/
def refQ : FVec Ideal S8x512x4096 .bf16 :=
  truncf .bf16 (transpose S8x512x4096 [0, 2, 1] (Host.divf (extractStridedSlice S8x4096x512 ![0, 0, 0] Y slices_S8x4096x2056_S8x4096x512_0_0_0) (broadcastInDim S8x4096x512 ![] bcast_S_S8x4096x512 (id (mulf (constant S_ .f32 0x41000000#32) (Host.log (constant S_ .f32 0x40000000#32)))))) transposes_S8x4096x512_S8x512x4096_0_2_1) bitsLt_bf16_f32
def refK : FVec Ideal S8x4x4096x128 .bf16 :=
  truncf .bf16 (transpose S8x4x4096x128 [0, 2, 1, 3] (shapeCast _ (extractStridedSlice S8x4096x512 ![0, 0, 512] Y slices_S8x4096x2056_S8x4096x512_0_0_512) shapeCasts_S8x4096x512_S8x4096x4x128) transposes_S8x4096x4x128_S8x4x4096x128_0_2_1_3) bitsLt_bf16_f32
def refV : FVec Ideal S8x512x4096 .bf16 :=
  truncf .bf16 (transpose S8x512x4096 [0, 2, 1] (extractStridedSlice S8x4096x512 ![0, 0, 1024] Y slices_S8x4096x2056_S8x4096x512_0_0_1024) transposes_S8x4096x512_S8x512x4096_0_2_1) bitsLt_bf16_f32
def refZ : FVec Ideal S8x4096x8 .f32 :=
  addf (extractStridedSlice S8x4096x8 ![0, 0, 1536] Y slices_S8x4096x2056_S8x4096x8_0_0_1536) (broadcastInDim S8x4096x8 ![0, 1, 2] bcast_S1x1x8_S8x4096x8_0_1_2 (broadcastInDim S1x1x8 ![2] bcast_S8_S1x1x8_2 B))
def refU : FVec Ideal S8x4096x512 .f32 := extractStridedSlice S8x4096x512 ![0, 0, 1544] Y slices_S8x4096x2056_S8x4096x512_0_0_1544
/-- The logarithm of the logistic function: minus the logarithm of one plus the exponential of the negated gate. -/
def refF (z : FVec Ideal S8x4096x8 .f32) : FVec Ideal S8x8x4096 .f32 :=
  transpose S8x8x4096 [0, 2, 1] (Host.negf (select (cmpf .une (subf (Host.negf z) (broadcastInDim S8x4096x8 ![] bcast_S_S8x4096x8 (constant S_ .f32 0x00000000#32))) (subf (Host.negf z) (broadcastInDim S8x4096x8 ![] bcast_S_S8x4096x8 (constant S_ .f32 0x00000000#32))))
    (addf (Host.negf z) (broadcastInDim S8x4096x8 ![] bcast_S_S8x4096x8 (constant S_ .f32 0x00000000#32)))
    (addf (maximumf (Host.negf z) (broadcastInDim S8x4096x8 ![] bcast_S_S8x4096x8 (constant S_ .f32 0x00000000#32)))
      (Host.log1p (Host.exp (Host.negf (Host.absf (subf (Host.negf z) (broadcastInDim S8x4096x8 ![] bcast_S_S8x4096x8 (constant S_ .f32 0x00000000#32)))))))))) transposes_S8x4096x8_S8x8x4096_0_2_1

theorem refInv_at : refInv X (ix3 b s 0) = Ideal.rsqrt (Ideal.div (∑ x, X (ix3 b s x) * X (ix3 b s x)) (Ideal.ofBits .f32 1149239296#32) + Ideal.ofBits .f32 897988541#32) := by
  pointwise [refInv]
theorem refNorm_at (k : Fin 1024) : refNorm X g (ix3 b s k) = Mlp.norm (fun x => X (ix3 b s x)) (fun x => g (ix1 x)) k := by
  have e : refNorm X g (ix3 b s k) = X (ix3 b s k) * refInv X (ix3 b s 0) * g (ix1 k) := by pointwise [refNorm]
  rw [e, refInv_at]; rfl
theorem refProj_at (q : Fin 2056) : refProj W H (ix3 b s q) = ∑ k, H (ix3 b s k) * W (ix2 k q) := by pointwise [refProj]
theorem refQ_at (q : Fin 512) : refQ Y (ix3 b q s) = Ideal.div (Y (ix3 b s ⟨q.val, by omega⟩)) (Ideal.ofBits .f32 0x41000000#32 * Ideal.log (Ideal.ofBits .f32 0x40000000#32)) := by
  pointwise [refQ]
  rfl
theorem refK_at (a : Fin 4) (l : Fin 128) : refK Y (ix4 b a s l) = Y (ix3 b s ⟨512 + (128 * a.val + l.val), by omega⟩) := by
  pointwise [refK]
  simp only [Nat.mul_comm a.val 128]
theorem refV_at (q : Fin 512) : refV Y (ix3 b q s) = Y (ix3 b s ⟨1024 + q.val, by omega⟩) := by pointwise [refV]
theorem refZ_at (q : Fin 8) : refZ B Y (ix3 b s q) = Y (ix3 b s ⟨1536 + q.val, by omega⟩) + B (ix1 q) := by pointwise [refZ]
theorem refU_at (q : Fin 512) : refU Y (ix3 b s q) = Y (ix3 b s ⟨1544 + q.val, by omega⟩) := by pointwise [refU]
theorem refF_at (z : FVec Ideal S8x4096x8 .f32) (q : Fin 8) : refF z (ix3 b q s)
    = -(max (-z (ix3 b s q)) 0 + Ideal.log1p (Ideal.exp (-FloatOps.absf (F := Ideal) (φ := .f32) (-z (ix3 b s q))))) := by
  pointwise [refF]
  rw [if_neg (fun h => h rfl)]

theorem res_eq (m : (ℓ : Loc nD τ sig) → Buf (Elt Ideal) ℓ) (c : Dev nD) : Value.res_main_v34 (F := Ideal) m c
    = refF (refZ (m ((c.tc : Thread nD τ).loc main_arg3)) (refProj (m ((c.tc : Thread nD τ).loc main_arg2)) (refNorm (m ((c.tc : Thread nD τ).loc main_arg0)) (m ((c.tc : Thread nD τ).loc main_arg1))))) := rfl

end Cert.Proof.In
end
-- ==== Proof.InEq.lean ====
/-
  The input projection: the kernel's results and the reference's are the same numbers.
-/
module

public import proofs.«01_k».proof.Proof.InWhole
public import proofs.«01_k».proof.Proof.InRef

@[expose] public section

noncomputable section

namespace Cert.Proof.In

open Idealize.ShloMosaic Idealize.ShloMosaic.TcCoe
open Cert.Kernel3Ideal (S8x4096x1024 S1024 S1024x2056 S8)

theorem lit_8 : Ideal.ofBits .f32 0x41000000#32 = ((8 : ℝ) : EReal) := by simp [Ideal.ofBits, Ideal.ieee, -EReal.coe_mul]; norm_num
theorem lit_2 : Ideal.ofBits .f32 0x40000000#32 = ((2 : ℝ) : EReal) := by simp [Ideal.ofBits, Ideal.ieee, -EReal.coe_mul]; norm_num
theorem qs_eq : qs = (((8 * Real.log 2)⁻¹ : ℝ) : EReal) := by
  simp [qs, Named.named, Cert.Kernel3Ideal.κ]

/-- Dividing by the root of the head size times the logarithm of two is the named factor. -/
theorem scale_eq (x : EReal) : Ideal.div x (Ideal.ofBits .f32 0x41000000#32 * Ideal.log (Ideal.ofBits .f32 0x40000000#32)) = x * qs := by
  have h2 : Real.log 2 ≠ 0 := (Real.log_pos (by norm_num)).ne'
  rw [lit_8, lit_2, Ideal.log_coe, if_neg (by norm_num), ← EReal.coe_mul, Ideal.div_coe (mul_ne_zero (by norm_num) h2), qs_eq, one_div]

theorem absf_eq (z : EReal) : FloatOps.absf (F := Ideal) (φ := .f32) z = max z (-z) := rfl

/-- The logarithm's term is a real number. -/
theorem soft_real (z : EReal) : ∃ l : ℝ, Ideal.log (1 + Ideal.exp (-max z (-z))) = (l : EReal) := by
  induction z with
  | bot => exact ⟨0, by simp [← EReal.coe_one, Ideal.log_coe]⟩
  | top => exact ⟨0, by simp [← EReal.coe_one, Ideal.log_coe]⟩
  | coe r =>
    refine ⟨Real.log (1 + Real.exp (-max r (-r))), ?_⟩
    rw [show max (r : EReal) (-(r : EReal)) = ((max r (-r) : ℝ) : EReal) from by rw [← EReal.coe_neg]; exact EReal.coe_strictMono.monotone.map_max.symm, ← EReal.coe_neg, Ideal.exp_coe, ← EReal.coe_one, ← EReal.coe_add, Ideal.log_coe, if_neg (not_le.mpr (by positivity))]

theorem neg_max_zero (z : EReal) : -max (-z) 0 = min z 0 := by
  rcases le_total z 0 with h | h
  · rw [min_eq_left h, max_eq_left (by have := EReal.neg_le_neg_iff.mpr h; rwa [neg_zero] at this), neg_neg]
  · rw [min_eq_right h, max_eq_right (by have := EReal.neg_le_neg_iff.mpr h; rwa [neg_zero] at this), neg_zero]

/-- Both ways of writing the logarithm of the logistic function. -/
theorem lsig_eq (z : EReal) : -(max (-z) 0 + Ideal.log1p (Ideal.exp (-FloatOps.absf (F := Ideal) (φ := .f32) (-z)))) = lsig z := by
  unfold lsig Ideal.log1p
  rw [absf_eq, absf_eq, neg_neg, max_comm (-z) z, zero_sub]
  obtain ⟨l, hl⟩ := soft_real z
  rw [hl, EReal.neg_add (Or.inr (EReal.coe_ne_top l)) (Or.inr (EReal.coe_ne_bot l)), neg_max_zero]

section Same
variable (X : FVec Ideal S8x4096x1024 .f32) (g : FVec Ideal S1024 .f32) (W : FVec Ideal S1024x2056 .f32) (B : FVec Ideal S8 .f32) (b : Fin 8) (s : Fin 4096)

theorem ref_proj (q : Fin 2056) : refProj W (refNorm X g) (ix3 b s q) = proj X g W b s q := by
  rw [refProj_at]
  exact Finset.sum_congr rfl fun k _ => by rw [refNorm_at]
theorem ref_q (q : Fin 512) : refQ (refProj W (refNorm X g)) (ix3 b q s) = proj X g W b s ⟨q.val, by omega⟩ * qs := by
  rw [refQ_at, scale_eq, ref_proj]
theorem ref_k (a : Fin 4) (l : Fin 128) : refK (refProj W (refNorm X g)) (ix4 b a s l) = proj X g W b s ⟨512 + (128 * a.val + l.val), by omega⟩ := by
  rw [refK_at, ref_proj]
theorem ref_v (q : Fin 512) : refV (refProj W (refNorm X g)) (ix3 b q s) = proj X g W b s ⟨1024 + q.val, by omega⟩ := by
  rw [refV_at, ref_proj]
theorem ref_f (q : Fin 8) : refF (refZ B (refProj W (refNorm X g))) (ix3 b q s) = lsig (proj X g W b s ⟨1536 + q.val, by omega⟩ + B (ix1 q)) := by
  rw [refF_at, lsig_eq, refZ_at, ref_proj]
theorem ref_u (q : Fin 512) : refU (refProj W (refNorm X g)) (ix3 b s q) = proj X g W b s ⟨1544 + q.val, by omega⟩ := by
  rw [refU_at, ref_proj]
end Same

end Cert.Proof.In
end
-- ==== Proof.MixRow.lean ====
/-
  The mixer and the cross-attention for one row, as formulas over the reals: the kernel's and the reference's ways of taking the
  moving sums, the scores' scale and the softmax's quotient agree.
-/
module

public import proofs.«01_k».proof.Proof.MlpRow

@[expose] public section

noncomputable section

namespace Cert.Proof.Mix

open Idealize.ShloMosaic

/-! ## Moving sums -/

/-- The sum of the first `w` values. -/
def win (w : ℕ) (f : ℕ → EReal) : EReal := ∑ n ∈ Finset.range w, f n
/-- Each value and the one `k` places further. -/
def dbl (k : ℕ) (f : ℕ → EReal) (n : ℕ) : EReal := f (k + n) + f n

theorem win_one (f : ℕ → EReal) (m : ℕ) : f m = win 1 fun n => f (m + n) := by simp [win]
/-- Doubling a window: two neighbouring sums of `k` are the sum of `k + k`. -/
theorem win_dbl (f g : ℕ → EReal) (k : ℕ) (h : ∀ m, g m = win k fun n => f (m + n)) (m : ℕ) : dbl k g m = win (k + k) fun n => f (m + n) := by
  unfold dbl
  rw [h, h, add_comm]
  unfold win
  rw [Finset.sum_range_add]
  refine congrArg₂ (fun p q : EReal => p + q) rfl (Finset.sum_congr rfl fun n _ => congrArg f (by omega))
theorem dbl2 (f : ℕ → EReal) (m : ℕ) : dbl 1 f m = win 2 fun n => f (m + n) := win_dbl f f 1 (win_one f) m
theorem dbl4 (f : ℕ → EReal) (m : ℕ) : dbl 2 (dbl 1 f) m = win 4 fun n => f (m + n) := win_dbl f _ 2 (dbl2 f) m
theorem dbl8 (f : ℕ → EReal) (m : ℕ) : dbl 4 (dbl 2 (dbl 1 f)) m = win 8 fun n => f (m + n) := win_dbl f _ 4 (dbl4 f) m
theorem dbl16 (f : ℕ → EReal) (m : ℕ) : dbl 8 (dbl 4 (dbl 2 (dbl 1 f))) m = win 16 fun n => f (m + n) := win_dbl f _ 8 (dbl8 f) m

/-- The window of a column: 2, 4, 8 or 16 by its group of 128. -/
def wid (c : Fin 512) : ℕ := 2 ^ (c.val / 128 + 1)
/-- Column `c` at position `s`, from the columns `P` shifted by sixteen: the mean over the window less the value. -/
def pl (P : ℕ → Fin 512 → EReal) (s : ℕ) (c : Fin 512) : EReal :=
  Ideal.div (win (wid c) fun n => P (s + 17 - wid c + n) c) (((min (s + 1) (wid c) : ℕ) : ℝ) : EReal) - P (s + 16) c

/-! ## One row -/

open Cert.Proof.Mlp (norm)

/-- The groups' products and scale. -/
def pool (p : Fin 512 → EReal) (W : Fin 4 → Fin 128 → Fin 128 → EReal) (sc : Fin 512 → EReal) (c : Fin 512) : EReal :=
  (∑ l : Fin 128, p ⟨128 * (c.val / 128) + l.val, by omega⟩ * W ⟨c.val / 128, by omega⟩ l ⟨c.val % 128, by omega⟩) * sc c
/-- The output projection of the attention's columns and of the mixer's. -/
def mixv (a p : Fin 512 → EReal) (W : Fin 1024 → Fin 1024 → EReal) (q : Fin 1024) : EReal :=
  ∑ k : Fin 512, a k * W ⟨k.val, by omega⟩ q + ∑ k : Fin 512, p k * W ⟨512 + k.val, by omega⟩ q
/-- A row and a normalised one. -/
def resid (x v g : Fin 1024 → EReal) (q : Fin 1024) : EReal := x q + norm v g q
/-- The queries. -/
def query (x g : Fin 1024 → EReal) (W : Fin 1024 → Fin 1024 → EReal) (c : Fin 1024) : EReal := ∑ k, norm x g k * W k c
/-- Lane `d` of head `h`. -/
abbrev lane (h : Fin 4) (d : Fin 256) : Fin 1024 := ⟨256 * h.val + d.val, by omega⟩
/-- The head of a lane. -/
abbrev head (c : Fin 1024) : Fin 4 := ⟨c.val / 256, by omega⟩
/-- The greatest score. -/
def top (s : Fin 256 → EReal) : EReal := Finset.univ.fold max (Ideal.ofBits .f32 0xFF800000#32) s
/-- The exponential of a score less the greatest. -/
def ex (s : Fin 256 → EReal) (j : Fin 256) : EReal := Ideal.exp (s j - top s)
/-- The kernel's scores, product with the values, and lane of the result. -/
def scoreK (q : Fin 1024 → EReal) (K : Fin 256 → Fin 1024 → EReal) (h : Fin 4) (j : Fin 256) : EReal :=
  ∑ d : Fin 256, q (lane h d) * Ideal.ofBits .f32 0x3D800000#32 * K j (lane h d)
def headK (s v : Fin 256 → EReal) : EReal := (∑ j, ex s j * v j) * Ideal.div (Ideal.ofBits .f32 0x3F800000#32) (∑ j, ex s j)
def oK (K V : Fin 256 → Fin 1024 → EReal) (q : Fin 1024 → EReal) (c : Fin 1024) : EReal := headK (scoreK q K (head c)) fun j => V j c
/-- The reference's. -/
def scoreR (q : Fin 1024 → EReal) (K : Fin 256 → Fin 1024 → EReal) (h : Fin 4) (j : Fin 256) : EReal :=
  Ideal.div (∑ d : Fin 256, q (lane h d) * K j (lane h d)) (Ideal.ofBits .f32 0x41800000#32)
def headR (s v : Fin 256 → EReal) : EReal := ∑ j, v j * Ideal.div (ex s j) (∑ j, ex s j)
def oR (K V : Fin 256 → Fin 1024 → EReal) (q : Fin 1024 → EReal) (c : Fin 1024) : EReal := headR (scoreR q K (head c)) fun j => V j c
/-- The row after the mixer. -/
def midRow (x : Fin 1024 → EReal) (a p : Fin 512 → EReal) (Wp : Fin 4 → Fin 128 → Fin 128 → EReal) (sc : Fin 512 → EReal) (Wo : Fin 1024 → Fin 1024 → EReal)
    (gm : Fin 1024 → EReal) : Fin 1024 → EReal := resid x (mixv a (pool p Wp sc) Wo) gm
/-- The row after the cross-attention, taken by `o`. -/
def outRow (o : (Fin 1024 → EReal) → Fin 1024 → EReal) (x1 gx : Fin 1024 → EReal) (Wq Wx : Fin 1024 → Fin 1024 → EReal) (gp : Fin 1024 → EReal) : Fin 1024 → EReal :=
  resid x1 (fun q => ∑ c, o (query x1 gx Wq) c * Wx c q) gp

/-! ## Finite values -/

/-- A real number. -/
def IsR (x : EReal) : Prop := ∃ r : ℝ, x = r
theorem IsR.mul {x y : EReal} : IsR x → IsR y → IsR (x * y) := fun ⟨a, ha⟩ ⟨b, hb⟩ => ⟨a * b, by rw [ha, hb, EReal.coe_mul]⟩
theorem IsR.add {x y : EReal} : IsR x → IsR y → IsR (x + y) := fun ⟨a, ha⟩ ⟨b, hb⟩ => ⟨a + b, by rw [ha, hb, EReal.coe_add]⟩
theorem sum_coe {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]
theorem IsR.sum {ι : Type} [Fintype ι] {f : ι → EReal} (h : ∀ j, IsR (f j)) : IsR (∑ j, f j) := by
  choose r hr using h
  exact ⟨∑ j, r j, by rw [← sum_coe]; exact Finset.sum_congr rfl fun j _ => hr j⟩
theorem isR_of_lt (v : EReal) (h : max v (-v) < ⊤) : IsR v := by
  induction v using EReal.rec with
  | bot => simp at h
  | top => simp at h
  | coe x => exact ⟨x, rfl⟩

theorem lit1024 : Ideal.ofBits .f32 1149239296#32 = ((1024 : ℝ) : EReal) := by
  simp [Ideal.ofBits, Ideal.ieee, -EReal.coe_mul]; norm_num
theorem lit16 : Ideal.ofBits .f32 0x41800000#32 = ((16 : ℝ) : EReal) := by
  simp [Ideal.ofBits, Ideal.ieee, -EReal.coe_mul]; norm_num
theorem lit1 : Ideal.ofBits .f32 0x3F800000#32 = ((1 : ℝ) : EReal) := by
  simp [Ideal.ofBits, Ideal.ieee, -EReal.coe_mul]; norm_num
theorem litBot : Ideal.ofBits .f32 0xFF800000#32 = (⊥ : EReal) := by
  simp [Ideal.ofBits, Ideal.ieee, -EReal.coe_mul]
theorem litHalf : Ideal.ofBits .f32 0x3F000000#32 = ((1 / 2 : ℝ) : EReal) := by
  simp [Ideal.ofBits, Ideal.ieee, -EReal.coe_mul]; norm_num
theorem litQuarter : Ideal.ofBits .f32 0x3E800000#32 = ((1 / 4 : ℝ) : EReal) := by
  simp [Ideal.ofBits, Ideal.ieee, -EReal.coe_mul]; norm_num
theorem litEighth : Ideal.ofBits .f32 0x3E000000#32 = ((1 / 8 : ℝ) : EReal) := by
  simp [Ideal.ofBits, Ideal.ieee, -EReal.coe_mul]; norm_num
theorem litSixteenth : Ideal.ofBits .f32 0x3D800000#32 = ((1 / 16 : ℝ) : EReal) := by
  simp [Ideal.ofBits, Ideal.ieee, -EReal.coe_mul]; norm_num
theorem litEps : ∃ e : ℝ, 0 < e ∧ Ideal.ofBits .f32 897988541#32 = (e : EReal) := by
  refine ⟨_, ?_, by simp [Ideal.ofBits, Ideal.ieee, -EReal.coe_mul]; rfl⟩
  positivity

theorem sq_nonneg (v : EReal) : 0 ≤ v * v := by
  induction v using EReal.rec with
  | bot => simp
  | top => simp
  | coe x => rw [← EReal.coe_mul]; exact EReal.coe_nonneg.2 (mul_self_nonneg x)
theorem sq_top (v : EReal) (h : ¬ IsR v) : v * v = ⊤ := by
  induction v using EReal.rec with
  | bot => simp
  | top => simp
  | coe x => exact absurd ⟨x, rfl⟩ h

theorem rsqrt_pos (p : ℝ) (hp : 0 < p) : Ideal.rsqrt (p : EReal) = (((Real.sqrt p)⁻¹ : ℝ) : EReal) := by
  show (if p < 0 then (⊥ : EReal) else if p = 0 then ⊤ else (((Real.sqrt p)⁻¹ : ℝ) : EReal)) = _
  rw [if_neg (not_lt.2 hp.le), if_neg hp.ne']

/-- A normalised row is finite wherever its gain is: an infinite element makes the root infinite and the quotient zero. -/
theorem norm_isR (v g : Fin 1024 → EReal) (k : Fin 1024) (hg : IsR (g k)) : IsR (norm v g k) := by
  obtain ⟨e, he, hE⟩ := litEps
  unfold Mlp.norm
  rw [lit1024, hE, Ideal.div_coe (by norm_num)]
  by_cases h : ∀ x, IsR (v x)
  · choose r hr using h
    have hS : ∑ x, v x * v x = ((∑ x, r x * r x : ℝ) : EReal) := by
      rw [← sum_coe]
      exact Finset.sum_congr rfl fun x _ => by rw [hr x, EReal.coe_mul]
    have hp : 0 < (∑ x, r x * r x) * (1 / 1024) + e := by
      have : 0 ≤ ∑ x, r x * r x := Finset.sum_nonneg fun x _ => mul_self_nonneg _
      positivity
    rw [hS, ← EReal.coe_mul, ← EReal.coe_add]
    refine IsR.mul (IsR.mul ⟨r k, hr k⟩ ⟨(Real.sqrt ((∑ x, r x * r x) * (1 / 1024) + e))⁻¹, ?_⟩) hg
    exact rsqrt_pos _ hp
  · obtain ⟨x0, hx0⟩ := not_forall.1 h
    have hS : ∑ x, v x * v x = ⊤ := by
      refine top_le_iff.1 ?_
      rw [← sq_top _ hx0]
      exact Finset.single_le_sum (f := fun x => v x * v x) (fun x _ => sq_nonneg (v x)) (Finset.mem_univ x0)
    rw [hS, EReal.top_mul_coe_of_pos (by norm_num), EReal.top_add_coe, show Ideal.rsqrt ⊤ = 0 from rfl, mul_zero, zero_mul]
    exact ⟨0, by simp⟩

/-! ## The scores and the softmax -/

theorem sum_mul {ι : Type} [Fintype ι] (f : ι → EReal) (c : ℝ) (hc : 0 ≤ c) : (∑ j, f j) * (c : EReal) = ∑ j, f j * (c : EReal) := by
  classical
  refine Finset.induction_on (motive := fun s => (∑ j ∈ s, f j) * (c : EReal) = ∑ j ∈ s, f j * (c : EReal)) Finset.univ (by simp) ?_
  intro a s ha ih
  rw [Finset.sum_insert ha, Finset.sum_insert ha, EReal.right_distrib_of_nonneg_of_ne_top (EReal.coe_nonneg.2 hc) (EReal.coe_ne_top c), ih]

theorem score_eq (q : Fin 1024 → EReal) (K : Fin 256 → Fin 1024 → EReal) (h : Fin 4) (j : Fin 256) : scoreK q K h j = scoreR q K h j := by
  unfold scoreK scoreR
  rw [lit16, Ideal.div_coe (by norm_num), sum_mul _ _ (by norm_num), litSixteenth]
  exact Finset.sum_congr rfl fun d _ => by rw [mul_assoc, mul_comm ((1 / 16 : ℝ) : EReal), ← mul_assoc]

theorem top_isR (s : Fin 256 → EReal) (hs : ∀ j, IsR (s j)) : IsR (top s) := by
  unfold top
  rw [litBot]
  have h1 : Finset.univ.fold max ⊥ s < ⊤ := by
    rw [Finset.fold_max_lt]
    refine ⟨bot_lt_top, fun j _ => ?_⟩
    obtain ⟨r, hr⟩ := hs j
    rw [hr]; exact EReal.coe_lt_top r
  have h2 : ⊥ < Finset.univ.fold max ⊥ s := by
    rw [Finset.lt_fold_max]
    refine Or.inr ⟨0, Finset.mem_univ _, ?_⟩
    obtain ⟨r, hr⟩ := hs 0
    rw [hr]; exact EReal.bot_lt_coe r
  exact ⟨_, (EReal.coe_toReal h1.ne h2.ne').symm⟩

theorem head_eq (s v : Fin 256 → EReal) (hs : ∀ j, IsR (s j)) : headK s v = headR s v := by
  obtain ⟨m, hm⟩ := top_isR s hs
  choose r hr using hs
  have he : ∀ j, ex s j = ((Real.exp (r j - m) : ℝ) : EReal) := fun j => by
    unfold ex
    rw [hm, hr j, ← EReal.coe_sub, Ideal.exp_coe]
  have hS : ∑ j, ex s j = ((∑ j, Real.exp (r j - m) : ℝ) : EReal) := by
    rw [← sum_coe]
    exact Finset.sum_congr rfl fun j _ => he j
  have hp : 0 < ∑ j, Real.exp (r j - m) := Finset.sum_pos (fun j _ => Real.exp_pos _) Finset.univ_nonempty
  unfold headK headR
  rw [hS, lit1, Ideal.div_coe hp.ne', ← EReal.coe_mul, one_mul, sum_mul _ _ (by positivity)]
  exact Finset.sum_congr rfl fun j _ => by rw [Ideal.div_coe hp.ne', ← mul_assoc, mul_comm (v j)]

/-- With finite gains, query weights and keys, the two ways of taking the cross-attention agree. -/
theorem o_eq (K V : Fin 256 → Fin 1024 → EReal) (x1 gx : Fin 1024 → EReal) (Wq : Fin 1024 → Fin 1024 → EReal) (c : Fin 1024)
    (hg : ∀ k, IsR (gx k)) (hW : ∀ k c, IsR (Wq k c)) (hK : ∀ j c, IsR (K j c)) : oK K V (query x1 gx Wq) c = oR K V (query x1 gx Wq) c := by
  unfold oK oR
  rw [show scoreK (query x1 gx Wq) K (head c) = scoreR (query x1 gx Wq) K (head c) from funext fun j => score_eq _ _ _ j]
  refine head_eq _ _ fun j => ?_
  unfold scoreR
  rw [lit16, Ideal.div_coe (by norm_num)]
  refine IsR.mul (IsR.sum fun d => IsR.mul (IsR.sum fun k => IsR.mul (norm_isR _ _ _ (hg k)) (hW _ _)) (hK _ _)) ⟨_, rfl⟩
theorem out_eq (K V : Fin 256 → Fin 1024 → EReal) (x1 gx : Fin 1024 → EReal) (Wq Wx : Fin 1024 → Fin 1024 → EReal) (gp : Fin 1024 → EReal) (q : Fin 1024)
    (hg : ∀ k, IsR (gx k)) (hW : ∀ k c, IsR (Wq k c)) (hK : ∀ j c, IsR (K j c)) : outRow (oK K V) x1 gx Wq Wx gp q = outRow (oR K V) x1 gx Wq Wx gp q := by
  unfold outRow
  refine congrArg (fun v => resid x1 v gp q) (funext fun l => Finset.sum_congr rfl fun c _ => ?_)
  exact congrArg (fun t : EReal => t * Wx c l) (o_eq K V x1 gx Wq c hg hW hK)

end Cert.Proof.Mix
end
-- ==== Proof.MixStage.lean ====
/-
  The mixer and the cross-attention of one half of a block, element by element over the reals.
-/
module

public import proofs.«01_k».proof.Proof.Gen.Kernel4Ideal.Value
public import proofs.«01_k».proof.Proof.MixRow
public import proofs.«01_k».proof.Proof.Tiles

@[expose] public section

noncomputable section

namespace Cert.Proof.Mix

open Cert.Kernel4Ideal Cert.Kernel4Ideal.Gen
open Idealize.ShloMosaic Idealize.ShloMosaic.TcCoe
open Cert.Proof.Mlp (norm)
open Cert.Proof.Tile

/-! ## Moving means of the four groups -/

section Pool
variable (hs : FVec Ideal S16x512 .f32) (us : FVec Ideal S512x512 .f32)

/-- Group 0 of the rows, and the sixteen rows before them put in front. -/
def cut0 : FVec Ideal S512x128 .f32 := extractStridedSlice S512x128 ![0, 0] us slices_S512x512_o0_0_S512x128
def ext0 : FVec Ideal S528x128 .f32 :=
  concatenate S528x128 0 [⟨S16x128, extractStridedSlice S16x128 ![0, 0] hs slices_S16x512_o0_0_S16x128⟩, ⟨S512x128, cut0 us⟩] concatenates_S16x128_S512x128_S528x128_d0
theorem cut0_at (r : Fin 512) (l : Fin 128) : cut0 us (ix2 r l) = us (ix2 r ⟨0 + l.val, by omega⟩) := by
  refine Eq.trans (b := us (ix2 ⟨0 + r.val, by omega⟩ ⟨0 + l.val, by omega⟩)) ?_ (congrArg us (ix2_of _ (by show 0 + r.val = r.val; omega) rfl))
  pointwise [cut0]
  try exact congrArg us (ix2_of _ (by show r.val = 0 + r.val; omega) (by show _ = 0 + l.val; simp))
theorem ext0_lo (n : Fin 16) (l : Fin 128) : ext0 hs us (ix2 ⟨n.val, by omega⟩ l) = hs (ix2 n ⟨0 + l.val, by omega⟩) := by
  pointwise [ext0]
  try rw [dif_pos (by omega)]
  try exact congrArg hs (ix2_of _ (by simp) (by show _ = 0 + l.val; simp))
theorem ext0_hi (n : Fin 512) (l : Fin 128) : ext0 hs us (ix2 ⟨16 + n.val, by omega⟩ l) = cut0 us (ix2 n l) := by
  generalize hc : cut0 us = w
  unfold ext0
  rw [hc]
  pointwise []
  try rw [dif_neg (by omega)]
  try exact congrArg w (ix2_of _ (by simp) (by simp))
/-- Group 1 of the rows, and the sixteen rows before them put in front. -/
def cut1 : FVec Ideal S512x128 .f32 := extractStridedSlice S512x128 ![0, 128] us slices_S512x512_o0_128_S512x128
def ext1 : FVec Ideal S528x128 .f32 :=
  concatenate S528x128 0 [⟨S16x128, extractStridedSlice S16x128 ![0, 128] hs slices_S16x512_o0_128_S16x128⟩, ⟨S512x128, cut1 us⟩] concatenates_S16x128_S512x128_S528x128_d0
theorem cut1_at (r : Fin 512) (l : Fin 128) : cut1 us (ix2 r l) = us (ix2 r ⟨128 + l.val, by omega⟩) := by
  refine Eq.trans (b := us (ix2 ⟨0 + r.val, by omega⟩ ⟨128 + l.val, by omega⟩)) ?_ (congrArg us (ix2_of _ (by show 0 + r.val = r.val; omega) rfl))
  pointwise [cut1]
  try exact congrArg us (ix2_of _ (by show r.val = 0 + r.val; omega) (by show _ = 128 + l.val; simp))
theorem ext1_lo (n : Fin 16) (l : Fin 128) : ext1 hs us (ix2 ⟨n.val, by omega⟩ l) = hs (ix2 n ⟨128 + l.val, by omega⟩) := by
  pointwise [ext1]
  try rw [dif_pos (by omega)]
  try exact congrArg hs (ix2_of _ (by simp) (by show _ = 128 + l.val; simp))
theorem ext1_hi (n : Fin 512) (l : Fin 128) : ext1 hs us (ix2 ⟨16 + n.val, by omega⟩ l) = cut1 us (ix2 n l) := by
  generalize hc : cut1 us = w
  unfold ext1
  rw [hc]
  pointwise []
  try rw [dif_neg (by omega)]
  try exact congrArg w (ix2_of _ (by simp) (by simp))
/-- Group 2 of the rows, and the sixteen rows before them put in front. -/
def cut2 : FVec Ideal S512x128 .f32 := extractStridedSlice S512x128 ![0, 256] us slices_S512x512_o0_256_S512x128
def ext2 : FVec Ideal S528x128 .f32 :=
  concatenate S528x128 0 [⟨S16x128, extractStridedSlice S16x128 ![0, 256] hs slices_S16x512_o0_256_S16x128⟩, ⟨S512x128, cut2 us⟩] concatenates_S16x128_S512x128_S528x128_d0
theorem cut2_at (r : Fin 512) (l : Fin 128) : cut2 us (ix2 r l) = us (ix2 r ⟨256 + l.val, by omega⟩) := by
  refine Eq.trans (b := us (ix2 ⟨0 + r.val, by omega⟩ ⟨256 + l.val, by omega⟩)) ?_ (congrArg us (ix2_of _ (by show 0 + r.val = r.val; omega) rfl))
  pointwise [cut2]
  try exact congrArg us (ix2_of _ (by show r.val = 0 + r.val; omega) (by show _ = 256 + l.val; simp))
theorem ext2_lo (n : Fin 16) (l : Fin 128) : ext2 hs us (ix2 ⟨n.val, by omega⟩ l) = hs (ix2 n ⟨256 + l.val, by omega⟩) := by
  pointwise [ext2]
  try rw [dif_pos (by omega)]
  try exact congrArg hs (ix2_of _ (by simp) (by show _ = 256 + l.val; simp))
theorem ext2_hi (n : Fin 512) (l : Fin 128) : ext2 hs us (ix2 ⟨16 + n.val, by omega⟩ l) = cut2 us (ix2 n l) := by
  generalize hc : cut2 us = w
  unfold ext2
  rw [hc]
  pointwise []
  try rw [dif_neg (by omega)]
  try exact congrArg w (ix2_of _ (by simp) (by simp))
/-- Group 3 of the rows, and the sixteen rows before them put in front. -/
def cut3 : FVec Ideal S512x128 .f32 := extractStridedSlice S512x128 ![0, 384] us slices_S512x512_o0_384_S512x128
def ext3 : FVec Ideal S528x128 .f32 :=
  concatenate S528x128 0 [⟨S16x128, extractStridedSlice S16x128 ![0, 384] hs slices_S16x512_o0_384_S16x128⟩, ⟨S512x128, cut3 us⟩] concatenates_S16x128_S512x128_S528x128_d0
theorem cut3_at (r : Fin 512) (l : Fin 128) : cut3 us (ix2 r l) = us (ix2 r ⟨384 + l.val, by omega⟩) := by
  refine Eq.trans (b := us (ix2 ⟨0 + r.val, by omega⟩ ⟨384 + l.val, by omega⟩)) ?_ (congrArg us (ix2_of _ (by show 0 + r.val = r.val; omega) rfl))
  pointwise [cut3]
  try exact congrArg us (ix2_of _ (by show r.val = 0 + r.val; omega) (by show _ = 384 + l.val; simp))
theorem ext3_lo (n : Fin 16) (l : Fin 128) : ext3 hs us (ix2 ⟨n.val, by omega⟩ l) = hs (ix2 n ⟨384 + l.val, by omega⟩) := by
  pointwise [ext3]
  try rw [dif_pos (by omega)]
  try exact congrArg hs (ix2_of _ (by simp) (by show _ = 384 + l.val; simp))
theorem ext3_hi (n : Fin 512) (l : Fin 128) : ext3 hs us (ix2 ⟨16 + n.val, by omega⟩ l) = cut3 us (ix2 n l) := by
  generalize hc : cut3 us = w
  unfold ext3
  rw [hc]
  pointwise []
  try rw [dif_neg (by omega)]
  try exact congrArg w (ix2_of _ (by simp) (by simp))

/-- Neighbouring sums of the column: one, two, four and eight rows further. -/
def st1 (v : FVec Ideal S528x128 .f32) : FVec Ideal S527x128 .f32 :=
  addf (extractStridedSlice S527x128 ![1, 0] v slices_S528x128_o1_0_S527x128) (extractStridedSlice S527x128 ![0, 0] v slices_S528x128_o0_0_S527x128)
def st2 (v : FVec Ideal S527x128 .f32) : FVec Ideal S525x128 .f32 :=
  addf (extractStridedSlice S525x128 ![2, 0] v slices_S527x128_o2_0_S525x128) (extractStridedSlice S525x128 ![0, 0] v slices_S527x128_o0_0_S525x128)
def st4 (v : FVec Ideal S525x128 .f32) : FVec Ideal S521x128 .f32 :=
  addf (extractStridedSlice S521x128 ![4, 0] v slices_S525x128_o4_0_S521x128) (extractStridedSlice S521x128 ![0, 0] v slices_S525x128_o0_0_S521x128)
def st8 (v : FVec Ideal S521x128 .f32) : FVec Ideal S513x128 .f32 :=
  addf (extractStridedSlice S513x128 ![8, 0] v slices_S521x128_o8_0_S513x128) (extractStridedSlice S513x128 ![0, 0] v slices_S521x128_o0_0_S513x128)
def last2 (v : FVec Ideal S527x128 .f32) : FVec Ideal S512x128 .f32 := extractStridedSlice S512x128 ![15, 0] v slices_S527x128_o15_0_S512x128
def last4 (v : FVec Ideal S525x128 .f32) : FVec Ideal S512x128 .f32 := extractStridedSlice S512x128 ![13, 0] v slices_S525x128_o13_0_S512x128
def last8 (v : FVec Ideal S521x128 .f32) : FVec Ideal S512x128 .f32 := extractStridedSlice S512x128 ![9, 0] v slices_S521x128_o9_0_S512x128
def last16 (v : FVec Ideal S513x128 .f32) : FVec Ideal S512x128 .f32 := extractStridedSlice S512x128 ![1, 0] v slices_S513x128_o1_0_S512x128
theorem st1_at (v : FVec Ideal S528x128 .f32) (f : ℕ → EReal) (l : Fin 128) (h : ∀ n : Fin 528, v (ix2 n l) = f n.val) (n : Fin 527) :
    st1 v (ix2 n l) = dbl 1 f n.val := by
  unfold dbl
  rw [← h ⟨1 + n.val, by omega⟩, ← h ⟨n.val, by omega⟩]
  unfold st1
  refine congrArg₂ (fun p q : EReal => p + q) (congrArg v (ix2_of _ (by rfl) (by show 0 + l.val = l.val; omega))) (congrArg v (ix2_of _ (by show 0 + n.val = n.val; omega) (by show 0 + l.val = l.val; omega)))
theorem st2_at (v : FVec Ideal S527x128 .f32) (f : ℕ → EReal) (l : Fin 128) (h : ∀ n : Fin 527, v (ix2 n l) = f n.val) (n : Fin 525) :
    st2 v (ix2 n l) = dbl 2 f n.val := by
  unfold dbl
  rw [← h ⟨2 + n.val, by omega⟩, ← h ⟨n.val, by omega⟩]
  unfold st2
  refine congrArg₂ (fun p q : EReal => p + q) (congrArg v (ix2_of _ (by rfl) (by show 0 + l.val = l.val; omega))) (congrArg v (ix2_of _ (by show 0 + n.val = n.val; omega) (by show 0 + l.val = l.val; omega)))
theorem st4_at (v : FVec Ideal S525x128 .f32) (f : ℕ → EReal) (l : Fin 128) (h : ∀ n : Fin 525, v (ix2 n l) = f n.val) (n : Fin 521) :
    st4 v (ix2 n l) = dbl 4 f n.val := by
  unfold dbl
  rw [← h ⟨4 + n.val, by omega⟩, ← h ⟨n.val, by omega⟩]
  unfold st4
  refine congrArg₂ (fun p q : EReal => p + q) (congrArg v (ix2_of _ (by rfl) (by show 0 + l.val = l.val; omega))) (congrArg v (ix2_of _ (by show 0 + n.val = n.val; omega) (by show 0 + l.val = l.val; omega)))
theorem st8_at (v : FVec Ideal S521x128 .f32) (f : ℕ → EReal) (l : Fin 128) (h : ∀ n : Fin 521, v (ix2 n l) = f n.val) (n : Fin 513) :
    st8 v (ix2 n l) = dbl 8 f n.val := by
  unfold dbl
  rw [← h ⟨8 + n.val, by omega⟩, ← h ⟨n.val, by omega⟩]
  unfold st8
  refine congrArg₂ (fun p q : EReal => p + q) (congrArg v (ix2_of _ (by rfl) (by show 0 + l.val = l.val; omega))) (congrArg v (ix2_of _ (by show 0 + n.val = n.val; omega) (by show 0 + l.val = l.val; omega)))
theorem last2_at (v : FVec Ideal S527x128 .f32) (f : ℕ → EReal) (l : Fin 128) (h : ∀ n : Fin 527, v (ix2 n l) = f n.val) (r : Fin 512) :
    last2 v (ix2 r l) = f (15 + r.val) := by
  rw [← h ⟨15 + r.val, by omega⟩]
  unfold last2
  exact congrArg v (ix2_of _ (by rfl) (by show 0 + l.val = l.val; omega))
theorem last4_at (v : FVec Ideal S525x128 .f32) (f : ℕ → EReal) (l : Fin 128) (h : ∀ n : Fin 525, v (ix2 n l) = f n.val) (r : Fin 512) :
    last4 v (ix2 r l) = f (13 + r.val) := by
  rw [← h ⟨13 + r.val, by omega⟩]
  unfold last4
  exact congrArg v (ix2_of _ (by rfl) (by show 0 + l.val = l.val; omega))
theorem last8_at (v : FVec Ideal S521x128 .f32) (f : ℕ → EReal) (l : Fin 128) (h : ∀ n : Fin 521, v (ix2 n l) = f n.val) (r : Fin 512) :
    last8 v (ix2 r l) = f (9 + r.val) := by
  rw [← h ⟨9 + r.val, by omega⟩]
  unfold last8
  exact congrArg v (ix2_of _ (by rfl) (by show 0 + l.val = l.val; omega))
theorem last16_at (v : FVec Ideal S513x128 .f32) (f : ℕ → EReal) (l : Fin 128) (h : ∀ n : Fin 513, v (ix2 n l) = f n.val) (r : Fin 512) :
    last16 v (ix2 r l) = f (1 + r.val) := by
  rw [← h ⟨1 + r.val, by omega⟩]
  unfold last16
  exact congrArg v (ix2_of _ (by rfl) (by show 0 + l.val = l.val; omega))

/-- The counts of the first sixteen rows, and the means: those rows divided by their counts, the rest times `c`. -/
def cnt (w : BitVec 32) (pos : IVec S16x1 32) : FVec Ideal S16x1 .f32 := sitofp .f32 (minsi (addi pos (broadcast S16x1 1#32)) (broadcast S16x1 w))
def mean (c : Ideal .f32) (n : FVec Ideal S16x1 .f32) (t : FVec Ideal S512x128 .f32) : FVec Ideal S512x128 .f32 :=
  concatenate S512x128 0 [⟨S16x128, divf (extractStridedSlice S16x128 ![0, 0] t slices_S512x128_o0_0_S16x128) (broadcastTo S16x128 n broadcasts_S16x1_S16x128)⟩,
    ⟨S496x128, mulf (extractStridedSlice S496x128 ![16, 0] t slices_S512x128_o16_0_S496x128) (broadcast S496x128 c)⟩] concatenates_S16x128_S496x128_S512x128_d0
theorem mean_lo (c : Ideal .f32) (n : FVec Ideal S16x1 .f32) (t : FVec Ideal S512x128 .f32) (r : Fin 16) (l : Fin 128) :
    mean c n t (ix2 ⟨r.val, by omega⟩ l) = Ideal.div (t (ix2 ⟨r.val, by omega⟩ l)) (n (ix2 r 0)) := by
  pointwise [mean]
  try rw [dif_pos (by omega)]
theorem mean_hi (c : Ideal .f32) (n : FVec Ideal S16x1 .f32) (t : FVec Ideal S512x128 .f32) (r : Fin 496) (l : Fin 128) :
    mean c n t (ix2 ⟨16 + r.val, by omega⟩ l) = t (ix2 ⟨16 + r.val, by omega⟩ l) * c := by
  pointwise [mean]
  try rw [dif_neg (by omega)]
  try exact congrArg (fun p : EReal => p * c) (congrArg t (ix2_of _ (by show _ = 16 + r.val; simp) (by simp)))

/-- A group's product with its weights. -/
def grp (m u : FVec Ideal S512x128 .f32) (w : Vec Ideal S1x128x128 .bf16) : FVec Ideal S512x128 .f32 :=
  matmul dot_S512x128_S128x128_S512x128_1_0_0_1_n_n none (truncf .bf16 (subf m u) bitsLt_bf16_f32)
    (shapeCast S128x128 w shapeCasts_S1x128x128_S128x128 : FVec Ideal S128x128 .bf16) (constant S512x128 .f32 0x00000000#32)
theorem grp_at (m u : FVec Ideal S512x128 .f32) (w : Vec Ideal S1x128x128 .bf16) (r : Fin 512) (d : Fin 128) :
    grp m u w (ix2 r d) = ∑ k, (m (ix2 r k) - u (ix2 r k)) * w (ix3 0 k d) := by pointwise [grp]
/-- The four groups beside each other, scaled. -/
def poolv (a b c d : FVec Ideal S512x128 .f32) (ps : Vec Ideal S1x512 .f32) : FVec Ideal S512x512 .f32 :=
  mulf (concatenate S512x512 1 [⟨S512x128, a⟩, ⟨S512x128, b⟩, ⟨S512x128, c⟩, ⟨S512x128, d⟩] concatenates_S512x128_S512x128_S512x128_S512x128_S512x512_d1)
    (broadcastTo S512x512 (shapeCast S1x512 ps shapeCasts_S1x512_S1x512) broadcasts_S1x512_S512x512)
section
variable (a b c d : FVec Ideal S512x128 .f32) (ps : Vec Ideal S1x512 .f32) (r : Fin 512) (l : Fin 128)
theorem poolv_0 : poolv a b c d ps (ix2 r ⟨0 + l.val, by omega⟩) = a (ix2 r l) * ps (ix2 0 ⟨0 + l.val, by omega⟩) := by
  pointwise [poolv]
  try rw [dif_pos (by omega)]
  try exact congrArg (fun p : EReal => p * ps (ix2 0 ⟨0 + l.val, by omega⟩)) (congrArg a (ix2_of _ rfl (by show _ = l.val; simp <;> omega)))
theorem poolv_1 : poolv a b c d ps (ix2 r ⟨128 + l.val, by omega⟩) = b (ix2 r l) * ps (ix2 0 ⟨128 + l.val, by omega⟩) := by
  pointwise [poolv]
  try rw [dif_neg (by omega), dif_pos (by omega)]
  try exact congrArg (fun p : EReal => p * ps (ix2 0 ⟨128 + l.val, by omega⟩)) (congrArg b (ix2_of _ rfl (by show _ = l.val; simp <;> omega)))
theorem poolv_2 : poolv a b c d ps (ix2 r ⟨256 + l.val, by omega⟩) = c (ix2 r l) * ps (ix2 0 ⟨256 + l.val, by omega⟩) := by
  pointwise [poolv]
  try rw [dif_neg (by omega), dif_neg (by omega), dif_pos (by omega)]
  try exact congrArg (fun p : EReal => p * ps (ix2 0 ⟨256 + l.val, by omega⟩)) (congrArg c (ix2_of _ rfl (by show _ = l.val; simp <;> omega)))
theorem poolv_3 : poolv a b c d ps (ix2 r ⟨384 + l.val, by omega⟩) = d (ix2 r l) * ps (ix2 0 ⟨384 + l.val, by omega⟩) := by
  pointwise [poolv]
  try rw [dif_neg (by omega), dif_neg (by omega), dif_neg (by omega)]
  try exact congrArg (fun p : EReal => p * ps (ix2 0 ⟨384 + l.val, by omega⟩)) (congrArg d (ix2_of _ rfl (by show _ = l.val; simp <;> omega)))
end

/-- The mixer of one half. -/
def means0 (pos : IVec S16x1 32) : FVec Ideal S512x128 .f32 := mean (Scalar.ofBits .f32 0x3F000000#32) (cnt 2#32 pos) (last2 (st1 (ext0 hs us)))
def means1 (pos : IVec S16x1 32) : FVec Ideal S512x128 .f32 := mean (Scalar.ofBits .f32 0x3E800000#32) (cnt 4#32 pos) (last4 (st2 (st1 (ext1 hs us))))
def means2 (pos : IVec S16x1 32) : FVec Ideal S512x128 .f32 := mean (Scalar.ofBits .f32 0x3E000000#32) (cnt 8#32 pos) (last8 (st4 (st2 (st1 (ext2 hs us)))))
def means3 (pos : IVec S16x1 32) : FVec Ideal S512x128 .f32 := mean (Scalar.ofBits .f32 0x3D800000#32) (cnt 16#32 pos) (last16 (st8 (st4 (st2 (st1 (ext3 hs us))))))
def mixer (pos : IVec S16x1 32) (w0 w1 w2 w3 : Vec Ideal S1x128x128 .bf16) (ps : Vec Ideal S1x512 .f32) : FVec Ideal S512x512 .f32 :=
  poolv (grp (means0 hs us pos) (cut0 us) w0) (grp (means1 hs us pos) (cut1 us) w1) (grp (means2 hs us pos) (cut2 us) w2) (grp (means3 hs us pos) (cut3 us) w3) ps
end Pool

/-! ## The projections and the heads -/

section Tail
variable (p : FVec Ideal S512x512 .f32) (a : Vec Ideal S1x512x512 .bf16) (w1 w2 : Vec Ideal S512x1024 .bf16) (v : FVec Ideal S512x1024 .f32)
  (x : Vec Ideal S1x512x1024 .f32) (g : Vec Ideal S1x1024 .f32) (w : Vec Ideal S1024x1024 .bf16) (r : Fin 512) (q : Fin 1024)

theorem pay28_at : k0_pay28 (F := Ideal) p a w1 w2 (ix2 r q) = ∑ k, a (ix3 0 k r) * w1 (ix2 k q) + ∑ k, p (ix2 r k) * w2 (ix2 k q) := by pointwise [k0_pay28]
theorem pay30_at : k0_pay30 (F := Ideal) v x g (ix2 r q) = x (ix3 0 r q) + norm (fun c => v (ix2 r c)) (fun c => g (ix2 0 c)) q := by
  unfold Mlp.norm; pointwise [k0_pay30]
theorem pay36_at : k0_pay36 (F := Ideal) v g w (ix2 r q)
    = (∑ k, norm (fun c => v (ix2 r c)) (fun c => g (ix2 0 c)) k * w (ix2 k q)) * Ideal.ofBits .f32 0x3D800000#32 := by
  unfold Mlp.norm; pointwise [k0_pay36]
theorem pay1_at (y : FVec Ideal S512x1024 .f32) : k0_pay1 (F := Ideal) y v g (ix3 0 r q) = y (ix2 r q) + norm (fun c => v (ix2 r c)) (fun c => g (ix2 0 c)) q := by
  unfold Mlp.norm; pointwise [k0_pay1]

variable (qh : FVec Ideal S512x256 .bf16) (kk vv : Vec Ideal S1x256x256 .bf16) (s : FVec Ideal S512x256 .f32) (j : Fin 256)
/-- A head's scores, their exponentials, and the result. -/
def scv : FVec Ideal S512x256 .f32 :=
  matmul dot_S512x256_S256x256_S512x256_1_1_0_0_n_n none qh (shapeCast S256x256 kk shapeCasts_S1x256x256_S256x256 : FVec Ideal S256x256 .bf16) (constant S512x256 .f32 0x00000000#32)
def exv : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))
def hdv : FVec Ideal S512x256 .bf16 :=
  truncf .bf16 (mulf (matmul dot_S512x256_S256x256_S512x256_1_0_0_1_n_n none (truncf .bf16 s bitsLt_bf16_f32) (shapeCast S256x256 vv shapeCasts_S1x256x256_S256x256 : FVec Ideal S256x256 .bf16) (constant S512x256 .f32 0x00000000#32))
    (broadcastTo S512x256 (divf (broadcast S512x1 (Scalar.ofBits .f32 0x3F800000#32)) (shapeCast S512x1 (multiReduction .add [1] S512 s 0x00000000#32 reduces_S512x256_S512 (.inl rfl) rfl) shapeCasts_S512_S512x1)) broadcasts_S512x1_S512x256)) bitsLt_bf16_f32
theorem scv_at : scv qh kk (ix2 r j) = ∑ d, qh (ix2 r d) * kk (ix3 0 j d) := by pointwise [scv]
theorem exv_at : exv s (ix2 r j) = ex (fun j => s (ix2 r j)) j := by unfold ex top; pointwise [exv]
theorem hdv_at : hdv vv s (ix2 r j) = (∑ i, s (ix2 r i) * vv (ix3 0 i j)) * Ideal.div (Ideal.ofBits .f32 0x3F800000#32) (∑ i, s (ix2 r i)) := by pointwise [hdv]
theorem pay38_eq : k0_pay38 (F := Ideal) qh kk vv = hdv vv (exv (scv qh kk)) := rfl
theorem pay38_at : k0_pay38 (F := Ideal) qh kk vv (ix2 r j) = headK (fun i => ∑ d, qh (ix2 r d) * kk (ix3 0 i d)) (fun i => vv (ix3 0 i j)) := by
  rw [pay38_eq, hdv_at]
  unfold headK
  simp only [exv_at, scv_at]

/-- The four heads beside each other, times the output's weights. -/
def cat (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1
def proj (u : FVec Ideal S512x1024 .bf16) : FVec Ideal S512x1024 .f32 :=
  matmul dot_S512x1024_S1024x1024_S512x1024_1_0_0_1_n_n none u (shapeCast S1024x1024 w shapeCasts_S1024x1024_S1024x1024 : FVec Ideal S1024x1024 .bf16) (constant S512x1024 .f32 0x00000000#32)
theorem proj_at (u : FVec Ideal S512x1024 .bf16) : proj w u (ix2 r q) = ∑ k, u (ix2 r k) * w (ix2 k q) := by pointwise [proj]
section
variable (a b c d : FVec Ideal S512x256 .bf16)
theorem cat_0 : cat a b c d (ix2 r ⟨0 + j.val, by omega⟩) = a (ix2 r j) := by
  pointwise [cat]
  try rw [dif_pos (by omega)]
  try exact congrArg a (ix2_of _ rfl (by show _ = j.val; simp <;> omega))
theorem cat_1 : cat a b c d (ix2 r ⟨256 + j.val, by omega⟩) = b (ix2 r j) := by
  pointwise [cat]
  try rw [dif_neg (by omega), dif_pos (by omega)]
  try exact congrArg b (ix2_of _ rfl (by show _ = j.val; simp <;> omega))
theorem cat_2 : cat a b c d (ix2 r ⟨512 + j.val, by omega⟩) = c (ix2 r j) := by
  pointwise [cat]
  try rw [dif_neg (by omega), dif_neg (by omega), dif_pos (by omega)]
  try exact congrArg c (ix2_of _ rfl (by show _ = j.val; simp <;> omega))
theorem cat_3 : cat a b c d (ix2 r ⟨768 + j.val, by omega⟩) = d (ix2 r j) := by
  pointwise [cat]
  try rw [dif_neg (by omega), dif_neg (by omega), dif_neg (by omega)]
  try exact congrArg d (ix2_of _ rfl (by show _ = j.val; simp <;> omega))
end
/-- A head's queries. -/
def qcut0 (Q : FVec Ideal S512x1024 .bf16) : FVec Ideal S512x256 .bf16 := extractStridedSlice S512x256 ![0, 0] Q slices_S512x1024_o0_0_S512x256
def qcut1 (Q : FVec Ideal S512x1024 .bf16) : FVec Ideal S512x256 .bf16 := extractStridedSlice S512x256 ![0, 256] Q slices_S512x1024_o0_256_S512x256
def qcut2 (Q : FVec Ideal S512x1024 .bf16) : FVec Ideal S512x256 .bf16 := extractStridedSlice S512x256 ![0, 512] Q slices_S512x1024_o0_512_S512x256
def qcut3 (Q : FVec Ideal S512x1024 .bf16) : FVec Ideal S512x256 .bf16 := extractStridedSlice S512x256 ![0, 768] Q slices_S512x1024_o0_768_S512x256
theorem qcut0_at (Q : FVec Ideal S512x1024 .bf16) : qcut0 Q (ix2 r j) = Q (ix2 r ⟨0 + j.val, by omega⟩) := by
  unfold qcut0
  exact congrArg Q (ix2_of _ (by show 0 + r.val = r.val; omega) rfl)
theorem qcut1_at (Q : FVec Ideal S512x1024 .bf16) : qcut1 Q (ix2 r j) = Q (ix2 r ⟨256 + j.val, by omega⟩) := by
  unfold qcut1
  exact congrArg Q (ix2_of _ (by show 0 + r.val = r.val; omega) rfl)
theorem qcut2_at (Q : FVec Ideal S512x1024 .bf16) : qcut2 Q (ix2 r j) = Q (ix2 r ⟨512 + j.val, by omega⟩) := by
  unfold qcut2
  exact congrArg Q (ix2_of _ (by show 0 + r.val = r.val; omega) rfl)
theorem qcut3_at (Q : FVec Ideal S512x1024 .bf16) : qcut3 Q (ix2 r j) = Q (ix2 r ⟨768 + j.val, by omega⟩) := by
  unfold qcut3
  exact congrArg Q (ix2_of _ (by show 0 + r.val = r.val; omega) rfl)

/-- One half of a block, from the rows before it and its own. -/
def half (hs : FVec Ideal S16x512 .f32) (us : FVec Ideal S512x512 .f32) (pos : IVec S16x1 32) (a : Vec Ideal S1x512x512 .bf16) (x : Vec Ideal S1x512x1024 .f32)
    (W0 W1 W2 W3 : Vec Ideal S1x128x128 .bf16) (ps : Vec Ideal S1x512 .f32) (o1 o2 : Vec Ideal S512x1024 .bf16) (gm gx : Vec Ideal S1x1024 .f32) (wq : Vec Ideal S1024x1024 .bf16)
    (k0 k1 k2 k3 v0 v1 v2 v3 : Vec Ideal S1x256x256 .bf16) (wx : Vec Ideal S1024x1024 .bf16) (gp : Vec Ideal S1x1024 .f32) : FVec Ideal S1x512x1024 .f32 :=
  let X := k0_pay30 (F := Ideal) (k0_pay28 (F := Ideal) (mixer hs us pos W0 W1 W2 W3 ps) a o1 o2) x gm
  let Q := k0_pay36 (F := Ideal) X gx wq
  k0_pay1 (F := Ideal) X (proj wx (cat (k0_pay38 (F := Ideal) (qcut0 Q) k0 v0) (k0_pay38 (F := Ideal) (qcut1 Q) k1 v1) (k0_pay38 (F := Ideal) (qcut2 Q) k2 v2) (k0_pay38 (F := Ideal) (qcut3 Q) k3 v3))) gp

end Tail

end Cert.Proof.Mix
end
-- ==== Proof.MixHalf.lean ====
/-
  One half of a block is the rows' formula, and the two halves stored are the same function of their own rows.
-/
module

public import proofs.«01_k».proof.Proof.MixStage

@[expose] public section

noncomputable section

namespace Cert.Proof.Mix

open Cert.Kernel4Ideal Cert.Kernel4Ideal.Gen
open Idealize.ShloMosaic Idealize.ShloMosaic.TcCoe
open Cert.Proof.Mlp (norm)
open Cert.Proof.Tile

theorem col128 (k : ℕ) (hk : k + 128 ≤ 512) (c : Fin 512) (h1 : k ≤ c.val) (h2 : c.val < k + 128) : ∃ d : Fin 128, c = ⟨k + d.val, Nat.lt_of_lt_of_le (Nat.add_lt_add_left d.isLt k) hk⟩ :=
  ⟨⟨c.val - k, by omega⟩, Fin.ext (by show c.val = k + (c.val - k); omega)⟩
theorem col256 (k : ℕ) (hk : k + 256 ≤ 1024) (c : Fin 1024) (h1 : k ≤ c.val) (h2 : c.val < k + 256) : ∃ d : Fin 256, c = ⟨k + d.val, Nat.lt_of_lt_of_le (Nat.add_lt_add_left d.isLt k) hk⟩ :=
  ⟨⟨c.val - k, by omega⟩, Fin.ext (by show c.val = k + (c.val - k); omega)⟩

/-! ## The means and the differences -/

theorem cntv2 : ∀ n : Fin 4096, (IntOp.minsi (IntOp.addi (BitVec.ofNat 32 n.val) 1#32) 2#32).toInt = ((min (n.val + 1) 2 : ℕ) : ℤ) := by decide +kernel
theorem cntv4 : ∀ n : Fin 4096, (IntOp.minsi (IntOp.addi (BitVec.ofNat 32 n.val) 1#32) 4#32).toInt = ((min (n.val + 1) 4 : ℕ) : ℤ) := by decide +kernel
theorem cntv8 : ∀ n : Fin 4096, (IntOp.minsi (IntOp.addi (BitVec.ofNat 32 n.val) 1#32) 8#32).toInt = ((min (n.val + 1) 8 : ℕ) : ℤ) := by decide +kernel
theorem cntv16 : ∀ n : Fin 4096, (IntOp.minsi (IntOp.addi (BitVec.ofNat 32 n.val) 1#32) 16#32).toInt = ((min (n.val + 1) 16 : ℕ) : ℤ) := by decide +kernel

theorem cnt_at (w : BitVec 32) (pos : IVec S16x1 32) (r : Fin 16) :
    cnt w pos (ix2 r 0) = (((IntOp.minsi (IntOp.addi (pos (ix2 r 0)) 1#32) w).toInt : ℝ) : EReal) := rfl

section Means
variable (hs : FVec Ideal S16x512 .f32) (us : FVec Ideal S512x512 .f32) (pos : IVec S16x1 32) (P : ℕ → Fin 512 → EReal) (B : ℕ) (hB : B + 512 ≤ 4096)
  (hH : ∀ (n : Fin 16) c, hs (ix2 n c) = P (B + n.val) c) (hU : ∀ (n : Fin 512) c, us (ix2 n c) = P (B + 16 + n.val) c)
  (hpos : ∀ n : Fin 16, pos (ix2 n 0) = BitVec.ofNat 32 (B + n.val)) (r : Fin 512) (l : Fin 128)

include hB hH hU in
theorem ext0_at (n : Fin 528) : ext0 hs us (ix2 n l) = P (B + n.val) ⟨0 + l.val, by omega⟩ := by
  by_cases h : n.val < 16
  · exact (ext0_lo hs us ⟨n.val, h⟩ l).trans (hH _ _)
  · refine (congrArg (ext0 hs us) (ix2_of (ix2 n l) (q := l) (p := ⟨16 + (n.val - 16), by omega⟩) (by show n.val = 16 + (n.val - 16); omega) rfl)).trans ?_
    refine ((ext0_hi hs us ⟨n.val - 16, by omega⟩ l).trans (cut0_at us _ l)).trans ((hU _ _).trans (congrArg (fun m => P m _) ?_))
    show B + 16 + (n.val - 16) = B + n.val
    omega
include hB hH hU in
theorem tree0_at : last2 (st1 (ext0 hs us)) (ix2 r l) = win 2 fun n => P (B + r.val + 17 - 2 + n) ⟨0 + l.val, by omega⟩ := by
  have he := ext0_at hs us P B hB hH hU l
  generalize hf : (fun n : ℕ => P (B + n) ⟨0 + l.val, by omega⟩) = f
  replace he : ∀ n : Fin 528, ext0 hs us (ix2 n l) = f n.val := fun n => (he n).trans (congrFun hf n.val)
  rw [last2_at _ _ l (st1_at _ f l he) r, dbl2, ← hf]
  exact congrArg (win 2) (funext fun n => congrArg (fun m => P m _) (by omega))
include hB hH hU hpos in
theorem means0_at : means0 hs us pos (ix2 r l) - cut0 us (ix2 r l) = pl P (B + r.val) ⟨0 + l.val, by omega⟩ := by
  have hw : wid ⟨0 + l.val, by omega⟩ = 2 := by
    unfold wid
    rw [show (0 + l.val) / 128 = 0 from by omega]; norm_num
  unfold pl
  rw [hw, cut0_at, hU, show B + 16 + r.val = B + r.val + 16 from by omega]
  refine congrArg (fun t : EReal => t - P (B + r.val + 16) ⟨0 + l.val, by omega⟩) ?_
  rw [← tree0_at hs us P B hB hH hU r l]
  unfold means0
  generalize last2 (st1 (ext0 hs us)) = t
  by_cases h : r.val < 16
  · refine (mean_lo _ _ t ⟨r.val, h⟩ l).trans ?_
    rw [cnt_at, hpos, cntv2 ⟨B + r.val, by omega⟩, Int.cast_natCast]
  · refine (congrArg (mean _ _ t) (ix2_of (ix2 r l) (q := l) (p := ⟨16 + (r.val - 16), by omega⟩) (by show r.val = 16 + (r.val - 16); omega) rfl)).trans ?_
    refine (mean_hi _ _ t ⟨r.val - 16, by omega⟩ l).trans ?_
    rw [show min (B + r.val + 1) 2 = 2 from by omega, Ideal.div_coe (by norm_num)]
    refine congrArg₂ (fun p q : EReal => p * q) (congrArg t (ix2_of _ (by show 16 + (r.val - 16) = r.val; omega) rfl)) ?_
    refine litHalf.trans (congrArg (fun x : ℝ => (x : EReal)) (by norm_num))

include hB hH hU in
theorem ext1_at (n : Fin 528) : ext1 hs us (ix2 n l) = P (B + n.val) ⟨128 + l.val, by omega⟩ := by
  by_cases h : n.val < 16
  · exact (ext1_lo hs us ⟨n.val, h⟩ l).trans (hH _ _)
  · refine (congrArg (ext1 hs us) (ix2_of (ix2 n l) (q := l) (p := ⟨16 + (n.val - 16), by omega⟩) (by show n.val = 16 + (n.val - 16); omega) rfl)).trans ?_
    refine ((ext1_hi hs us ⟨n.val - 16, by omega⟩ l).trans (cut1_at us _ l)).trans ((hU _ _).trans (congrArg (fun m => P m _) ?_))
    show B + 16 + (n.val - 16) = B + n.val
    omega
include hB hH hU in
theorem tree1_at : last4 (st2 (st1 (ext1 hs us))) (ix2 r l) = win 4 fun n => P (B + r.val + 17 - 4 + n) ⟨128 + l.val, by omega⟩ := by
  have he := ext1_at hs us P B hB hH hU l
  generalize hf : (fun n : ℕ => P (B + n) ⟨128 + l.val, by omega⟩) = f
  replace he : ∀ n : Fin 528, ext1 hs us (ix2 n l) = f n.val := fun n => (he n).trans (congrFun hf n.val)
  rw [last4_at _ _ l (st2_at _ _ l (st1_at _ f l he)) r, dbl4, ← hf]
  exact congrArg (win 4) (funext fun n => congrArg (fun m => P m _) (by omega))
include hB hH hU hpos in
theorem means1_at : means1 hs us pos (ix2 r l) - cut1 us (ix2 r l) = pl P (B + r.val) ⟨128 + l.val, by omega⟩ := by
  have hw : wid ⟨128 + l.val, by omega⟩ = 4 := by
    unfold wid
    rw [show (128 + l.val) / 128 = 1 from by omega]; norm_num
  unfold pl
  rw [hw, cut1_at, hU, show B + 16 + r.val = B + r.val + 16 from by omega]
  refine congrArg (fun t : EReal => t - P (B + r.val + 16) ⟨128 + l.val, by omega⟩) ?_
  rw [← tree1_at hs us P B hB hH hU r l]
  unfold means1
  generalize last4 (st2 (st1 (ext1 hs us))) = t
  by_cases h : r.val < 16
  · refine (mean_lo _ _ t ⟨r.val, h⟩ l).trans ?_
    rw [cnt_at, hpos, cntv4 ⟨B + r.val, by omega⟩, Int.cast_natCast]
  · refine (congrArg (mean _ _ t) (ix2_of (ix2 r l) (q := l) (p := ⟨16 + (r.val - 16), by omega⟩) (by show r.val = 16 + (r.val - 16); omega) rfl)).trans ?_
    refine (mean_hi _ _ t ⟨r.val - 16, by omega⟩ l).trans ?_
    rw [show min (B + r.val + 1) 4 = 4 from by omega, Ideal.div_coe (by norm_num)]
    refine congrArg₂ (fun p q : EReal => p * q) (congrArg t (ix2_of _ (by show 16 + (r.val - 16) = r.val; omega) rfl)) ?_
    refine litQuarter.trans (congrArg (fun x : ℝ => (x : EReal)) (by norm_num))

include hB hH hU in
theorem ext2_at (n : Fin 528) : ext2 hs us (ix2 n l) = P (B + n.val) ⟨256 + l.val, by omega⟩ := by
  by_cases h : n.val < 16
  · exact (ext2_lo hs us ⟨n.val, h⟩ l).trans (hH _ _)
  · refine (congrArg (ext2 hs us) (ix2_of (ix2 n l) (q := l) (p := ⟨16 + (n.val - 16), by omega⟩) (by show n.val = 16 + (n.val - 16); omega) rfl)).trans ?_
    refine ((ext2_hi hs us ⟨n.val - 16, by omega⟩ l).trans (cut2_at us _ l)).trans ((hU _ _).trans (congrArg (fun m => P m _) ?_))
    show B + 16 + (n.val - 16) = B + n.val
    omega
include hB hH hU in
theorem tree2_at : last8 (st4 (st2 (st1 (ext2 hs us)))) (ix2 r l) = win 8 fun n => P (B + r.val + 17 - 8 + n) ⟨256 + l.val, by omega⟩ := by
  have he := ext2_at hs us P B hB hH hU l
  generalize hf : (fun n : ℕ => P (B + n) ⟨256 + l.val, by omega⟩) = f
  replace he : ∀ n : Fin 528, ext2 hs us (ix2 n l) = f n.val := fun n => (he n).trans (congrFun hf n.val)
  rw [last8_at _ _ l (st4_at _ _ l (st2_at _ _ l (st1_at _ f l he))) r, dbl8, ← hf]
  exact congrArg (win 8) (funext fun n => congrArg (fun m => P m _) (by omega))
include hB hH hU hpos in
theorem means2_at : means2 hs us pos (ix2 r l) - cut2 us (ix2 r l) = pl P (B + r.val) ⟨256 + l.val, by omega⟩ := by
  have hw : wid ⟨256 + l.val, by omega⟩ = 8 := by
    unfold wid
    rw [show (256 + l.val) / 128 = 2 from by omega]; norm_num
  unfold pl
  rw [hw, cut2_at, hU, show B + 16 + r.val = B + r.val + 16 from by omega]
  refine congrArg (fun t : EReal => t - P (B + r.val + 16) ⟨256 + l.val, by omega⟩) ?_
  rw [← tree2_at hs us P B hB hH hU r l]
  unfold means2
  generalize last8 (st4 (st2 (st1 (ext2 hs us)))) = t
  by_cases h : r.val < 16
  · refine (mean_lo _ _ t ⟨r.val, h⟩ l).trans ?_
    rw [cnt_at, hpos, cntv8 ⟨B + r.val, by omega⟩, Int.cast_natCast]
  · refine (congrArg (mean _ _ t) (ix2_of (ix2 r l) (q := l) (p := ⟨16 + (r.val - 16), by omega⟩) (by show r.val = 16 + (r.val - 16); omega) rfl)).trans ?_
    refine (mean_hi _ _ t ⟨r.val - 16, by omega⟩ l).trans ?_
    rw [show min (B + r.val + 1) 8 = 8 from by omega, Ideal.div_coe (by norm_num)]
    refine congrArg₂ (fun p q : EReal => p * q) (congrArg t (ix2_of _ (by show 16 + (r.val - 16) = r.val; omega) rfl)) ?_
    refine litEighth.trans (congrArg (fun x : ℝ => (x : EReal)) (by norm_num))

include hB hH hU in
theorem ext3_at (n : Fin 528) : ext3 hs us (ix2 n l) = P (B + n.val) ⟨384 + l.val, by omega⟩ := by
  by_cases h : n.val < 16
  · exact (ext3_lo hs us ⟨n.val, h⟩ l).trans (hH _ _)
  · refine (congrArg (ext3 hs us) (ix2_of (ix2 n l) (q := l) (p := ⟨16 + (n.val - 16), by omega⟩) (by show n.val = 16 + (n.val - 16); omega) rfl)).trans ?_
    refine ((ext3_hi hs us ⟨n.val - 16, by omega⟩ l).trans (cut3_at us _ l)).trans ((hU _ _).trans (congrArg (fun m => P m _) ?_))
    show B + 16 + (n.val - 16) = B + n.val
    omega
include hB hH hU in
theorem tree3_at : last16 (st8 (st4 (st2 (st1 (ext3 hs us))))) (ix2 r l) = win 16 fun n => P (B + r.val + 17 - 16 + n) ⟨384 + l.val, by omega⟩ := by
  have he := ext3_at hs us P B hB hH hU l
  generalize hf : (fun n : ℕ => P (B + n) ⟨384 + l.val, by omega⟩) = f
  replace he : ∀ n : Fin 528, ext3 hs us (ix2 n l) = f n.val := fun n => (he n).trans (congrFun hf n.val)
  rw [last16_at _ _ l (st8_at _ _ l (st4_at _ _ l (st2_at _ _ l (st1_at _ f l he)))) r, dbl16, ← hf]
  exact congrArg (win 16) (funext fun n => congrArg (fun m => P m _) (by omega))
include hB hH hU hpos in
theorem means3_at : means3 hs us pos (ix2 r l) - cut3 us (ix2 r l) = pl P (B + r.val) ⟨384 + l.val, by omega⟩ := by
  have hw : wid ⟨384 + l.val, by omega⟩ = 16 := by
    unfold wid
    rw [show (384 + l.val) / 128 = 3 from by omega]; norm_num
  unfold pl
  rw [hw, cut3_at, hU, show B + 16 + r.val = B + r.val + 16 from by omega]
  refine congrArg (fun t : EReal => t - P (B + r.val + 16) ⟨384 + l.val, by omega⟩) ?_
  rw [← tree3_at hs us P B hB hH hU r l]
  unfold means3
  generalize last16 (st8 (st4 (st2 (st1 (ext3 hs us))))) = t
  by_cases h : r.val < 16
  · refine (mean_lo _ _ t ⟨r.val, h⟩ l).trans ?_
    rw [cnt_at, hpos, cntv16 ⟨B + r.val, by omega⟩, Int.cast_natCast]
  · refine (congrArg (mean _ _ t) (ix2_of (ix2 r l) (q := l) (p := ⟨16 + (r.val - 16), by omega⟩) (by show r.val = 16 + (r.val - 16); omega) rfl)).trans ?_
    refine (mean_hi _ _ t ⟨r.val - 16, by omega⟩ l).trans ?_
    rw [show min (B + r.val + 1) 16 = 16 from by omega, Ideal.div_coe (by norm_num)]
    refine congrArg₂ (fun p q : EReal => p * q) (congrArg t (ix2_of _ (by show 16 + (r.val - 16) = r.val; omega) rfl)) ?_
    refine litSixteenth.trans (congrArg (fun x : ℝ => (x : EReal)) (by norm_num))

/-- The mixer's value of one row. -/
theorem mixer_at (W0 W1 W2 W3 : Vec Ideal S1x128x128 .bf16) (ps : Vec Ideal S1x512 .f32) (Wp : Fin 4 → Fin 128 → Fin 128 → EReal) (sc : Fin 512 → EReal)
    (h0 : ∀ k d, W0 (ix3 0 k d) = Wp 0 k d) (h1 : ∀ k d, W1 (ix3 0 k d) = Wp 1 k d) (h2 : ∀ k d, W2 (ix3 0 k d) = Wp 2 k d) (h3 : ∀ k d, W3 (ix3 0 k d) = Wp 3 k d)
    (hs' : ∀ c, ps (ix2 0 c) = sc c) (hB : B + 512 ≤ 4096)
    (hH : ∀ (n : Fin 16) c, hs (ix2 n c) = P (B + n.val) c) (hU : ∀ (n : Fin 512) c, us (ix2 n c) = P (B + 16 + n.val) c)
    (hpos : ∀ n : Fin 16, pos (ix2 n 0) = BitVec.ofNat 32 (B + n.val)) (c : Fin 512) :
    mixer hs us pos W0 W1 W2 W3 ps (ix2 r c) = pool (pl P (B + r.val)) Wp sc c := by
  have hc := c.isLt
  have hcase : c.val / 128 = 0 ∨ c.val / 128 = 1 ∨ c.val / 128 = 2 ∨ c.val / 128 = 3 := by omega
  unfold mixer pool
  rcases hcase with h | h | h | h
  · obtain ⟨d, rfl⟩ := col128 0 (by norm_num) c (by omega) (by omega)
    rw [poolv_0, grp_at, hs']
    refine congrArg (fun t : EReal => t * sc _) (Finset.sum_congr rfl fun l _ => ?_)
    rw [means0_at hs us pos P B hB hH hU hpos r l, h0]
    refine congrArg₂ (fun p q : EReal => p * q) (congrArg (pl P (B + r.val)) (Fin.ext ?_)) ?_
    · show 0 + l.val = 128 * ((0 + d.val) / 128) + l.val
      omega
    · exact congrArg₂ (fun a b => Wp a l b) (Fin.ext (by show 0 = (0 + d.val) / 128; omega)) (Fin.ext (by show d.val = (0 + d.val) % 128; omega))
  · obtain ⟨d, rfl⟩ := col128 128 (by norm_num) c (by omega) (by omega)
    rw [poolv_1, grp_at, hs']
    refine congrArg (fun t : EReal => t * sc _) (Finset.sum_congr rfl fun l _ => ?_)
    rw [means1_at hs us pos P B hB hH hU hpos r l, h1]
    refine congrArg₂ (fun p q : EReal => p * q) (congrArg (pl P (B + r.val)) (Fin.ext ?_)) ?_
    · show 128 + l.val = 128 * ((128 + d.val) / 128) + l.val
      omega
    · exact congrArg₂ (fun a b => Wp a l b) (Fin.ext (by show 1 = (128 + d.val) / 128; omega)) (Fin.ext (by show d.val = (128 + d.val) % 128; omega))
  · obtain ⟨d, rfl⟩ := col128 256 (by norm_num) c (by omega) (by omega)
    rw [poolv_2, grp_at, hs']
    refine congrArg (fun t : EReal => t * sc _) (Finset.sum_congr rfl fun l _ => ?_)
    rw [means2_at hs us pos P B hB hH hU hpos r l, h2]
    refine congrArg₂ (fun p q : EReal => p * q) (congrArg (pl P (B + r.val)) (Fin.ext ?_)) ?_
    · show 256 + l.val = 128 * ((256 + d.val) / 128) + l.val
      omega
    · exact congrArg₂ (fun a b => Wp a l b) (Fin.ext (by show 2 = (256 + d.val) / 128; omega)) (Fin.ext (by show d.val = (256 + d.val) % 128; omega))
  · obtain ⟨d, rfl⟩ := col128 384 (by norm_num) c (by omega) (by omega)
    rw [poolv_3, grp_at, hs']
    refine congrArg (fun t : EReal => t * sc _) (Finset.sum_congr rfl fun l _ => ?_)
    rw [means3_at hs us pos P B hB hH hU hpos r l, h3]
    refine congrArg₂ (fun p q : EReal => p * q) (congrArg (pl P (B + r.val)) (Fin.ext ?_)) ?_
    · show 384 + l.val = 128 * ((384 + d.val) / 128) + l.val
      omega
    · exact congrArg₂ (fun a b => Wp a l b) (Fin.ext (by show 3 = (384 + d.val) / 128; omega)) (Fin.ext (by show d.val = (384 + d.val) % 128; omega))
end Means

/-! ## A half's row -/

section Half
variable (hs : FVec Ideal S16x512 .f32) (us : FVec Ideal S512x512 .f32) (pos : IVec S16x1 32) (a : Vec Ideal S1x512x512 .bf16) (x : Vec Ideal S1x512x1024 .f32)
    (W0 W1 W2 W3 : Vec Ideal S1x128x128 .bf16) (ps : Vec Ideal S1x512 .f32) (o1 o2 : Vec Ideal S512x1024 .bf16) (gm gx : Vec Ideal S1x1024 .f32) (wq : Vec Ideal S1024x1024 .bf16)
    (k0 k1 k2 k3 v0 v1 v2 v3 : Vec Ideal S1x256x256 .bf16) (wx : Vec Ideal S1024x1024 .bf16) (gp : Vec Ideal S1x1024 .f32)
    (Q : FVec Ideal S512x1024 .bf16) (y : Fin 1024 → EReal) (K V : Fin 256 → Fin 1024 → EReal) (r : Fin 512)

theorem heads_at (hQ : ∀ c, Q (ix2 r c) = y c * Ideal.ofBits .f32 0x3D800000#32)
    (hk0 : ∀ j d, k0 (ix3 0 j d) = K j (lane 0 d)) (hk1 : ∀ j d, k1 (ix3 0 j d) = K j (lane 1 d)) (hk2 : ∀ j d, k2 (ix3 0 j d) = K j (lane 2 d)) (hk3 : ∀ j d, k3 (ix3 0 j d) = K j (lane 3 d))
    (hv0 : ∀ j d, v0 (ix3 0 j d) = V j (lane 0 d)) (hv1 : ∀ j d, v1 (ix3 0 j d) = V j (lane 1 d)) (hv2 : ∀ j d, v2 (ix3 0 j d) = V j (lane 2 d)) (hv3 : ∀ j d, v3 (ix3 0 j d) = V j (lane 3 d))
    (c : Fin 1024) :
    cat (k0_pay38 (F := Ideal) (qcut0 Q) k0 v0) (k0_pay38 (F := Ideal) (qcut1 Q) k1 v1) (k0_pay38 (F := Ideal) (qcut2 Q) k2 v2) (k0_pay38 (F := Ideal) (qcut3 Q) k3 v3) (ix2 r c)
      = oK K V y c := by
  have hc := c.isLt
  have hcase : c.val / 256 = 0 ∨ c.val / 256 = 1 ∨ c.val / 256 = 2 ∨ c.val / 256 = 3 := by omega
  unfold oK scoreK
  rcases hcase with h | h | h | h
  · obtain ⟨d, rfl⟩ := col256 0 (by norm_num) c (by omega) (by omega)
    have hh : head ⟨0 + d.val, by omega⟩ = (0 : Fin 4) := Fin.ext (by show (0 + d.val) / 256 = 0; omega)
    rw [cat_0, pay38_at, hh]
    refine congrArg₂ headK (funext fun i => Finset.sum_congr rfl fun e _ => ?_) (funext fun i => (hv0 i d).trans (congrArg (V i) (Fin.ext (by show 256 * 0 + d.val = 0 + d.val; omega))))
    rw [qcut0_at, hQ, hk0]
    rfl
  · obtain ⟨d, rfl⟩ := col256 256 (by norm_num) c (by omega) (by omega)
    have hh : head ⟨256 + d.val, by omega⟩ = (1 : Fin 4) := Fin.ext (by show (256 + d.val) / 256 = 1; omega)
    rw [cat_1, pay38_at, hh]
    refine congrArg₂ headK (funext fun i => Finset.sum_congr rfl fun e _ => ?_) (funext fun i => (hv1 i d).trans (congrArg (V i) (Fin.ext (by show 256 * 1 + d.val = 256 + d.val; omega))))
    rw [qcut1_at, hQ, hk1]
    rfl
  · obtain ⟨d, rfl⟩ := col256 512 (by norm_num) c (by omega) (by omega)
    have hh : head ⟨512 + d.val, by omega⟩ = (2 : Fin 4) := Fin.ext (by show (512 + d.val) / 256 = 2; omega)
    rw [cat_2, pay38_at, hh]
    refine congrArg₂ headK (funext fun i => Finset.sum_congr rfl fun e _ => ?_) (funext fun i => (hv2 i d).trans (congrArg (V i) (Fin.ext (by show 256 * 2 + d.val = 512 + d.val; omega))))
    rw [qcut2_at, hQ, hk2]
    rfl
  · obtain ⟨d, rfl⟩ := col256 768 (by norm_num) c (by omega) (by omega)
    have hh : head ⟨768 + d.val, by omega⟩ = (3 : Fin 4) := Fin.ext (by show (768 + d.val) / 256 = 3; omega)
    rw [cat_3, pay38_at, hh]
    refine congrArg₂ headK (funext fun i => Finset.sum_congr rfl fun e _ => ?_) (funext fun i => (hv3 i d).trans (congrArg (V i) (Fin.ext (by show 256 * 3 + d.val = 768 + d.val; omega))))
    rw [qcut3_at, hQ, hk3]
    rfl

theorem half_at (P : ℕ → Fin 512 → EReal) (B : ℕ) (Wp : Fin 4 → Fin 128 → Fin 128 → EReal) (sc : Fin 512 → EReal) (X : Fin 1024 → EReal) (A : Fin 512 → EReal)
    (Wo Wq Wx : Fin 1024 → Fin 1024 → EReal) (Gm Gx Gp : Fin 1024 → EReal)
    (h0 : ∀ k d, W0 (ix3 0 k d) = Wp 0 k d) (h1 : ∀ k d, W1 (ix3 0 k d) = Wp 1 k d) (h2 : ∀ k d, W2 (ix3 0 k d) = Wp 2 k d) (h3 : ∀ k d, W3 (ix3 0 k d) = Wp 3 k d)
    (hs' : ∀ c, ps (ix2 0 c) = sc c) (hB : B + 512 ≤ 4096)
    (hH : ∀ (n : Fin 16) c, hs (ix2 n c) = P (B + n.val) c) (hU : ∀ (n : Fin 512) c, us (ix2 n c) = P (B + 16 + n.val) c)
    (hpos : ∀ n : Fin 16, pos (ix2 n 0) = BitVec.ofNat 32 (B + n.val))
    (hx : ∀ c, x (ix3 0 r c) = X c) (ha : ∀ k, a (ix3 0 k r) = A k) (ho1 : ∀ (k : Fin 512) q, o1 (ix2 k q) = Wo ⟨k.val, by omega⟩ q) (ho2 : ∀ (k : Fin 512) q, o2 (ix2 k q) = Wo ⟨512 + k.val, by omega⟩ q)
    (hgm : ∀ c, gm (ix2 0 c) = Gm c) (hgx : ∀ c, gx (ix2 0 c) = Gx c) (hgp : ∀ c, gp (ix2 0 c) = Gp c) (hwq : ∀ k c, wq (ix2 k c) = Wq k c) (hwx : ∀ k c, wx (ix2 k c) = Wx k c)
    (hk0 : ∀ j d, k0 (ix3 0 j d) = K j (lane 0 d)) (hk1 : ∀ j d, k1 (ix3 0 j d) = K j (lane 1 d)) (hk2 : ∀ j d, k2 (ix3 0 j d) = K j (lane 2 d)) (hk3 : ∀ j d, k3 (ix3 0 j d) = K j (lane 3 d))
    (hv0 : ∀ j d, v0 (ix3 0 j d) = V j (lane 0 d)) (hv1 : ∀ j d, v1 (ix3 0 j d) = V j (lane 1 d)) (hv2 : ∀ j d, v2 (ix3 0 j d) = V j (lane 2 d)) (hv3 : ∀ j d, v3 (ix3 0 j d) = V j (lane 3 d))
    (q : Fin 1024) :
    half hs us pos a x W0 W1 W2 W3 ps o1 o2 gm gx wq k0 k1 k2 k3 v0 v1 v2 v3 wx gp (ix3 0 r q)
      = outRow (oK K V) (midRow X A (pl P (B + r.val)) Wp sc Wo Gm) Gx Wq Wx Gp q := by
  have hX : ∀ c, k0_pay30 (F := Ideal) (k0_pay28 (F := Ideal) (mixer hs us pos W0 W1 W2 W3 ps) a o1 o2) x gm (ix2 r c) = midRow X A (pl P (B + r.val)) Wp sc Wo Gm c := fun c => by
    rw [pay30_at, hx]
    unfold midRow resid
    refine congrArg (fun t : EReal => X c + t) ?_
    refine (norm_congr c (fun k => ?_) hgm)
    rw [pay28_at]
    unfold mixv
    refine congrArg₂ (fun p q : EReal => p + q) (Finset.sum_congr rfl fun n _ => by rw [ha, ho1]) (Finset.sum_congr rfl fun n _ => ?_)
    rw [mixer_at hs us pos P B r W0 W1 W2 W3 ps Wp sc h0 h1 h2 h3 hs' hB hH hU hpos n, ho2]
  unfold half
  generalize k0_pay30 (F := Ideal) (k0_pay28 (F := Ideal) (mixer hs us pos W0 W1 W2 W3 ps) a o1 o2) x gm = Y at hX ⊢
  generalize midRow X A (pl P (B + r.val)) Wp sc Wo Gm = M at hX ⊢
  rw [pay1_at, hX]
  unfold outRow resid
  refine congrArg (fun t : EReal => M q + t) (norm_congr q (fun k => ?_) hgp)
  rw [proj_at]
  refine Finset.sum_congr rfl fun c _ => ?_
  rw [hwx, heads_at k0 k1 k2 k3 v0 v1 v2 v3 (k0_pay36 (F := Ideal) Y gx wq) (query M Gx Wq) K V r (fun c => ?_) hk0 hk1 hk2 hk3 hv0 hv1 hv2 hv3 c]
  rw [pay36_at]
  unfold query
  refine congrArg (fun t : EReal => t * Ideal.ofBits .f32 0x3D800000#32) (Finset.sum_congr rfl fun k _ => ?_)
  rw [hwq, norm_congr k hX hgx]
end Half

/-! ## The two halves stored -/

section Pieces
variable (i : grid0.Coords) (x0 : Vec Ideal S1x1024x1024 .f32) (x1 : Vec Ideal S1x512x1024 .bf16) (x2 : Vec Ideal S1x1024x512 .f32) (x3 : Vec Ideal S1x16x512 .f32) (x4 : Vec Ideal S4x128x128 .bf16) (x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 : Vec Ideal S1x1024 .f32)

/-- The first half of a block, and the second. -/
def first : FVec Ideal S1x512x1024 .f32 :=
  half (k0_pay2 i (View.ld x3 r0_0)) (k0_pay4 (View.ld x2 r0_2)) (k0_pay5 i) (View.ld x1 r0_9) (View.ld x0 r0_13) (View.ld x4 r0_3) (View.ld x4 r0_4) (View.ld x4 r0_5) (View.ld x4 r0_6) (View.ld x5 r0_7)
    (View.ld x6 r0_10) (View.ld x6 r0_11) (View.ld x7 r0_14) (View.ld x8 r0_14) (View.ld x9 r0_16) (View.ld x10 r0_17) (View.ld x10 r0_18) (View.ld x10 r0_19) (View.ld x10 r0_20)
    (View.ld x11 r0_17) (View.ld x11 r0_18) (View.ld x11 r0_19) (View.ld x11 r0_20) (View.ld x12 r0_16) (View.ld x13 r0_14)
def second : FVec Ideal S1x512x1024 .f32 :=
  half (k0_pay3 (View.ld x2 r0_1)) (k0_pay15 (View.ld x2 r0_8)) (k0_pay16 (BitVec.ofNat 32 (i 1).val)) (View.ld x1 r0_12) (View.ld x0 r0_15) (View.ld x4 r0_3) (View.ld x4 r0_4) (View.ld x4 r0_5) (View.ld x4 r0_6) (View.ld x5 r0_7)
    (View.ld x6 r0_10) (View.ld x6 r0_11) (View.ld x7 r0_14) (View.ld x8 r0_14) (View.ld x9 r0_16) (View.ld x10 r0_17) (View.ld x10 r0_18) (View.ld x10 r0_19) (View.ld x10 r0_20)
    (View.ld x11 r0_17) (View.ld x11 r0_18) (View.ld x11 r0_19) (View.ld x11 r0_20) (View.ld x12 r0_16) (View.ld x13 r0_14)

theorem first_eq : k0_pay44 (k0_pay60 i x0 x1 x2 x3 x4 x5 x6 x7 x8 x9 x10 x11 x12 x13) (k0_pay38 (k0_pay37 (k0_pay60 i x0 x1 x2 x3 x4 x5 x6 x7 x8 x9 x10 x11 x12 x13) (View.ld x8 r0_14) (View.ld x9 r0_16)) (View.ld x10 r0_17) (View.ld x11 r0_17)) (k0_pay39 (k0_pay65 i x0 x1 x2 x3 x4 x5 x6 x7 x8 x9 x10 x11 x12 x13) (View.ld x10 r0_18) (View.ld x11 r0_18)) (k0_pay40 (k0_pay65 i x0 x1 x2 x3 x4 x5 x6 x7 x8 x9 x10 x11 x12 x13) (View.ld x10 r0_19) (View.ld x11 r0_19)) (k0_pay42 (k0_pay65 i x0 x1 x2 x3 x4 x5 x6 x7 x8 x9 x10 x11 x12 x13) (View.ld x10 r0_20) (View.ld x11 r0_20)) (k0_pay43 (k0_pay65 i x0 x1 x2 x3 x4 x5 x6 x7 x8 x9 x10 x11 x12 x13) (View.ld x10 r0_20)) (View.ld x12 r0_16) (View.ld x13 r0_14) = first i x0 x1 x2 x3 x4 x5 x6 x7 x8 x9 x10 x11 x12 x13 := rfl
theorem second_eq : k0_pay1 (k0_pay34 (k0_pay59 i x0 x1 x2 x3 x4 x5 x6 x7 x8 x9 x10 x11 x12 x13) (k0_pay61 i x0 x1 x2 x3 x4 x5 x6 x7 x8 x9 x10 x11 x12 x13) (k0_pay62 i x0 x1 x2 x3 x4 x5 x6 x7 x8 x9 x10 x11 x12 x13) (k0_pay63 i x0 x1 x2 x3 x4 x5 x6 x7 x8 x9 x10 x11 x12 x13) (Scalar.ofBits .f32 0x358637BD#32)) (k0_pay51 (k0_pay66 i x0 x1 x2 x3 x4 x5 x6 x7 x8 x9 x10 x11 x12 x13) (k0_pay47 (k0_pay46 (k0_pay64 i x0 x1 x2 x3 x4 x5 x6 x7 x8 x9 x10 x11 x12 x13) (View.ld x9 r0_16) (View.ld x10 r0_17)) (View.ld x11 r0_17)) (k0_pay48 (k0_pay66 i x0 x1 x2 x3 x4 x5 x6 x7 x8 x9 x10 x11 x12 x13) (View.ld x10 r0_18) (View.ld x11 r0_18)) (k0_pay49 (k0_pay66 i x0 x1 x2 x3 x4 x5 x6 x7 x8 x9 x10 x11 x12 x13) (View.ld x10 r0_19)) (k0_pay50 (k0_pay66 i x0 x1 x2 x3 x4 x5 x6 x7 x8 x9 x10 x11 x12 x13) (View.ld x10 r0_19)) (View.ld x11 r0_19) (View.ld x10 r0_20) (View.ld x11 r0_20) (View.ld x12 r0_16)) (View.ld x13 r0_14) = second i x0 x1 x2 x4 x5 x6 x7 x8 x9 x10 x11 x12 x13 := rfl
/-- What is stored, from its two halves. -/
theorem out_pieces : out0_14 (F := Ideal) i x0 x1 x2 x3 x4 x5 x6 x7 x8 x9 x10 x11 x12 x13
    = View.canon [⟨r0_15, second i x0 x1 x2 x4 x5 x6 x7 x8 x9 x10 x11 x12 x13⟩, ⟨r0_13, first i x0 x1 x2 x3 x4 x5 x6 x7 x8 x9 x10 x11 x12 x13⟩] := by
  unfold out0_14
  rw [first_eq, second_eq]
end Pieces

end Cert.Proof.Mix
end
-- ==== Proof.MixVal.lean ====
/-
  The value of the mixer and the cross-attention at an element of the result, from the thirteen arrays.
-/
module

public import proofs.«01_k».proof.Proof.MixRow
public import Idealize.ShloMosaic.Lib.Pointwise

@[expose] public section

noncomputable section

namespace Cert.Proof.Mix

open Idealize.ShloMosaic

/-- The columns with sixteen zeros put in front. -/
def colP (U : Fin 4096 → Fin 512 → EReal) (n : ℕ) (c : Fin 512) : EReal := if h : 16 ≤ n ∧ n < 4112 then U ⟨n - 16, by omega⟩ c else 0
theorem colP_lo (U : Fin 4096 → Fin 512 → EReal) (n : ℕ) (c : Fin 512) (h : n < 16) : colP U n c = 0 := dif_neg (by omega)
theorem colP_at (U : Fin 4096 → Fin 512 → EReal) (n : ℕ) (c : Fin 512) (s : Fin 4096) (h : n = 16 + s.val) : colP U n c = U s c := by
  have hs := s.isLt
  unfold colP
  rw [dif_pos (by omega)]
  exact congrArg (fun t => U t c) (Fin.ext (by show n - 16 = s.val; omega))

variable (a0 : FVec Ideal (⟨3, ![8, 4096, 1024]⟩ : Shape) .f32) (a1 : FVec Ideal (⟨3, ![8, 512, 4096]⟩ : Shape) .bf16) (a2 : FVec Ideal (⟨3, ![8, 4096, 512]⟩ : Shape) .f32)
  (a3 : FVec Ideal (⟨3, ![4, 128, 128]⟩ : Shape) .f32) (a4 : FVec Ideal (⟨1, ![512]⟩ : Shape) .f32) (a5 : FVec Ideal (⟨2, ![1024, 1024]⟩ : Shape) .f32) (a6 a7 : FVec Ideal (⟨1, ![1024]⟩ : Shape) .f32)
  (a8 : FVec Ideal (⟨2, ![1024, 1024]⟩ : Shape) .f32) (a9 a10 : FVec Ideal (⟨3, ![8, 256, 1024]⟩ : Shape) .bf16) (a11 : FVec Ideal (⟨2, ![1024, 1024]⟩ : Shape) .f32) (a12 : FVec Ideal (⟨1, ![1024]⟩ : Shape) .f32)
  (b : Fin 8) (s : Fin 4096) (q : Fin 1024)

/-- The row after the mixer. -/
def mid : Fin 1024 → EReal :=
  midRow (fun c => a0 (ix3 b s c)) (fun k => a1 (ix3 b k s)) (pl (colP fun t c => a2 (ix3 b t c)) s.val) (fun g k d => a3 (ix3 g k d)) (fun c => a4 (ix1 c)) (fun k q => a5 (ix2 k q)) (fun c => a6 (ix1 c))
/-- The result, the heads taken by `o`. -/
def value (o : (Fin 256 → Fin 1024 → EReal) → (Fin 256 → Fin 1024 → EReal) → (Fin 1024 → EReal) → Fin 1024 → EReal) : EReal :=
  outRow (o (fun j c => a9 (ix3 b j c)) (fun j c => a10 (ix3 b j c))) (mid a0 a1 a2 a3 a4 a5 a6 b s) (fun c => a7 (ix1 c)) (fun k c => a8 (ix2 k c)) (fun k c => a11 (ix2 k c)) (fun c => a12 (ix1 c)) q
theorem value_eq (h7 : ∀ c, IsR (a7 (ix1 c))) (h8 : ∀ k c, IsR (a8 (ix2 k c))) (h9 : ∀ b j c, IsR (a9 (ix3 b j c))) :
    value a0 a1 a2 a3 a4 a5 a6 a7 a8 a9 a10 a11 a12 b s q oK = value a0 a1 a2 a3 a4 a5 a6 a7 a8 a9 a10 a11 a12 b s q oR :=
  out_eq _ _ _ _ _ _ _ q h7 h8 (h9 b)

end Cert.Proof.Mix
end
-- ==== Proof.MixBlock.lean ====
/-
  What one grid point of the mixer and the cross-attention stores, from the blocks it is given.
-/
module

public import proofs.«01_k».proof.Proof.MixHalf
public import proofs.«01_k».proof.Proof.MixVal

@[expose] public section

noncomputable section

namespace Cert.Proof.Mix

open Cert.Kernel4Ideal Cert.Kernel4Ideal.Gen
open Idealize.ShloMosaic Idealize.ShloMosaic.TcCoe Idealize.ShloMosaic.View
open Cert.Proof.Tile

/-! ## Loads -/

section Loads
variable (x0 : Vec Ideal S1x1024x1024 .f32) (x1 : Vec Ideal S1x512x1024 .bf16) (x2 : Vec Ideal S1x1024x512 .f32) (x3 : Vec Ideal S1x16x512 .f32) (x4 : Vec Ideal S4x128x128 .bf16) (x5 : Vec Ideal S1x512 .f32) (x6 : Vec Ideal S1024x1024 .bf16) (x7 : Vec Ideal S1x1024 .f32) (x10 : Vec Ideal S1x256x1024 .bf16)
theorem ld0 (n : Fin 16) (c : Fin 512) : View.ld x3 r0_0 (ix3 0 n c) = x3 (ix3 0 n c) :=
  congrArg x3 (ix3_of _ (by rfl) (by show 0 + 1 * n.val = n.val; omega) (by show 0 + 1 * c.val = c.val; omega))
theorem ld1 (n : Fin 16) (c : Fin 512) : View.ld x2 r0_1 (ix3 0 n c) = x2 (ix3 0 ⟨496 + n.val, by omega⟩ c) :=
  congrArg x2 (ix3_of _ (by rfl) (by show 496 + 1 * n.val = 496 + n.val; omega) (by show 0 + 1 * c.val = c.val; omega))
theorem ld2 (n : Fin 512) (c : Fin 512) : View.ld x2 r0_2 (ix3 0 n c) = x2 (ix3 0 ⟨n.val, by omega⟩ c) :=
  congrArg x2 (ix3_of _ (by rfl) (by show 0 + 1 * n.val = n.val; omega) (by show 0 + 1 * c.val = c.val; omega))
theorem ld8 (n : Fin 512) (c : Fin 512) : View.ld x2 r0_8 (ix3 0 n c) = x2 (ix3 0 ⟨512 + n.val, by omega⟩ c) :=
  congrArg x2 (ix3_of _ (by rfl) (by show 512 + 1 * n.val = 512 + n.val; omega) (by show 0 + 1 * c.val = c.val; omega))
theorem ld9 (k : Fin 512) (r : Fin 512) : View.ld x1 r0_9 (ix3 0 k r) = x1 (ix3 0 k ⟨r.val, by omega⟩) :=
  congrArg x1 (ix3_of _ (by rfl) (by show 0 + 1 * k.val = k.val; omega) (by show 0 + 1 * r.val = r.val; omega))
theorem ld12 (k : Fin 512) (r : Fin 512) : View.ld x1 r0_12 (ix3 0 k r) = x1 (ix3 0 k ⟨512 + r.val, by omega⟩) :=
  congrArg x1 (ix3_of _ (by rfl) (by show 0 + 1 * k.val = k.val; omega) (by show 512 + 1 * r.val = 512 + r.val; omega))
theorem ld13 (r : Fin 512) (c : Fin 1024) : View.ld x0 r0_13 (ix3 0 r c) = x0 (ix3 0 ⟨r.val, by omega⟩ c) :=
  congrArg x0 (ix3_of _ (by rfl) (by show 0 + 1 * r.val = r.val; omega) (by show 0 + 1 * c.val = c.val; omega))
theorem ld15 (r : Fin 512) (c : Fin 1024) : View.ld x0 r0_15 (ix3 0 r c) = x0 (ix3 0 ⟨512 + r.val, by omega⟩ c) :=
  congrArg x0 (ix3_of _ (by rfl) (by show 512 + 1 * r.val = 512 + r.val; omega) (by show 0 + 1 * c.val = c.val; omega))
theorem ld17 (j : Fin 256) (d : Fin 256) : View.ld x10 r0_17 (ix3 0 j d) = x10 (ix3 0 j ⟨d.val, by omega⟩) :=
  congrArg x10 (ix3_of _ (by rfl) (by show 0 + 1 * j.val = j.val; omega) (by show 0 + 1 * d.val = d.val; omega))
theorem ld18 (j : Fin 256) (d : Fin 256) : View.ld x10 r0_18 (ix3 0 j d) = x10 (ix3 0 j ⟨256 + d.val, by omega⟩) :=
  congrArg x10 (ix3_of _ (by rfl) (by show 0 + 1 * j.val = j.val; omega) (by show 256 + 1 * d.val = 256 + d.val; omega))
theorem ld19 (j : Fin 256) (d : Fin 256) : View.ld x10 r0_19 (ix3 0 j d) = x10 (ix3 0 j ⟨512 + d.val, by omega⟩) :=
  congrArg x10 (ix3_of _ (by rfl) (by show 0 + 1 * j.val = j.val; omega) (by show 512 + 1 * d.val = 512 + d.val; omega))
theorem ld20 (j : Fin 256) (d : Fin 256) : View.ld x10 r0_20 (ix3 0 j d) = x10 (ix3 0 j ⟨768 + d.val, by omega⟩) :=
  congrArg x10 (ix3_of _ (by rfl) (by show 0 + 1 * j.val = j.val; omega) (by show 768 + 1 * d.val = 768 + d.val; omega))
theorem ld3 (k d : Fin 128) : View.ld x4 r0_3 (ix3 0 k d) = x4 (ix3 0 k d) := congrArg x4 (ix3_of _ (by rfl) (by show 0 + 1 * k.val = k.val; omega) (by show 0 + 1 * d.val = d.val; omega))
theorem ld4 (k d : Fin 128) : View.ld x4 r0_4 (ix3 0 k d) = x4 (ix3 1 k d) := congrArg x4 (ix3_of _ (by rfl) (by show 0 + 1 * k.val = k.val; omega) (by show 0 + 1 * d.val = d.val; omega))
theorem ld5 (k d : Fin 128) : View.ld x4 r0_5 (ix3 0 k d) = x4 (ix3 2 k d) := congrArg x4 (ix3_of _ (by rfl) (by show 0 + 1 * k.val = k.val; omega) (by show 0 + 1 * d.val = d.val; omega))
theorem ld6 (k d : Fin 128) : View.ld x4 r0_6 (ix3 0 k d) = x4 (ix3 3 k d) := congrArg x4 (ix3_of _ (by rfl) (by show 0 + 1 * k.val = k.val; omega) (by show 0 + 1 * d.val = d.val; omega))
theorem ld7 (c : Fin 512) : View.ld x5 r0_7 (ix2 0 c) = x5 (ix2 0 c) := congrArg x5 (ix2_of _ (by rfl) (by show 0 + 1 * c.val = c.val; omega))
theorem ld14 (c : Fin 1024) : View.ld x7 r0_14 (ix2 0 c) = x7 (ix2 0 c) := congrArg x7 (ix2_of _ (by rfl) (by show 0 + 1 * c.val = c.val; omega))
theorem ld10 (k : Fin 512) (q : Fin 1024) : View.ld x6 r0_10 (ix2 k q) = x6 (ix2 ⟨k.val, by omega⟩ q) := congrArg x6 (ix2_of _ (by show 0 + 1 * k.val = k.val; omega) (by show 0 + 1 * q.val = q.val; omega))
theorem ld11 (k : Fin 512) (q : Fin 1024) : View.ld x6 r0_11 (ix2 k q) = x6 (ix2 ⟨512 + k.val, by omega⟩ q) := congrArg x6 (ix2_of _ (by show 512 + 1 * k.val = 512 + k.val; omega) (by show 0 + 1 * q.val = q.val; omega))
theorem ld16 (k : Fin 1024) (q : Fin 1024) : View.ld x6 r0_16 (ix2 k q) = x6 (ix2 k q) := congrArg x6 (ix2_of _ (by show 0 + 1 * k.val = k.val; omega) (by show 0 + 1 * q.val = q.val; omega))
end Loads

/-! ## The rows before a half, and its positions -/

theorem pay4_at (v : Vec Ideal S1x512x512 .f32) (r c : Fin 512) : k0_pay4 (F := Ideal) v (ix2 r c) = v (ix3 0 r c) := by pointwise [k0_pay4]
theorem pay15_at (v : Vec Ideal S1x512x512 .f32) (r c : Fin 512) : k0_pay15 (F := Ideal) v (ix2 r c) = v (ix3 0 r c) := by pointwise [k0_pay15]
theorem pay3_at (v : Vec Ideal S1x16x512 .f32) (r : Fin 16) (c : Fin 512) : k0_pay3 (F := Ideal) v (ix2 r c) = v (ix3 0 r c) := by pointwise [k0_pay3]
/-- Zero for the first block of a sequence, one for the others. -/
theorem gate_at : ∀ a : Fin 4, ((Scalar.extui (Scalar.cmpi .sgt (BitVec.ofNat 32 a.val) 0#32) : BitVec 32)).toInt = if a.val = 0 then 0 else 1 := by decide +kernel
theorem pay2_at (i : grid0.Coords) (v : Vec Ideal S1x16x512 .f32) (r : Fin 16) (c : Fin 512) : k0_pay2 (F := Ideal) i v (ix2 r c)
    = v (ix3 0 r c) * ((((Scalar.extui (Scalar.cmpi .sgt (BitVec.ofNat 32 (i 1).val) 0#32) : BitVec 32)).toInt : ℝ) : EReal) := by
  have e : k0_pay2 (F := Ideal) i v (ix2 r c) = shapeCast S16x512 v shapeCasts_S1x16x512_S16x512 (ix2 r c) * ((((Scalar.extui (Scalar.cmpi .sgt (BitVec.ofNat 32 (i 1).val) 0#32) : BitVec 32)).toInt : ℝ) : EReal) := rfl
  have e2 : shapeCast S16x512 v shapeCasts_S1x16x512_S16x512 (ix2 r c) = v (ix3 0 r c) := by pointwise
  rw [e, e2]
theorem pos0 : ∀ (a : Fin 4) (n : Fin 16), IntOp.addi (IntOp.addi (IntOp.muli (BitVec.ofNat 32 a.val) 1024#32) 0#32) (BitVec.ofNat 32 n.val) = BitVec.ofNat 32 (1024 * a.val + n.val) := by decide +kernel
theorem pos1 : ∀ (a : Fin 4) (n : Fin 16), IntOp.addi (IntOp.addi (IntOp.muli (BitVec.ofNat 32 a.val) 1024#32) 512#32) (BitVec.ofNat 32 n.val) = BitVec.ofNat 32 (1024 * a.val + 512 + n.val) := by decide +kernel
theorem pay5_at (i : grid0.Coords) (n : Fin 16) : k0_pay5 i (ix2 n 0) = IntOp.addi (IntOp.addi (IntOp.muli (BitVec.ofNat 32 (i 1).val) 1024#32) 0#32) (BitVec.ofNat 32 n.val) := by
  pointwise [k0_pay5]
  try rfl
theorem pay16_at (a : BitVec 32) (n : Fin 16) : k0_pay16 a (ix2 n 0) = IntOp.addi (IntOp.addi (IntOp.muli a 1024#32) 512#32) (BitVec.ofNat 32 n.val) := by
  pointwise [k0_pay16]
  try rfl

/-! ## The block stored -/

section Block
variable (i : grid0.Coords) (x0 : Vec Ideal S1x1024x1024 .f32) (x1 : Vec Ideal S1x512x1024 .bf16) (x2 : Vec Ideal S1x1024x512 .f32) (x3 : Vec Ideal S1x16x512 .f32) (x4 : Vec Ideal S4x128x128 .bf16) (x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 : Vec Ideal S1x1024 .f32)
  (T : Fin 4) (U : Fin 4096 → Fin 512 → EReal) (r : Fin 1024) (q : Fin 1024)

theorem out_at (Wp : Fin 4 → Fin 128 → Fin 128 → EReal) (sc : Fin 512 → EReal) (X : Fin 1024 → EReal) (A : Fin 512 → EReal)
    (Wo Wq Wx : Fin 1024 → Fin 1024 → EReal) (Gm Gx Gp : Fin 1024 → EReal) (K V : Fin 256 → Fin 1024 → EReal)
    (hi : (i 1).val = T.val) (h0 : ∀ c, x0 (ix3 0 r c) = X c) (h1 : ∀ k, x1 (ix3 0 k r) = A k)
    (h2 : ∀ (n : Fin 1024) c, x2 (ix3 0 n c) = U ⟨1024 * T.val + n.val, by omega⟩ c) (h3 : T.val ≠ 0 → ∀ (n : Fin 16) c, x3 (ix3 0 n c) = U ⟨1024 * T.val - 16 + n.val, by omega⟩ c)
    (h4 : ∀ g k d, x4 (ix3 g k d) = Wp g k d) (h5 : ∀ c, x5 (ix2 0 c) = sc c) (h6 : ∀ k c, x6 (ix2 k c) = Wo k c) (h7 : ∀ c, x7 (ix2 0 c) = Gm c) (h8 : ∀ c, x8 (ix2 0 c) = Gx c)
    (h9 : ∀ k c, x9 (ix2 k c) = Wq k c) (h10 : ∀ j c, x10 (ix3 0 j c) = K j c) (h11 : ∀ j c, x11 (ix3 0 j c) = V j c) (h12 : ∀ k c, x12 (ix2 k c) = Wx k c) (h13 : ∀ c, x13 (ix2 0 c) = Gp c) :
    out0_14 (F := Ideal) i x0 x1 x2 x3 x4 x5 x6 x7 x8 x9 x10 x11 x12 x13 (ix3 0 r q)
      = outRow (oK K V) (midRow X A (pl (colP U) (1024 * T.val + r.val)) Wp sc Wo Gm) Gx Wq Wx Gp q := by
  have hT := T.isLt
  rw [out_pieces]
  refine canon_eq_of_allAt _ _ _ (cover0_14 _ _ _) (allAt_cons_unit _ _ _ _ _ (tile3 512 0 _ r q _ ?_) (allAt_cons_unit _ _ _ _ _ (tile3 0 0 _ r q _ ?_) (allAt_nil _ _)))
  · intro p z hp hz
    obtain rfl : z = q := Fin.ext (by omega)
    obtain rfl : r = ⟨512 + p.val, Nat.lt_of_lt_of_le (Nat.add_lt_add_left p.isLt 512) (by decide)⟩ := Fin.ext (by show r.val = 512 + p.val; omega)
    clear hp hz
    unfold second
    refine (half_at _ _ _ _ _ _ _ _ _ _ _ _ _ _ _ _ _ _ _ _ _ _ _ _ _ K V p (colP U) (1024 * T.val + 512) Wp sc X A Wo Wq Wx Gm Gx Gp (fun k d => (ld3 x4 k d).trans (h4 0 k d)) (fun k d => (ld4 x4 k d).trans (h4 1 k d)) (fun k d => (ld5 x4 k d).trans (h4 2 k d)) (fun k d => (ld6 x4 k d).trans (h4 3 k d)) (fun c => (ld7 x5 c).trans (h5 c)) (by omega) ?_ ?_ ?_
      (fun c => (ld15 x0 p c).trans (h0 c)) (fun k => (ld12 x1 k p).trans (h1 k)) (fun k c => (ld10 x6 k c).trans (h6 _ c)) (fun k c => (ld11 x6 k c).trans (h6 _ c)) (fun c => (ld14 x7 c).trans (h7 c)) (fun c => (ld14 x8 c).trans (h8 c)) (fun c => (ld14 x13 c).trans (h13 c))
      (fun k c => (ld16 x9 k c).trans (h9 k c)) (fun k c => (ld16 x12 k c).trans (h12 k c))
      (fun j d => (ld17 x10 j d).trans ((h10 j _).trans (congrArg (K j) (Fin.ext (by show d.val = 256 * 0 + d.val; omega))))) (fun j d => (ld18 x10 j d).trans (h10 j _)) (fun j d => (ld19 x10 j d).trans (h10 j _)) (fun j d => (ld20 x10 j d).trans (h10 j _))
      (fun j d => (ld17 x11 j d).trans ((h11 j _).trans (congrArg (V j) (Fin.ext (by show d.val = 256 * 0 + d.val; omega))))) (fun j d => (ld18 x11 j d).trans (h11 j _)) (fun j d => (ld19 x11 j d).trans (h11 j _)) (fun j d => (ld20 x11 j d).trans (h11 j _)) z).trans ?_
    · intro n c
      rw [pay3_at, ld1, h2, colP_at U _ c ⟨1024 * T.val + (496 + n.val), by omega⟩ (by simp only []; omega)]
    · intro n c
      rw [pay15_at, ld8, h2, colP_at U _ c ⟨1024 * T.val + (512 + n.val), by omega⟩ (by simp only []; omega)]
    · intro n
      rw [pay16_at, hi, pos1 T n]
    · rw [show 1024 * T.val + 512 + p.val = 1024 * T.val + (512 + p.val) from by omega]
  · intro p z hp hz
    obtain rfl : z = q := Fin.ext (by omega)
    obtain rfl : r = ⟨p.val, Nat.lt_of_lt_of_le p.isLt (by decide)⟩ := Fin.ext (by show r.val = p.val; omega)
    clear hp hz
    unfold first
    refine (half_at _ _ _ _ _ _ _ _ _ _ _ _ _ _ _ _ _ _ _ _ _ _ _ _ _ K V p (colP U) (1024 * T.val) Wp sc X A Wo Wq Wx Gm Gx Gp (fun k d => (ld3 x4 k d).trans (h4 0 k d)) (fun k d => (ld4 x4 k d).trans (h4 1 k d)) (fun k d => (ld5 x4 k d).trans (h4 2 k d)) (fun k d => (ld6 x4 k d).trans (h4 3 k d)) (fun c => (ld7 x5 c).trans (h5 c)) (by omega) ?_ ?_ ?_
      (fun c => (ld13 x0 p c).trans (h0 c)) (fun k => (ld9 x1 k p).trans (h1 k)) (fun k c => (ld10 x6 k c).trans (h6 _ c)) (fun k c => (ld11 x6 k c).trans (h6 _ c)) (fun c => (ld14 x7 c).trans (h7 c)) (fun c => (ld14 x8 c).trans (h8 c)) (fun c => (ld14 x13 c).trans (h13 c))
      (fun k c => (ld16 x9 k c).trans (h9 k c)) (fun k c => (ld16 x12 k c).trans (h12 k c))
      (fun j d => (ld17 x10 j d).trans ((h10 j _).trans (congrArg (K j) (Fin.ext (by show d.val = 256 * 0 + d.val; omega))))) (fun j d => (ld18 x10 j d).trans (h10 j _)) (fun j d => (ld19 x10 j d).trans (h10 j _)) (fun j d => (ld20 x10 j d).trans (h10 j _))
      (fun j d => (ld17 x11 j d).trans ((h11 j _).trans (congrArg (V j) (Fin.ext (by show d.val = 256 * 0 + d.val; omega))))) (fun j d => (ld18 x11 j d).trans (h11 j _)) (fun j d => (ld19 x11 j d).trans (h11 j _)) (fun j d => (ld20 x11 j d).trans (h11 j _)) z).trans ?_
    · intro n c
      rw [pay2_at, hi, gate_at, ld0]
      by_cases hz : T.val = 0
      · rw [if_pos hz, colP_lo U _ c (by omega), Int.cast_zero, EReal.coe_zero, mul_zero]
      · rw [if_neg hz, h3 hz, colP_at U _ c ⟨1024 * T.val - 16 + n.val, by omega⟩ (by simp only []; omega), Int.cast_one, EReal.coe_one, mul_one]
    · intro n c
      rw [pay4_at, ld2, h2, colP_at U _ c ⟨1024 * T.val + n.val, by omega⟩ (by simp only []; omega)]
    · intro n
      rw [pay5_at, hi, pos0 T n]
    · rfl
end Block

end Cert.Proof.Mix
end
-- ==== Proof.MixWhole.lean ====
/-
  The mixer and the cross-attention over the reals: the call's result, element by element, from the thirteen arrays.
-/
module

public import proofs.«01_k».proof.Proof.MixBlock
public import Idealize.ShloMosaic.Lib.Claim

@[expose] public section

noncomputable section

namespace Cert.Proof.Mix

open Cert.Kernel4Ideal Cert.Kernel4Ideal.Gen
open Idealize.ShloMosaic Idealize.ShloMosaic.TcCoe Idealize.ShloMosaic.StableHlo
open Cert.Proof.Tile

/-! ## What the call is given -/

theorem lift512_at (v : FVec Ideal S512 .f32) (k : Fin 512) : shapeCast S1x512 v shapeCasts_S512_S1x512 (ix2 0 k) = v (ix1 k) := by pointwise
theorem lift1024_at (v : FVec Ideal S1024 .f32) (k : Fin 1024) : shapeCast S1x1024 v shapeCasts_S1024_S1x1024 (ix2 0 k) = v (ix1 k) := by pointwise

variable (m : (ℓ : Loc nD τ sig) → Buf (Elt Ideal) ℓ) (c : Dev nD)

theorem V_pw (g : Fin 4) (k d : Fin 128) : V m c main_v0 (ix3 g k d) = m ((c : Thread nD τ).loc main_arg3) (ix3 g k d) := by
  have e : V m c main_v0 = truncf (F := Ideal) .bf16 (m ((c : Thread nD τ).loc main_arg3)) bitsLt_bf16_f32 := by
    show after hostOps0 _ _ = _
    after_results <;> rfl
  exact congrFun e _
theorem V_ps (k : Fin 512) : V m c main_v1 (ix2 0 k) = m ((c : Thread nD τ).loc main_arg4) (ix1 k) := by
  have e : V m c main_v1 = shapeCast S1x512 (m ((c : Thread nD τ).loc main_arg4)) shapeCasts_S512_S1x512 := by
    show after hostOps0 _ _ = _
    after_results <;> rfl
  exact (congrFun e _).trans (lift512_at _ k)
theorem V_gm (k : Fin 1024) : V m c main_v3 (ix2 0 k) = m ((c : Thread nD τ).loc main_arg6) (ix1 k) := by
  have e : V m c main_v3 = shapeCast S1x1024 (m ((c : Thread nD τ).loc main_arg6)) shapeCasts_S1024_S1x1024 := by
    show after hostOps0 _ _ = _
    after_results <;> rfl
  exact (congrFun e _).trans (lift1024_at _ k)
theorem V_gx (k : Fin 1024) : V m c main_v4 (ix2 0 k) = m ((c : Thread nD τ).loc main_arg7) (ix1 k) := by
  have e : V m c main_v4 = shapeCast S1x1024 (m ((c : Thread nD τ).loc main_arg7)) shapeCasts_S1024_S1x1024 := by
    show after hostOps0 _ _ = _
    after_results <;> rfl
  exact (congrFun e _).trans (lift1024_at _ k)
theorem V_gp (k : Fin 1024) : V m c main_v7 (ix2 0 k) = m ((c : Thread nD τ).loc main_arg12) (ix1 k) := by
  have e : V m c main_v7 = shapeCast S1x1024 (m ((c : Thread nD τ).loc main_arg12)) shapeCasts_S1024_S1x1024 := by
    show after hostOps0 _ _ = _
    after_results <;> rfl
  exact (congrFun e _).trans (lift1024_at _ k)
theorem V_wo (k q : Fin 1024) : V m c main_v2 (ix2 k q) = m ((c : Thread nD τ).loc main_arg5) (ix2 k q) := by
  have e : V m c main_v2 = truncf (F := Ideal) .bf16 (m ((c : Thread nD τ).loc main_arg5)) bitsLt_bf16_f32 := by
    show after hostOps0 _ _ = _
    after_results <;> rfl
  exact congrFun e _
theorem V_wq (k q : Fin 1024) : V m c main_v5 (ix2 k q) = m ((c : Thread nD τ).loc main_arg8) (ix2 k q) := by
  have e : V m c main_v5 = truncf (F := Ideal) .bf16 (m ((c : Thread nD τ).loc main_arg8)) bitsLt_bf16_f32 := by
    show after hostOps0 _ _ = _
    after_results <;> rfl
  exact congrFun e _
theorem V_wx (k q : Fin 1024) : V m c main_v6 (ix2 k q) = m ((c : Thread nD τ).loc main_arg11) (ix2 k q) := by
  have e : V m c main_v6 = truncf (F := Ideal) .bf16 (m ((c : Thread nD τ).loc main_arg11)) bitsLt_bf16_f32 := by
    show after hostOps0 _ _ = _
    after_results <;> rfl
  exact congrFun e _

/-! ## The blocks of the operands -/

theorem coord_at : ∀ t : Fin cfg0.N, (grid0.coords t 1).val = t.val % 4 :=
  (by decide +kernel : ∀ t : Fin grid0.N, (grid0.coords t 1).val = t.val % 4)
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, win0_2.index t (0 : Fin 3) = t.val / 4 ∧ win0_2.index t (1 : Fin 3) = t.val % 4 ∧ win0_2.index t (2 : Fin 3) = 0)
theorem idx3 : ∀ t : Fin cfg0.N, win0_3.index t (0 : Fin 3) = t.val / 4 ∧ win0_3.index t (1 : Fin 3) = 64 * (t.val % 4) - 1 ∧ win0_3.index t (2 : Fin 3) = 0 :=
  (by decide +kernel : ∀ t : Fin grid0.N, win0_3.index t (0 : Fin 3) = t.val / 4 ∧ win0_3.index t (1 : Fin 3) = 64 * (t.val % 4) - 1 ∧ win0_3.index t (2 : Fin 3) = 0)
theorem idx10 : ∀ t : Fin cfg0.N, win0_10.index t (0 : Fin 3) = t.val / 4 ∧ win0_10.index t (1 : Fin 3) = 0 ∧ win0_10.index t (2 : Fin 3) = 0 :=
  (by decide +kernel : ∀ t : Fin grid0.N, win0_10.index t (0 : Fin 3) = t.val / 4 ∧ win0_10.index t (1 : Fin 3) = 0 ∧ win0_10.index t (2 : Fin 3) = 0)
theorem idx11 : ∀ t : Fin cfg0.N, win0_11.index t (0 : Fin 3) = t.val / 4 ∧ win0_11.index t (1 : Fin 3) = 0 ∧ win0_11.index t (2 : Fin 3) = 0 :=
  (by decide +kernel : ∀ t : Fin grid0.N, win0_11.index t (0 : Fin 3) = t.val / 4 ∧ win0_11.index t (1 : Fin 3) = 0 ∧ win0_11.index t (2 : Fin 3) = 0)
theorem idx14 : ∀ t : Fin cfg0.N, win0_14.index t (0 : Fin 3) = t.val / 4 ∧ win0_14.index t (1 : Fin 3) = t.val % 4 ∧ win0_14.index t (2 : Fin 3) = 0 :=
  (by decide +kernel : ∀ t : Fin grid0.N, win0_14.index t (0 : Fin 3) = t.val / 4 ∧ win0_14.index t (1 : Fin 3) = t.val % 4 ∧ win0_14.index t (2 : Fin 3) = 0)

theorem b_lt (t : Fin cfg0.N) : t.val / 4 < 8 := by
  have : t.val < 32 := t.isLt
  omega
theorem s_lt (t : Fin cfg0.N) (r : Fin 1024) : 1024 * (t.val % 4) + r.val < 4096 := by omega
abbrev bt (t : Fin cfg0.N) : Fin 8 := ⟨t.val / 4, b_lt t⟩
abbrev st (t : Fin cfg0.N) (r : Fin 1024) : Fin 4096 := ⟨1024 * (t.val % 4) + r.val, s_lt t r⟩

theorem blk0_at (t : Fin cfg0.N) (g : main_arg0.ty.Contents (Elt Ideal)) (r : Fin 1024) (k : Fin 1024) :
    ((cfg0.win 0).blk t).view.read (Elt Ideal) g (ix3 0 r k) = g (ix3 (bt t) (st t r) k) := by
  obtain ⟨h0, h1, h2⟩ := idx0 t
  refine congrArg g (ix3_of _ ?_ ?_ ?_)
  · show win0_0.index t (0 : Fin 3) * 1 + 1 * 0 = t.val / 4
    rw [h0]; omega
  · show win0_0.index t (1 : Fin 3) * 1024 + 1 * r.val = 1024 * (t.val % 4) + r.val
    rw [h1]; omega
  · show win0_0.index t (2 : Fin 3) * 1024 + 1 * k.val = k.val
    rw [h2]; omega
theorem blk1_at (t : Fin cfg0.N) (g : main_arg1.ty.Contents (Elt Ideal)) (k : Fin 512) (r : Fin 1024) :
    ((cfg0.win 1).blk t).view.read (Elt Ideal) g (ix3 0 k r) = g (ix3 (bt t) k (st t r)) := by
  obtain ⟨h0, h1, h2⟩ := idx1 t
  refine congrArg g (ix3_of _ ?_ ?_ ?_)
  · show win0_1.index t (0 : Fin 3) * 1 + 1 * 0 = t.val / 4
    rw [h0]; omega
  · show win0_1.index t (1 : Fin 3) * 512 + 1 * k.val = k.val
    rw [h1]; omega
  · show win0_1.index t (2 : Fin 3) * 1024 + 1 * r.val = 1024 * (t.val % 4) + r.val
    rw [h2]; omega
theorem blk2_at (t : Fin cfg0.N) (g : main_arg2.ty.Contents (Elt Ideal)) (r : Fin 1024) (k : Fin 512) :
    ((cfg0.win 2).blk t).view.read (Elt Ideal) g (ix3 0 r k) = g (ix3 (bt t) (st t r) k) := by
  obtain ⟨h0, h1, h2⟩ := idx2 t
  refine congrArg g (ix3_of _ ?_ ?_ ?_)
  · show win0_2.index t (0 : Fin 3) * 1 + 1 * 0 = t.val / 4
    rw [h0]; omega
  · show win0_2.index t (1 : Fin 3) * 1024 + 1 * r.val = 1024 * (t.val % 4) + r.val
    rw [h1]; omega
  · show win0_2.index t (2 : Fin 3) * 512 + 1 * k.val = k.val
    rw [h2]; omega
theorem blk10_at (t : Fin cfg0.N) (g : main_arg9.ty.Contents (Elt Ideal)) (j : Fin 256) (k : Fin 1024) :
    ((cfg0.win 10).blk t).view.read (Elt Ideal) g (ix3 0 j k) = g (ix3 (bt t) j k) := by
  obtain ⟨h0, h1, h2⟩ := idx10 t
  refine congrArg g (ix3_of _ ?_ ?_ ?_)
  · show win0_10.index t (0 : Fin 3) * 1 + 1 * 0 = t.val / 4
    rw [h0]; omega
  · show win0_10.index t (1 : Fin 3) * 256 + 1 * j.val = j.val
    rw [h1]; omega
  · show win0_10.index t (2 : Fin 3) * 1024 + 1 * k.val = k.val
    rw [h2]; omega
theorem blk11_at (t : Fin cfg0.N) (g : main_arg10.ty.Contents (Elt Ideal)) (j : Fin 256) (k : Fin 1024) :
    ((cfg0.win 11).blk t).view.read (Elt Ideal) g (ix3 0 j k) = g (ix3 (bt t) j k) := by
  obtain ⟨h0, h1, h2⟩ := idx11 t
  refine congrArg g (ix3_of _ ?_ ?_ ?_)
  · show win0_11.index t (0 : Fin 3) * 1 + 1 * 0 = t.val / 4
    rw [h0]; omega
  · show win0_11.index t (1 : Fin 3) * 256 + 1 * j.val = j.val
    rw [h1]; omega
  · show win0_11.index t (2 : Fin 3) * 1024 + 1 * k.val = k.val
    rw [h2]; omega
theorem blk14_at (t : Fin cfg0.N) (g : main_v8.ty.Contents (Elt Ideal)) (r : Fin 1024) (k : Fin 1024) :
    ((cfg0.win 14).blk t).view.read (Elt Ideal) g (ix3 0 r k) = g (ix3 (bt t) (st t r) k) := by
  obtain ⟨h0, h1, h2⟩ := idx14 t
  refine congrArg g (ix3_of _ ?_ ?_ ?_)
  · show win0_14.index t (0 : Fin 3) * 1 + 1 * 0 = t.val / 4
    rw [h0]; omega
  · show win0_14.index t (1 : Fin 3) * 1024 + 1 * r.val = 1024 * (t.val % 4) + r.val
    rw [h1]; omega
  · show win0_14.index t (2 : Fin 3) * 1024 + 1 * k.val = k.val
    rw [h2]; omega
theorem blk3_at (t : Fin cfg0.N) (ht : t.val % 4 ≠ 0) (g : main_arg2.ty.Contents (Elt Ideal)) (n : Fin 16) (k : Fin 512) :
    ((cfg0.win 3).blk t).view.read (Elt Ideal) g (ix3 0 n k) = g (ix3 (bt t) ⟨1024 * (t.val % 4) - 16 + n.val, by omega⟩ k) := by
  obtain ⟨h0, h1, h2⟩ := idx3 t
  refine congrArg g (ix3_of _ ?_ ?_ ?_)
  · show win0_3.index t (0 : Fin 3) * 1 + 1 * 0 = t.val / 4
    rw [h0]; omega
  · show win0_3.index t (1 : Fin 3) * 16 + 1 * n.val = 1024 * (t.val % 4) - 16 + n.val
    rw [h1]; omega
  · show win0_3.index t (2 : Fin 3) * 512 + 1 * k.val = k.val
    rw [h2]; omega
theorem blk5_at (t : Fin cfg0.N) (g : main_v1.ty.Contents (Elt Ideal)) (k : Fin 512) : ((cfg0.win 5).blk t).view.read (Elt Ideal) g (ix2 0 k) = g (ix2 0 k) :=
  congrArg g (ix2_of _ (by rfl) (by show 0 * 512 + 1 * k.val = k.val; omega))
theorem blk7_at (t : Fin cfg0.N) (g : main_v3.ty.Contents (Elt Ideal)) (k : Fin 1024) : ((cfg0.win 7).blk t).view.read (Elt Ideal) g (ix2 0 k) = g (ix2 0 k) :=
  congrArg g (ix2_of _ (by rfl) (by show 0 * 1024 + 1 * k.val = k.val; omega))
theorem blk8_at (t : Fin cfg0.N) (g : main_v4.ty.Contents (Elt Ideal)) (k : Fin 1024) : ((cfg0.win 8).blk t).view.read (Elt Ideal) g (ix2 0 k) = g (ix2 0 k) :=
  congrArg g (ix2_of _ (by rfl) (by show 0 * 1024 + 1 * k.val = k.val; omega))
theorem blk13_at (t : Fin cfg0.N) (g : main_v7.ty.Contents (Elt Ideal)) (k : Fin 1024) : ((cfg0.win 13).blk t).view.read (Elt Ideal) g (ix2 0 k) = g (ix2 0 k) :=
  congrArg g (ix2_of _ (by rfl) (by show 0 * 1024 + 1 * k.val = k.val; omega))
theorem blk6_at (t : Fin cfg0.N) (g : main_v2.ty.Contents (Elt Ideal)) (k q : Fin 1024) : ((cfg0.win 6).blk t).view.read (Elt Ideal) g (ix2 k q) = g (ix2 k q) :=
  congrArg g (ix2_of _ (by show 0 * 1024 + 1 * k.val = k.val; omega) (by show 0 * 1024 + 1 * q.val = q.val; omega))
theorem blk9_at (t : Fin cfg0.N) (g : main_v5.ty.Contents (Elt Ideal)) (k q : Fin 1024) : ((cfg0.win 9).blk t).view.read (Elt Ideal) g (ix2 k q) = g (ix2 k q) :=
  congrArg g (ix2_of _ (by show 0 * 1024 + 1 * k.val = k.val; omega) (by show 0 * 1024 + 1 * q.val = q.val; omega))
theorem blk12_at (t : Fin cfg0.N) (g : main_v6.ty.Contents (Elt Ideal)) (k q : Fin 1024) : ((cfg0.win 12).blk t).view.read (Elt Ideal) g (ix2 k q) = g (ix2 k q) :=
  congrArg g (ix2_of _ (by show 0 * 1024 + 1 * k.val = k.val; omega) (by show 0 * 1024 + 1 * q.val = q.val; omega))
theorem blk4_at (t : Fin cfg0.N) (g : main_v0.ty.Contents (Elt Ideal)) (a : Fin 4) (k q : Fin 128) : ((cfg0.win 4).blk t).view.read (Elt Ideal) g (ix3 a k q) = g (ix3 a k q) :=
  congrArg g (ix3_of _ (by show 0 * 4 + 1 * a.val = a.val; omega) (by show 0 * 128 + 1 * k.val = k.val; omega) (by show 0 * 128 + 1 * q.val = q.val; omega))

/-! ## The result -/

theorem split (b : Fin 8) (s : Fin 4096) : ∃ (t : Fin cfg0.N) (r : Fin 1024), bt t = b ∧ st t r = s := by
  have h1 := b.isLt
  have h2 := s.isLt
  refine ⟨(⟨4 * b.val + s.val / 1024, by omega⟩ : Fin 32), ⟨s.val % 1024, by omega⟩, Fin.ext ?_, Fin.ext ?_⟩
  · show (4 * b.val + s.val / 1024) / 4 = b.val; omega
  · show 1024 * ((4 * b.val + s.val / 1024) % 4) + s.val % 1024 = s.val; omega

/-- The whole result at an element. -/
theorem arr14_at (b : Fin 8) (s : Fin 4096) (q : Fin 1024) : (dats m 0 c).arrAt 14 cfg0.N (ix3 b s q)
    = value (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) b s q oK := by
  obtain ⟨t, r, rfl, rfl⟩ := split b s
  have hb := congrFun (Value.blocks14 m c t (flush0_14 t)) (ix3 0 r q)
  rw [Value.flushed14] at hb
  refine (blk14_at t _ r q).symm.trans (hb.trans ?_)
  unfold value mid
  refine out_at (grid0.coords t) _ _ _ _ _ _ _ _ _ _ _ _ _ _ (⟨t.val % 4, by omega⟩ : Fin 4) (fun n k => m ((c : Thread nD τ).loc main_arg2) (ix3 (bt t) n k)) r q _ _ _ _ _ _ _ _ _ _ _ _
    (coord_at t) (fun k => (blk0_at t _ r k).trans (congrFun (V_main_arg0 m c) _)) (fun k => (blk1_at t _ k r).trans (congrFun (V_main_arg1 m c) _))
    (fun n k => (blk2_at t _ n k).trans (congrFun (V_main_arg2 m c) _)) (fun ht n k => (blk3_at t ht _ n k).trans (congrFun (V_main_arg2 m c) _))
    (fun g k d => (blk4_at t _ g k d).trans (V_pw m c g k d)) (fun k => (blk5_at t _ k).trans (V_ps m c k)) (fun k q => (blk6_at t _ k q).trans (V_wo m c k q))
    (fun k => (blk7_at t _ k).trans (V_gm m c k)) (fun k => (blk8_at t _ k).trans (V_gx m c k)) (fun k q => (blk9_at t _ k q).trans (V_wq m c k q))
    (fun j k => (blk10_at t _ j k).trans (congrFun (V_main_arg9 m c) _)) (fun j k => (blk11_at t _ j k).trans (congrFun (V_main_arg10 m c) _))
    (fun k q => (blk12_at t _ k q).trans (V_wx m c k q)) (fun k => (blk13_at t _ k).trans (V_gp m c k))

end Cert.Proof.Mix
end
-- ==== Proof.MixMean.lean ====
/-
  The reference's mixer, read element by element over the reals: the moving means of the four groups of columns and their products.
-/
module

public import proofs.«01_k».proof.Proof.Gen.Reference4Ideal.Run
public import proofs.«01_k».proof.Proof.MixVal
public import proofs.«01_k».proof.Proof.MixHalf

@[expose] public section

noncomputable section

namespace Cert.Proof.Mix

open Cert.Reference4Ideal Cert.Reference4Ideal.Gen
open Idealize.ShloMosaic Idealize.ShloMosaic.TcCoe
open Cert.Proof.Tile

variable (a2 : FVec Ideal S8x4096x512 .f32) (a3 : FVec Ideal S4x128x128 .f32) (u D : FVec Ideal S8x4096x128 .f32) (U : Fin 4096 → Fin 512 → EReal) (b : Fin 8) (s : Fin 4096)

theorem sitofp_zero : FloatOps.sitofp (F := Ideal) FTy.f32 (0#32) = (0 : EReal) := by
  show ((((0#32 : BitVec 32).toInt : ℤ) : ℝ) : EReal) = 0
  simp
/-- The number of values in a window. -/
def cntR (w : BitVec 32) : FVec Ideal S8x4096x128 .f32 :=
  broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 w)))))
theorem cntR_at (w : BitVec 32) (l : Fin 128) : cntR w (ix3 b s l) = (((IntOp.minsi (IntOp.addi (BitVec.ofNat 32 s.val) 1#32) w).toInt : ℝ) : EReal) := by
  pointwise [cntR]
  rfl

/-- The columns with 1 zeros put in front. -/
def pad2 : FVec Ideal S8x4097x128 .f32 :=
  pad S8x4097x128 ![0, 1, 0] ![0, 0, 0] ![0, 0, 0] u (sitofp (F := Ideal) .f32 (constantI S_ 32 0#32)) pads_S8x4096x128_S8x4097x128_000_100_000 h_S_
theorem pad2_at (hu : ∀ t l, u (ix3 b t l) = U t ⟨0 + l.val, by omega⟩) (n : Fin 4097) (l : Fin 128) : pad2 u (ix3 b n l) = colP U (n.val + 15) ⟨0 + l.val, by omega⟩ := by
  pointwise [pad2]
  by_cases h : 1 ≤ n.val ∧ n.val - 1 < 4096
  · rw [dif_pos h, colP_at U (n.val + 15) _ ⟨n.val - 1, h.2⟩ (by show n.val + 15 = 16 + (n.val - 1); omega)]
    exact (hu _ _).trans (congrArg (U _) (Fin.ext (by simp)))
  · rw [dif_neg h, colP_lo U (n.val + 15) _ (by omega)]
    exact sitofp_zero
/-- The sums of 2 neighbours. -/
def sum2 (p : FVec Ideal S8x4097x128 .f32) : FVec Ideal S8x4096x128 .f32 := (addf (addf (broadcastInDim S8x4096x128 ![] bcast_S_S8x4096x128 (constant S_ .f32 0x00000000#32)) (extractStridedSlice S8x4096x128 ![0, 0, 0] p slices_S8x4097x128_S8x4096x128_0_0_0)) (extractStridedSlice S8x4096x128 ![0, 1, 0] p slices_S8x4097x128_S8x4096x128_0_1_0))
/-- The means less the values. -/
def dif2 : FVec Ideal S8x4096x128 .f32 := subf (Host.divf (sum2 (pad2 u)) (cntR 2#32)) u
theorem sum2_at (hu : ∀ t l, u (ix3 b t l) = U t ⟨0 + l.val, by omega⟩) (l : Fin 128) : sum2 (pad2 u) (ix3 b s l) = win 2 fun n => colP U (s.val + 17 - 2 + n) ⟨0 + l.val, by omega⟩ := by
  have h0 : ∀ h : s.val < 4097, pad2 u (ix3 b ⟨s.val, h⟩ l) = colP U (s.val + 17 - 2 + 0) ⟨0 + l.val, by omega⟩ := fun h => pad2_at u U b hu _ l
  have hk : ∀ (k : ℕ) (h : k + s.val < 4097), pad2 u (ix3 b ⟨k + s.val, h⟩ l) = colP U (s.val + 17 - 2 + k) ⟨0 + l.val, by omega⟩ := fun k h =>
    (pad2_at u U b hu _ l).trans (congrArg (fun n => colP U n _) (by show k + s.val + 15 = s.val + 17 - 2 + k; omega))
  generalize pad2 u = p at h0 hk
  pointwise [sum2]
  unfold win
  simp only [h0, hk, Finset.sum_range_succ, Finset.sum_range_zero, zero_add]
theorem dif2_at (hu : ∀ t l, u (ix3 b t l) = U t ⟨0 + l.val, by omega⟩) (l : Fin 128) : dif2 u (ix3 b s l) = pl (colP U) s.val ⟨0 + l.val, by omega⟩ := by
  have e : dif2 u (ix3 b s l) = Ideal.div (sum2 (pad2 u) (ix3 b s l)) (cntR 2#32 (ix3 b s l)) - u (ix3 b s l) := rfl
  have hw : wid ⟨0 + l.val, by omega⟩ = 2 := by
    show 2 ^ ((0 + l.val) / 128 + 1) = 2
    rw [show (0 + l.val) / 128 = 0 from by omega]
    norm_num
  rw [e, sum2_at u U b s hu, cntR_at, cntv2 s, Int.cast_natCast, hu s l]
  unfold pl
  rw [hw, colP_at U (s.val + 16) _ s (by omega)]

/-- The columns with 3 zeros put in front. -/
def pad4 : FVec Ideal S8x4099x128 .f32 :=
  pad S8x4099x128 ![0, 3, 0] ![0, 0, 0] ![0, 0, 0] u (sitofp (F := Ideal) .f32 (constantI S_ 32 0#32)) pads_S8x4096x128_S8x4099x128_000_300_000 h_S_
theorem pad4_at (hu : ∀ t l, u (ix3 b t l) = U t ⟨128 + l.val, by omega⟩) (n : Fin 4099) (l : Fin 128) : pad4 u (ix3 b n l) = colP U (n.val + 13) ⟨128 + l.val, by omega⟩ := by
  pointwise [pad4]
  by_cases h : 3 ≤ n.val ∧ n.val - 3 < 4096
  · rw [dif_pos h, colP_at U (n.val + 13) _ ⟨n.val - 3, h.2⟩ (by show n.val + 13 = 16 + (n.val - 3); omega)]
    exact hu _ _
  · rw [dif_neg h, colP_lo U (n.val + 13) _ (by omega)]
    exact sitofp_zero
/-- The sums of 4 neighbours. -/
def sum4 (p : FVec Ideal S8x4099x128 .f32) : FVec Ideal S8x4096x128 .f32 := (addf (addf (addf (addf (broadcastInDim S8x4096x128 ![] bcast_S_S8x4096x128 (constant S_ .f32 0x00000000#32)) (extractStridedSlice S8x4096x128 ![0, 0, 0] p slices_S8x4099x128_S8x4096x128_0_0_0)) (extractStridedSlice S8x4096x128 ![0, 1, 0] p slices_S8x4099x128_S8x4096x128_0_1_0)) (extractStridedSlice S8x4096x128 ![0, 2, 0] p slices_S8x4099x128_S8x4096x128_0_2_0)) (extractStridedSlice S8x4096x128 ![0, 3, 0] p slices_S8x4099x128_S8x4096x128_0_3_0))
/-- The means less the values. -/
def dif4 : FVec Ideal S8x4096x128 .f32 := subf (Host.divf (sum4 (pad4 u)) (cntR 4#32)) u
theorem sum4_at (hu : ∀ t l, u (ix3 b t l) = U t ⟨128 + l.val, by omega⟩) (l : Fin 128) : sum4 (pad4 u) (ix3 b s l) = win 4 fun n => colP U (s.val + 17 - 4 + n) ⟨128 + l.val, by omega⟩ := by
  have h0 : ∀ h : s.val < 4099, pad4 u (ix3 b ⟨s.val, h⟩ l) = colP U (s.val + 17 - 4 + 0) ⟨128 + l.val, by omega⟩ := fun h => pad4_at u U b hu _ l
  have hk : ∀ (k : ℕ) (h : k + s.val < 4099), pad4 u (ix3 b ⟨k + s.val, h⟩ l) = colP U (s.val + 17 - 4 + k) ⟨128 + l.val, by omega⟩ := fun k h =>
    (pad4_at u U b hu _ l).trans (congrArg (fun n => colP U n _) (by show k + s.val + 13 = s.val + 17 - 4 + k; omega))
  generalize pad4 u = p at h0 hk
  pointwise [sum4]
  unfold win
  simp only [h0, hk, Finset.sum_range_succ, Finset.sum_range_zero, zero_add]
theorem dif4_at (hu : ∀ t l, u (ix3 b t l) = U t ⟨128 + l.val, by omega⟩) (l : Fin 128) : dif4 u (ix3 b s l) = pl (colP U) s.val ⟨128 + l.val, by omega⟩ := by
  have e : dif4 u (ix3 b s l) = Ideal.div (sum4 (pad4 u) (ix3 b s l)) (cntR 4#32 (ix3 b s l)) - u (ix3 b s l) := rfl
  have hw : wid ⟨128 + l.val, by omega⟩ = 4 := by
    show 2 ^ ((128 + l.val) / 128 + 1) = 4
    rw [show (128 + l.val) / 128 = 1 from by omega]
    norm_num
  rw [e, sum4_at u U b s hu, cntR_at, cntv4 s, Int.cast_natCast, hu s l]
  unfold pl
  rw [hw, colP_at U (s.val + 16) _ s (by omega)]

/-- The columns with 7 zeros put in front. -/
def pad8 : FVec Ideal S8x4103x128 .f32 :=
  pad S8x4103x128 ![0, 7, 0] ![0, 0, 0] ![0, 0, 0] u (sitofp (F := Ideal) .f32 (constantI S_ 32 0#32)) pads_S8x4096x128_S8x4103x128_000_700_000 h_S_
theorem pad8_at (hu : ∀ t l, u (ix3 b t l) = U t ⟨256 + l.val, by omega⟩) (n : Fin 4103) (l : Fin 128) : pad8 u (ix3 b n l) = colP U (n.val + 9) ⟨256 + l.val, by omega⟩ := by
  pointwise [pad8]
  by_cases h : 7 ≤ n.val ∧ n.val - 7 < 4096
  · rw [dif_pos h, colP_at U (n.val + 9) _ ⟨n.val - 7, h.2⟩ (by show n.val + 9 = 16 + (n.val - 7); omega)]
    exact hu _ _
  · rw [dif_neg h, colP_lo U (n.val + 9) _ (by omega)]
    exact sitofp_zero
/-- The sums of 8 neighbours. -/
def sum8 (p : FVec Ideal S8x4103x128 .f32) : FVec Ideal S8x4096x128 .f32 := (addf (addf (addf (addf (addf (addf (addf (addf (broadcastInDim S8x4096x128 ![] bcast_S_S8x4096x128 (constant S_ .f32 0x00000000#32)) (extractStridedSlice S8x4096x128 ![0, 0, 0] p slices_S8x4103x128_S8x4096x128_0_0_0)) (extractStridedSlice S8x4096x128 ![0, 1, 0] p slices_S8x4103x128_S8x4096x128_0_1_0)) (extractStridedSlice S8x4096x128 ![0, 2, 0] p slices_S8x4103x128_S8x4096x128_0_2_0)) (extractStridedSlice S8x4096x128 ![0, 3, 0] p slices_S8x4103x128_S8x4096x128_0_3_0)) (extractStridedSlice S8x4096x128 ![0, 4, 0] p slices_S8x4103x128_S8x4096x128_0_4_0)) (extractStridedSlice S8x4096x128 ![0, 5, 0] p slices_S8x4103x128_S8x4096x128_0_5_0)) (extractStridedSlice S8x4096x128 ![0, 6, 0] p slices_S8x4103x128_S8x4096x128_0_6_0)) (extractStridedSlice S8x4096x128 ![0, 7, 0] p slices_S8x4103x128_S8x4096x128_0_7_0))
/-- The means less the values. -/
def dif8 : FVec Ideal S8x4096x128 .f32 := subf (Host.divf (sum8 (pad8 u)) (cntR 8#32)) u
theorem sum8_at (hu : ∀ t l, u (ix3 b t l) = U t ⟨256 + l.val, by omega⟩) (l : Fin 128) : sum8 (pad8 u) (ix3 b s l) = win 8 fun n => colP U (s.val + 17 - 8 + n) ⟨256 + l.val, by omega⟩ := by
  have h0 : ∀ h : s.val < 4103, pad8 u (ix3 b ⟨s.val, h⟩ l) = colP U (s.val + 17 - 8 + 0) ⟨256 + l.val, by omega⟩ := fun h => pad8_at u U b hu _ l
  have hk : ∀ (k : ℕ) (h : k + s.val < 4103), pad8 u (ix3 b ⟨k + s.val, h⟩ l) = colP U (s.val + 17 - 8 + k) ⟨256 + l.val, by omega⟩ := fun k h =>
    (pad8_at u U b hu _ l).trans (congrArg (fun n => colP U n _) (by show k + s.val + 9 = s.val + 17 - 8 + k; omega))
  generalize pad8 u = p at h0 hk
  pointwise [sum8]
  unfold win
  simp only [h0, hk, Finset.sum_range_succ, Finset.sum_range_zero, zero_add]
theorem dif8_at (hu : ∀ t l, u (ix3 b t l) = U t ⟨256 + l.val, by omega⟩) (l : Fin 128) : dif8 u (ix3 b s l) = pl (colP U) s.val ⟨256 + l.val, by omega⟩ := by
  have e : dif8 u (ix3 b s l) = Ideal.div (sum8 (pad8 u) (ix3 b s l)) (cntR 8#32 (ix3 b s l)) - u (ix3 b s l) := rfl
  have hw : wid ⟨256 + l.val, by omega⟩ = 8 := by
    show 2 ^ ((256 + l.val) / 128 + 1) = 8
    rw [show (256 + l.val) / 128 = 2 from by omega]
    norm_num
  rw [e, sum8_at u U b s hu, cntR_at, cntv8 s, Int.cast_natCast, hu s l]
  unfold pl
  rw [hw, colP_at U (s.val + 16) _ s (by omega)]

/-- The columns with 15 zeros put in front. -/
def pad16 : FVec Ideal S8x4111x128 .f32 :=
  pad S8x4111x128 ![0, 15, 0] ![0, 0, 0] ![0, 0, 0] u (sitofp (F := Ideal) .f32 (constantI S_ 32 0#32)) pads_S8x4096x128_S8x4111x128_000_1500_000 h_S_
theorem pad16_at (hu : ∀ t l, u (ix3 b t l) = U t ⟨384 + l.val, by omega⟩) (n : Fin 4111) (l : Fin 128) : pad16 u (ix3 b n l) = colP U (n.val + 1) ⟨384 + l.val, by omega⟩ := by
  pointwise [pad16]
  by_cases h : 15 ≤ n.val ∧ n.val - 15 < 4096
  · rw [dif_pos h, colP_at U (n.val + 1) _ ⟨n.val - 15, h.2⟩ (by show n.val + 1 = 16 + (n.val - 15); omega)]
    exact hu _ _
  · rw [dif_neg h, colP_lo U (n.val + 1) _ (by omega)]
    exact sitofp_zero
/-- The sums of 16 neighbours. -/
def sum16 (p : FVec Ideal S8x4111x128 .f32) : FVec Ideal S8x4096x128 .f32 := (addf (addf (addf (addf (addf (addf (addf (addf (addf (addf (addf (addf (addf (addf (addf (addf (broadcastInDim S8x4096x128 ![] bcast_S_S8x4096x128 (constant S_ .f32 0x00000000#32)) (extractStridedSlice S8x4096x128 ![0, 0, 0] p slices_S8x4111x128_S8x4096x128_0_0_0)) (extractStridedSlice S8x4096x128 ![0, 1, 0] p slices_S8x4111x128_S8x4096x128_0_1_0)) (extractStridedSlice S8x4096x128 ![0, 2, 0] p slices_S8x4111x128_S8x4096x128_0_2_0)) (extractStridedSlice S8x4096x128 ![0, 3, 0] p slices_S8x4111x128_S8x4096x128_0_3_0)) (extractStridedSlice S8x4096x128 ![0, 4, 0] p slices_S8x4111x128_S8x4096x128_0_4_0)) (extractStridedSlice S8x4096x128 ![0, 5, 0] p slices_S8x4111x128_S8x4096x128_0_5_0)) (extractStridedSlice S8x4096x128 ![0, 6, 0] p slices_S8x4111x128_S8x4096x128_0_6_0)) (extractStridedSlice S8x4096x128 ![0, 7, 0] p slices_S8x4111x128_S8x4096x128_0_7_0)) (extractStridedSlice S8x4096x128 ![0, 8, 0] p slices_S8x4111x128_S8x4096x128_0_8_0)) (extractStridedSlice S8x4096x128 ![0, 9, 0] p slices_S8x4111x128_S8x4096x128_0_9_0)) (extractStridedSlice S8x4096x128 ![0, 10, 0] p slices_S8x4111x128_S8x4096x128_0_10_0)) (extractStridedSlice S8x4096x128 ![0, 11, 0] p slices_S8x4111x128_S8x4096x128_0_11_0)) (extractStridedSlice S8x4096x128 ![0, 12, 0] p slices_S8x4111x128_S8x4096x128_0_12_0)) (extractStridedSlice S8x4096x128 ![0, 13, 0] p slices_S8x4111x128_S8x4096x128_0_13_0)) (extractStridedSlice S8x4096x128 ![0, 14, 0] p slices_S8x4111x128_S8x4096x128_0_14_0)) (extractStridedSlice S8x4096x128 ![0, 15, 0] p slices_S8x4111x128_S8x4096x128_0_15_0))
/-- The means less the values. -/
def dif16 : FVec Ideal S8x4096x128 .f32 := subf (Host.divf (sum16 (pad16 u)) (cntR 16#32)) u
theorem sum16_at (hu : ∀ t l, u (ix3 b t l) = U t ⟨384 + l.val, by omega⟩) (l : Fin 128) : sum16 (pad16 u) (ix3 b s l) = win 16 fun n => colP U (s.val + 17 - 16 + n) ⟨384 + l.val, by omega⟩ := by
  have h0 : ∀ h : s.val < 4111, pad16 u (ix3 b ⟨s.val, h⟩ l) = colP U (s.val + 17 - 16 + 0) ⟨384 + l.val, by omega⟩ := fun h => pad16_at u U b hu _ l
  have hk : ∀ (k : ℕ) (h : k + s.val < 4111), pad16 u (ix3 b ⟨k + s.val, h⟩ l) = colP U (s.val + 17 - 16 + k) ⟨384 + l.val, by omega⟩ := fun k h =>
    (pad16_at u U b hu _ l).trans (congrArg (fun n => colP U n _) (by show k + s.val + 1 = s.val + 17 - 16 + k; omega))
  generalize pad16 u = p at h0 hk
  pointwise [sum16]
  unfold win
  simp only [h0, hk, Finset.sum_range_succ, Finset.sum_range_zero, zero_add]
theorem dif16_at (hu : ∀ t l, u (ix3 b t l) = U t ⟨384 + l.val, by omega⟩) (l : Fin 128) : dif16 u (ix3 b s l) = pl (colP U) s.val ⟨384 + l.val, by omega⟩ := by
  have e : dif16 u (ix3 b s l) = Ideal.div (sum16 (pad16 u) (ix3 b s l)) (cntR 16#32 (ix3 b s l)) - u (ix3 b s l) := rfl
  have hw : wid ⟨384 + l.val, by omega⟩ = 16 := by
    show 2 ^ ((384 + l.val) / 128 + 1) = 16
    rw [show (384 + l.val) / 128 = 3 from by omega]
    norm_num
  rw [e, sum16_at u U b s hu, cntR_at, cntv16 s, Int.cast_natCast, hu s l]
  unfold pl
  rw [hw, colP_at U (s.val + 16) _ s (by omega)]

/-! ## The products -/

def sl0 : FVec Ideal S8x4096x128 .f32 := extractStridedSlice S8x4096x128 ![0, 0, 0] a2 slices_S8x4096x512_S8x4096x128_0_0_0
theorem sl0_at (l : Fin 128) : sl0 a2 (ix3 b s l) = a2 (ix3 b s ⟨0 + l.val, by omega⟩) := by pointwise [sl0]
def grp0 : FVec Ideal S8x4096x128 .f32 :=
  Host.dotGeneral dot_S8x4096x128_S128x128_S8x4096x128_2_0_01_1_n_n none D (shapeCast _ (extractStridedSlice S1x128x128 ![0, 0, 0] a3 slices_S4x128x128_S1x128x128_0_0_0) shapeCasts_S1x128x128_S128x128 : FVec Ideal S128x128 .f32)
theorem grp0_at (l : Fin 128) : grp0 a3 D (ix3 b s l) = ∑ k, D (ix3 b s k) * a3 (ix3 0 k l) := by pointwise [grp0]
def sl1 : FVec Ideal S8x4096x128 .f32 := extractStridedSlice S8x4096x128 ![0, 0, 128] a2 slices_S8x4096x512_S8x4096x128_0_0_128
theorem sl1_at (l : Fin 128) : sl1 a2 (ix3 b s l) = a2 (ix3 b s ⟨128 + l.val, by omega⟩) := by pointwise [sl1]
def grp1 : FVec Ideal S8x4096x128 .f32 :=
  Host.dotGeneral dot_S8x4096x128_S128x128_S8x4096x128_2_0_01_1_n_n none D (shapeCast _ (extractStridedSlice S1x128x128 ![1, 0, 0] a3 slices_S4x128x128_S1x128x128_1_0_0) shapeCasts_S1x128x128_S128x128 : FVec Ideal S128x128 .f32)
theorem grp1_at (l : Fin 128) : grp1 a3 D (ix3 b s l) = ∑ k, D (ix3 b s k) * a3 (ix3 1 k l) := by pointwise [grp1]
def sl2 : FVec Ideal S8x4096x128 .f32 := extractStridedSlice S8x4096x128 ![0, 0, 256] a2 slices_S8x4096x512_S8x4096x128_0_0_256
theorem sl2_at (l : Fin 128) : sl2 a2 (ix3 b s l) = a2 (ix3 b s ⟨256 + l.val, by omega⟩) := by pointwise [sl2]
def grp2 : FVec Ideal S8x4096x128 .f32 :=
  Host.dotGeneral dot_S8x4096x128_S128x128_S8x4096x128_2_0_01_1_n_n none D (shapeCast _ (extractStridedSlice S1x128x128 ![2, 0, 0] a3 slices_S4x128x128_S1x128x128_2_0_0) shapeCasts_S1x128x128_S128x128 : FVec Ideal S128x128 .f32)
theorem grp2_at (l : Fin 128) : grp2 a3 D (ix3 b s l) = ∑ k, D (ix3 b s k) * a3 (ix3 2 k l) := by pointwise [grp2]
def sl3 : FVec Ideal S8x4096x128 .f32 := extractStridedSlice S8x4096x128 ![0, 0, 384] a2 slices_S8x4096x512_S8x4096x128_0_0_384
theorem sl3_at (l : Fin 128) : sl3 a2 (ix3 b s l) = a2 (ix3 b s ⟨384 + l.val, by omega⟩) := by pointwise [sl3]
def grp3 : FVec Ideal S8x4096x128 .f32 :=
  Host.dotGeneral dot_S8x4096x128_S128x128_S8x4096x128_2_0_01_1_n_n none D (shapeCast _ (extractStridedSlice S1x128x128 ![3, 0, 0] a3 slices_S4x128x128_S1x128x128_3_0_0) shapeCasts_S1x128x128_S128x128 : FVec Ideal S128x128 .f32)
theorem grp3_at (l : Fin 128) : grp3 a3 D (ix3 b s l) = ∑ k, D (ix3 b s k) * a3 (ix3 3 k l) := by pointwise [grp3]

/-- The four groups side by side. -/
def cat4 (x0 x1 x2 x3 : FVec Ideal S8x4096x128 .f32) : FVec Ideal S8x4096x512 .f32 :=
  concatenate S8x4096x512 2 [⟨S8x4096x128, x0⟩, ⟨S8x4096x128, x1⟩, ⟨S8x4096x128, x2⟩, ⟨S8x4096x128, x3⟩] concatenates_S8x4096x128_S8x4096x128_S8x4096x128_S8x4096x128_S8x4096x512_d2
theorem cat4_0 (x0 x1 x2 x3 : FVec Ideal S8x4096x128 .f32) (l : Fin 128) : cat4 x0 x1 x2 x3 (ix3 b s ⟨0 + l.val, by omega⟩) = x0 (ix3 b s l) := by
  pointwise [cat4]
theorem cat4_1 (x0 x1 x2 x3 : FVec Ideal S8x4096x128 .f32) (l : Fin 128) : cat4 x0 x1 x2 x3 (ix3 b s ⟨128 + l.val, by omega⟩) = x1 (ix3 b s l) := by
  pointwise [cat4]
theorem cat4_2 (x0 x1 x2 x3 : FVec Ideal S8x4096x128 .f32) (l : Fin 128) : cat4 x0 x1 x2 x3 (ix3 b s ⟨256 + l.val, by omega⟩) = x2 (ix3 b s l) := by
  pointwise [cat4]
  rw [dif_neg (by omega), dif_neg (by omega), dif_pos (by omega)]
  exact congrArg x2 (ix3_of _ rfl rfl (by show 256 + l.val - 128 - 128 = l.val; omega))
theorem cat4_3 (x0 x1 x2 x3 : FVec Ideal S8x4096x128 .f32) (l : Fin 128) : cat4 x0 x1 x2 x3 (ix3 b s ⟨384 + l.val, by omega⟩) = x3 (ix3 b s l) := by
  pointwise [cat4]
  rw [dif_neg (by omega), dif_neg (by omega), dif_neg (by omega)]
  exact congrArg x3 (ix3_of _ rfl rfl (by show 384 + l.val - 128 - 128 - 128 = l.val; omega))

/-- The mixer's columns before their scale. -/
def poolR : FVec Ideal S8x4096x512 .f32 := cat4 (grp0 a3 (dif2 (sl0 a2))) (grp1 a3 (dif4 (sl1 a2))) (grp2 a3 (dif8 (sl2 a2))) (grp3 a3 (dif16 (sl3 a2)))
theorem poolR_0 (l : Fin 128) : poolR a2 a3 (ix3 b s ⟨0 + l.val, by omega⟩) = ∑ k : Fin 128, pl (colP fun t c => a2 (ix3 b t c)) s.val ⟨0 + k.val, by omega⟩ * a3 (ix3 0 k l) := by
  refine (cat4_0 b s _ _ _ _ l).trans ((grp0_at a3 _ b s l).trans ?_)
  exact Finset.sum_congr rfl fun k _ => congrArg (fun p : EReal => p * a3 (ix3 0 k l)) (dif2_at _ (fun t c => a2 (ix3 b t c)) b s (fun t l => sl0_at a2 b t l) k)
theorem poolR_1 (l : Fin 128) : poolR a2 a3 (ix3 b s ⟨128 + l.val, by omega⟩) = ∑ k : Fin 128, pl (colP fun t c => a2 (ix3 b t c)) s.val ⟨128 + k.val, by omega⟩ * a3 (ix3 1 k l) := by
  refine (cat4_1 b s _ _ _ _ l).trans ((grp1_at a3 _ b s l).trans ?_)
  exact Finset.sum_congr rfl fun k _ => congrArg (fun p : EReal => p * a3 (ix3 1 k l)) (dif4_at _ (fun t c => a2 (ix3 b t c)) b s (fun t l => sl1_at a2 b t l) k)
theorem poolR_2 (l : Fin 128) : poolR a2 a3 (ix3 b s ⟨256 + l.val, by omega⟩) = ∑ k : Fin 128, pl (colP fun t c => a2 (ix3 b t c)) s.val ⟨256 + k.val, by omega⟩ * a3 (ix3 2 k l) := by
  refine (cat4_2 b s _ _ _ _ l).trans ((grp2_at a3 _ b s l).trans ?_)
  exact Finset.sum_congr rfl fun k _ => congrArg (fun p : EReal => p * a3 (ix3 2 k l)) (dif8_at _ (fun t c => a2 (ix3 b t c)) b s (fun t l => sl2_at a2 b t l) k)
theorem poolR_3 (l : Fin 128) : poolR a2 a3 (ix3 b s ⟨384 + l.val, by omega⟩) = ∑ k : Fin 128, pl (colP fun t c => a2 (ix3 b t c)) s.val ⟨384 + k.val, by omega⟩ * a3 (ix3 3 k l) := by
  refine (cat4_3 b s _ _ _ _ l).trans ((grp3_at a3 _ b s l).trans ?_)
  exact Finset.sum_congr rfl fun k _ => congrArg (fun p : EReal => p * a3 (ix3 3 k l)) (dif16_at _ (fun t c => a2 (ix3 b t c)) b s (fun t l => sl3_at a2 b t l) k)
theorem poolR_at (c : Fin 512) : poolR a2 a3 (ix3 b s c)
    = ∑ l : Fin 128, pl (colP fun t c => a2 (ix3 b t c)) s.val ⟨128 * (c.val / 128) + l.val, by omega⟩ * a3 (ix3 ⟨c.val / 128, by omega⟩ l ⟨c.val % 128, by omega⟩) := by
  obtain ⟨c, hc⟩ := c
  have key : ∀ (g : Fin 4) (l : Fin 128), poolR a2 a3 (ix3 b s ⟨128 * g.val + l.val, by omega⟩)
      = ∑ k : Fin 128, pl (colP fun t c => a2 (ix3 b t c)) s.val ⟨128 * g.val + k.val, by omega⟩ * a3 (ix3 g k l) := fun g l => by
    match g with
    | 0 => exact poolR_0 a2 a3 b s l
    | 1 => exact poolR_1 a2 a3 b s l
    | 2 => exact poolR_2 a2 a3 b s l
    | 3 => exact poolR_3 a2 a3 b s l
  refine (congrArg (fun n : Fin 512 => poolR a2 a3 (ix3 b s n)) (Fin.ext ?_)).trans (key ⟨c / 128, by omega⟩ ⟨c % 128, by omega⟩)
  show c = 128 * (c / 128) + c % 128
  omega

end Cert.Proof.Mix
end
-- ==== Proof.MixRef.lean ====
/-
  The reference's output projection and cross-attention, read element by element over the reals.
-/
module

public import proofs.«01_k».proof.Proof.MixMean

@[expose] public section

noncomputable section

namespace Cert.Proof.Mix

open Cert.Reference4Ideal Cert.Reference4Ideal.Gen
open Idealize.ShloMosaic Idealize.ShloMosaic.TcCoe
open Cert.Proof.Tile

variable (X : FVec Ideal S8x4096x1024 .f32) (g : FVec Ideal S1024 .f32) (W : FVec Ideal S1024x1024 .f32) (K V : FVec Ideal S8x256x1024 .bf16)
  (A : FVec Ideal S8x512x4096 .bf16) (M : FVec Ideal S8x4096x512 .f32) (sc : FVec Ideal S512 .f32) (S E : FVec Ideal S8x4x4096x256 .f32)
  (b : Fin 8) (s : Fin 4096)

/-- One over the root of each row's mean square. -/
def invR : FVec Ideal S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))
/-- The rows normalised. -/
def normR : FVec Ideal S8x4096x1024 .f32 :=
  mulf (mulf X (broadcastInDim S8x4096x1024 ![0, 1, 2] bcast_S8x4096x1_S8x4096x1024_0_1_2 (invR X))) (broadcastInDim S8x4096x1024 ![0, 1, 2] bcast_S1x1x1024_S8x4096x1024_0_1_2 (broadcastInDim S1x1x1024 ![2] bcast_S1024_S1x1x1024_2 g))
theorem invR_at : invR X (ix3 b s 0) = Ideal.rsqrt (Ideal.div (∑ x, X (ix3 b s x) * X (ix3 b s x)) (Ideal.ofBits .f32 1149239296#32) + Ideal.ofBits .f32 897988541#32) := by
  pointwise [invR]
theorem normR_at (k : Fin 1024) : normR X g (ix3 b s k) = Mlp.norm (fun x => X (ix3 b s x)) (fun x => g (ix1 x)) k := by
  have e : normR X g (ix3 b s k) = X (ix3 b s k) * invR X (ix3 b s 0) * g (ix1 k) := by pointwise [normR]
  rw [e, invR_at]; rfl
/-- A product with a square matrix. -/
def projR : FVec Ideal S8x4096x1024 .f32 := Host.dotGeneral dot_S8x4096x1024_S1024x1024_S8x4096x1024_2_0_01_1_n_n none X W
theorem projR_at (q : Fin 1024) : projR X W (ix3 b s q) = ∑ k, X (ix3 b s k) * W (ix2 k q) := by pointwise [projR]

/-! ## The mixer's output projection -/

/-- The attention's columns and the mixer's, side by side. -/
def catR : FVec Ideal S8x4096x1024 .f32 :=
  concatenate S8x4096x1024 2 [⟨S8x4096x512, (extf .f32 (transpose S8x4096x512 [0, 2, 1] A transposes_S8x512x4096_S8x4096x512_0_2_1) bitsLt_bf16_f32)⟩, ⟨S8x4096x512, (mulf M (broadcastInDim S8x4096x512 ![0, 1, 2] bcast_S1x1x512_S8x4096x512_0_1_2 (broadcastInDim S1x1x512 ![2] bcast_S512_S1x1x512_2 sc)))⟩] concatenates_S8x4096x512_S8x4096x512_S8x4096x1024_d2
theorem catR_lo (k : Fin 512) : catR A M sc (ix3 b s ⟨k.val, by omega⟩) = A (ix3 b k s) := by
  pointwise [catR]
theorem catR_hi (k : Fin 512) : catR A M sc (ix3 b s ⟨512 + k.val, by omega⟩) = M (ix3 b s k) * sc (ix1 k) := by
  pointwise [catR]
theorem mixR_at (q : Fin 1024) : projR (catR A M sc) W (ix3 b s q) = ∑ k : Fin 512, A (ix3 b k s) * W (ix2 ⟨k.val, by omega⟩ q) + ∑ k : Fin 512, M (ix3 b s k) * sc (ix1 k) * W (ix2 ⟨512 + k.val, by omega⟩ q) := by
  rw [projR_at]
  refine (Fin.sum_univ_add (a := 512) (b := 512) fun k : Fin 1024 => catR A M sc (ix3 b s k) * W (ix2 k q)).trans (congrArg₂ (fun p q : EReal => p + q) ?_ ?_)
  · exact Finset.sum_congr rfl fun k _ => congrArg (fun p : EReal => p * W (ix2 ⟨k.val, by omega⟩ q)) (catR_lo A M sc b s k)
  · exact Finset.sum_congr rfl fun k _ => congrArg (fun p : EReal => p * W (ix2 ⟨512 + k.val, by omega⟩ q)) (catR_hi A M sc b s k)

/-! ## The cross-attention -/

/-- The rows of queries, and the memory's, by head. -/
def qh : FVec Ideal S8x4096x4x256 .f32 := shapeCast _ X shapeCasts_S8x4096x1024_S8x4096x4x256
def kh : FVec Ideal S8x256x4x256 .f32 := shapeCast _ (extf .f32 K bitsLt_bf16_f32) shapeCasts_S8x256x1024_S8x256x4x256
theorem qh_at (h : Fin 4) (d : Fin 256) : qh X (ix4 b s h d) = X (ix3 b s (lane h d)) := by
  pointwise [qh]
  simp only [Nat.mul_comm h.val 256]
theorem kh_at (j : Fin 256) (h : Fin 4) (d : Fin 256) : kh K (ix4 b j h d) = K (ix3 b j (lane h d)) := by
  pointwise [kh]
  simp only [Nat.mul_comm h.val 256]
/-- The scores. -/
def scoresR (x : FVec Ideal S8x4096x4x256 .f32) (y : FVec Ideal S8x256x4x256 .f32) : FVec Ideal S8x4x4096x256 .f32 :=
  Host.divf (Host.dotGeneral dot_S8x4096x4x256_S8x256x4x256_S8x4x4096x256_3_3_1_1_02_02 none x y) (broadcastInDim S8x4x4096x256 ![] bcast_S_S8x4x4096x256 (constant S_ .f32 0x41800000#32))
theorem scoresR_at (x : FVec Ideal S8x4096x4x256 .f32) (y : FVec Ideal S8x256x4x256 .f32) (h : Fin 4) (j : Fin 256) : scoresR x y (ix4 b h s j)
    = Ideal.div (∑ d, x (ix4 b s h d) * y (ix4 b j h d)) (Ideal.ofBits .f32 0x41800000#32) := by pointwise [scoresR]
/-- The greatest scores. -/
def topR : FVec Ideal S8x4x4096 .f32 := Host.reduce FloatOps.maximumf S (constant S_ .f32 0xFF800000#32) reducesTo_S8x4x4096x256_S8x4x4096_d3 h_S_
theorem topR_at (h : Fin 4) : topR S (ix3 b h s) = Finset.univ.fold max (Ideal.ofBits .f32 0xFF800000#32) fun j => S (ix4 b h s j) := by
  unfold topR
  simp only [pointwise]
/-- The exponentials of the scores less them. -/
def expT (T : FVec Ideal S8x4x4096 .f32) : FVec Ideal S8x4x4096x256 .f32 :=
  Host.exp (subf S (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) T))))
theorem expT_at (T : FVec Ideal S8x4x4096 .f32) (h : Fin 4) (j : Fin 256) : expT S T (ix4 b h s j) = Ideal.exp (S (ix4 b h s j) - max (Ideal.ofBits .f32 0xFF800000#32) (T (ix3 b h s))) := by
  pointwise [expT]
def expR : FVec Ideal S8x4x4096x256 .f32 := expT S (topR S)
theorem expR_at (h : Fin 4) (j : Fin 256) : expR S (ix4 b h s j) = ex (fun j => S (ix4 b h s j)) j := by
  unfold expR ex top
  rw [expT_at, topR_at, max_eq_right (by rw [litBot]; exact bot_le)]
/-- The weights. -/
def wtR : FVec Ideal S8x4x4096x256 .f32 :=
  Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_)))
theorem wtR_at (h : Fin 4) (j : Fin 256) : wtR E (ix4 b h s j) = Ideal.div (E (ix4 b h s j)) (∑ j, E (ix4 b h s j)) := by pointwise [wtR]
/-- The weighted values by head, and the heads side by side. -/
def avR (y : FVec Ideal S8x256x4x256 .f32) (w : FVec Ideal S8x4x4096x256 .f32) : FVec Ideal S8x4x256x4096 .f32 :=
  Host.dotGeneral dot_S8x256x4x256_S8x4x4096x256_S8x4x256x4096_1_3_3_2_02_01 none y w
theorem avR_at (y : FVec Ideal S8x256x4x256 .f32) (w : FVec Ideal S8x4x4096x256 .f32) (h : Fin 4) (d : Fin 256) : avR y w (ix4 b h d s) = ∑ j, y (ix4 b j h d) * w (ix4 b h s j) := by
  pointwise [avR]
def backR (x : FVec Ideal S8x4x256x4096 .f32) : FVec Ideal S8x4096x1024 .f32 :=
  shapeCast _ (transpose S8x4096x4x256 [0, 3, 1, 2] x transposes_S8x4x256x4096_S8x4096x4x256_0_3_1_2) shapeCasts_S8x4096x4x256_S8x4096x1024
theorem backR_at (x : FVec Ideal S8x4x256x4096 .f32) (c : Fin 1024) : backR x (ix3 b s c) = x (ix4 b (head c) ⟨c.val % 256, by omega⟩ s) := by pointwise [backR]
/-- The heads. -/
def headsR (q : FVec Ideal S8x4096x1024 .f32) : FVec Ideal S8x4096x1024 .f32 := backR (avR (kh V) (wtR (expR (scoresR (qh q) (kh K)))))
theorem headsR_at (q : FVec Ideal S8x4096x1024 .f32) (c : Fin 1024) : headsR K V q (ix3 b s c) = oR (fun j c => K (ix3 b j c)) (fun j c => V (ix3 b j c)) (fun c => q (ix3 b s c)) c := by
  have hs : (fun j => scoresR (qh q) (kh K) (ix4 b (head c) s j)) = scoreR (fun c => q (ix3 b s c)) (fun j c => K (ix3 b j c)) (head c) := by
    funext j
    rw [scoresR_at]
    exact congrArg (fun x => Ideal.div x _) (Finset.sum_congr rfl fun d _ => by rw [qh_at, kh_at])
  unfold headsR
  rw [backR_at, avR_at]
  unfold oR headR
  refine Finset.sum_congr rfl fun j _ => congrArg₂ (fun p q : EReal => p * q) ?_ ?_
  · refine (kh_at V b j _ _).trans (congrArg (fun n => V (ix3 b j n)) (Fin.ext ?_))
    show 256 * (c.val / 256) + c.val % 256 = c.val
    omega
  · rw [wtR_at]
    simp only [expR_at, hs]

/-! ## The whole reference -/

variable (a0 : FVec Ideal S8x4096x1024 .f32) (a1 : FVec Ideal S8x512x4096 .bf16) (a2 : FVec Ideal S8x4096x512 .f32) (a3 : FVec Ideal S4x128x128 .f32) (a4 : FVec Ideal S512 .f32) (a5 : FVec Ideal S1024x1024 .f32) (a6 a7 : FVec Ideal S1024 .f32)
  (a8 : FVec Ideal S1024x1024 .f32) (a9 a10 : FVec Ideal S8x256x1024 .bf16) (a11 : FVec Ideal S1024x1024 .f32) (a12 : FVec Ideal S1024 .f32)

/-- The rows after the mixer. -/
def midR : FVec Ideal S8x4096x1024 .f32 := addf a0 (normR (projR (catR a1 (poolR a2 a3) a4) a5) a6)
theorem midR_at (q : Fin 1024) : midR a0 a1 a2 a3 a4 a5 a6 (ix3 b s q) = mid a0 a1 a2 a3 a4 a5 a6 b s q := by
  have e : midR a0 a1 a2 a3 a4 a5 a6 (ix3 b s q) = a0 (ix3 b s q) + normR (projR (catR a1 (poolR a2 a3) a4) a5) a6 (ix3 b s q) := rfl
  rw [e, normR_at]
  unfold mid midRow resid
  refine congrArg (fun v => a0 (ix3 b s q) + Mlp.norm v (fun x => a6 (ix1 x)) q) (funext fun k => ?_)
  rw [mixR_at]
  unfold mixv pool
  simp only [poolR_at]
/-- The result from the rows after the mixer. -/
def outR (x : FVec Ideal S8x4096x1024 .f32) : FVec Ideal S8x4096x1024 .f32 := addf x (normR (projR (headsR a9 a10 (projR (normR x a7) a8)) a11) a12)
theorem outR_at (x : FVec Ideal S8x4096x1024 .f32) (q : Fin 1024) : outR a7 a8 a9 a10 a11 a12 x (ix3 b s q)
    = outRow (oR (fun j c => a9 (ix3 b j c)) (fun j c => a10 (ix3 b j c))) (fun c => x (ix3 b s c)) (fun c => a7 (ix1 c)) (fun k c => a8 (ix2 k c)) (fun k c => a11 (ix2 k c)) (fun c => a12 (ix1 c)) q := by
  have e : outR a7 a8 a9 a10 a11 a12 x (ix3 b s q) = x (ix3 b s q) + normR (projR (headsR a9 a10 (projR (normR x a7) a8)) a11) a12 (ix3 b s q) := rfl
  have hq : (fun c => projR (normR x a7) a8 (ix3 b s c)) = query (fun c => x (ix3 b s c)) (fun c => a7 (ix1 c)) (fun k c => a8 (ix2 k c)) := by
    funext c
    rw [projR_at]
    unfold query
    exact Finset.sum_congr rfl fun k _ => by rw [normR_at]
  rw [e, normR_at]
  unfold outRow resid
  refine congrArg (fun v => x (ix3 b s q) + Mlp.norm v (fun x => a12 (ix1 x)) q) (funext fun k => ?_)
  rw [projR_at]
  simp only [headsR_at, hq]
/-- The reference's result at an element. -/
theorem ref_at (q : Fin 1024) : outR a7 a8 a9 a10 a11 a12 (midR a0 a1 a2 a3 a4 a5 a6) (ix3 b s q) = value a0 a1 a2 a3 a4 a5 a6 a7 a8 a9 a10 a11 a12 b s q oR := by
  rw [outR_at]
  simp only [midR_at]
  rfl

end Cert.Proof.Mix
end
-- ==== Proof.MixTerm.lean ====
/-
  The term the reference's run ends at is the one read in the mixer's reference modules.
-/
module

public import proofs.«01_k».proof.Proof.MixRef

@[expose] public section

noncomputable section

namespace Cert.Proof.Mix

open Cert.Reference4Ideal Cert.Reference4Ideal.Gen Cert.Reference4Ideal.Value
open Idealize.ShloMosaic Idealize.ShloMosaic.TcCoe

variable (V0 : Valuation τ sig (Elt Ideal))

theorem res121 : res_main_v121 (F := Ideal) V0 = poolR (V0 (Proc.devRef .tc main_arg2)) (V0 (Proc.devRef .tc main_arg3)) := rfl
theorem res128 : res_main_v128 (F := Ideal) V0 = projR (catR (V0 (Proc.devRef .tc main_arg1)) (poolR (V0 (Proc.devRef .tc main_arg2)) (V0 (Proc.devRef .tc main_arg3))) (V0 (Proc.devRef .tc main_arg4))) (V0 (Proc.devRef .tc main_arg5)) := by
  unfold res_main_v128
  rw [res121]
  rfl
theorem res142 : res_main_v142 (F := Ideal) V0 = midR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold res_main_v142
  rw [res128]
  rfl
theorem res164 : res_main_v164 (F := Ideal) V0 = scoresR (qh (projR (normR (midR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg7))) (V0 (Proc.devRef .tc main_arg8)))) (kh (V0 (Proc.devRef .tc main_arg9))) := by
  unfold res_main_v164
  rw [res142]
  rfl
theorem res171 : res_main_v171 (F := Ideal) V0 = expR (res_main_v164 (F := Ideal) V0) := rfl
theorem res179 : res_main_v179 (F := Ideal) V0 = projR (headsR (V0 (Proc.devRef .tc main_arg9)) (V0 (Proc.devRef .tc main_arg10)) (projR (normR (midR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg7))) (V0 (Proc.devRef .tc main_arg8)))) (V0 (Proc.devRef .tc main_arg11)) := by
  unfold res_main_v179
  rw [res171, res164]
  rfl
theorem res_eq : addf (res_main_v142 V0) (mulf (mulf (res_main_v179 V0) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v179 V0) (res_main_v179 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V0 (Proc.devRef .tc main_arg12)))))
    = outR (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (midR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  rw [res179, res142]
  rfl

end Cert.Proof.Mix
end
-- ==== Proof.MixFin.lean ====
/-
  What the mixer's precondition gives: the gain, the matrix and the keys the scores are made of are real numbers.
-/
module

public import proofs.«01_k».proof.Proof.Gen.Pre_finite4
public import proofs.«01_k».proof.Proof.MixRow
public import Idealize.ShloMosaic.Lib.ReduceAll
public import Idealize.ShloMosaic.Lib.Pointwise
public import Idealize.ShloMosaic.PureOps.Ideal

@[expose] public section

noncomputable section

namespace Cert.Proof.Mix

open Cert.Pre_finite4 Idealize.ShloMosaic

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]
theorem isR_of_cmp (v t : EReal) (ht : t = ⊤) (h : Ideal.cmp .olt (max v (-v)) t = 1#1) : IsR v := by
  refine isR_of_lt v ?_
  rw [ht] at h
  by_contra hn
  simp [Ideal.cmp, hn] at h

theorem isR_of_finite (a0 : FVec Ideal S8x4096x1024 .f32) (a1 : FVec Ideal S8x512x4096 .bf16) (a2 : FVec Ideal S8x4096x512 .f32) (a3 : FVec Ideal S4x128x128 .f32) (a4 : FVec Ideal S512 .f32) (a5 : FVec Ideal S1024x1024 .f32) (a6 a7 : FVec Ideal S1024 .f32)
    (a8 : FVec Ideal S1024x1024 .f32) (a9 a10 : FVec Ideal S8x256x1024 .bf16) (a11 : FVec Ideal S1024x1024 .f32) (a12 : FVec Ideal S1024 .f32)
    (h : Cert.Pre_finite4.fn (F := Ideal) a0 a1 a2 a3 a4 a5 a6 a7 a8 a9 a10 a11 a12 = fun _ => 1#1) :
    (∀ c, IsR (a7 (ix1 c))) ∧ (∀ k c, IsR (a8 (ix2 k c))) ∧ ∀ b j c, IsR (a9 (ix3 b j c)) := by
  have e := congrFun h ix0
  dsimp only [fn] at e
  obtain ⟨e1, e9⟩ := IntOp.andi_eq_one.1 e
  obtain ⟨e7, e8⟩ := IntOp.andi_eq_one.1 e1
  exact ⟨fun c => isR_of_cmp _ _ inf_f32 (Host.reduce_andi_all _ _ _ _ ix0 e7 (ix1 c)), fun k c => isR_of_cmp _ _ inf_f32 (Host.reduce_andi_all _ _ _ _ ix0 e8 (ix2 k c)),
    fun b j c => isR_of_cmp _ _ inf_bf16 (Host.reduce_andi_all _ _ _ _ ix0 e9 (ix3 b j c))⟩

end Cert.Proof.Mix
end
-- ==== Proof.MemKer.lean ====
/-
  The memory's keys and values over the reals, element by element.
-/
module

public import proofs.«01_k».proof.Proof.Gen.Kernel5Ideal.Value
public import proofs.«01_k».proof.Proof.Tiles
public import Idealize.ShloMosaic.Lib.Claim

@[expose] public section

noncomputable section

namespace Cert.Proof.Mem

open Cert.Kernel5Ideal Cert.Kernel5Ideal.Gen
open Idealize.ShloMosaic Idealize.ShloMosaic.TcCoe Idealize.ShloMosaic.StableHlo Idealize.ShloMosaic.View
open Cert.Proof.Tile

/-- Column `q` of the projection of memory row `s` of batch `b`. -/
def proj (X : FVec Ideal S8x256x1024 .f32) (g : FVec Ideal S1024 .f32) (W : FVec Ideal S1024x2048 .f32) (b : Fin 8) (s : Fin 256) (q : Fin 2048) : EReal :=
  ∑ k, Mlp.norm (fun x => X (ix3 b s x)) (fun x => g (ix1 x)) k * W (ix2 k q)

/-! ## The block -/

section Stages
variable (a : Vec Ideal S1x256x1024 .f32) (g : Vec Ideal S1x1024 .f32) (w : Vec Ideal S1024x1024 .bf16)
theorem p1 (r : Fin 256) (j : Fin 1024) : k0_pay1 (F := Ideal) a g (ix2 r j) = Mlp.norm (fun x => a (ix3 0 r x)) (fun x => g (ix2 0 x)) j := by
  unfold Mlp.norm; pointwise [k0_pay1]
theorem p2 (r : Fin 256) (q : Fin 1024) : k0_pay2 (F := Ideal) a g w (ix3 0 r q) = ∑ k, k0_pay1 (F := Ideal) a g (ix2 r k) * w (ix2 k q) := by pointwise [k0_pay2]
theorem p3 (r : Fin 256) (q : Fin 1024) : k0_pay3 (F := Ideal) a g w (ix3 0 r q) = ∑ k, k0_pay1 (F := Ideal) a g (ix2 r k) * w (ix2 k q) := by pointwise [k0_pay3]
end Stages

section Block
variable (x0 : Vec Ideal S1x256x1024 .f32) (x1 : Vec Ideal S1x1024 .f32) (x2 x3 : Vec Ideal S1024x1024 .bf16)
theorem ld0 (r : Fin 256) (k : Fin 1024) : View.ld x0 r0_0 (ix3 0 r k) = x0 (ix3 0 r k) :=
  congrArg x0 (ix3_of _ (by rfl) (by show 0 + 1 * r.val = r.val; omega) (by show 0 + 1 * k.val = k.val; omega))
theorem ld1 (k : Fin 1024) : View.ld x1 r0_1 (ix2 0 k) = x1 (ix2 0 k) :=
  congrArg x1 (ix2_of _ (by rfl) (by show 0 + 1 * k.val = k.val; omega))
theorem ld2 (k q : Fin 1024) : View.ld x2 r0_2 (ix2 k q) = x2 (ix2 k q) :=
  congrArg x2 (ix2_of _ (by show 0 + 1 * k.val = k.val; omega) (by show 0 + 1 * q.val = q.val; omega))
/-- The block's row `r` against weight column `q`. -/
abbrev nAt (r : Fin 256) (q : Fin 1024) : EReal := ∑ k, Mlp.norm (fun x => x0 (ix3 0 r x)) (fun x => x1 (ix2 0 x)) k * x2 (ix2 k q)
theorem sum_eq (r : Fin 256) (q : Fin 1024) : ∑ k, k0_pay1 (F := Ideal) (View.ld x0 r0_0) (View.ld x1 r0_1) (ix2 r k) * View.ld x2 r0_2 (ix2 k q) = nAt x0 x1 x2 r q :=
  Finset.sum_congr rfl fun k _ => congrArg₂ (fun p q : EReal => p * q) ((p1 _ _ r k).trans (norm_congr k (fun x => ld0 x0 r x) (fun x => ld1 x1 x))) (ld2 x2 k q)
theorem out4_at (r : Fin 256) (q : Fin 1024) : out0_4 (F := Ideal) x0 x1 x2 x3 (ix3 0 r q) = nAt x0 x1 x2 r q := by
  unfold out0_4
  refine canon_eq_of_allAt _ _ _ (cover0_4 _ _) (allAt_cons_unit _ _ _ _ _ (tile3 0 0 _ r q _ ?_) (allAt_nil _ _))
  intro p l hp hl
  obtain rfl : p = r := Fin.ext (by omega)
  obtain rfl : l = q := Fin.ext (by omega)
  exact (p2 _ _ _ p l).trans (sum_eq x0 x1 x2 p l)
theorem out5_at (r : Fin 256) (q : Fin 1024) : out0_5 (F := Ideal) x0 x1 x2 x3 (ix3 0 r q) = nAt x0 x1 x3 r q := by
  unfold out0_5
  refine canon_eq_of_allAt _ _ _ (cover0_5 _ _) (allAt_cons_unit _ _ _ _ _ (tile3 0 0 _ r q _ ?_) (allAt_nil _ _))
  intro p l hp hl
  obtain rfl : p = r := Fin.ext (by omega)
  obtain rfl : l = q := Fin.ext (by omega)
  exact (p3 _ _ _ p l).trans (sum_eq x0 x1 x3 p l)
end Block

/-! ## What the call is given -/

theorem lift_at (v : FVec Ideal S1024 .f32) (k : Fin 1024) : shapeCast S1x1024 v shapeCasts_S1024_S1x1024 (ix2 0 k) = v (ix1 k) := by pointwise
theorem low_at (w : FVec Ideal S1024x2048 .bf16) (k q : Fin 1024) : extractStridedSlice S1024x1024 ![0, 0] w slices_S1024x2048_S1024x1024_0_0 (ix2 k q) = w (ix2 k ⟨q.val, by omega⟩) := by pointwise
theorem high_at (w : FVec Ideal S1024x2048 .bf16) (k q : Fin 1024) : extractStridedSlice S1024x1024 ![0, 1024] w slices_S1024x2048_S1024x1024_0_1024 (ix2 k q) = w (ix2 k ⟨1024 + q.val, by omega⟩) := by pointwise

variable (m : (ℓ : Loc nD τ sig) → Buf (Elt Ideal) ℓ) (c : Dev nD)
abbrev aX : FVec Ideal S8x256x1024 .f32 := m ((c : Thread nD τ).loc main_arg0)
abbrev aG : FVec Ideal S1024 .f32 := m ((c : Thread nD τ).loc main_arg1)
abbrev aW : FVec Ideal S1024x2048 .f32 := m ((c : Thread nD τ).loc main_arg2)

theorem V_x : V m c main_arg0 = m ((c : Thread nD τ).loc main_arg0) := V_main_arg0 m c
theorem V_g (k : Fin 1024) : V m c main_v1 (ix2 0 k) = aG m c (ix1 k) := by
  have e : V m c main_v1 = shapeCast S1x1024 (m ((c : Thread nD τ).loc main_arg1)) shapeCasts_S1024_S1x1024 := by
    show after hostOps0 _ _ = _
    after_results <;> rfl
  exact (congrFun e _).trans (lift_at _ k)
theorem V_k (k q : Fin 1024) : V m c main_v2 (ix2 k q) = aW m c (ix2 k ⟨q.val, by omega⟩) := by
  have e : V m c main_v2 = extractStridedSlice S1024x1024 ![0, 0] (truncf (F := Ideal) .bf16 (m ((c : Thread nD τ).loc main_arg2)) bitsLt_bf16_f32) slices_S1024x2048_S1024x1024_0_0 := by
    show after hostOps0 _ _ = _
    after_results <;> rfl
  exact (congrFun e _).trans (low_at _ k q)
theorem V_v (k q : Fin 1024) : V m c main_v3 (ix2 k q) = aW m c (ix2 k ⟨1024 + q.val, by omega⟩) := by
  have e : V m c main_v3 = extractStridedSlice S1024x1024 ![0, 1024] (truncf (F := Ideal) .bf16 (m ((c : Thread nD τ).loc main_arg2)) bitsLt_bf16_f32) slices_S1024x2048_S1024x1024_0_1024 := by
    show after hostOps0 _ _ = _
    after_results <;> rfl
  exact (congrFun e _).trans (high_at _ k q)

/-! ## The blocks and the results -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)
abbrev bt (t : Fin cfg0.N) : Fin 8 := ⟨t.val, by have : t.val < 8 := t.isLt; exact this⟩

theorem blk0_at (t : Fin cfg0.N) (g : main_arg0.ty.Contents (Elt Ideal)) (r : Fin 256) (k : Fin 1024) : ((cfg0.win 0).blk t).view.read (Elt Ideal) g (ix3 0 r k) = g (ix3 (bt t) r k) := by
  obtain ⟨h0, h1, h2⟩ := idx0 t
  refine congrArg g (ix3_of _ ?_ ?_ ?_)
  · show win0_0.index t (0 : Fin 3) * 1 + 1 * 0 = t.val
    rw [h0]; omega
  · show win0_0.index t (1 : Fin 3) * 256 + 1 * r.val = r.val
    rw [h1]; omega
  · show win0_0.index t (2 : Fin 3) * 1024 + 1 * k.val = k.val
    rw [h2]; omega
theorem blk4_at (t : Fin cfg0.N) (g : main_v4_0.ty.Contents (Elt Ideal)) (r : Fin 256) (k : Fin 1024) : ((cfg0.win 4).blk t).view.read (Elt Ideal) g (ix3 0 r k) = g (ix3 (bt t) r k) := by
  obtain ⟨h0, h1, h2⟩ := idx4 t
  refine congrArg g (ix3_of _ ?_ ?_ ?_)
  · show win0_4.index t (0 : Fin 3) * 1 + 1 * 0 = t.val
    rw [h0]; omega
  · show win0_4.index t (1 : Fin 3) * 256 + 1 * r.val = r.val
    rw [h1]; omega
  · show win0_4.index t (2 : Fin 3) * 1024 + 1 * k.val = k.val
    rw [h2]; omega
theorem blk5_at (t : Fin cfg0.N) (g : main_v4_1.ty.Contents (Elt Ideal)) (r : Fin 256) (k : Fin 1024) : ((cfg0.win 5).blk t).view.read (Elt Ideal) g (ix3 0 r k) = g (ix3 (bt t) r k) := by
  obtain ⟨h0, h1, h2⟩ := idx5 t
  refine congrArg g (ix3_of _ ?_ ?_ ?_)
  · show win0_5.index t (0 : Fin 3) * 1 + 1 * 0 = t.val
    rw [h0]; omega
  · show win0_5.index t (1 : Fin 3) * 256 + 1 * r.val = r.val
    rw [h1]; omega
  · show win0_5.index t (2 : Fin 3) * 1024 + 1 * k.val = k.val
    rw [h2]; omega
theorem blk1_at (t : Fin cfg0.N) (g : main_v1.ty.Contents (Elt Ideal)) (k : Fin 1024) : ((cfg0.win 1).blk t).view.read (Elt Ideal) g (ix2 0 k) = g (ix2 0 k) :=
  congrArg g (ix2_of _ (by rfl) (by show 0 * 1024 + 1 * k.val = k.val; omega))
theorem blk2_at (t : Fin cfg0.N) (g : main_v2.ty.Contents (Elt Ideal)) (k q : Fin 1024) : ((cfg0.win 2).blk t).view.read (Elt Ideal) g (ix2 k q) = g (ix2 k q) :=
  congrArg g (ix2_of _ (by show 0 * 1024 + 1 * k.val = k.val; omega) (by show 0 * 1024 + 1 * q.val = q.val; omega))
theorem blk3_at (t : Fin cfg0.N) (g : main_v3.ty.Contents (Elt Ideal)) (k q : Fin 1024) : ((cfg0.win 3).blk t).view.read (Elt Ideal) g (ix2 k q) = g (ix2 k q) :=
  congrArg g (ix2_of _ (by show 0 * 1024 + 1 * k.val = k.val; omega) (by show 0 * 1024 + 1 * q.val = q.val; omega))

theorem row_at (t : Fin cfg0.N) (r : Fin 256) (k : Fin 1024) : Mlp.norm (fun x => iblk m c 0 t (ix3 0 r x)) (fun x => iblk m c 1 t (ix2 0 x)) k
    = Mlp.norm (fun x => aX m c (ix3 (bt t) r x)) (fun x => aG m c (ix1 x)) k :=
  norm_congr k (fun x => (blk0_at t _ r x).trans (congrFun (V_x m c) _)) (fun x => (blk1_at t _ x).trans (V_g m c x))
theorem arr4_at (b : Fin 8) (r : Fin 256) (q : Fin 1024) : (dats m 0 c).arrAt 4 cfg0.N (ix3 b r q) = proj (aX m c) (aG m c) (aW m c) b r ⟨q.val, by omega⟩ := by
  obtain ⟨t, rfl⟩ : ∃ t : Fin cfg0.N, bt t = b := ⟨(⟨b.val, b.isLt⟩ : Fin 8), rfl⟩
  have hb := congrFun (Value.blocks4 m c t (flush0_4 t)) (ix3 0 r q)
  rw [Value.flushed4] at hb
  refine (blk4_at t _ r q).symm.trans (hb.trans ?_)
  refine (out4_at _ _ _ _ r q).trans ?_
  exact Finset.sum_congr rfl fun k _ => congrArg₂ (fun p q : EReal => p * q) (row_at m c t r k) ((blk2_at t _ k q).trans (V_k m c k q))
theorem arr5_at (b : Fin 8) (r : Fin 256) (q : Fin 1024) : (dats m 0 c).arrAt 5 cfg0.N (ix3 b r q) = proj (aX m c) (aG m c) (aW m c) b r ⟨1024 + q.val, by omega⟩ := by
  obtain ⟨t, rfl⟩ : ∃ t : Fin cfg0.N, bt t = b := ⟨(⟨b.val, b.isLt⟩ : Fin 8), rfl⟩
  have hb := congrFun (Value.blocks5 m c t (flush0_5 t)) (ix3 0 r q)
  rw [Value.flushed5] at hb
  refine (blk5_at t _ r q).symm.trans (hb.trans ?_)
  refine (out5_at _ _ _ _ r q).trans ?_
  exact Finset.sum_congr rfl fun k _ => congrArg₂ (fun p q : EReal => p * q) (row_at m c t r k) ((blk3_at t _ k q).trans (V_v m c k q))

end Cert.Proof.Mem
end
-- ==== Proof.MemRef.lean ====
/-
  The memory's reference, read element by element over the reals.
-/
module

public import proofs.«01_k».proof.Proof.Gen.Reference5Ideal.Run
public import proofs.«01_k».proof.Proof.MlpRow

@[expose] public section

noncomputable section

namespace Cert.Proof.Mem

open Cert.Reference5Ideal Cert.Reference5Ideal.Gen
open Idealize.ShloMosaic Idealize.ShloMosaic.TcCoe

variable (X : FVec Ideal S8x256x1024 .f32) (g : FVec Ideal S1024 .f32) (W : FVec Ideal S1024x2048 .f32)
  (H : FVec Ideal S8x256x1024 .f32) (Y : FVec Ideal S8x256x2048 .f32) (b : Fin 8) (s : Fin 256)

/-- One over the root of each row's mean square. -/
def refInv : FVec Ideal S8x256x1 .f32 :=
  Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))
/-- The rows normalised. -/
def refNorm : FVec Ideal S8x256x1024 .f32 :=
  mulf (mulf X (broadcastInDim S8x256x1024 ![0, 1, 2] bcast_S8x256x1_S8x256x1024_0_1_2 (refInv X))) (broadcastInDim S8x256x1024 ![0, 1, 2] bcast_S1x1x1024_S8x256x1024_0_1_2 (broadcastInDim S1x1x1024 ![2] bcast_S1024_S1x1x1024_2 g))
/-- The projection, and its two halves. -/
def refProj : FVec Ideal S8x256x2048 .f32 := Host.dotGeneral dot_S8x256x1024_S1024x2048_S8x256x2048_2_0_01_1_n_n none H W
def refK : FVec Ideal S8x256x1024 .bf16 := truncf .bf16 (extractStridedSlice S8x256x1024 ![0, 0, 0] Y slices_S8x256x2048_S8x256x1024_0_0_0) bitsLt_bf16_f32
def refV : FVec Ideal S8x256x1024 .bf16 := truncf .bf16 (extractStridedSlice S8x256x1024 ![0, 0, 1024] Y slices_S8x256x2048_S8x256x1024_0_0_1024) bitsLt_bf16_f32

theorem refInv_at : refInv X (ix3 b s 0) = Ideal.rsqrt (Ideal.div (∑ x, X (ix3 b s x) * X (ix3 b s x)) (Ideal.ofBits .f32 1149239296#32) + Ideal.ofBits .f32 897988541#32) := by
  pointwise [refInv]
theorem refNorm_at (k : Fin 1024) : refNorm X g (ix3 b s k) = Mlp.norm (fun x => X (ix3 b s x)) (fun x => g (ix1 x)) k := by
  have e : refNorm X g (ix3 b s k) = X (ix3 b s k) * refInv X (ix3 b s 0) * g (ix1 k) := by pointwise [refNorm]
  rw [e, refInv_at]; rfl
theorem refProj_at (q : Fin 2048) : refProj W H (ix3 b s q) = ∑ k, H (ix3 b s k) * W (ix2 k q) := by pointwise [refProj]
theorem refK_at (q : Fin 1024) : refK Y (ix3 b s q) = Y (ix3 b s ⟨q.val, by omega⟩) := by pointwise [refK]
theorem refV_at (q : Fin 1024) : refV Y (ix3 b s q) = Y (ix3 b s ⟨1024 + q.val, by omega⟩) := by pointwise [refV]

theorem ref_proj (q : Fin 2048) : refProj W (refNorm X g) (ix3 b s q) = ∑ k, Mlp.norm (fun x => X (ix3 b s x)) (fun x => g (ix1 x)) k * W (ix2 k q) := by
  rw [refProj_at]
  exact Finset.sum_congr rfl fun k _ => by rw [refNorm_at]
theorem ref_k (q : Fin 1024) : refK (refProj W (refNorm X g)) (ix3 b s q) = ∑ k, Mlp.norm (fun x => X (ix3 b s x)) (fun x => g (ix1 x)) k * W (ix2 k ⟨q.val, by omega⟩) := by
  rw [refK_at, ref_proj]
theorem ref_v (q : Fin 1024) : refV (refProj W (refNorm X g)) (ix3 b s q) = ∑ k, Mlp.norm (fun x => X (ix3 b s x)) (fun x => g (ix1 x)) k * W (ix2 k ⟨1024 + q.val, by omega⟩) := by
  rw [refV_at, ref_proj]

end Cert.Proof.Mem
end
-- ==== Proof.lean ====
/-
  The proof of the claims about the five calls: the frames from one run of each program over any
  float values, the references' frames, and the equality of the results over the reals.
-/
module

public import proofs.«01_k».proof.Defs
public import proofs.«01_k».proof.Proof.Run
public import proofs.«01_k».proof.Proof.Whole
public import proofs.«01_k».proof.Proof.Finite
public import proofs.«01_k».proof.Proof.MlpWhole
public import proofs.«01_k».proof.Proof.MlpRef
public import proofs.«01_k».proof.Proof.InEq
public import proofs.«01_k».proof.Proof.MixWhole
public import proofs.«01_k».proof.Proof.MixTerm
public import proofs.«01_k».proof.Proof.MixFin
public import proofs.«01_k».proof.Proof.MemKer
public import proofs.«01_k».proof.Proof.MemRef
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite4
public import Idealize.ShloMosaic.Adequacy
public import Idealize.ShloMosaic.Init

@[expose] public section

noncomputable section

namespace Cert.Proof

open Idealize.ShloMosaic Idealize.SL.Sem

set_option maxRecDepth 100000 in
/-- The two programs have one text, so the frame over the bits is the run's, read at the bits. -/
theorem frame_kernel : Cert.quiescent_Kernel (hKernel := Cert.Kernel.Gen.facts) := fun m ρ _ => by
  have h := KeyAug.run_frame (F := Bits) m ρ
  refine Eq.mp ?_ h
  sl_kernel_rfl
theorem frame_ideal : Cert.quiescent_KernelIdeal (hKernelIdeal := Cert.KernelIdeal.Gen.facts) := fun m ρ _ => KeyAug.run_frame (F := Ideal) m ρ
/-- The reference declares no semaphore, so its counters are zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (KeyAug.ref_run m ρ)

theorem equal : Cert.algebraic_KernelIdeal_ReferenceIdeal_pre_finite (hKernelIdeal := Cert.KernelIdeal.Gen.facts)
    (hReferenceIdeal := Cert.ReferenceIdeal.Gen.facts) (hPre_finite := KeyAug.facts_finite) := by
  intro m ρ m' ρ' hpre hagree
  refine ⟨fun c => KeyAug.whole (KeyAug.zRun m c), ?_, ?_⟩
  · exact (θ_run Cert.KernelIdeal.defs _ _).mono (fun r h c => h.1 c) (KeyAug.run_main (F := Ideal) m ρ)
  · refine (θ_run Cert.ReferenceIdeal.defs _ _).mono (fun r h c => ⟨?_, (h c).2⟩) (KeyAug.ref_run m' ρ')
    refine Eq.trans ?_ (KeyAug.whole_eq m c (KeyAug.sub_self_of_finite _ _ (hpre c))).symm
    refine (h c).1.trans ?_
    rw [(hagree c).1, (hagree c).2]

/-! ## The feed-forward part -/

set_option maxRecDepth 100000 in
/-- The two programs have one text, so the frame over the bits is the run's, read at the bits. -/
theorem frame_kernel2 : Cert.quiescent_Kernel2 (hKernel2 := Cert.Kernel2.Gen.facts) := fun m ρ _ => by
  have h := Cert.Kernel2Ideal.Gen.frame (F := Bits) m ρ
  refine Eq.mp ?_ h
  sl_kernel_rfl
theorem frame_ideal2 : Cert.quiescent_Kernel2Ideal (hKernel2Ideal := Cert.Kernel2Ideal.Gen.facts) := fun m ρ _ => Cert.Kernel2Ideal.Gen.frame (F := Ideal) m ρ
/-- The reference declares no semaphore, so its counters are zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

theorem equal2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 5 Cert.Kernel2Ideal.cfg0.N, ?_, ?_⟩
  · exact Cert.Kernel2Ideal.Value.run_blocks (F := Ideal) m ρ
  · refine (θ_run Cert.Reference2Ideal.defs _ _).mono (fun r h c => ⟨?_, (h c).2⟩) (Cert.Reference2Ideal.Value.run m' ρ')
    refine (h c).1.trans ((Mlp.res_eq m' c).trans ?_)
    obtain ⟨a0, a1, a2, a3, a4⟩ := hagree c
    rw [a0, a1, a2, a3, a4]
    funext y
    rw [eq_ix2 y]
    exact (Mlp.refTerm_at _ _ _ _ _ (y 0) (y 1)).trans (Mlp.arr_at m c (y 0) (y 1)).symm

/-! ## The input projection -/

theorem frame_kernel3 : Cert.quiescent_Kernel3 (hKernel3 := Cert.Kernel3.Gen.facts) := fun m ρ _ => Cert.Kernel3.Gen.frame m ρ
theorem frame_ideal3 : Cert.quiescent_Kernel3Ideal (hKernel3Ideal := Cert.Kernel3Ideal.Gen.facts) := fun m ρ _ => Cert.Kernel3Ideal.Gen.frame (F := Ideal) m ρ
/-- The reference declares no semaphore, so its counters are zero. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩) (Cert.Reference3Ideal.Value.run m ρ)
/-- The named scale is the constant its name says. -/
theorem kept3 : Cert.preserves_Kernel3_Kernel3Ideal := IdealRules.named_const.statement Cert.Kernel3Ideal.κ "q_scale" .f32 0x3E38AA3B#32 _ rfl

theorem equal3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, ?_, ?_⟩
  · exact Cert.Kernel3Ideal.Value.run_blocks (F := Ideal) m ρ
  · refine (θ_run Cert.Reference3Ideal.defs _ _).mono (fun r h c => ⟨?_, ?_, ?_, ?_, ?_, (h c).2.2.2.2.2⟩) (Cert.Reference3Ideal.Value.run m' ρ')
    · refine (h c).1.trans ?_
      obtain ⟨a0, a1, a2, a3⟩ := hagree c
      rw [a0, a1, a2]
      funext y
      rw [eq_ix3 y]
      exact (In.ref_q _ _ _ (y 0) (y 2) (y 1)).trans (In.arr5_at m c (y 0) (y 2) (y 1)).symm
    · refine (h c).2.1.trans ?_
      obtain ⟨a0, a1, a2, a3⟩ := hagree c
      rw [a0, a1, a2]
      funext y
      rw [eq_ix4 y]
      exact (In.ref_k _ _ _ (y 0) (y 2) (y 1) (y 3)).trans (In.arr6_at m c (y 0) (y 2) (y 1) (y 3)).symm
    · refine (h c).2.2.1.trans ?_
      obtain ⟨a0, a1, a2, a3⟩ := hagree c
      rw [a0, a1, a2]
      funext y
      rw [eq_ix3 y]
      exact (In.ref_v _ _ _ (y 0) (y 2) (y 1)).trans (In.arr7_at m c (y 0) (y 2) (y 1)).symm
    · refine (h c).2.2.2.1.trans ((In.res_eq m' c).trans ?_)
      obtain ⟨a0, a1, a2, a3⟩ := hagree c
      rw [a0, a1, a2, a3]
      funext y
      rw [eq_ix3 y]
      exact (In.ref_f _ _ _ _ (y 0) (y 2) (y 1)).trans (In.arr8_at m c (y 0) (y 2) (y 1)).symm
    · refine (h c).2.2.2.2.1.trans ?_
      obtain ⟨a0, a1, a2, a3⟩ := hagree c
      rw [a0, a1, a2]
      funext y
      rw [eq_ix3 y]
      exact (In.ref_u _ _ _ (y 0) (y 1) (y 2)).trans (In.arr9_at m c (y 0) (y 1) (y 2)).symm

/-! ## The mixer and the cross-attention -/

set_option maxRecDepth 100000 in
/-- The two programs have one text, so the frame over the bits is the run's, read at the bits. -/
theorem frame_kernel4 : Cert.quiescent_Kernel4 (hKernel4 := Cert.Kernel4.Gen.facts) := fun m ρ _ => by
  have h := Cert.Kernel4Ideal.Gen.frame (F := Bits) m ρ
  refine Eq.mp ?_ h
  sl_kernel_rfl
theorem frame_ideal4 : Cert.quiescent_Kernel4Ideal (hKernel4Ideal := Cert.Kernel4Ideal.Gen.facts) := fun m ρ _ => Cert.Kernel4Ideal.Gen.frame (F := Ideal) m ρ
/-- The reference declares no semaphore, so its counters are zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run m ρ)

theorem equal4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m ρ m' ρ' hpre hagree
  refine ⟨fun c => (Cert.Kernel4Ideal.Gen.dats m 0 c).arrAt 14 Cert.Kernel4Ideal.cfg0.N, ?_, ?_⟩
  · exact Cert.Kernel4Ideal.Value.run_blocks (F := Ideal) m ρ
  · refine (θ_run Cert.Reference4Ideal.defs _ _).mono (fun r h c => ⟨?_, (h c).2⟩) (Cert.Reference4Ideal.Value.run m' ρ')
    refine (h c).1.trans ((Mix.res_eq _).trans ?_)
    show Mix.outR (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (Mix.midR (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) = _
    obtain ⟨a0, a1, a2, a3, a4, a5, a6, a7, a8, a9, a10, a11, a12⟩ := hagree c
    rw [a0, a1, a2, a3, a4, a5, a6, a7, a8, a9, a10, a11, a12]
    obtain ⟨f7, f8, f9⟩ := Mix.isR_of_finite _ _ _ _ _ _ _ _ _ _ _ _ _ (hpre c)
    funext y
    rw [eq_ix3 y]
    refine (Mix.ref_at (y 0) (y 1) _ _ _ _ _ _ _ _ _ _ _ _ _ (y 2)).trans ?_
    exact (Mix.value_eq _ _ _ _ _ _ _ _ _ _ _ _ _ (y 0) (y 1) (y 2) f7 f8 f9).symm.trans (Mix.arr14_at m c (y 0) (y 1) (y 2)).symm

/-! ## The memory's keys and values -/

set_option maxRecDepth 100000 in
/-- The two programs have one text, so the frame over the bits is the run's, read at the bits. -/
theorem frame_kernel5 : Cert.quiescent_Kernel5 (hKernel5 := Cert.Kernel5.Gen.facts) := fun m ρ _ => by
  have h := Cert.Kernel5Ideal.Gen.frame (F := Bits) m ρ
  refine Eq.mp ?_ h
  sl_kernel_rfl
theorem frame_ideal5 : Cert.quiescent_Kernel5Ideal (hKernel5Ideal := Cert.Kernel5Ideal.Gen.facts) := fun m ρ _ => Cert.Kernel5Ideal.Gen.frame (F := Ideal) m ρ
/-- The reference declares no semaphore, so its counters are zero. -/
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩) (Cert.Reference5Ideal.Value.run m ρ)

theorem equal5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, ?_, ?_⟩
  · exact Cert.Kernel5Ideal.Value.run_blocks (F := Ideal) m ρ
  · refine (θ_run Cert.Reference5Ideal.defs _ _).mono (fun r h c => ⟨?_, ?_, (h c).2.2⟩) (Cert.Reference5Ideal.Value.run m' ρ')
    · refine (h c).1.trans ?_
      obtain ⟨a0, a1, a2⟩ := hagree c
      rw [a0, a1, a2]
      funext y
      rw [eq_ix3 y]
      exact (Mem.ref_k _ _ _ (y 0) (y 1) (y 2)).trans (Mem.arr4_at m c (y 0) (y 1) (y 2)).symm
    · refine (h c).2.1.trans ?_
      obtain ⟨a0, a1, a2⟩ := hagree c
      rw [a0, a1, a2]
      funext y
      rw [eq_ix3 y]
      exact (Mem.ref_v _ _ _ (y 0) (y 1) (y 2)).trans (Mem.arr5_at m c (y 0) (y 1) (y 2)).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, KeyAug.facts_finite, Cert.Pre_finite4.Gen.facts,
    frame_kernel, frame_ideal, fun m ρ _ => frame_ideal m ρ trivial, frame_reference, fun m ρ _ => frame_reference m ρ trivial,
    frame_kernel2, frame_ideal2, frame_reference2, frame_kernel3, frame_ideal3, frame_reference3,
    frame_kernel4, frame_ideal4, fun m ρ _ => frame_ideal4 m ρ trivial, frame_reference4, fun m ρ _ => frame_reference4 m ρ trivial, frame_kernel5, frame_ideal5, frame_reference5,
    trivial, equal, trivial, equal2, kept3, equal3, trivial, equal4, trivial, equal5⟩

end Cert.Proof

end
